-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_values [hPre_finite_values : Cert.Pre_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_values [hPre_finite_values : Cert.Pre_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_values [hKernelIdeal : Cert.KernelIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_values [hReferenceIdeal : Cert.ReferenceIdeal.Facts] [hPre_finite_values : Cert.Pre_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def preserves_Kernel_KernelIdeal : Prop :=
  IdealRules.named_const.Statement Cert.KernelIdeal.κ "qs" .f32 0x3E38AA3B#32 ((8⁻¹ * (Real.log 2)⁻¹ : ℝ) : EReal)

def algebraic_KernelIdeal_ReferenceIdeal_pre_finite_values [hKernelIdeal : Cert.KernelIdeal.Facts] [hReferenceIdeal : Cert.ReferenceIdeal.Facts] [hPre_finite_values : Cert.Pre_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_v31) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v42)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v117) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v35)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v35) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v93) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_values : Cert.Pre_finite_values.Facts),
    quiescent_Kernel (hKernel := hKernel)
    ∧ quiescent_KernelIdeal (hKernelIdeal := hKernelIdeal)
    ∧ quiescent_KernelIdeal_pre_finite_values (hKernelIdeal := hKernelIdeal) (hPre_finite_values := hPre_finite_values)
    ∧ quiescent_ReferenceIdeal (hReferenceIdeal := hReferenceIdeal)
    ∧ quiescent_ReferenceIdeal_pre_finite_values (hReferenceIdeal := hReferenceIdeal) (hPre_finite_values := hPre_finite_values)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_values (hKernelIdeal := hKernelIdeal) (hReferenceIdeal := hReferenceIdeal) (hPre_finite_values := hPre_finite_values)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite_values.lean ====
abbrev S16640x1024 : Shape := ⟨2, ![16640, 1024]⟩
abbrev S4x64 : Shape := ⟨2, ![4, 64]⟩
abbrev S128 : Shape := ⟨1, ![128]⟩
abbrev S_ : Shape := ⟨0, ![]⟩

class Facts : Prop where
  bcast_S_S16640x1024 : S_.BroadcastsInDim S16640x1024 (![] : Fin 0 → Fin S16640x1024.rank)
  bcast_S_S4x64 : S_.BroadcastsInDim S4x64 (![] : Fin 0 → Fin S4x64.rank)

variable [Facts]

def fn {F : FTy → Type} [FloatOps F] (main_arg0 : FVec F S16640x1024 .f32) (main_arg1 : FVec F S16640x1024 .f32) (main_arg2 : FVec F S16640x1024 .f32) (main_arg3 : FVec F S4x64 .f32) (main_arg4 : FVec F S128 .f32) : IVec S16640x1024 1 × IVec S4x64 1 :=
  let main_v0 : FVec F S16640x1024 .f32 := Host.absf main_arg2
  let main_cst : FVec F S_ .f32 := constant S_ .f32 0x7F800000#32
  let main_v1 : FVec F S16640x1024 .f32 := broadcastInDim S16640x1024 ![] bcast_S_S16640x1024 main_cst
  let main_v2 : IVec S16640x1024 1 := cmpf .olt main_v0 main_v1
  let main_v3 : FVec F S4x64 .f32 := Host.absf main_arg3
  let main_cst_0 : FVec F S_ .f32 := constant S_ .f32 0x7F800000#32
  let main_v4 : FVec F S4x64 .f32 := broadcastInDim S4x64 ![] bcast_S_S4x64 main_cst_0
  let main_v5 : IVec S4x64 1 := cmpf .olt main_v3 main_v4
  (main_v2, main_v5)
-- ==== Kernel.lean ====
abbrev S16640x1024 : Shape := ⟨2, ![16640, 1024]⟩
abbrev S4x64 : Shape := ⟨2, ![4, 64]⟩
abbrev S128 : Shape := ⟨1, ![128]⟩
abbrev S16640x3072 : Shape := ⟨2, ![16640, 3072]⟩
abbrev S65x256x8x128 : Shape := ⟨4, ![65, 256, 8, 128]⟩
abbrev S8x65x128x256 : Shape := ⟨4, ![8, 65, 128, 256]⟩
abbrev S128x1 : Shape := ⟨2, ![128, 1]⟩
abbrev S256x128 : Shape := ⟨2, ![256, 128]⟩
abbrev S16640x128 : Shape := ⟨2, ![16640, 128]⟩
abbrev S1x65x128x256 : Shape := ⟨4, ![1, 65, 128, 256]⟩
abbrev S2x128x256 : Shape := ⟨3, ![2, 128, 256]⟩
abbrev S2x1x256 : Shape := ⟨3, ![2, 1, 256]⟩
abbrev S2x2048x256 : Shape := ⟨3, ![2, 2048, 256]⟩
abbrev S256x256 : Shape := ⟨2, ![256, 256]⟩
abbrev S1x1x256 : Shape := ⟨3, ![1, 1, 256]⟩
abbrev S1x256 : Shape := ⟨2, ![1, 256]⟩
abbrev S256 : Shape := ⟨1, ![256]⟩
abbrev S1x1x128x256 : Shape := ⟨4, ![1, 1, 128, 256]⟩
abbrev S128x256 : Shape := ⟨2, ![128, 256]⟩
abbrev S1x128x256 : Shape := ⟨3, ![1, 128, 256]⟩
abbrev S2048x128 : Shape := ⟨2, ![2048, 128]⟩
abbrev S2048x256 : Shape := ⟨2, ![2048, 256]⟩
abbrev S1x2048x256 : Shape := ⟨3, ![1, 2048, 256]⟩
abbrev S1x64 : Shape := ⟨2, ![1, 64]⟩
abbrev S1 : Shape := ⟨1, ![1]⟩
abbrev S1x1 : Shape := ⟨2, ![1, 1]⟩

abbrev nBuf : Space → Nat
  | .hbm => 12
  | .vmem => 15
  | .smem => 0
  | _ => 0

abbrev bufTy : (tb : Table) → Fin (tcTables nBuf tb) → BufTy
  | .hbm, ⟨0, _⟩ => ⟨S16640x1024, .f32⟩
  | .hbm, ⟨1, _⟩ => ⟨S16640x1024, .f32⟩
  | .hbm, ⟨2, _⟩ => ⟨S16640x1024, .f32⟩
  | .hbm, ⟨3, _⟩ => ⟨S4x64, .f32⟩
  | .hbm, ⟨4, _⟩ => ⟨S128, .f32⟩
  | .hbm, ⟨5, _⟩ => ⟨S16640x3072, .f32⟩
  | .hbm, ⟨6, _⟩ => ⟨S16640x3072, .bf16⟩
  | .hbm, ⟨7, _⟩ => ⟨S65x256x8x128, .f32⟩
  | .hbm, ⟨8, _⟩ => ⟨S8x65x128x256, .f32⟩
  | .hbm, ⟨9, _⟩ => ⟨S8x65x128x256, .bf16⟩
  | .hbm, ⟨10, _⟩ => ⟨S128x1, .f32⟩
  | .hbm, ⟨11, _⟩ => ⟨S16640x1024, .bf16⟩
  | .local _ .vmem, ⟨0, _⟩ => ⟨S256x128, .bf16⟩
  | .local _ .vmem, ⟨1, _⟩ => ⟨S256x128, .bf16⟩
  | .local _ .vmem, ⟨2, _⟩ => ⟨S16640x128, .bf16⟩
  | .local _ .vmem, ⟨3, _⟩ => ⟨S16640x128, .bf16⟩
  | .local _ .vmem, ⟨4, _⟩ => ⟨S1x65x128x256, .bf16⟩
  | .local _ .vmem, ⟨5, _⟩ => ⟨S1x65x128x256, .bf16⟩
  | .local _ .vmem, ⟨6, _⟩ => ⟨S4x64, .f32⟩
  | .local _ .vmem, ⟨7, _⟩ => ⟨S128x1, .f32⟩
  | .local _ .vmem, ⟨8, _⟩ => ⟨S256x128, .bf16⟩
  | .local _ .vmem, ⟨9, _⟩ => ⟨S256x128, .bf16⟩
  | .local _ .vmem, ⟨10, _⟩ => ⟨S2x128x256, .f32⟩
  | .local _ .vmem, ⟨11, _⟩ => ⟨S2x1x256, .f32⟩
  | .local _ .vmem, ⟨12, _⟩ => ⟨S2x1x256, .f32⟩
  | .local _ .vmem, ⟨13, _⟩ => ⟨S2x2048x256, .f32⟩
  | .local _ .vmem, ⟨14, _⟩ => ⟨S2x2048x256, .f32⟩
  | _, _ => ⟨S16640x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 65], ![false, false]⟩

def k0_cond2 (i : grid0.Coords) : BitVec 1 :=
  let arg1 : BitVec 32 := BitVec.ofNat 32 (i 1).val
  let c1_i32_15 : BitVec 32 := 1#32
  let v29 : BitVec 1 := Scalar.cmpi .sge arg1 c1_i32_15
  let v30 : BitVec 32 := Scalar.extui v29
  let c0_i32_16 : BitVec 32 := 0#32
  let v31 : BitVec 1 := Scalar.cmpi .ne v30 c0_i32_16
  v31

@[reducible] def k0_t1_loop : Scf.Loop 32 :=
  let c0_i32_104 : BitVec 32 := 0#32
  let c4_i32 : BitVec 32 := 4#32
  let v164 : BitVec 32 := Scalar.addi c0_i32_104 c4_i32
  let c1_i32_105 : BitVec 32 := 1#32
  ⟨c0_i32_104, v164, c1_i32_105⟩
def k0_mult1 (k0_t1 : Fin k0_t1_loop.trips) : BitVec 32 :=
  let c256_i32 : BitVec 32 := 256#32
  let c2_i32 : BitVec 32 := 2#32
  let c0_i32_104 : BitVec 32 := 0#32
  let c1_i32_105 : BitVec 32 := 1#32
  let arg13 : BitVec 32 := Scf.iv c0_i32_104 c1_i32_105 k0_t1
  let v165 : BitVec 32 := Scalar.muli c2_i32 arg13
  let c2048_i32 : BitVec 32 := 2048#32
  let v166 : BitVec 32 := Scalar.muli v165 c2048_i32
  let v167 : BitVec 32 := Scalar.addi c256_i32 v166
  v167
def k0_mult2 (k0_t1 : Fin k0_t1_loop.trips) : BitVec 32 :=
  let c256_i32 : BitVec 32 := 256#32
  let c2_i32 : BitVec 32 := 2#32
  let c0_i32_104 : BitVec 32 := 0#32
  let c1_i32_105 : BitVec 32 := 1#32
  let arg13 : BitVec 32 := Scf.iv c0_i32_104 c1_i32_105 k0_t1
  let v165 : BitVec 32 := Scalar.muli c2_i32 arg13
  let c2048_i32 : BitVec 32 := 2048#32
  let v166 : BitVec 32 := Scalar.muli v165 c2048_i32
  let v167 : BitVec 32 := Scalar.addi c256_i32 v166
  let v168 : BitVec 32 := v167
  let c2048_i32_107 : BitVec 32 := 2048#32
  let v169 : BitVec 32 := Scalar.addi v168 c2048_i32_107
  v169
def k0_mult3 (k0_t1 : Fin k0_t1_loop.trips) : BitVec 32 :=
  let c256_i32 : BitVec 32 := 256#32
  let c2_i32 : BitVec 32 := 2#32
  let c0_i32_104 : BitVec 32 := 0#32
  let c1_i32_105 : BitVec 32 := 1#32
  let arg13 : BitVec 32 := Scf.iv c0_i32_104 c1_i32_105 k0_t1
  let v165 : BitVec 32 := Scalar.muli c2_i32 arg13
  let c2048_i32 : BitVec 32 := 2048#32
  let v166 : BitVec 32 := Scalar.muli v165 c2048_i32
  let v167 : BitVec 32 := Scalar.addi c256_i32 v166
  let v168 : BitVec 32 := v167
  let c2048_i32_107 : BitVec 32 := 2048#32
  let v169 : BitVec 32 := Scalar.addi v168 c2048_i32_107
  let v170 : BitVec 32 := v169
  let c2048_i32_108 : BitVec 32 := 2048#32
  let v171 : BitVec 32 := Scalar.addi v170 c2048_i32_108
  let c14592_i32 : BitVec 32 := 14592#32
  let v172 : BitVec 32 := Scalar.minsi v171 c14592_i32
  v172
def k0_off1 (k0_t1 : Fin k0_t1_loop.trips) : Fin 2 → Nat :=
  let c256_i32 : BitVec 32 := 256#32
  let c2_i32 : BitVec 32 := 2#32
  let c0_i32_104 : BitVec 32 := 0#32
  let c1_i32_105 : BitVec 32 := 1#32
  let arg13 : BitVec 32 := Scf.iv c0_i32_104 c1_i32_105 k0_t1
  let v165 : BitVec 32 := Scalar.muli c2_i32 arg13
  let c2048_i32 : BitVec 32 := 2048#32
  let v166 : BitVec 32 := Scalar.muli v165 c2048_i32
  let v167 : BitVec 32 := Scalar.addi c256_i32 v166
  let v168 : BitVec 32 := v167
  let c2048_i32_107 : BitVec 32 := 2048#32
  let v169 : BitVec 32 := Scalar.addi v168 c2048_i32_107
  let v170 : BitVec 32 := v169
  let v174 : Index := Scalar.indexCast v170
  let c0_109 : Index := 0#32
  ![v174.toNat, 0]
def k0_off2 (k0_t1 : Fin k0_t1_loop.trips) : Fin 4 → Nat :=
  let c0_139 : Index := 0#32
  let c256_i32 : BitVec 32 := 256#32
  let c2_i32 : BitVec 32 := 2#32
  let c0_i32_104 : BitVec 32 := 0#32
  let c1_i32_105 : BitVec 32 := 1#32
  let arg13 : BitVec 32 := Scf.iv c0_i32_104 c1_i32_105 k0_t1
  let v165 : BitVec 32 := Scalar.muli c2_i32 arg13
  let c2048_i32 : BitVec 32 := 2048#32
  let v166 : BitVec 32 := Scalar.muli v165 c2048_i32
  let v167 : BitVec 32 := Scalar.addi c256_i32 v166
  let v168 : BitVec 32 := v167
  let c0_i32_119 : BitVec 32 := 0#32
  let v186 : BitVec 1 := Scalar.cmpi .sgt v168 c0_i32_119
  let v187 : BitVec 32 := Scalar.extui v186
  let c0_i32_120 : BitVec 32 := 0#32
  let v188 : BitVec 1 := Scalar.cmpi .slt v168 c0_i32_120
  let v189 : BitVec 32 := Scalar.extui v188
  let v190 : BitVec 32 := Scalar.subi v187 v189
  let c256_i32_118 : BitVec 32 := 256#32
  let c0_i32_121 : BitVec 32 := 0#32
  let v191 : BitVec 1 := Scalar.cmpi .sgt c256_i32_118 c0_i32_121
  let v192 : BitVec 32 := Scalar.extui v191
  let c0_i32_122 : BitVec 32 := 0#32
  let v193 : BitVec 1 := Scalar.cmpi .slt c256_i32_118 c0_i32_122
  let v194 : BitVec 32 := Scalar.extui v193
  let v195 : BitVec 32 := Scalar.subi v192 v194
  let v196 : BitVec 1 := Scalar.cmpi .ne v190 v195
  let v197 : BitVec 32 := Scalar.remsi v168 c256_i32_118
  let c0_i32_123 : BitVec 32 := 0#32
  let v198 : BitVec 1 := Scalar.cmpi .ne v197 c0_i32_123
  let v199 : BitVec 1 := Scalar.andi v196 v198
  let v185 : BitVec 32 := Scalar.divsi v168 c256_i32_118
  let c1_i32_124 : BitVec 32 := 1#32
  let v200 : BitVec 32 := Scalar.subi v185 c1_i32_124
  let v201 : BitVec 32 := Scalar.select v199 v200 v185
  let v224 : Index := Scalar.indexCast v201
  let c0_140 : Index := 0#32
  let c0_141 : Index := 0#32
  ![0, v224.toNat, 0, 0]
def k0_off3 (k0_t1 : Fin k0_t1_loop.trips) (c1_i32_143 : BitVec 32) : Fin 4 → Nat :=
  let c0_144 : Index := 0#32
  let c256_i32 : BitVec 32 := 256#32
  let c2_i32 : BitVec 32 := 2#32
  let c0_i32_104 : BitVec 32 := 0#32
  let c1_i32_105 : BitVec 32 := 1#32
  let arg13 : BitVec 32 := Scf.iv c0_i32_104 c1_i32_105 k0_t1
  let v165 : BitVec 32 := Scalar.muli c2_i32 arg13
  let c2048_i32 : BitVec 32 := 2048#32
  let v166 : BitVec 32 := Scalar.muli v165 c2048_i32
  let v167 : BitVec 32 := Scalar.addi c256_i32 v166
  let v168 : BitVec 32 := v167
  let c0_i32_119 : BitVec 32 := 0#32
  let v186 : BitVec 1 := Scalar.cmpi .sgt v168 c0_i32_119
  let v187 : BitVec 32 := Scalar.extui v186
  let c0_i32_120 : BitVec 32 := 0#32
  let v188 : BitVec 1 := Scalar.cmpi .slt v168 c0_i32_120
  let v189 : BitVec 32 := Scalar.extui v188
  let v190 : BitVec 32 := Scalar.subi v187 v189
  let c256_i32_118 : BitVec 32 := 256#32
  let c0_i32_121 : BitVec 32 := 0#32
  let v191 : BitVec 1 := Scalar.cmpi .sgt c256_i32_118 c0_i32_121
  let v192 : BitVec 32 := Scalar.extui v191
  let c0_i32_122 : BitVec 32 := 0#32
  let v193 : BitVec 1 := Scalar.cmpi .slt c256_i32_118 c0_i32_122
  let v194 : BitVec 32 := Scalar.extui v193
  let v195 : BitVec 32 := Scalar.subi v192 v194
  let v196 : BitVec 1 := Scalar.cmpi .ne v190 v195
  let v197 : BitVec 32 := Scalar.remsi v168 c256_i32_118
  let c0_i32_123 : BitVec 32 := 0#32
  let v198 : BitVec 1 := Scalar.cmpi .ne v197 c0_i32_123
  let v199 : BitVec 1 := Scalar.andi v196 v198
  let v185 : BitVec 32 := Scalar.divsi v168 c256_i32_118
  let c1_i32_124 : BitVec 32 := 1#32
  let v200 : BitVec 32 := Scalar.subi v185 c1_i32_124
  let v201 : BitVec 32 := Scalar.select v199 v200 v185
  let v229 : BitVec 32 := Scalar.addi v201 c1_i32_143
  let v230 : Index := Scalar.indexCast v229
  let c0_145 : Index := 0#32
  let c0_146 : Index := 0#32
  ![0, v230.toNat, 0, 0]
def k0_off4 (k0_t1 : Fin k0_t1_loop.trips) : Fin 2 → Nat :=
  let c256_i32 : BitVec 32 := 256#32
  let c2_i32 : BitVec 32 := 2#32
  let c0_i32_104 : BitVec 32 := 0#32
  let c1_i32_105 : BitVec 32 := 1#32
  let arg13 : BitVec 32 := Scf.iv c0_i32_104 c1_i32_105 k0_t1
  let v165 : BitVec 32 := Scalar.muli c2_i32 arg13
  let c2048_i32 : BitVec 32 := 2048#32
  let v166 : BitVec 32 := Scalar.muli v165 c2048_i32
  let v167 : BitVec 32 := Scalar.addi c256_i32 v166
  let v168 : BitVec 32 := v167
  let c2048_i32_107 : BitVec 32 := 2048#32
  let v169 : BitVec 32 := Scalar.addi v168 c2048_i32_107
  let v170 : BitVec 32 := v169
  let c2048_i32_108 : BitVec 32 := 2048#32
  let v171 : BitVec 32 := Scalar.addi v170 c2048_i32_108
  let c14592_i32 : BitVec 32 := 14592#32
  let v172 : BitVec 32 := Scalar.minsi v171 c14592_i32
  let v173 : BitVec 32 := v172
  let v376 : Index := Scalar.indexCast v173
  let c0_245 : Index := 0#32
  ![v376.toNat, 0]
def k0_off5 (k0_t1 : Fin k0_t1_loop.trips) : Fin 4 → Nat :=
  let c0_275 : Index := 0#32
  let c256_i32 : BitVec 32 := 256#32
  let c2_i32 : BitVec 32 := 2#32
  let c0_i32_104 : BitVec 32 := 0#32
  let c1_i32_105 : BitVec 32 := 1#32
  let arg13 : BitVec 32 := Scf.iv c0_i32_104 c1_i32_105 k0_t1
  let v165 : BitVec 32 := Scalar.muli c2_i32 arg13
  let c2048_i32 : BitVec 32 := 2048#32
  let v166 : BitVec 32 := Scalar.muli v165 c2048_i32
  let v167 : BitVec 32 := Scalar.addi c256_i32 v166
  let v168 : BitVec 32 := v167
  let c2048_i32_107 : BitVec 32 := 2048#32
  let v169 : BitVec 32 := Scalar.addi v168 c2048_i32_107
  let v170 : BitVec 32 := v169
  let c0_i32_255 : BitVec 32 := 0#32
  let v388 : BitVec 1 := Scalar.cmpi .sgt v170 c0_i32_255
  let v389 : BitVec 32 := Scalar.extui v388
  let c0_i32_256 : BitVec 32 := 0#32
  let v390 : BitVec 1 := Scalar.cmpi .slt v170 c0_i32_256
  let v391 : BitVec 32 := Scalar.extui v390
  let v392 : BitVec 32 := Scalar.subi v389 v391
  let c256_i32_254 : BitVec 32 := 256#32
  let c0_i32_257 : BitVec 32 := 0#32
  let v393 : BitVec 1 := Scalar.cmpi .sgt c256_i32_254 c0_i32_257
  let v394 : BitVec 32 := Scalar.extui v393
  let c0_i32_258 : BitVec 32 := 0#32
  let v395 : BitVec 1 := Scalar.cmpi .slt c256_i32_254 c0_i32_258
  let v396 : BitVec 32 := Scalar.extui v395
  let v397 : BitVec 32 := Scalar.subi v394 v396
  let v398 : BitVec 1 := Scalar.cmpi .ne v392 v397
  let v399 : BitVec 32 := Scalar.remsi v170 c256_i32_254
  let c0_i32_259 : BitVec 32 := 0#32
  let v400 : BitVec 1 := Scalar.cmpi .ne v399 c0_i32_259
  let v401 : BitVec 1 := Scalar.andi v398 v400
  let v387 : BitVec 32 := Scalar.divsi v170 c256_i32_254
  let c1_i32_260 : BitVec 32 := 1#32
  let v402 : BitVec 32 := Scalar.subi v387 c1_i32_260
  let v403 : BitVec 32 := Scalar.select v401 v402 v387
  let v426 : Index := Scalar.indexCast v403
  let c0_276 : Index := 0#32
  let c0_277 : Index := 0#32
  ![0, v426.toNat, 0, 0]
def k0_off6 (k0_t1 : Fin k0_t1_loop.trips) (c1_i32_279 : BitVec 32) : Fin 4 → Nat :=
  let c0_280 : Index := 0#32
  let c256_i32 : BitVec 32 := 256#32
  let c2_i32 : BitVec 32 := 2#32
  let c0_i32_104 : BitVec 32 := 0#32
  let c1_i32_105 : BitVec 32 := 1#32
  let arg13 : BitVec 32 := Scf.iv c0_i32_104 c1_i32_105 k0_t1
  let v165 : BitVec 32 := Scalar.muli c2_i32 arg13
  let c2048_i32 : BitVec 32 := 2048#32
  let v166 : BitVec 32 := Scalar.muli v165 c2048_i32
  let v167 : BitVec 32 := Scalar.addi c256_i32 v166
  let v168 : BitVec 32 := v167
  let c2048_i32_107 : BitVec 32 := 2048#32
  let v169 : BitVec 32 := Scalar.addi v168 c2048_i32_107
  let v170 : BitVec 32 := v169
  let c0_i32_255 : BitVec 32 := 0#32
  let v388 : BitVec 1 := Scalar.cmpi .sgt v170 c0_i32_255
  let v389 : BitVec 32 := Scalar.extui v388
  let c0_i32_256 : BitVec 32 := 0#32
  let v390 : BitVec 1 := Scalar.cmpi .slt v170 c0_i32_256
  let v391 : BitVec 32 := Scalar.extui v390
  let v392 : BitVec 32 := Scalar.subi v389 v391
  let c256_i32_254 : BitVec 32 := 256#32
  let c0_i32_257 : BitVec 32 := 0#32
  let v393 : BitVec 1 := Scalar.cmpi .sgt c256_i32_254 c0_i32_257
  let v394 : BitVec 32 := Scalar.extui v393
  let c0_i32_258 : BitVec 32 := 0#32
  let v395 : BitVec 1 := Scalar.cmpi .slt c256_i32_254 c0_i32_258
  let v396 : BitVec 32 := Scalar.extui v395
  let v397 : BitVec 32 := Scalar.subi v394 v396
  let v398 : BitVec 1 := Scalar.cmpi .ne v392 v397
  let v399 : BitVec 32 := Scalar.remsi v170 c256_i32_254
  let c0_i32_259 : BitVec 32 := 0#32
  let v400 : BitVec 1 := Scalar.cmpi .ne v399 c0_i32_259
  let v401 : BitVec 1 := Scalar.andi v398 v400
  let v387 : BitVec 32 := Scalar.divsi v170 c256_i32_254
  let c1_i32_260 : BitVec 32 := 1#32
  let v402 : BitVec 32 := Scalar.subi v387 c1_i32_260
  let v403 : BitVec 32 := Scalar.select v401 v402 v387
  let v431 : BitVec 32 := Scalar.addi v403 c1_i32_279
  let v432 : Index := Scalar.indexCast v431
  let c0_281 : Index := 0#32
  let c0_282 : Index := 0#32
  ![0, v432.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16640x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x65x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "qs" => some ((8⁻¹ * (Real.log 2)⁻¹ : ℝ) : EReal)
  | _ => none
-- ==== ReferenceIdeal.lean ====
abbrev S16640x1024 : Shape := ⟨2, ![16640, 1024]⟩
abbrev S4x64 : Shape := ⟨2, ![4, 64]⟩
abbrev S128 : Shape := ⟨1, ![128]⟩
abbrev S1x64 : Shape := ⟨2, ![1, 64]⟩
abbrev S64 : Shape := ⟨1, ![64]⟩
abbrev S_ : Shape := ⟨0, ![]⟩
abbrev S16640x16x64 : Shape := ⟨3, ![16640, 16, 64]⟩
abbrev S16640x8x128 : Shape := ⟨3, ![16640, 8, 128]⟩
abbrev S256x16x64 : Shape := ⟨3, ![256, 16, 64]⟩
abbrev S256x8x128 : Shape := ⟨3, ![256, 8, 128]⟩
abbrev S16x256x256 : Shape := ⟨3, ![16, 256, 256]⟩
abbrev S16x256 : Shape := ⟨2, ![16, 256]⟩
abbrev S16x256x1 : Shape := ⟨3, ![16, 256, 1]⟩
abbrev S8x2x256x256 : Shape := ⟨4, ![8, 2, 256, 256]⟩
abbrev S8x1x256x256 : Shape := ⟨4, ![8, 1, 256, 256]⟩
abbrev S8x256x256 : Shape := ⟨3, ![8, 256, 256]⟩
abbrev S8x128x256 : Shape := ⟨3, ![8, 128, 256]⟩
abbrev S256x8 : Shape := ⟨2, ![256, 8]⟩
abbrev S256x8x1 : Shape := ⟨3, ![256, 8, 1]⟩
abbrev S1x1x128 : Shape := ⟨3, ![1, 1, 128]⟩
abbrev S256x1024 : Shape := ⟨2, ![256, 1024]⟩
abbrev S16384x16x64 : Shape := ⟨3, ![16384, 16, 64]⟩
abbrev S16x16384x16640 : Shape := ⟨3, ![16, 16384, 16640]⟩
abbrev S16x16384 : Shape := ⟨2, ![16, 16384]⟩
abbrev S16x16384x1 : Shape := ⟨3, ![16, 16384, 1]⟩
abbrev S8x2x16384x16640 : Shape := ⟨4, ![8, 2, 16384, 16640]⟩
abbrev S8x1x16384x16640 : Shape := ⟨4, ![8, 1, 16384, 16640]⟩
abbrev S8x16384x16640 : Shape := ⟨3, ![8, 16384, 16640]⟩
abbrev S8x128x16384 : Shape := ⟨3, ![8, 128, 16384]⟩
abbrev S16384x8x128 : Shape := ⟨3, ![16384, 8, 128]⟩
abbrev S16384x8 : Shape := ⟨2, ![16384, 8]⟩
abbrev S16384x8x1 : Shape := ⟨3, ![16384, 8, 1]⟩
abbrev S16384x1024 : Shape := ⟨2, ![16384, 1024]⟩

abbrev nBuf : Space → Nat
  | .hbm => 129
  | .vmem => 0
  | .smem => 0
  | _ => 0

abbrev hbmTy0_0 (i : Nat) : BufTy := match i % 128 with
  | 0 => ⟨S16640x1024, .f32⟩
  | 1 => ⟨S16640x1024, .f32⟩
  | 2 => ⟨S16640x1024, .f32⟩
  | 3 => ⟨S4x64, .f32⟩
  | 4 => ⟨S128, .f32⟩
  | 5 => ⟨S1x64, .f32⟩
  | 6 => ⟨S64, .f32⟩
  | 7 => ⟨S1x64, .f32⟩
  | 8 => ⟨S64, .f32⟩
  | 9 => ⟨S64, .f32⟩
  | 10 => ⟨S_, .f32⟩
  | 11 => ⟨S_, .f32⟩
  | 12 => ⟨S_, .f32⟩
  | 13 => ⟨S1x64, .f32⟩
  | 14 => ⟨S64, .f32⟩
  | 15 => ⟨S1x64, .f32⟩
  | 16 => ⟨S64, .f32⟩
  | 17 => ⟨S64, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S16640x16x64, .f32⟩
  | 25 => ⟨S16640x16x64, .f32⟩
  | 26 => ⟨S16640x8x128, .f32⟩
  | 27 => ⟨S256x16x64, .f32⟩
  | 28 => ⟨S256x16x64, .f32⟩
  | 29 => ⟨S256x8x128, .f32⟩
  | 30 => ⟨S16x256x256, .f32⟩
  | 31 => ⟨S_, .f32⟩
  | 32 => ⟨S16x256x256, .f32⟩
  | 33 => ⟨S16x256x256, .f32⟩
  | 34 => ⟨S_, .f32⟩
  | 35 => ⟨S16x256, .f32⟩
  | 36 => ⟨S_, .f32⟩
  | 37 => ⟨S16x256, .f32⟩
  | 38 => ⟨S16x256, .f32⟩
  | 39 => ⟨S16x256x1, .f32⟩
  | 40 => ⟨S16x256x256, .f32⟩
  | 41 => ⟨S16x256x256, .f32⟩
  | 42 => ⟨S16x256x256, .f32⟩
  | 43 => ⟨S_, .f32⟩
  | 44 => ⟨S16x256, .f32⟩
  | 45 => ⟨S16x256x1, .f32⟩
  | 46 => ⟨S16x256x256, .f32⟩
  | 47 => ⟨S16x256x256, .f32⟩
  | 48 => ⟨S8x2x256x256, .f32⟩
  | 49 => ⟨S8x1x256x256, .f32⟩
  | 50 => ⟨S8x256x256, .f32⟩
  | 51 => ⟨S8x1x256x256, .f32⟩
  | 52 => ⟨S8x256x256, .f32⟩
  | 53 => ⟨S8x256x256, .f32⟩
  | 54 => ⟨S8x256x256, .f32⟩
  | 55 => ⟨S8x256x256, .f32⟩
  | 56 => ⟨S8x128x256, .f32⟩
  | 57 => ⟨S256x8x128, .f32⟩
  | 58 => ⟨S256x8x128, .f32⟩
  | 59 => ⟨S_, .f32⟩
  | 60 => ⟨S256x8, .f32⟩
  | 61 => ⟨S256x8x1, .f32⟩
  | 62 => ⟨S_, .f32⟩
  | 63 => ⟨S256x8x1, .f32⟩
  | 64 => ⟨S256x8x1, .f32⟩
  | 65 => ⟨S_, .f32⟩
  | 66 => ⟨S256x8x1, .f32⟩
  | 67 => ⟨S256x8x1, .f32⟩
  | 68 => ⟨S256x8x1, .f32⟩
  | 69 => ⟨S256x8x128, .f32⟩
  | 70 => ⟨S256x8x128, .f32⟩
  | 71 => ⟨S1x1x128, .f32⟩
  | 72 => ⟨S256x8x128, .f32⟩
  | 73 => ⟨S256x8x128, .f32⟩
  | 74 => ⟨S_, .f32⟩
  | 75 => ⟨S256x8x128, .f32⟩
  | 76 => ⟨S256x8x128, .f32⟩
  | 77 => ⟨S256x1024, .f32⟩
  | 78 => ⟨S16384x16x64, .f32⟩
  | 79 => ⟨S16x16384x16640, .f32⟩
  | 80 => ⟨S_, .f32⟩
  | 81 => ⟨S16x16384x16640, .f32⟩
  | 82 => ⟨S16x16384x16640, .f32⟩
  | 83 => ⟨S_, .f32⟩
  | 84 => ⟨S16x16384, .f32⟩
  | 85 => ⟨S_, .f32⟩
  | 86 => ⟨S16x16384, .f32⟩
  | 87 => ⟨S16x16384, .f32⟩
  | 88 => ⟨S16x16384x1, .f32⟩
  | 89 => ⟨S16x16384x16640, .f32⟩
  | 90 => ⟨S16x16384x16640, .f32⟩
  | 91 => ⟨S16x16384x16640, .f32⟩
  | 92 => ⟨S_, .f32⟩
  | 93 => ⟨S16x16384, .f32⟩
  | 94 => ⟨S16x16384x1, .f32⟩
  | 95 => ⟨S16x16384x16640, .f32⟩
  | 96 => ⟨S16x16384x16640, .f32⟩
  | 97 => ⟨S8x2x16384x16640, .f32⟩
  | 98 => ⟨S8x1x16384x16640, .f32⟩
  | 99 => ⟨S8x16384x16640, .f32⟩
  | 100 => ⟨S8x1x16384x16640, .f32⟩
  | 101 => ⟨S8x16384x16640, .f32⟩
  | 102 => ⟨S8x16384x16640, .f32⟩
  | 103 => ⟨S8x16384x16640, .f32⟩
  | 104 => ⟨S8x16384x16640, .f32⟩
  | 105 => ⟨S8x128x16384, .f32⟩
  | 106 => ⟨S16384x8x128, .f32⟩
  | 107 => ⟨S16384x8x128, .f32⟩
  | 108 => ⟨S_, .f32⟩
  | 109 => ⟨S16384x8, .f32⟩
  | 110 => ⟨S16384x8x1, .f32⟩
  | 111 => ⟨S_, .f32⟩
  | 112 => ⟨S16384x8x1, .f32⟩
  | 113 => ⟨S16384x8x1, .f32⟩
  | 114 => ⟨S_, .f32⟩
  | 115 => ⟨S16384x8x1, .f32⟩
  | 116 => ⟨S16384x8x1, .f32⟩
  | 117 => ⟨S16384x8x1, .f32⟩
  | 118 => ⟨S16384x8x128, .f32⟩
  | 119 => ⟨S16384x8x128, .f32⟩
  | 120 => ⟨S1x1x128, .f32⟩
  | 121 => ⟨S16384x8x128, .f32⟩
  | 122 => ⟨S16384x8x128, .f32⟩
  | 123 => ⟨S_, .f32⟩
  | 124 => ⟨S16384x8x128, .f32⟩
  | 125 => ⟨S16384x8x128, .f32⟩
  | 126 => ⟨S16384x1024, .f32⟩
  | 127 => ⟨S16640x1024, .f32⟩
  | _ => ⟨S16640x1024, .f32⟩

abbrev hbmTy0_1 (i : Nat) : BufTy := match i % 128 with
  | 0 => ⟨S16640x1024, .bf16⟩
  | _ => ⟨S16640x1024, .f32⟩

abbrev hbmTy (i : Nat) : BufTy := match i / 128 with
  | 0 => hbmTy0_0 i
  | 1 => hbmTy0_1 i
  | _ => ⟨S16640x1024, .f32⟩

abbrev bufTy : (tb : Table) → Fin (tcTables nBuf tb) → BufTy
  | .hbm, ⟨i, _⟩ => hbmTy i
  | _, _ => ⟨S16640x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_6 : Ref sig .tc := ⟨.hbm, 59, rfl⟩
abbrev main_v47 : Ref sig .tc := ⟨.hbm, 60, rfl⟩
abbrev main_v48 : Ref sig .tc := ⟨.hbm, 61, rfl⟩
abbrev main_cst_7 : Ref sig .tc := ⟨.hbm, 62, rfl⟩
abbrev main_v49 : Ref sig .tc := ⟨.hbm, 63, rfl⟩
abbrev main_v50 : Ref sig .tc := ⟨.hbm, 64, rfl⟩
abbrev main_cst_8 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_cst_10 : Ref sig .tc := ⟨.hbm, 80, rfl⟩
abbrev main_v64 : Ref sig .tc := ⟨.hbm, 81, rfl⟩
abbrev main_v65 : Ref sig .tc := ⟨.hbm, 82, rfl⟩
abbrev main_cst_11 : Ref sig .tc := ⟨.hbm, 83, rfl⟩
abbrev main_v66 : Ref sig .tc := ⟨.hbm, 84, rfl⟩
abbrev main_cst_12 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_13 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_cst_14 : Ref sig .tc := ⟨.hbm, 108, rfl⟩
abbrev main_v88 : Ref sig .tc := ⟨.hbm, 109, rfl⟩
abbrev main_v89 : Ref sig .tc := ⟨.hbm, 110, rfl⟩
abbrev main_cst_15 : Ref sig .tc := ⟨.hbm, 111, rfl⟩
abbrev main_v90 : Ref sig .tc := ⟨.hbm, 112, rfl⟩
abbrev main_v91 : Ref sig .tc := ⟨.hbm, 113, rfl⟩
abbrev main_cst_16 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_17 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩

abbrev nD : Nat := 1
abbrev τ : Topo := Topo.v7x

variable {F : FTy → Type} [FloatOps F]
-- ==== Kernel2.lean ====
abbrev S16384x1024 : Shape := ⟨2, ![16384, 1024]⟩
abbrev S256x1024 : Shape := ⟨2, ![256, 1024]⟩
abbrev S2x6x1024 : Shape := ⟨3, ![2, 6, 1024]⟩
abbrev S1024x6208 : Shape := ⟨2, ![1024, 6208]⟩
abbrev S16640x1024 : Shape := ⟨2, ![16640, 1024]⟩
abbrev S1024x6144 : Shape := ⟨2, ![1024, 6144]⟩
abbrev S_ : Shape := ⟨0, ![]⟩
abbrev S1024x128 : Shape := ⟨2, ![1024, 128]⟩
abbrev S1024x64 : Shape := ⟨2, ![1024, 64]⟩
abbrev S1 : Shape := ⟨1, ![1]⟩
abbrev S16640x6144 : Shape := ⟨2, ![16640, 6144]⟩
abbrev S16640x128 : Shape := ⟨2, ![16640, 128]⟩
abbrev S1x6x1024 : Shape := ⟨3, ![1, 6, 1024]⟩
abbrev S256x6144 : Shape := ⟨2, ![256, 6144]⟩
abbrev S256x128 : Shape := ⟨2, ![256, 128]⟩
abbrev S1x1x1024 : Shape := ⟨3, ![1, 1, 1024]⟩
abbrev S1x1024 : Shape := ⟨2, ![1, 1024]⟩
abbrev S1024x512 : Shape := ⟨2, ![1024, 512]⟩
abbrev S256x512 : Shape := ⟨2, ![256, 512]⟩

abbrev nBuf : Space → Nat
  | .hbm => 16
  | .vmem => 10
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S2x6x1024, .f32⟩
  | .hbm, ⟨3, _⟩ => ⟨S1024x6208, .f32⟩
  | .hbm, ⟨4, _⟩ => ⟨S16640x1024, .f32⟩
  | .hbm, ⟨5, _⟩ => ⟨S1024x6144, .f32⟩
  | .hbm, ⟨6, _⟩ => ⟨S1024x6144, .bf16⟩
  | .hbm, ⟨7, _⟩ => ⟨S_, .f32⟩
  | .hbm, ⟨8, _⟩ => ⟨S1024x128, .f32⟩
  | .hbm, ⟨9, _⟩ => ⟨S1024x64, .f32⟩
  | .hbm, ⟨10, _⟩ => ⟨S_, .i32⟩
  | .hbm, ⟨11, _⟩ => ⟨S1, .i32⟩
  | .hbm, ⟨12, _⟩ => ⟨S1024x128, .f32⟩
  | .hbm, ⟨13, _⟩ => ⟨S1024x128, .bf16⟩
  | .hbm, ⟨14, _⟩ => ⟨S16640x6144, .bf16⟩
  | .hbm, ⟨15, _⟩ => ⟨S16640x128, .f32⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x6144, .bf16⟩
  | .local _ .vmem, ⟨5, _⟩ => ⟨S1024x128, .bf16⟩
  | .local _ .vmem, ⟨6, _⟩ => ⟨S256x6144, .bf16⟩
  | .local _ .vmem, ⟨7, _⟩ => ⟨S256x6144, .bf16⟩
  | .local _ .vmem, ⟨8, _⟩ => ⟨S256x128, .f32⟩
  | .local _ .vmem, ⟨9, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x6144 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S256x1024 : Shape := ⟨2, ![256, 1024]⟩
abbrev S2x6x1024 : Shape := ⟨3, ![2, 6, 1024]⟩
abbrev S1024x6208 : Shape := ⟨2, ![1024, 6208]⟩
abbrev S1x1x1024 : Shape := ⟨3, ![1, 1, 1024]⟩
abbrev S1024 : Shape := ⟨1, ![1024]⟩
abbrev S_ : Shape := ⟨0, ![]⟩
abbrev S1x1024 : Shape := ⟨2, ![1, 1024]⟩
abbrev S256x6208 : Shape := ⟨2, ![256, 6208]⟩
abbrev S16384x6208 : Shape := ⟨2, ![16384, 6208]⟩
abbrev S16640x6208 : Shape := ⟨2, ![16640, 6208]⟩
abbrev S16640x64 : Shape := ⟨2, ![16640, 64]⟩
abbrev S16640x6144 : Shape := ⟨2, ![16640, 6144]⟩
abbrev S16640x128 : Shape := ⟨2, ![16640, 128]⟩

abbrev nBuf : Space → Nat
  | .hbm => 39
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S2x6x1024, .f32⟩
  | .hbm, ⟨3, _⟩ => ⟨S1024x6208, .f32⟩
  | .hbm, ⟨4, _⟩ => ⟨S1x1x1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S1x1x1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S1x1x1024, .f32⟩
  | .hbm, ⟨26, _⟩ => ⟨S1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S256x6208, .f32⟩
  | .hbm, ⟨31, _⟩ => ⟨S16384x6208, .f32⟩
  | .hbm, ⟨32, _⟩ => ⟨S16640x6208, .f32⟩
  | .hbm, ⟨33, _⟩ => ⟨S16640x64, .f32⟩
  | .hbm, ⟨34, _⟩ => ⟨S_, .f32⟩
  | .hbm, ⟨35, _⟩ => ⟨S16640x64, .f32⟩
  | .hbm, ⟨36, _⟩ => ⟨S16640x6144, .f32⟩
  | .hbm, ⟨37, _⟩ => ⟨S16640x6144, .bf16⟩
  | .hbm, ⟨38, _⟩ => ⟨S16640x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel3.lean ====
abbrev S74752x512 : Shape := ⟨2, ![74752, 512]⟩
abbrev S32 : Shape := ⟨1, ![32]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S292 : Shape := ⟨1, ![292]⟩
abbrev S1x32 : Shape := ⟨2, ![1, 32]⟩
abbrev S292x1 : Shape := ⟨2, ![292, 1]⟩
abbrev S292x32 : Shape := ⟨2, ![292, 32]⟩
abbrev S1 : Shape := ⟨1, ![1]⟩
abbrev S4x32x1x2048 : Shape := ⟨4, ![4, 32, 1, 2048]⟩
abbrev S4x32x1x1024 : Shape := ⟨4, ![4, 32, 1, 1024]⟩
abbrev S74752x1024 : Shape := ⟨2, ![74752, 1024]⟩
abbrev S256x512 : Shape := ⟨2, ![256, 512]⟩
abbrev S1x1x1024x2048 : Shape := ⟨4, ![1, 1, 1024, 2048]⟩
abbrev S1x1x1x2048 : Shape := ⟨4, ![1, 1, 1, 2048]⟩
abbrev S1x1x1024x1024 : Shape := ⟨4, ![1, 1, 1024, 1024]⟩
abbrev S1x1x1x1024 : Shape := ⟨4, ![1, 1, 1, 1024]⟩
abbrev S256x1024 : Shape := ⟨2, ![256, 1024]⟩
abbrev S1024x2048 : Shape := ⟨2, ![1024, 2048]⟩
abbrev S1024x1024 : Shape := ⟨2, ![1024, 1024]⟩
abbrev S256x2048 : Shape := ⟨2, ![256, 2048]⟩
abbrev S1x2048 : Shape := ⟨2, ![1, 2048]⟩
abbrev S1x1024 : Shape := ⟨2, ![1, 1024]⟩

abbrev nBuf : Space → Nat
  | .hbm => 99
  | .vmem => 14
  | .smem => 3
  | _ => 0

abbrev bufTy : (tb : Table) → Fin (tcTables nBuf tb) → BufTy
  | .hbm, ⟨0, _⟩ => ⟨S74752x512, .i32⟩
  | .hbm, ⟨1, _⟩ => ⟨S32, .i32⟩
  | .hbm, ⟨2, _⟩ => ⟨S4x32x1024x2048, .f32⟩
  | .hbm, ⟨3, _⟩ => ⟨S4x32x2048, .f32⟩
  | .hbm, ⟨4, _⟩ => ⟨S4x32x1024x1024, .f32⟩
  | .hbm, ⟨5, _⟩ => ⟨S4x32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S292, .i32⟩
  | .hbm, ⟨38, _⟩ => ⟨S_, .i32⟩
  | .hbm, ⟨39, _⟩ => ⟨S292, .i32⟩
  | .hbm, ⟨40, _⟩ => ⟨S292, .i32⟩
  | .hbm, ⟨41, _⟩ => ⟨S1x32, .i32⟩
  | .hbm, ⟨42, _⟩ => ⟨S292x1, .i32⟩
  | .hbm, ⟨43, _⟩ => ⟨S292x32, .i32⟩
  | .hbm, ⟨44, _⟩ => ⟨S292x32, .i32⟩
  | .hbm, ⟨45, _⟩ => ⟨S292x32, .i1⟩
  | .hbm, ⟨46, _⟩ => ⟨S292x32, .i32⟩
  | .hbm, ⟨47, _⟩ => ⟨S_, .i32⟩
  | .hbm, ⟨48, _⟩ => ⟨S292, .i32⟩
  | .hbm, ⟨49, _⟩ => ⟨S_, .i32⟩
  | .hbm, ⟨50, _⟩ => ⟨S292, .i32⟩
  | .hbm, ⟨51, _⟩ => ⟨S_, .i32⟩
  | .hbm, ⟨52, _⟩ => ⟨S292, .i32⟩
  | .hbm, ⟨53, _⟩ => ⟨S292, .i1⟩
  | .hbm, ⟨54, _⟩ => ⟨S_, .i32⟩
  | .hbm, ⟨55, _⟩ => ⟨S292, .i32⟩
  | .hbm, ⟨56, _⟩ => ⟨S292, .i32⟩
  | .hbm, ⟨57, _⟩ => ⟨S292, .i32⟩
  | .hbm, ⟨58, _⟩ => ⟨S292x1, .i32⟩
  | .hbm, ⟨59, _⟩ => ⟨S292, .i32⟩
  | .hbm, ⟨60, _⟩ => ⟨S_, .i32⟩
  | .hbm, ⟨61, _⟩ => ⟨S292, .i32⟩
  | .hbm, ⟨62, _⟩ => ⟨S292, .i1⟩
  | .hbm, ⟨63, _⟩ => ⟨S_, .i32⟩
  | .hbm, ⟨64, _⟩ => ⟨S292, .i32⟩
  | .hbm, ⟨65, _⟩ => ⟨S292, .i32⟩
  | .hbm, ⟨66, _⟩ => ⟨S292, .i32⟩
  | .hbm, ⟨67, _⟩ => ⟨S292x1, .i32⟩
  | .hbm, ⟨68, _⟩ => ⟨S292, .i32⟩
  | .hbm, ⟨69, _⟩ => ⟨S292, .i32⟩
  | .hbm, ⟨70, _⟩ => ⟨S292, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S292, .i32⟩
  | .hbm, ⟨75, _⟩ => ⟨S292, .i32⟩
  | .hbm, ⟨76, _⟩ => ⟨S_, .i32⟩
  | .hbm, ⟨77, _⟩ => ⟨S292, .i32⟩
  | .hbm, ⟨78, _⟩ => ⟨S1, .i32⟩
  | .hbm, ⟨79, _⟩ => ⟨S_, .i32⟩
  | .hbm, ⟨80, _⟩ => ⟨S_, .i32⟩
  | .hbm, ⟨81, _⟩ => ⟨S1, .i32⟩
  | .hbm, ⟨82, _⟩ => ⟨S1, .i32⟩
  | .hbm, ⟨83, _⟩ => ⟨S1, .i32⟩
  | .hbm, ⟨84, _⟩ => ⟨S_, .i32⟩
  | .hbm, ⟨85, _⟩ => ⟨S1, .i32⟩
  | .hbm, ⟨86, _⟩ => ⟨S1, .i1⟩
  | .hbm, ⟨87, _⟩ => ⟨S1, .i32⟩
  | .hbm, ⟨88, _⟩ => ⟨S1, .i32⟩
  | .hbm, ⟨89, _⟩ => ⟨S_, .i32⟩
  | .hbm, ⟨90, _⟩ => ⟨S1, .i32⟩
  | .hbm, ⟨91, _⟩ => ⟨S1, .i1⟩
  | .hbm, ⟨92, _⟩ => ⟨S1, .i1⟩
  | .hbm, ⟨93, _⟩ => ⟨S_, .i32⟩
  | .hbm, ⟨94, _⟩ => ⟨S1, .i32⟩
  | .hbm, ⟨95, _⟩ => ⟨S1, .i32⟩
  | .hbm, ⟨96, _⟩ => ⟨S4x32x1x2048, .f32⟩
  | .hbm, ⟨97, _⟩ => ⟨S4x32x1x1024, .f32⟩
  | .hbm, ⟨98, _⟩ => ⟨S74752x1024, .bf16⟩
  | .local _ .vmem, ⟨0, _⟩ => ⟨S256x512, .i32⟩
  | .local _ .vmem, ⟨1, _⟩ => ⟨S256x512, .i32⟩
  | .local _ .vmem, ⟨2, _⟩ => ⟨S1x1x1024x2048, .f32⟩
  | .local _ .vmem, ⟨3, _⟩ => ⟨S1x1x1024x2048, .f32⟩
  | .local _ .vmem, ⟨4, _⟩ => ⟨S1x1x1x2048, .f32⟩
  | .local _ .vmem, ⟨5, _⟩ => ⟨S1x1x1x2048, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x1x1024, .f32⟩
  | .local _ .vmem, ⟨9, _⟩ => ⟨S1x1x1x1024, .f32⟩
  | .local _ .vmem, ⟨10, _⟩ => ⟨S256x1024, .bf16⟩
  | .local _ .vmem, ⟨11, _⟩ => ⟨S256x1024, .bf16⟩
  | .local _ .vmem, ⟨12, _⟩ => ⟨S1024x2048, .bf16⟩
  | .local _ .vmem, ⟨13, _⟩ => ⟨S1024x1024, .bf16⟩
  | .local _ .smem, ⟨0, _⟩ => ⟨S292, .i32⟩
  | .local _ .smem, ⟨1, _⟩ => ⟨S1, .i32⟩
  | .local _ .smem, ⟨2, _⟩ => ⟨S292, .i32⟩
  | _, _ => ⟨S74752x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_c_6 : Ref sig .tc := ⟨.hbm, 51, rfl⟩
abbrev main_v21 : Ref sig .tc := ⟨.hbm, 52, rfl⟩
abbrev main_v22 : Ref sig .tc := ⟨.hbm, 53, rfl⟩
abbrev main_c_7 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_c_8 : Ref sig .tc := ⟨.hbm, 60, rfl⟩
abbrev main_v28 : Ref sig .tc := ⟨.hbm, 61, rfl⟩
abbrev main_v29 : Ref sig .tc := ⟨.hbm, 62, rfl⟩
abbrev main_c_9 : Ref sig .tc := ⟨.hbm, 63, rfl⟩
abbrev main_v30 : Ref sig .tc := ⟨.hbm, 64, rfl⟩
abbrev main_v31 : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_v36 : Ref sig .tc := ⟨.hbm, 70, rfl⟩
abbrev main_c_10 : Ref sig .tc := ⟨.hbm, 71, rfl⟩
abbrev main_c_11 : Ref sig .tc := ⟨.hbm, 72, rfl⟩
abbrev main_call2_v0 : Ref sig .tc := ⟨.hbm, 73, rfl⟩
abbrev main_call2_v1 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_v38 : Ref sig .tc := ⟨.hbm, 78, rfl⟩
abbrev main_c_12 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_call3_v5 : Ref sig .tc := ⟨.hbm, 85, rfl⟩
abbrev main_call3_v6 : Ref sig .tc := ⟨.hbm, 86, rfl⟩
abbrev main_call3_v7 : Ref sig .tc := ⟨.hbm, 87, rfl⟩
abbrev main_call3_v8 : Ref sig .tc := ⟨.hbm, 88, rfl⟩
abbrev main_call3_c : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_0 : Ref sig .tc := ⟨.hbm, 93, rfl⟩
abbrev main_call3_v12 : Ref sig .tc := ⟨.hbm, 94, rfl⟩
abbrev main_call3_v13 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v20 : Ref sig .tc := ⟨.smem, 0, rfl⟩
abbrev main_v39 : Ref sig .tc := ⟨.smem, 1, rfl⟩
abbrev main_v37 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![292], ![false]⟩

abbrev pre0 : Pipeline.Prefetch sig := ⟨3, ![main_v20.idx, main_v39.idx, main_v37.idx], fun | 0 => main_v20.names | 1 => main_v39.names | 2 => main_v37.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v3 : BitVec 32 := Scalar.subi arg0 c1_i32
  let c0_i32_0 : BitVec 32 := 0#32
  let v4 : BitVec 32 := Scalar.maxsi v3 c0_i32_0
  let v5 : Index := Scalar.indexCast v4
  ![v5.toNat]
def k0_off3 (i : grid0.Coords) : Fin 1 → Nat :=
  let arg0 : BitVec 32 := BitVec.ofNat 32 (i 0).val
  let v29 : Index := Scalar.indexCast arg0
  ![v29.toNat]
def k0_cond2 (i : grid0.Coords) (v11 : BitVec 32) : BitVec 1 :=
  let arg0 : BitVec 32 := BitVec.ofNat 32 (i 0).val
  let v12 : BitVec 1 := Scalar.cmpi .slt arg0 v11
  let v13 : BitVec 32 := Scalar.extui v12
  let c0_i32_2 : BitVec 32 := 0#32
  let v14 : BitVec 1 := Scalar.cmpi .ne v13 c0_i32_2
  v14

def k0_cond3 (i : grid0.Coords) (v15 : BitVec 32) : BitVec 1 :=
  let arg0 : BitVec 32 := BitVec.ofNat 32 (i 0).val
  let v16 : BitVec 1 := Scalar.cmpi .sge arg0 v15
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_3 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S74752x512 : Shape := ⟨2, ![74752, 512]⟩
abbrev S32 : Shape := ⟨1, ![32]⟩
abbrev S4x32x1024x2048 : Shape := ⟨4, ![4, 32, 1024, 2048]⟩
abbrev S4x32x2048 : Shape := ⟨3, ![4, 32, 2048]⟩
abbrev S4x32x1024x1024 : Shape := ⟨4, ![4, 32, 1024, 1024]⟩
abbrev S4x32x1024 : Shape := ⟨3, ![4, 32, 1024]⟩
abbrev S_ : Shape := ⟨0, ![]⟩
abbrev S292 : Shape := ⟨1, ![292]⟩
abbrev S1x292 : Shape := ⟨2, ![1, 292]⟩
abbrev S32x1 : Shape := ⟨2, ![32, 1]⟩
abbrev S32x292 : Shape := ⟨2, ![32, 292]⟩
abbrev S74752x1024 : Shape := ⟨2, ![74752, 1024]⟩
abbrev S292x256x1024 : Shape := ⟨3, ![292, 256, 1024]⟩
abbrev S256 : Shape := ⟨1, ![256]⟩
abbrev S292x1 : Shape := ⟨2, ![292, 1]⟩
abbrev S1x256 : Shape := ⟨2, ![1, 256]⟩
abbrev S292x256 : Shape := ⟨2, ![292, 256]⟩
abbrev S292x256x1 : Shape := ⟨3, ![292, 256, 1]⟩
abbrev S1x32x1024x2048 : Shape := ⟨4, ![1, 32, 1024, 2048]⟩
abbrev S32x1024x2048 : Shape := ⟨3, ![32, 1024, 2048]⟩
abbrev S292x1024x2048 : Shape := ⟨3, ![292, 1024, 2048]⟩
abbrev S292x256x2048 : Shape := ⟨3, ![292, 256, 2048]⟩
abbrev S1x32x2048 : Shape := ⟨3, ![1, 32, 2048]⟩
abbrev S32x2048 : Shape := ⟨2, ![32, 2048]⟩
abbrev S292x2048 : Shape := ⟨2, ![292, 2048]⟩
abbrev S292x1x2048 : Shape := ⟨3, ![292, 1, 2048]⟩
abbrev S1x32x1024x1024 : Shape := ⟨4, ![1, 32, 1024, 1024]⟩
abbrev S32x1024x1024 : Shape := ⟨3, ![32, 1024, 1024]⟩
abbrev S292x1024x1024 : Shape := ⟨3, ![292, 1024, 1024]⟩
abbrev S1x32x1024 : Shape := ⟨3, ![1, 32, 1024]⟩
abbrev S32x1024 : Shape := ⟨2, ![32, 1024]⟩
abbrev S292x1024 : Shape := ⟨2, ![292, 1024]⟩
abbrev S292x1x1024 : Shape := ⟨3, ![292, 1, 1024]⟩
abbrev S1 : Shape := ⟨1, ![1]⟩
abbrev S292x1x1 : Shape := ⟨3, ![292, 1, 1]⟩

abbrev nBuf : Space → Nat
  | .hbm => 201
  | .vmem => 0
  | .smem => 0
  | _ => 0

abbrev hbmTy0_0 (i : Nat) : BufTy := match i % 128 with
  | 0 => ⟨S74752x512, .i32⟩
  | 1 => ⟨S32, .i32⟩
  | 2 => ⟨S4x32x1024x2048, .f32⟩
  | 3 => ⟨S4x32x2048, .f32⟩
  | 4 => ⟨S4x32x1024x1024, .f32⟩
  | 5 => ⟨S4x32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S32, .i32⟩
  | 37 => ⟨S292, .i32⟩
  | 38 => ⟨S_, .i32⟩
  | 39 => ⟨S292, .i32⟩
  | 40 => ⟨S292, .i32⟩
  | 41 => ⟨S1x292, .i32⟩
  | 42 => ⟨S32x1, .i32⟩
  | 43 => ⟨S32x292, .i32⟩
  | 44 => ⟨S32x292, .i32⟩
  | 45 => ⟨S32x292, .i1⟩
  | 46 => ⟨S32x292, .i32⟩
  | 47 => ⟨S_, .i32⟩
  | 48 => ⟨S292, .i32⟩
  | 49 => ⟨S_, .i32⟩
  | 50 => ⟨S292, .i32⟩
  | 51 => ⟨S292, .i32⟩
  | 52 => ⟨S_, .i32⟩
  | 53 => ⟨S74752x512, .i32⟩
  | 54 => ⟨S74752x512, .i32⟩
  | 55 => ⟨S74752x512, .f32⟩
  | 56 => ⟨S_, .i32⟩
  | 57 => ⟨S74752x512, .i32⟩
  | 58 => ⟨S74752x512, .i32⟩
  | 59 => ⟨S74752x512, .f32⟩
  | 60 => ⟨S74752x1024, .f32⟩
  | 61 => ⟨S292x256x1024, .f32⟩
  | 62 => ⟨S256, .i32⟩
  | 63 => ⟨S_, .i32⟩
  | 64 => ⟨S292, .i32⟩
  | 65 => ⟨S292, .i1⟩
  | 66 => ⟨S_, .i32⟩
  | 67 => ⟨S292, .i32⟩
  | 68 => ⟨S292, .i32⟩
  | 69 => ⟨S292, .i32⟩
  | 70 => ⟨S292x1, .i32⟩
  | 71 => ⟨S292, .i32⟩
  | 72 => ⟨S_, .i32⟩
  | 73 => ⟨S292, .i32⟩
  | 74 => ⟨S292, .i1⟩
  | 75 => ⟨S_, .i32⟩
  | 76 => ⟨S292, .i32⟩
  | 77 => ⟨S292, .i32⟩
  | 78 => ⟨S292, .i32⟩
  | 79 => ⟨S292x1, .i32⟩
  | 80 => ⟨S292, .i32⟩
  | 81 => ⟨S292, .i32⟩
  | 82 => ⟨S292, .i32⟩
  | 83 => ⟨S1x256, .i32⟩
  | 84 => ⟨S292x1, .i32⟩
  | 85 => ⟨S292x256, .i32⟩
  | 86 => ⟨S292x256, .i32⟩
  | 87 => ⟨S292x256, .i1⟩
  | 88 => ⟨S292x256x1, .i1⟩
  | 89 => ⟨S_, .f32⟩
  | 90 => ⟨S_, .f32⟩
  | 91 => ⟨S292x256x1024, .i1⟩
  | 92 => ⟨S292x256x1024, .f32⟩
  | 93 => ⟨S292x256x1024, .f32⟩
  | 94 => ⟨S1x32x1024x2048, .f32⟩
  | 95 => ⟨S32x1024x2048, .f32⟩
  | 96 => ⟨S_, .i32⟩
  | 97 => ⟨S292, .i32⟩
  | 98 => ⟨S292, .i1⟩
  | 99 => ⟨S_, .i32⟩
  | 100 => ⟨S292, .i32⟩
  | 101 => ⟨S292, .i32⟩
  | 102 => ⟨S292, .i32⟩
  | 103 => ⟨S292x1, .i32⟩
  | 104 => ⟨S292x1024x2048, .f32⟩
  | 105 => ⟨S292x256x2048, .f32⟩
  | 106 => ⟨S1x32x2048, .f32⟩
  | 107 => ⟨S32x2048, .f32⟩
  | 108 => ⟨S_, .i32⟩
  | 109 => ⟨S292, .i32⟩
  | 110 => ⟨S292, .i1⟩
  | 111 => ⟨S_, .i32⟩
  | 112 => ⟨S292, .i32⟩
  | 113 => ⟨S292, .i32⟩
  | 114 => ⟨S292, .i32⟩
  | 115 => ⟨S292x1, .i32⟩
  | 116 => ⟨S292x2048, .f32⟩
  | 117 => ⟨S292x1x2048, .f32⟩
  | 118 => ⟨S292x256x2048, .f32⟩
  | 119 => ⟨S292x256x2048, .f32⟩
  | 120 => ⟨S292x256x1024, .f32⟩
  | 121 => ⟨S_, .f32⟩
  | 122 => ⟨S292x256x1024, .f32⟩
  | 123 => ⟨S292x256x1024, .f32⟩
  | 124 => ⟨S292x256x1024, .f32⟩
  | 125 => ⟨S_, .f32⟩
  | 126 => ⟨S_, .f32⟩
  | 127 => ⟨S_, .f32⟩
  | _ => ⟨S74752x512, .i32⟩

abbrev hbmTy0_1 (i : Nat) : BufTy := match i % 128 with
  | 0 => ⟨S292x256x1024, .f32⟩
  | 1 => ⟨S292x256x1024, .f32⟩
  | 2 => ⟨S_, .f32⟩
  | 3 => ⟨S292x256x1024, .f32⟩
  | 4 => ⟨S292x256x1024, .f32⟩
  | 5 => ⟨S_, .f32⟩
  | 6 => ⟨S292x256x1024, .f32⟩
  | 7 => ⟨S292x256x1024, .f32⟩
  | 8 => ⟨S292x256x1024, .f32⟩
  | 9 => ⟨S292x256x1024, .f32⟩
  | 10 => ⟨S_, .f32⟩
  | 11 => ⟨S292x256x1024, .f32⟩
  | 12 => ⟨S292x256x1024, .f32⟩
  | 13 => ⟨S_, .f32⟩
  | 14 => ⟨S292x256x1024, .f32⟩
  | 15 => ⟨S292x256x1024, .f32⟩
  | 16 => ⟨S292x256x1024, .f32⟩
  | 17 => ⟨S_, .f32⟩
  | 18 => ⟨S292x256x1024, .f32⟩
  | 19 => ⟨S292x256x1024, .f32⟩
  | 20 => ⟨S292x256x1024, .f32⟩
  | 21 => ⟨S1x32x1024x1024, .f32⟩
  | 22 => ⟨S32x1024x1024, .f32⟩
  | 23 => ⟨S_, .i32⟩
  | 24 => ⟨S292, .i32⟩
  | 25 => ⟨S292, .i1⟩
  | 26 => ⟨S_, .i32⟩
  | 27 => ⟨S292, .i32⟩
  | 28 => ⟨S292, .i32⟩
  | 29 => ⟨S292, .i32⟩
  | 30 => ⟨S292x1, .i32⟩
  | 31 => ⟨S292x1024x1024, .f32⟩
  | 32 => ⟨S292x256x1024, .f32⟩
  | 33 => ⟨S1x32x1024, .f32⟩
  | 34 => ⟨S32x1024, .f32⟩
  | 35 => ⟨S_, .i32⟩
  | 36 => ⟨S292, .i32⟩
  | 37 => ⟨S292, .i1⟩
  | 38 => ⟨S_, .i32⟩
  | 39 => ⟨S292, .i32⟩
  | 40 => ⟨S292, .i32⟩
  | 41 => ⟨S292, .i32⟩
  | 42 => ⟨S292x1, .i32⟩
  | 43 => ⟨S292x1024, .f32⟩
  | 44 => ⟨S292x1x1024, .f32⟩
  | 45 => ⟨S292x256x1024, .f32⟩
  | 46 => ⟨S292x256x1024, .f32⟩
  | 47 => ⟨S292, .i32⟩
  | 48 => ⟨S1, .i32⟩
  | 49 => ⟨S_, .i32⟩
  | 50 => ⟨S_, .i32⟩
  | 51 => ⟨S_, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S_, .i1⟩
  | 59 => ⟨S_, .i1⟩
  | 60 => ⟨S_, .i32⟩
  | 61 => ⟨S_, .i32⟩
  | 62 => ⟨S_, .i32⟩
  | 63 => ⟨S292, .i32⟩
  | 64 => ⟨S292, .i1⟩
  | 65 => ⟨S292x1x1, .i1⟩
  | 66 => ⟨S_, .f32⟩
  | 67 => ⟨S_, .f32⟩
  | 68 => ⟨S292x256x1024, .i1⟩
  | 69 => ⟨S292x256x1024, .f32⟩
  | 70 => ⟨S292x256x1024, .f32⟩
  | 71 => ⟨S74752x1024, .f32⟩
  | 72 => ⟨S74752x1024, .bf16⟩
  | _ => ⟨S74752x512, .i32⟩

abbrev hbmTy (i : Nat) : BufTy := match i / 128 with
  | 0 => hbmTy0_0 i
  | 1 => hbmTy0_1 i
  | _ => ⟨S74752x512, .i32⟩

abbrev bufTy : (tb : Table) → Fin (tcTables nBuf tb) → BufTy
  | .hbm, ⟨i, _⟩ => hbmTy i
  | _, _ => ⟨S74752x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_call2_call0_v0 : Ref sig .tc := ⟨.hbm, 41, rfl⟩
abbrev main_call2_call0_v1 : Ref sig .tc := ⟨.hbm, 42, rfl⟩
abbrev main_call2_call0_v2 : Ref sig .tc := ⟨.hbm, 43, rfl⟩
abbrev main_call2_call0_v3 : Ref sig .tc := ⟨.hbm, 44, rfl⟩
abbrev main_call2_call0_v4 : Ref sig .tc := ⟨.hbm, 45, rfl⟩
abbrev main_call2_call0_v5 : Ref sig .tc := ⟨.hbm, 46, rfl⟩
abbrev main_call2_call0_c : Ref sig .tc := ⟨.hbm, 47, rfl⟩
abbrev main_v12 : Ref sig .tc := ⟨.hbm, 48, rfl⟩
abbrev main_c_4 : Ref sig .tc := ⟨.hbm, 49, rfl⟩
abbrev main_v13 : Ref sig .tc := ⟨.hbm, 50, rfl⟩
abbrev main_v14 : Ref sig .tc := ⟨.hbm, 51, rfl⟩
abbrev main_c_5 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_c_6 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_v23 : Ref sig .tc := ⟨.hbm, 62, rfl⟩
abbrev main_c_7 : Ref sig .tc := ⟨.hbm, 63, rfl⟩
abbrev main_v24 : Ref sig .tc := ⟨.hbm, 64, rfl⟩
abbrev main_v25 : Ref sig .tc := ⟨.hbm, 65, rfl⟩
abbrev main_c_8 : Ref sig .tc := ⟨.hbm, 66, rfl⟩
abbrev main_v26 : Ref sig .tc := ⟨.hbm, 67, rfl⟩
abbrev main_v27 : Ref sig .tc := ⟨.hbm, 68, rfl⟩
abbrev main_v28 : Ref sig .tc := ⟨.hbm, 69, rfl⟩
abbrev main_v29 : Ref sig .tc := ⟨.hbm, 70, rfl⟩
abbrev main_v30 : Ref sig .tc := ⟨.hbm, 71, rfl⟩
abbrev main_c_9 : Ref sig .tc := ⟨.hbm, 72, rfl⟩
abbrev main_v31 : Ref sig .tc := ⟨.hbm, 73, rfl⟩
abbrev main_v32 : Ref sig .tc := ⟨.hbm, 74, rfl⟩
abbrev main_c_10 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_cst : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_c_11 : Ref sig .tc := ⟨.hbm, 96, rfl⟩
abbrev main_v49 : Ref sig .tc := ⟨.hbm, 97, rfl⟩
abbrev main_v50 : Ref sig .tc := ⟨.hbm, 98, rfl⟩
abbrev main_c_12 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_v58 : Ref sig .tc := ⟨.hbm, 107, rfl⟩
abbrev main_c_13 : Ref sig .tc := ⟨.hbm, 108, rfl⟩
abbrev main_v59 : Ref sig .tc := ⟨.hbm, 109, rfl⟩
abbrev main_v60 : Ref sig .tc := ⟨.hbm, 110, rfl⟩
abbrev main_c_14 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_15 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_16 : Ref sig .tc := ⟨.hbm, 125, rfl⟩
abbrev main_cst_17 : Ref sig .tc := ⟨.hbm, 126, rfl⟩
abbrev main_call4_v0 : Ref sig .tc := ⟨.hbm, 127, rfl⟩
abbrev main_call4_v1 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_v73 : Ref sig .tc := ⟨.hbm, 132, rfl⟩
abbrev main_cst_18 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_cst_19 : Ref sig .tc := ⟨.hbm, 138, rfl⟩
abbrev main_v78 : Ref sig .tc := ⟨.hbm, 139, rfl⟩
abbrev main_v79 : Ref sig .tc := ⟨.hbm, 140, rfl⟩
abbrev main_cst_20 : Ref sig .tc := ⟨.hbm, 141, rfl⟩
abbrev main_v80 : Ref sig .tc := ⟨.hbm, 142, rfl⟩
abbrev main_v81 : Ref sig .tc := ⟨.hbm, 143, rfl⟩
abbrev main_v82 : Ref sig .tc := ⟨.hbm, 144, rfl⟩
abbrev main_cst_21 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_c_22 : Ref sig .tc := ⟨.hbm, 151, rfl⟩
abbrev main_v88 : Ref sig .tc := ⟨.hbm, 152, rfl⟩
abbrev main_v89 : Ref sig .tc := ⟨.hbm, 153, rfl⟩
abbrev main_c_23 : Ref sig .tc := ⟨.hbm, 154, rfl⟩
abbrev main_v90 : Ref sig .tc := ⟨.hbm, 155, rfl⟩
abbrev main_v91 : Ref sig .tc := ⟨.hbm, 156, rfl⟩
abbrev main_v92 : Ref sig .tc := ⟨.hbm, 157, rfl⟩
abbrev main_v93 : Ref sig .tc := ⟨.hbm, 158, rfl⟩
abbrev main_v94 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_c_24 : Ref sig .tc := ⟨.hbm, 163, rfl⟩
abbrev main_v98 : Ref sig .tc := ⟨.hbm, 164, rfl⟩
abbrev main_v99 : Ref sig .tc := ⟨.hbm, 165, rfl⟩
abbrev main_c_25 : Ref sig .tc := ⟨.hbm, 166, rfl⟩
abbrev main_v100 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_v104 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_v108 : Ref sig .tc := ⟨.hbm, 175, rfl⟩
abbrev main_v109 : Ref sig .tc := ⟨.hbm, 176, rfl⟩
abbrev main_v110 : Ref sig .tc := ⟨.hbm, 177, rfl⟩
abbrev main_c_26 : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_call5_v5 : Ref sig .tc := ⟨.hbm, 184, rfl⟩
abbrev main_call5_c : Ref sig .tc := ⟨.hbm, 185, rfl⟩
abbrev main_call5_v6 : Ref sig .tc := ⟨.hbm, 186, rfl⟩
abbrev main_call5_v7 : Ref sig .tc := ⟨.hbm, 187, rfl⟩
abbrev main_call5_c_0 : Ref sig .tc := ⟨.hbm, 188, rfl⟩
abbrev main_call5_v8 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_cst_27 : Ref sig .tc := ⟨.hbm, 194, rfl⟩
abbrev main_call6_v0 : Ref sig .tc := ⟨.hbm, 195, rfl⟩
abbrev main_call6_v1 : Ref sig .tc := ⟨.hbm, 196, rfl⟩
abbrev main_call6_v2 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩

abbrev nD : Nat := 1
abbrev τ : Topo := Topo.v7x

variable {F : FTy → Type} [FloatOps F]
-- ==== Kernel4.lean ====
abbrev S16384x1024 : Shape := ⟨2, ![16384, 1024]⟩
abbrev S256x1024 : Shape := ⟨2, ![256, 1024]⟩
abbrev S2x6x1024 : Shape := ⟨3, ![2, 6, 1024]⟩
abbrev S1024x3072 : Shape := ⟨2, ![1024, 3072]⟩
abbrev S16640x1024 : Shape := ⟨2, ![16640, 1024]⟩
abbrev S256 : Shape := ⟨1, ![256]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S16 : Shape := ⟨1, ![16]⟩
abbrev S_ : Shape := ⟨0, ![]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16640x64 : Shape := ⟨2, ![16640, 64]⟩
abbrev S16640x128 : Shape := ⟨2, ![16640, 128]⟩
abbrev S16640x3072 : Shape := ⟨2, ![16640, 3072]⟩
abbrev S1x6x1024 : Shape := ⟨3, ![1, 6, 1024]⟩
abbrev S256x128 : Shape := ⟨2, ![256, 128]⟩
abbrev S256x3072 : Shape := ⟨2, ![256, 3072]⟩
abbrev S1x1x1024 : Shape := ⟨3, ![1, 1, 1024]⟩
abbrev S1x1024 : Shape := ⟨2, ![1, 1024]⟩
abbrev S256x512 : Shape := ⟨2, ![256, 512]⟩
abbrev S1024x512 : Shape := ⟨2, ![1024, 512]⟩

abbrev nBuf : Space → Nat
  | .hbm => 45
  | .vmem => 11
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S2x6x1024, .f32⟩
  | .hbm, ⟨3, _⟩ => ⟨S1024x3072, .f32⟩
  | .hbm, ⟨4, _⟩ => ⟨S16640x1024, .f32⟩
  | .hbm, ⟨5, _⟩ => ⟨S256, .f32⟩
  | .hbm, ⟨6, _⟩ => ⟨S256x64, .f32⟩
  | .hbm, ⟨7, _⟩ => ⟨S16384, .f32⟩
  | .hbm, ⟨8, _⟩ => ⟨S64, .f32⟩
  | .hbm, ⟨9, _⟩ => ⟨S1x64, .f32⟩
  | .hbm, ⟨10, _⟩ => ⟨S256x64, .f32⟩
  | .hbm, ⟨11, _⟩ => ⟨S16384, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S16, .f32⟩
  | .hbm, ⟨25, _⟩ => ⟨S16, .f32⟩
  | .hbm, ⟨26, _⟩ => ⟨S16384x1, .f32⟩
  | .hbm, ⟨27, _⟩ => ⟨S1x16, .f32⟩
  | .hbm, ⟨28, _⟩ => ⟨S16384x16, .f32⟩
  | .hbm, ⟨29, _⟩ => ⟨S16384x16, .f32⟩
  | .hbm, ⟨30, _⟩ => ⟨S16384x16, .f32⟩
  | .hbm, ⟨31, _⟩ => ⟨S16384x1, .f32⟩
  | .hbm, ⟨32, _⟩ => ⟨S1x16, .f32⟩
  | .hbm, ⟨33, _⟩ => ⟨S16384x16, .f32⟩
  | .hbm, ⟨34, _⟩ => ⟨S16384x16, .f32⟩
  | .hbm, ⟨35, _⟩ => ⟨S16384x16, .f32⟩
  | .hbm, ⟨36, _⟩ => ⟨S16384x64, .f32⟩
  | .hbm, ⟨37, _⟩ => ⟨S_, .f32⟩
  | .hbm, ⟨38, _⟩ => ⟨S256x64, .f32⟩
  | .hbm, ⟨39, _⟩ => ⟨S16640x64, .f32⟩
  | .hbm, ⟨40, _⟩ => ⟨S16640x128, .f32⟩
  | .hbm, ⟨41, _⟩ => ⟨S16640x128, .f32⟩
  | .hbm, ⟨42, _⟩ => ⟨S16640x128, .f32⟩
  | .hbm, ⟨43, _⟩ => ⟨S1024x3072, .bf16⟩
  | .hbm, ⟨44, _⟩ => ⟨S16640x3072, .bf16⟩
  | .local _ .vmem, ⟨0, _⟩ => ⟨S256x1024, .f32⟩
  | .local _ .vmem, ⟨1, _⟩ => ⟨S256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x3072, .bf16⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x3072, .bf16⟩
  | .local _ .vmem, ⟨10, _⟩ => ⟨S256x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_3 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 1 := Scalar.cmpi .slt arg0 c1_i32
  let c0_i32 : BitVec 32 := 0#32
  let c1_i32_0 : BitVec 32 := 1#32
  let v1 : BitVec 32 := Scalar.select v0 c0_i32 c1_i32_0
  let c0_i32_1 : BitVec 32 := 0#32
  let c0_i32_2 : BitVec 32 := 0#32
  let c0_i32_3 : BitVec 32 := 0#32
  ![v1.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x1024 : Shape := ⟨2, ![16384, 1024]⟩
abbrev S256x1024 : Shape := ⟨2, ![256, 1024]⟩
abbrev S2x6x1024 : Shape := ⟨3, ![2, 6, 1024]⟩
abbrev S1024x3072 : Shape := ⟨2, ![1024, 3072]⟩
abbrev S1x1x1024 : Shape := ⟨3, ![1, 1, 1024]⟩
abbrev S1024 : Shape := ⟨1, ![1024]⟩
abbrev S_ : Shape := ⟨0, ![]⟩
abbrev S1x1024 : Shape := ⟨2, ![1, 1024]⟩
abbrev S16384x3072 : Shape := ⟨2, ![16384, 3072]⟩
abbrev S256 : Shape := ⟨1, ![256]⟩
abbrev S256x64 : Shape := ⟨2, ![256, 64]⟩
abbrev S16384 : Shape := ⟨1, ![16384]⟩
abbrev S64 : Shape := ⟨1, ![64]⟩
abbrev S1x64 : Shape := ⟨2, ![1, 64]⟩
abbrev S16 : Shape := ⟨1, ![16]⟩
abbrev S16384x1 : Shape := ⟨2, ![16384, 1]⟩
abbrev S1x16 : Shape := ⟨2, ![1, 16]⟩
abbrev S16384x16 : Shape := ⟨2, ![16384, 16]⟩
abbrev S16384x64 : Shape := ⟨2, ![16384, 64]⟩
abbrev S16384x16x64 : Shape := ⟨3, ![16384, 16, 64]⟩
abbrev S16384x16x16 : Shape := ⟨3, ![16384, 16, 16]⟩
abbrev S16384x1x64 : Shape := ⟨3, ![16384, 1, 64]⟩
abbrev S256x3072 : Shape := ⟨2, ![256, 3072]⟩
abbrev S16640x3072 : Shape := ⟨2, ![16640, 3072]⟩

abbrev nBuf : Space → Nat
  | .hbm => 104
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S256x1024, .f32⟩
  | .hbm, ⟨2, _⟩ => ⟨S2x6x1024, .f32⟩
  | .hbm, ⟨3, _⟩ => ⟨S1024x3072, .f32⟩
  | .hbm, ⟨4, _⟩ => ⟨S1x1x1024, .f32⟩
  | .hbm, ⟨5, _⟩ => ⟨S1024, .f32⟩
  | .hbm, ⟨6, _⟩ => ⟨S_, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S16384x1024, .f32⟩
  | .hbm, ⟨11, _⟩ => ⟨S16384x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S16384x1024, .f32⟩
  | .hbm, ⟨16, _⟩ => ⟨S16384x1024, .f32⟩
  | .hbm, ⟨17, _⟩ => ⟨S1x1x1024, .f32⟩
  | .hbm, ⟨18, _⟩ => ⟨S1024, .f32⟩
  | .hbm, ⟨19, _⟩ => ⟨S_, .f32⟩
  | .hbm, ⟨20, _⟩ => ⟨S1024, .f32⟩
  | .hbm, ⟨21, _⟩ => ⟨S1024, .f32⟩
  | .hbm, ⟨22, _⟩ => ⟨S1x1024, .f32⟩
  | .hbm, ⟨23, _⟩ => ⟨S256x1024, .f32⟩
  | .hbm, ⟨24, _⟩ => ⟨S256x1024, .f32⟩
  | .hbm, ⟨25, _⟩ => ⟨S1x1x1024, .f32⟩
  | .hbm, ⟨26, _⟩ => ⟨S1024, .f32⟩
  | .hbm, ⟨27, _⟩ => ⟨S1x1024, .f32⟩
  | .hbm, ⟨28, _⟩ => ⟨S256x1024, .f32⟩
  | .hbm, ⟨29, _⟩ => ⟨S256x1024, .f32⟩
  | .hbm, ⟨30, _⟩ => ⟨S16384x3072, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S256, .f32⟩
  | .hbm, ⟨35, _⟩ => ⟨S256x64, .f32⟩
  | .hbm, ⟨36, _⟩ => ⟨S16384, .f32⟩
  | .hbm, ⟨37, _⟩ => ⟨S64, .f32⟩
  | .hbm, ⟨38, _⟩ => ⟨S1x64, .f32⟩
  | .hbm, ⟨39, _⟩ => ⟨S256x64, .f32⟩
  | .hbm, ⟨40, _⟩ => ⟨S16384, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S16, .f32⟩
  | .hbm, ⟨49, _⟩ => ⟨S_, .f32⟩
  | .hbm, ⟨50, _⟩ => ⟨S16, .f32⟩
  | .hbm, ⟨51, _⟩ => ⟨S16, .f32⟩
  | .hbm, ⟨52, _⟩ => ⟨S_, .f32⟩
  | .hbm, ⟨53, _⟩ => ⟨S16, .f32⟩
  | .hbm, ⟨54, _⟩ => ⟨S16, .f32⟩
  | .hbm, ⟨55, _⟩ => ⟨S16384x1, .f32⟩
  | .hbm, ⟨56, _⟩ => ⟨S1x16, .f32⟩
  | .hbm, ⟨57, _⟩ => ⟨S16384x16, .f32⟩
  | .hbm, ⟨58, _⟩ => ⟨S16384x16, .f32⟩
  | .hbm, ⟨59, _⟩ => ⟨S16384x16, .f32⟩
  | .hbm, ⟨60, _⟩ => ⟨S16384x1, .f32⟩
  | .hbm, ⟨61, _⟩ => ⟨S1x16, .f32⟩
  | .hbm, ⟨62, _⟩ => ⟨S16384x16, .f32⟩
  | .hbm, ⟨63, _⟩ => ⟨S16384x16, .f32⟩
  | .hbm, ⟨64, _⟩ => ⟨S16384x16, .f32⟩
  | .hbm, ⟨65, _⟩ => ⟨S16384x64, .f32⟩
  | .hbm, ⟨66, _⟩ => ⟨S16384x64, .f32⟩
  | .hbm, ⟨67, _⟩ => ⟨S16384x64, .f32⟩
  | .hbm, ⟨68, _⟩ => ⟨S16384x16x64, .f32⟩
  | .hbm, ⟨69, _⟩ => ⟨S16384x16x16, .f32⟩
  | .hbm, ⟨70, _⟩ => ⟨S16384x16x16, .f32⟩
  | .hbm, ⟨71, _⟩ => ⟨S16384x16x16, .f32⟩
  | .hbm, ⟨72, _⟩ => ⟨S16384x16x16, .f32⟩
  | .hbm, ⟨73, _⟩ => ⟨S16384x16x16, .f32⟩
  | .hbm, ⟨74, _⟩ => ⟨S16384x16x16, .f32⟩
  | .hbm, ⟨75, _⟩ => ⟨S16384x16x64, .f32⟩
  | .hbm, ⟨76, _⟩ => ⟨S16384x1x64, .f32⟩
  | .hbm, ⟨77, _⟩ => ⟨S16384x16x64, .f32⟩
  | .hbm, ⟨78, _⟩ => ⟨S16384x16x64, .f32⟩
  | .hbm, ⟨79, _⟩ => ⟨S16384x1x64, .f32⟩
  | .hbm, ⟨80, _⟩ => ⟨S16384x16x64, .f32⟩
  | .hbm, ⟨81, _⟩ => ⟨S16384x16x64, .f32⟩
  | .hbm, ⟨82, _⟩ => ⟨S16384x16x64, .f32⟩
  | .hbm, ⟨83, _⟩ => ⟨S16384x1024, .f32⟩
  | .hbm, ⟨84, _⟩ => ⟨S16384x16x64, .f32⟩
  | .hbm, ⟨85, _⟩ => ⟨S16384x16x16, .f32⟩
  | .hbm, ⟨86, _⟩ => ⟨S16384x16x16, .f32⟩
  | .hbm, ⟨87, _⟩ => ⟨S16384x16x16, .f32⟩
  | .hbm, ⟨88, _⟩ => ⟨S16384x16x16, .f32⟩
  | .hbm, ⟨89, _⟩ => ⟨S16384x16x16, .f32⟩
  | .hbm, ⟨90, _⟩ => ⟨S16384x16x16, .f32⟩
  | .hbm, ⟨91, _⟩ => ⟨S16384x16x64, .f32⟩
  | .hbm, ⟨92, _⟩ => ⟨S16384x1x64, .f32⟩
  | .hbm, ⟨93, _⟩ => ⟨S16384x16x64, .f32⟩
  | .hbm, ⟨94, _⟩ => ⟨S16384x16x64, .f32⟩
  | .hbm, ⟨95, _⟩ => ⟨S16384x1x64, .f32⟩
  | .hbm, ⟨96, _⟩ => ⟨S16384x16x64, .f32⟩
  | .hbm, ⟨97, _⟩ => ⟨S16384x16x64, .f32⟩
  | .hbm, ⟨98, _⟩ => ⟨S16384x16x64, .f32⟩
  | .hbm, ⟨99, _⟩ => ⟨S16384x1024, .f32⟩
  | .hbm, ⟨100, _⟩ => ⟨S256x3072, .f32⟩
  | .hbm, ⟨101, _⟩ => ⟨S16384x3072, .f32⟩
  | .hbm, ⟨102, _⟩ => ⟨S16640x3072, .f32⟩
  | .hbm, ⟨103, _⟩ => ⟨S16640x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_cst_2 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_3 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩

abbrev nD : Nat := 1
abbrev τ : Topo := Topo.v7x

variable {F : FTy → Type} [FloatOps F]
-- ==== Proof.FrameI.lean ====
/- The frame of `KernelIdeal`: whatever the output window holds, every execution ends and leaves the arguments as they were. -/
module

public import proofs.«01_k».proof.Proof.Gen.KernelIdeal.Frame.Runs
public import Idealize.ShloMosaic.Lib.Claim

@[expose] public section

-- membership in a rectangle of production extents (`View.cover_of_tiled`): the elaborator's structural look
-- recurses once per coordinate of the long axes
set_option maxRecDepth 16384

noncomputable section

namespace Cert.KernelIdeal.Framed

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple IN CASE A (`scf.if` 0 taken, `scf.if` 1 not taken: points 0, 65, … 455: 8 of 520): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg2 : Memref sig .tc .vmem S256x128 .bf16) (harg2 : arg2.IsWhole) (arg3 : Memref sig .tc .vmem S16640x128 .bf16) (harg3 : arg3.IsWhole) (arg4 : Memref sig .tc .vmem S1x65x128x256 .bf16) (harg4 : arg4.IsWhole) (arg5 : Memref sig .tc .vmem S4x64 .f32) (harg5 : arg5.IsWhole) (arg6 : Memref sig .tc .vmem S128x1 .f32) (harg6 : arg6.IsWhole) (arg7 : Memref sig .tc .vmem S256x128 .bf16) (harg7 : arg7.IsWhole) (arg8 : Memref sig .tc .vmem S2x128x256 .f32) (harg8 : arg8.IsWhole) (arg9 : Memref sig .tc .vmem S2x1x256 .f32) (harg9 : arg9.IsWhole) (arg10 : Memref sig .tc .vmem S2x1x256 .f32) (harg10 : arg10.IsWhole) (arg11 : Memref sig .tc .vmem S2x2048x256 .f32) (harg11 : arg11.IsWhole) (arg12 : Memref sig .tc .vmem S2x2048x256 .f32) (harg12 : arg12.IsWhole) (hc0 : cond0_0 i) (hc1 : ¬cond0_1 i)
    (x0 : Vec F S256x128 .bf16) (x1 : Vec F S16640x128 .bf16) (x2 : Vec F S1x65x128x256 .bf16) (x3 : Vec F S4x64 .f32) (x4 : Vec F S128x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12) K := by
    intro E K
    simp only [cc0_diff_attn_eq_skeleton]; unfold cc0_diff_attn_skel
    simp only [k0_part17_eq_skeleton, k0_part1_eq_skeleton, k0_part2_eq_skeleton, k0_part18_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

-- (the run's proof term is large: checking it walks past the default budget)
set_option maxHeartbeats 1000000 in
/-- The body's triple IN CASE B (`scf.if` 0 not taken, `scf.if` 1 taken: points 1, 2, … 519: 512 of 520): on whole staging memrefs — the inputs' at their contents,
    the FORGOTTEN outputs' (5) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg2 : Memref sig .tc .vmem S256x128 .bf16) (harg2 : arg2.IsWhole) (arg3 : Memref sig .tc .vmem S16640x128 .bf16) (harg3 : arg3.IsWhole) (arg4 : Memref sig .tc .vmem S1x65x128x256 .bf16) (harg4 : arg4.IsWhole) (arg5 : Memref sig .tc .vmem S4x64 .f32) (harg5 : arg5.IsWhole) (arg6 : Memref sig .tc .vmem S128x1 .f32) (harg6 : arg6.IsWhole) (arg7 : Memref sig .tc .vmem S256x128 .bf16) (harg7 : arg7.IsWhole) (arg8 : Memref sig .tc .vmem S2x128x256 .f32) (harg8 : arg8.IsWhole) (arg9 : Memref sig .tc .vmem S2x1x256 .f32) (harg9 : arg9.IsWhole) (arg10 : Memref sig .tc .vmem S2x1x256 .f32) (harg10 : arg10.IsWhole) (arg11 : Memref sig .tc .vmem S2x2048x256 .f32) (harg11 : arg11.IsWhole) (arg12 : Memref sig .tc .vmem S2x2048x256 .f32) (harg12 : arg12.IsWhole) (hc0 : ¬cond0_0 i) (hc1 : cond0_1 i)
    (x0 : Vec F S256x128 .bf16) (x1 : Vec F S16640x128 .bf16) (x2 : Vec F S1x65x128x256 .bf16) (x3 : Vec F S4x64 .f32) (x4 : Vec F S128x1 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := F)) Variants.none c none) E (cc0_diff_attn i arg2 harg2 arg3 harg3 arg4 harg4 arg5 harg5 arg6 harg6 arg7 harg7 arg8 harg8 arg9 harg9 arg10 harg10 arg11 harg11 arg12 harg12) K := by
    intro E K
    simp only [cc0_diff_attn_eq_skeleton]; unfold cc0_diff_attn_skel
    simp only [k0_part17_eq_skeleton, k0_part18_eq_skeleton, k0_part15_eq_skeleton, k0_part16_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _, _; isplitr; swap; · iexact H5
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of_rel (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (Pipeline.RDat.FramePost.arr_in h c 3 rfl).trans ((hA c 3).trans (V_main_arg3 m c)),
      ((h c).2 main_arg4 (Pipeline.mem_restRefs_of main_arg4 (by decide) (by decide))).trans (V_main_arg4 m c)⟩) h

/-! ## The pipeline's proof data -/

/-- The output windows this certificate FORGETS (5): nothing reads what the kernel leaves in them, so nothing
    of it is named (Lib/Pipeline/Dat.lean `Dat.toRForget`). -/
def forgets0 : Fin 6 → Bool := fun w => w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ (∃ d, owns (c : Thread nD τ) (ms0_5 t) fullShare d))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4]
  rw [show (dats m 0 c).Φ t.castSucc = Pipeline.ΦA spec0 c from rfl, PhiA0_eq]
  have hN : t.val < 520 := lt_of_lt_of_eq t.isLt (show cfg0.N = 520 from N_0)
  by_cases h0 : t.val % 65 = 0
  · by_cases h1 : 1 ≤ t.val % 65
    · exfalso; omega
    · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((kernelRun0_A c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases h1 : 1 ≤ t.val % 65
    · iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((kernelRun0_B c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      iexact H5
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (window 5) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of_rel m ρ (fun c => (dats m 0 c).toRForget forgets0) (A_eq m) (run_main m ρ)

/-- The frame: every execution ends, the arguments as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Framed

end
-- ==== Proof.Ops.lean ====
module

public import proofs.«01_k».proof.Proof.Gen.KernelIdeal.Skeleton
public import Idealize.ShloMosaic.Lib.Pointwise

@[expose] public section

set_option maxRecDepth 16384

noncomputable section

namespace Cert.KernelIdeal.Attn

open Cert.KernelIdeal Cert.KernelIdeal.Gen
open Idealize.ShloMosaic

theorem fold_max_bot {n : ℕ} (f : Fin n → EReal) :
    (Finset.univ : Finset (Fin n)).fold max (⊥ : EReal) f = Finset.univ.sup f := rfl

theorem ninf : (FloatOps.ofBits (F := Ideal) .f32 0xFF800000#32 : Ideal .f32) = (⊥ : EReal) := by
  simp [Ideal.ofBits, Ideal.ieee]

/-- The column maximum of a block of 256 score rows. -/
theorem redmax256 (s : FVec Ideal S256x256 .f32) (h1 h2 h3 h4) (r : Fin 256) :
    shapeCast S1x256 (multiReduction .maximumf [0] S256 s 0xFF800000#32 h1 h2 h3) h4 (ix2 0 r)
      = Finset.univ.sup fun j : Fin 256 => s (ix2 j r) := by
  pointwise
  rw [show Ideal.ofBits .f32 0xFF800000#32 = (⊥ : EReal) from ninf]; rfl

/-- The column sum of a block of 256 rows. -/
theorem redadd256 (s : FVec Ideal S256x256 .f32) (h1 h2 h3 h4) (r : Fin 256) :
    shapeCast S1x256 (multiReduction .add [0] S256 s 0#32 h1 h2 h3) h4 (ix2 0 r)
      = ∑ j : Fin 256, s (ix2 j r) := by
  pointwise

/-- The scores of a block of 256 keys against the 256 queries. -/
theorem scores256 (k : FVec Ideal S256x128 .bf16) (q : FVec Ideal S256x128 .bf16) (j : Fin 256) (r : Fin 256) :
    matmul dot_S256x128_S256x128_S256x256_1_1_0_0_n_n none k q (constant S256x256 .f32 0#32) (ix2 j r)
      = ∑ d : Fin 128, k (ix2 j d) * q (ix2 r d) := by
  pointwise

/-- The new greatest scores from a block's scores and the old ones. -/
def newM256 (s : FVec Ideal S256x256 .f32) (m : FVec Ideal S1x256 .f32) : FVec Ideal S1x256 .f32 :=
  maximumf m (shapeCast S1x256 (multiReduction .maximumf [0] S256 s 0xFF800000#32 reduces_S256x256_S256 (.inl rfl) rfl) shapeCasts_S256_S1x256)

theorem newM256_apply (s : FVec Ideal S256x256 .f32) (m : FVec Ideal S1x256 .f32) (r : Fin 256) :
    newM256 s m (ix2 0 r) = max (m (ix2 0 r)) (Finset.univ.sup fun j : Fin 256 => s (ix2 j r)) := by
  unfold newM256; rw [← redmax256 s reduces_S256x256_S256 (.inl rfl) rfl shapeCasts_S256_S1x256 r]; rfl

/-- Two to the scores' differences from the new greatest. -/
def newP256 (s : FVec Ideal S256x256 .f32) (m : FVec Ideal S1x256 .f32) : FVec Ideal S256x256 .f32 :=
  exp2 (subf s (broadcastTo S256x256 (newM256 s m) broadcasts_S1x256_S256x256))

theorem newP256_apply (s : FVec Ideal S256x256 .f32) (m : FVec Ideal S1x256 .f32) (j : Fin 256) (r : Fin 256) :
    newP256 s m (ix2 j r) = Ideal.exp2 (s (ix2 j r) - newM256 s m (ix2 0 r)) := by
  unfold newP256; pointwise; rfl

/-- The new sums of weights. -/
def newL256 (s : FVec Ideal S256x256 .f32) (m l : FVec Ideal S1x256 .f32) : FVec Ideal S1x256 .f32 :=
  addf (mulf (exp2 (subf m (newM256 s m))) l)
    (shapeCast S1x256 (multiReduction .add [0] S256 (newP256 s m) 0#32 reduces_S256x256_S256 (.inl rfl) rfl) shapeCasts_S256_S1x256)

theorem newL256_apply (s : FVec Ideal S256x256 .f32) (m l : FVec Ideal S1x256 .f32) (r : Fin 256) :
    newL256 s m l (ix2 0 r) = Ideal.exp2 (m (ix2 0 r) - newM256 s m (ix2 0 r)) * l (ix2 0 r)
      + ∑ j : Fin 256, Ideal.exp2 (s (ix2 j r) - newM256 s m (ix2 0 r)) := by
  simp only [← newP256_apply]
  rw [← redadd256 (newP256 s m) reduces_S256x256_S256 (.inl rfl) rfl shapeCasts_S256_S1x256 r]; rfl

/-- The new weighted sums, from the block's own sums `pv`. -/
def newA256 (s : FVec Ideal S256x256 .f32) (m : FVec Ideal S1x256 .f32) (a pv : FVec Ideal S128x256 .f32) : FVec Ideal S128x256 .f32 :=
  addf (mulf (broadcastTo S128x256 (exp2 (subf m (newM256 s m))) broadcasts_S1x256_S128x256) a) pv

theorem newA256_apply (s : FVec Ideal S256x256 .f32) (m : FVec Ideal S1x256 .f32) (a pv : FVec Ideal S128x256 .f32) (e : Fin 128) (r : Fin 256) :
    newA256 s m a pv (ix2 e r) = Ideal.exp2 (m (ix2 0 r) - newM256 s m (ix2 0 r)) * a (ix2 e r) + pv (ix2 e r) := by
  unfold newA256; pointwise; rfl

/-- The column maximum of a block of 2048 score rows. -/
theorem redmax2048 (s : FVec Ideal S2048x256 .f32) (h1 h2 h3 h4) (r : Fin 256) :
    shapeCast S1x256 (multiReduction .maximumf [0] S256 s 0xFF800000#32 h1 h2 h3) h4 (ix2 0 r)
      = Finset.univ.sup fun j : Fin 2048 => s (ix2 j r) := by
  pointwise
  rw [show Ideal.ofBits .f32 0xFF800000#32 = (⊥ : EReal) from ninf]; rfl

/-- The column sum of a block of 2048 rows. -/
theorem redadd2048 (s : FVec Ideal S2048x256 .f32) (h1 h2 h3 h4) (r : Fin 256) :
    shapeCast S1x256 (multiReduction .add [0] S256 s 0#32 h1 h2 h3) h4 (ix2 0 r)
      = ∑ j : Fin 2048, s (ix2 j r) := by
  pointwise

/-- The scores of a block of 2048 keys against the 256 queries. -/
theorem scores2048 (k : FVec Ideal S2048x128 .bf16) (q : FVec Ideal S256x128 .bf16) (j : Fin 2048) (r : Fin 256) :
    matmul dot_S2048x128_S256x128_S2048x256_1_1_0_0_n_n none k q (constant S2048x256 .f32 0#32) (ix2 j r)
      = ∑ d : Fin 128, k (ix2 j d) * q (ix2 r d) := by
  pointwise

/-- The new greatest scores from a block's scores and the old ones. -/
def newM2048 (s : FVec Ideal S2048x256 .f32) (m : FVec Ideal S1x256 .f32) : FVec Ideal S1x256 .f32 :=
  maximumf m (shapeCast S1x256 (multiReduction .maximumf [0] S256 s 0xFF800000#32 reduces_S2048x256_S256 (.inl rfl) rfl) shapeCasts_S256_S1x256)

theorem newM2048_apply (s : FVec Ideal S2048x256 .f32) (m : FVec Ideal S1x256 .f32) (r : Fin 256) :
    newM2048 s m (ix2 0 r) = max (m (ix2 0 r)) (Finset.univ.sup fun j : Fin 2048 => s (ix2 j r)) := by
  unfold newM2048; rw [← redmax2048 s reduces_S2048x256_S256 (.inl rfl) rfl shapeCasts_S256_S1x256 r]; rfl

/-- Two to the scores' differences from the new greatest. -/
def newP2048 (s : FVec Ideal S2048x256 .f32) (m : FVec Ideal S1x256 .f32) : FVec Ideal S2048x256 .f32 :=
  exp2 (subf s (broadcastTo S2048x256 (newM2048 s m) broadcasts_S1x256_S2048x256))

theorem newP2048_apply (s : FVec Ideal S2048x256 .f32) (m : FVec Ideal S1x256 .f32) (j : Fin 2048) (r : Fin 256) :
    newP2048 s m (ix2 j r) = Ideal.exp2 (s (ix2 j r) - newM2048 s m (ix2 0 r)) := by
  unfold newP2048; pointwise; rfl

/-- The new sums of weights. -/
def newL2048 (s : FVec Ideal S2048x256 .f32) (m l : FVec Ideal S1x256 .f32) : FVec Ideal S1x256 .f32 :=
  addf (mulf (exp2 (subf m (newM2048 s m))) l)
    (shapeCast S1x256 (multiReduction .add [0] S256 (newP2048 s m) 0#32 reduces_S2048x256_S256 (.inl rfl) rfl) shapeCasts_S256_S1x256)

theorem newL2048_apply (s : FVec Ideal S2048x256 .f32) (m l : FVec Ideal S1x256 .f32) (r : Fin 256) :
    newL2048 s m l (ix2 0 r) = Ideal.exp2 (m (ix2 0 r) - newM2048 s m (ix2 0 r)) * l (ix2 0 r)
      + ∑ j : Fin 2048, Ideal.exp2 (s (ix2 j r) - newM2048 s m (ix2 0 r)) := by
  simp only [← newP2048_apply]
  rw [← redadd2048 (newP2048 s m) reduces_S2048x256_S256 (.inl rfl) rfl shapeCasts_S256_S1x256 r]; rfl

/-- The new weighted sums, from the block's own sums `pv`. -/
def newA2048 (s : FVec Ideal S2048x256 .f32) (m : FVec Ideal S1x256 .f32) (a pv : FVec Ideal S128x256 .f32) : FVec Ideal S128x256 .f32 :=
  addf (mulf (broadcastTo S128x256 (exp2 (subf m (newM2048 s m))) broadcasts_S1x256_S128x256) a) pv

theorem newA2048_apply (s : FVec Ideal S2048x256 .f32) (m : FVec Ideal S1x256 .f32) (a pv : FVec Ideal S128x256 .f32) (e : Fin 128) (r : Fin 256) :
    newA2048 s m a pv (ix2 e r) = Ideal.exp2 (m (ix2 0 r) - newM2048 s m (ix2 0 r)) * a (ix2 e r) + pv (ix2 e r) := by
  unfold newA2048; pointwise; rfl

/-- One block of 256 keys' weighted values. -/
def pvB (v : FVec Ideal S1x1x128x256 .bf16) (p : FVec Ideal S256x256 .bf16) : FVec Ideal S128x256 .f32 :=
  matmul dot_S128x256_S256x256_S128x256_1_0_0_1_n_n none (shapeCast S128x256 v shapeCasts_S1x1x128x256_S128x256) p (constant S128x256 .f32 0#32)

theorem pvB_apply (v : FVec Ideal S1x1x128x256 .bf16) (p : FVec Ideal S256x256 .bf16) (e : Fin 128) (r : Fin 256) :
    pvB v p (ix2 e r) = ∑ j : Fin 256, v (ix4 0 0 e j) * p (ix2 j r) := by
  unfold pvB; pointwise

theorem slice_apply (p : FVec Ideal S2048x256 .f32) (b : ℕ) (hb : b < 8) (h : S2048x256.Slices ![256 * b, 0] S256x256) (j r : Fin 256) :
    extractStridedSlice S256x256 ![256 * b, 0] (truncf .bf16 p bitsLt_bf16_f32) h (ix2 j r) = p (ix2 ⟨256 * b + j.val, by omega⟩ r) := by
  pointwise

end Cert.KernelIdeal.Attn

end
-- ==== Proof.Online.lean ====
module

public import Idealize.ShloMosaic.PureOps.Ideal
public import Mathlib.Analysis.SpecialFunctions.Pow.Real

@[expose] public section

noncomputable section

namespace Cert.Attn

open Idealize.ShloMosaic

/-- The weight of a score `x` against a bound `m` of the scores: two to the difference, as a real number. -/
def wt (x m : EReal) : ℝ := (Ideal.exp2 (x - m)).toReal

/-- Two to a score's difference from a bound is the real weight, at the infinite scores as well. -/
theorem exp2_eq_wt {x m : EReal} (h : x ≤ m) : Ideal.exp2 (x - m) = ((wt x m : ℝ) : EReal) := by
  unfold wt
  induction m with
  | top => rw [sub_eq_add_neg, EReal.neg_top, EReal.add_bot]; simp
  | bot => rw [le_bot_iff.mp h, sub_eq_add_neg, EReal.bot_add]; simp
  | coe m =>
    induction x with
    | top => exact absurd h (by simp)
    | bot => rw [sub_eq_add_neg, EReal.bot_add]; simp
    | coe x => rw [← EReal.coe_sub, Ideal.exp2_coe, EReal.toReal_coe]

/-- A weight is not negative. -/
theorem wt_nonneg (x m : EReal) : 0 ≤ wt x m := by
  unfold wt
  rw [show (0 : ℝ) = (0 : EReal).toReal from rfl]
  induction (x - m) with
  | top => simp
  | bot => simp
  | coe r => simpa using Real.rpow_nonneg (by norm_num) r

/-- Weights against one bound become weights against a greater one by one factor. -/
theorem wt_mul {x m m' : EReal} (h : x ≤ m) (h' : m ≤ m') : wt m m' * wt x m = wt x m' := by
  unfold wt
  induction m' with
  | top => simp [sub_eq_add_neg, EReal.neg_top, EReal.add_bot]
  | bot =>
    rw [le_bot_iff.mp h'] at h ⊢
    rw [le_bot_iff.mp h]; simp [sub_eq_add_neg, EReal.bot_add]
  | coe m' =>
    induction m with
    | top => exact absurd h' (by simp)
    | bot => rw [le_bot_iff.mp h]; simp [sub_eq_add_neg, EReal.bot_add]
    | coe m =>
      induction x with
      | top => exact absurd h (by simp)
      | bot => simp [sub_eq_add_neg, EReal.bot_add]
      | coe x =>
        simp only [← EReal.coe_sub, Ideal.exp2_coe, EReal.toReal_coe]
        exact (Real.rpow_add (by norm_num) (m - m') (x - m)).symm.trans (congrArg (fun t => (2 : ℝ) ^ t) (by ring))

/-- The greatest of the first `n` scores. -/
def mx (s : ℕ → EReal) (n : ℕ) : EReal := (Finset.range n).sup s

/-- The weighted sum of the first `n` values, the weights against their greatest score. -/
def av (s : ℕ → EReal) (v : ℕ → ℝ) (n : ℕ) : ℝ := ∑ j ∈ Finset.range n, wt (s j) (mx s n) * v j

/-- The sum of the first `n` weights. -/
def ls (s : ℕ → EReal) (n : ℕ) : ℝ := ∑ j ∈ Finset.range n, wt (s j) (mx s n)

theorem mx_zero (s : ℕ → EReal) : mx s 0 = ⊥ := by simp [mx]
theorem av_zero (s : ℕ → EReal) (v : ℕ → ℝ) : av s v 0 = 0 := by simp [av]
theorem ls_zero (s : ℕ → EReal) : ls s 0 = 0 := by simp [ls]

theorem le_mx (s : ℕ → EReal) {n j : ℕ} (h : j < n) : s j ≤ mx s n :=
  Finset.le_sup (f := s) (Finset.mem_range.mpr h)

/-- The greatest over one more run of scores is the greater of the two. -/
theorem mx_add (s : ℕ → EReal) (n k : ℕ) : mx s (n + k) = max (mx s n) (Finset.univ.sup fun j : Fin k => s (n + j.val)) := by
  apply le_antisymm
  · refine Finset.sup_le fun j hj => ?_
    rw [Finset.mem_range] at hj
    rcases lt_or_ge j n with h | h
    · exact le_max_of_le_left (le_mx s h)
    · refine le_max_of_le_right ?_
      have := Finset.le_sup (f := fun j : Fin k => s (n + j.val)) (Finset.mem_univ (⟨j - n, by omega⟩ : Fin k))
      simpa [Nat.add_sub_cancel' h] using this
  · refine max_le (Finset.sup_mono (by intro a; simp; omega)) (Finset.sup_le fun j _ => le_mx s (by omega))

theorem mx_le_add (s : ℕ → EReal) (n k : ℕ) : mx s n ≤ mx s (n + k) := by
  rw [mx_add]; exact le_max_left _ _

theorem coe_sum_range (n : ℕ) (f : ℕ → ℝ) : ((∑ j ∈ Finset.range n, f j : ℝ) : EReal) = ∑ j ∈ Finset.range n, (f j : EReal) := by
  induction n with
  | zero => simp
  | succ n ih => rw [Finset.sum_range_succ, Finset.sum_range_succ, EReal.coe_add, ih]

/-- The sum over a run of keys of the values under two to the scores' differences is a real number. -/
theorem run_sum (s : ℕ → EReal) (v : ℕ → ℝ) (n k : ℕ) (N : ℕ) (h : n + k ≤ N) :
    (∑ j : Fin k, ((v (n + j.val) : ℝ) : EReal) * Ideal.exp2 (s (n + j.val) - mx s N))
      = ((∑ j ∈ Finset.range k, wt (s (n + j)) (mx s N) * v (n + j) : ℝ) : EReal) := by
  rw [coe_sum_range, ← Fin.sum_univ_eq_sum_range (fun j => ((wt (s (n + j)) (mx s N) * v (n + j) : ℝ) : EReal))]
  refine Finset.sum_congr rfl fun j _ => ?_
  rw [exp2_eq_wt (le_mx s (by omega)), ← EReal.coe_mul, mul_comm]

/-- One step of the running weighted sum. -/
theorem av_step (s : ℕ → EReal) (v : ℕ → ℝ) (n k : ℕ) :
    Ideal.exp2 (mx s n - mx s (n + k)) * ((av s v n : ℝ) : EReal)
        + ((∑ j ∈ Finset.range k, wt (s (n + j)) (mx s (n + k)) * v (n + j) : ℝ) : EReal)
      = ((av s v (n + k) : ℝ) : EReal) := by
  rw [exp2_eq_wt (mx_le_add s n k), ← EReal.coe_mul, ← EReal.coe_add]
  congr 1
  rw [av, av, Finset.sum_range_add, Finset.mul_sum]
  congr 1
  refine Finset.sum_congr rfl fun j hj => ?_
  rw [← mul_assoc, wt_mul (le_mx s (Finset.mem_range.mp hj)) (mx_le_add s n k)]

theorem ls_eq_av (s : ℕ → EReal) (n : ℕ) : ls s n = av s (fun _ => 1) n := by simp [ls, av]

/-- One step of the running sum of weights. -/
theorem ls_step (s : ℕ → EReal) (n k : ℕ) :
    Ideal.exp2 (mx s n - mx s (n + k)) * ((ls s n : ℝ) : EReal)
        + ∑ j : Fin k, Ideal.exp2 (s (n + j.val) - mx s (n + k))
      = ((ls s (n + k) : ℝ) : EReal) := by
  rw [ls_eq_av, ls_eq_av, ← av_step, ← run_sum s (fun _ => 1) n k (n + k) le_rfl]
  simp

end Cert.Attn

end
-- ==== Proof.Absorb.lean ====
module

public import proofs.«01_k».proof.Proof.Ops
public import proofs.«01_k».proof.Proof.Online

@[expose] public section

set_option maxRecDepth 16384

noncomputable section

namespace Cert.KernelIdeal.Attn

open Cert.KernelIdeal Cert.KernelIdeal.Gen Cert.Attn
open Idealize.ShloMosaic

/-- Absorbing 256 keys moves the greatest score on. -/
theorem absM256 (S : ℕ → EReal) (n : ℕ) (s : FVec Ideal S256x256 .f32) (m : FVec Ideal S1x256 .f32) (r : Fin 256)
    (hs : ∀ j : Fin 256, s (ix2 j r) = S (n + j.val)) (hm : m (ix2 0 r) = mx S n) :
    newM256 s m (ix2 0 r) = mx S (n + 256) := by
  rw [newM256_apply, hm, mx_add]; simp only [hs]

/-- Absorbing 256 keys moves the sum of weights on. -/
theorem absL256 (S : ℕ → EReal) (n : ℕ) (s : FVec Ideal S256x256 .f32) (m l : FVec Ideal S1x256 .f32) (r : Fin 256)
    (hs : ∀ j : Fin 256, s (ix2 j r) = S (n + j.val)) (hm : m (ix2 0 r) = mx S n) (hl : l (ix2 0 r) = ((ls S n : ℝ) : EReal)) :
    newL256 s m l (ix2 0 r) = ((ls S (n + 256) : ℝ) : EReal) := by
  rw [newL256_apply, absM256 S n s m r hs hm, hm, hl, ← ls_step]; simp only [hs]

/-- Absorbing 256 keys moves the weighted sum of values on. -/
theorem absA256 (S : ℕ → EReal) (v : ℕ → ℝ) (n : ℕ) (s : FVec Ideal S256x256 .f32) (m : FVec Ideal S1x256 .f32) (a pv : FVec Ideal S128x256 .f32)
    (e : Fin 128) (r : Fin 256)
    (hs : ∀ j : Fin 256, s (ix2 j r) = S (n + j.val)) (hm : m (ix2 0 r) = mx S n) (ha : a (ix2 e r) = ((av S v n : ℝ) : EReal))
    (hpv : pv (ix2 e r) = ((∑ j ∈ Finset.range 256, wt (S (n + j)) (mx S (n + 256)) * v (n + j) : ℝ) : EReal)) :
    newA256 s m a pv (ix2 e r) = ((av S v (n + 256) : ℝ) : EReal) := by
  rw [newA256_apply, absM256 S n s m r hs hm, hm, ha, hpv, av_step]

/-- The weights of a block of 256 keys. -/
theorem absP256 (S : ℕ → EReal) (n : ℕ) (s : FVec Ideal S256x256 .f32) (m : FVec Ideal S1x256 .f32) (r : Fin 256)
    (hs : ∀ j : Fin 256, s (ix2 j r) = S (n + j.val)) (hm : m (ix2 0 r) = mx S n) (j : Fin 256) :
    newP256 s m (ix2 j r) = Ideal.exp2 (S (n + j.val) - mx S (n + 256)) := by
  rw [newP256_apply, absM256 S n s m r hs hm, hs]

/-- Absorbing 2048 keys moves the greatest score on. -/
theorem absM2048 (S : ℕ → EReal) (n : ℕ) (s : FVec Ideal S2048x256 .f32) (m : FVec Ideal S1x256 .f32) (r : Fin 256)
    (hs : ∀ j : Fin 2048, s (ix2 j r) = S (n + j.val)) (hm : m (ix2 0 r) = mx S n) :
    newM2048 s m (ix2 0 r) = mx S (n + 2048) := by
  rw [newM2048_apply, hm, mx_add]; simp only [hs]

/-- Absorbing 2048 keys moves the sum of weights on. -/
theorem absL2048 (S : ℕ → EReal) (n : ℕ) (s : FVec Ideal S2048x256 .f32) (m l : FVec Ideal S1x256 .f32) (r : Fin 256)
    (hs : ∀ j : Fin 2048, s (ix2 j r) = S (n + j.val)) (hm : m (ix2 0 r) = mx S n) (hl : l (ix2 0 r) = ((ls S n : ℝ) : EReal)) :
    newL2048 s m l (ix2 0 r) = ((ls S (n + 2048) : ℝ) : EReal) := by
  rw [newL2048_apply, absM2048 S n s m r hs hm, hm, hl, ← ls_step]; simp only [hs]

/-- Absorbing 2048 keys moves the weighted sum of values on. -/
theorem absA2048 (S : ℕ → EReal) (v : ℕ → ℝ) (n : ℕ) (s : FVec Ideal S2048x256 .f32) (m : FVec Ideal S1x256 .f32) (a pv : FVec Ideal S128x256 .f32)
    (e : Fin 128) (r : Fin 256)
    (hs : ∀ j : Fin 2048, s (ix2 j r) = S (n + j.val)) (hm : m (ix2 0 r) = mx S n) (ha : a (ix2 e r) = ((av S v n : ℝ) : EReal))
    (hpv : pv (ix2 e r) = ((∑ j ∈ Finset.range 2048, wt (S (n + j)) (mx S (n + 2048)) * v (n + j) : ℝ) : EReal)) :
    newA2048 s m a pv (ix2 e r) = ((av S v (n + 2048) : ℝ) : EReal) := by
  rw [newA2048_apply, absM2048 S n s m r hs hm, hm, ha, hpv, av_step]

/-- The weights of a block of 2048 keys. -/
theorem absP2048 (S : ℕ → EReal) (n : ℕ) (s : FVec Ideal S2048x256 .f32) (m : FVec Ideal S1x256 .f32) (r : Fin 256)
    (hs : ∀ j : Fin 2048, s (ix2 j r) = S (n + j.val)) (hm : m (ix2 0 r) = mx S n) (j : Fin 2048) :
    newP2048 s m (ix2 j r) = Ideal.exp2 (S (n + j.val) - mx S (n + 2048)) := by
  rw [newP2048_apply, absM2048 S n s m r hs hm, hs]

/-- The weighted values of one block of 256 keys. -/
theorem pvB_sum (S : ℕ → EReal) (v : ℕ → ℝ) (n N : ℕ) (hN : n + 256 ≤ N) (vb : FVec Ideal S1x1x128x256 .bf16) (p : FVec Ideal S256x256 .bf16) (e : Fin 128) (r : Fin 256)
    (hv : ∀ j : Fin 256, vb (ix4 0 0 e j) = ((v (n + j.val) : ℝ) : EReal))
    (hp : ∀ j : Fin 256, p (ix2 j r) = Ideal.exp2 (S (n + j.val) - mx S N)) :
    pvB vb p (ix2 e r) = ((∑ j ∈ Finset.range 256, wt (S (n + j)) (mx S N) * v (n + j) : ℝ) : EReal) := by
  rw [pvB_apply, ← run_sum S v n 256 N hN]; simp only [hv, hp]

/-- The weighted values of a tile of 2048 keys, block by block. -/
def pv2048 (v0 v1 v2 v3 v4 v5 v6 v7 : FVec Ideal S1x1x128x256 .bf16) (p : FVec Ideal S2048x256 .f32) : FVec Ideal S128x256 .f32 :=
  addf (addf (addf (addf (addf (addf (addf
    (pvB v0 (extractStridedSlice S256x256 ![0, 0] (truncf .bf16 p bitsLt_bf16_f32) slices_S2048x256_o0_0_S256x256))
    (pvB v1 (extractStridedSlice S256x256 ![256, 0] (truncf .bf16 p bitsLt_bf16_f32) slices_S2048x256_o256_0_S256x256)))
    (pvB v2 (extractStridedSlice S256x256 ![512, 0] (truncf .bf16 p bitsLt_bf16_f32) slices_S2048x256_o512_0_S256x256)))
    (pvB v3 (extractStridedSlice S256x256 ![768, 0] (truncf .bf16 p bitsLt_bf16_f32) slices_S2048x256_o768_0_S256x256)))
    (pvB v4 (extractStridedSlice S256x256 ![1024, 0] (truncf .bf16 p bitsLt_bf16_f32) slices_S2048x256_o1024_0_S256x256)))
    (pvB v5 (extractStridedSlice S256x256 ![1280, 0] (truncf .bf16 p bitsLt_bf16_f32) slices_S2048x256_o1280_0_S256x256)))
    (pvB v6 (extractStridedSlice S256x256 ![1536, 0] (truncf .bf16 p bitsLt_bf16_f32) slices_S2048x256_o1536_0_S256x256)))
    (pvB v7 (extractStridedSlice S256x256 ![1792, 0] (truncf .bf16 p bitsLt_bf16_f32) slices_S2048x256_o1792_0_S256x256))

theorem sum_blocks (f : ℕ → ℝ) : (∑ j ∈ Finset.range 2048, f j) =
    (∑ j ∈ Finset.range 256, f j) + (∑ j ∈ Finset.range 256, f (256 + j)) + (∑ j ∈ Finset.range 256, f (512 + j)) + (∑ j ∈ Finset.range 256, f (768 + j))
     + (∑ j ∈ Finset.range 256, f (1024 + j)) + (∑ j ∈ Finset.range 256, f (1280 + j)) + (∑ j ∈ Finset.range 256, f (1536 + j)) + (∑ j ∈ Finset.range 256, f (1792 + j)) := by
  rw [show 2048 = 1792 + 256 from rfl, Finset.sum_range_add, show 1792 = 1536 + 256 from rfl, Finset.sum_range_add, show 1536 = 1280 + 256 from rfl, Finset.sum_range_add,
    show 1280 = 1024 + 256 from rfl, Finset.sum_range_add, show 1024 = 768 + 256 from rfl, Finset.sum_range_add, show 768 = 512 + 256 from rfl, Finset.sum_range_add,
    show 512 = 256 + 256 from rfl, Finset.sum_range_add]

/-- The weighted values of a tile of 2048 keys are one sum. -/
theorem pv2048_sum (S : ℕ → EReal) (v : ℕ → ℝ) (n : ℕ) (v0 v1 v2 v3 v4 v5 v6 v7 : FVec Ideal S1x1x128x256 .bf16) (p : FVec Ideal S2048x256 .f32) (e : Fin 128) (r : Fin 256)
    (hp : ∀ j : Fin 2048, p (ix2 j r) = Ideal.exp2 (S (n + j.val) - mx S (n + 2048)))
    (h0 : ∀ j : Fin 256, v0 (ix4 0 0 e j) = ((v (n + 0 + j.val) : ℝ) : EReal))
    (h1 : ∀ j : Fin 256, v1 (ix4 0 0 e j) = ((v (n + 256 + j.val) : ℝ) : EReal))
    (h2 : ∀ j : Fin 256, v2 (ix4 0 0 e j) = ((v (n + 512 + j.val) : ℝ) : EReal))
    (h3 : ∀ j : Fin 256, v3 (ix4 0 0 e j) = ((v (n + 768 + j.val) : ℝ) : EReal))
    (h4 : ∀ j : Fin 256, v4 (ix4 0 0 e j) = ((v (n + 1024 + j.val) : ℝ) : EReal))
    (h5 : ∀ j : Fin 256, v5 (ix4 0 0 e j) = ((v (n + 1280 + j.val) : ℝ) : EReal))
    (h6 : ∀ j : Fin 256, v6 (ix4 0 0 e j) = ((v (n + 1536 + j.val) : ℝ) : EReal))
    (h7 : ∀ j : Fin 256, v7 (ix4 0 0 e j) = ((v (n + 1792 + j.val) : ℝ) : EReal))
    : pv2048 v0 v1 v2 v3 v4 v5 v6 v7 p (ix2 e r) = ((∑ j ∈ Finset.range 2048, wt (S (n + j)) (mx S (n + 2048)) * v (n + j) : ℝ) : EReal) := by
  rw [sum_blocks]
  simp only [EReal.coe_add]
  have e0 := pvB_sum S v (n + 0) (n + 2048) (by omega) v0 (extractStridedSlice S256x256 ![0, 0] (truncf .bf16 p bitsLt_bf16_f32) slices_S2048x256_o0_0_S256x256) e r h0
    (fun j => (slice_apply p 0 (by omega) slices_S2048x256_o0_0_S256x256 j r).trans ((hp _).trans (by simp only [Nat.add_assoc])))
  have e1 := pvB_sum S v (n + 256) (n + 2048) (by omega) v1 (extractStridedSlice S256x256 ![256, 0] (truncf .bf16 p bitsLt_bf16_f32) slices_S2048x256_o256_0_S256x256) e r h1
    (fun j => (slice_apply p 1 (by omega) slices_S2048x256_o256_0_S256x256 j r).trans ((hp _).trans (by simp only [Nat.add_assoc])))
  have e2 := pvB_sum S v (n + 512) (n + 2048) (by omega) v2 (extractStridedSlice S256x256 ![512, 0] (truncf .bf16 p bitsLt_bf16_f32) slices_S2048x256_o512_0_S256x256) e r h2
    (fun j => (slice_apply p 2 (by omega) slices_S2048x256_o512_0_S256x256 j r).trans ((hp _).trans (by simp only [Nat.add_assoc])))
  have e3 := pvB_sum S v (n + 768) (n + 2048) (by omega) v3 (extractStridedSlice S256x256 ![768, 0] (truncf .bf16 p bitsLt_bf16_f32) slices_S2048x256_o768_0_S256x256) e r h3
    (fun j => (slice_apply p 3 (by omega) slices_S2048x256_o768_0_S256x256 j r).trans ((hp _).trans (by simp only [Nat.add_assoc])))
  have e4 := pvB_sum S v (n + 1024) (n + 2048) (by omega) v4 (extractStridedSlice S256x256 ![1024, 0] (truncf .bf16 p bitsLt_bf16_f32) slices_S2048x256_o1024_0_S256x256) e r h4
    (fun j => (slice_apply p 4 (by omega) slices_S2048x256_o1024_0_S256x256 j r).trans ((hp _).trans (by simp only [Nat.add_assoc])))
  have e5 := pvB_sum S v (n + 1280) (n + 2048) (by omega) v5 (extractStridedSlice S256x256 ![1280, 0] (truncf .bf16 p bitsLt_bf16_f32) slices_S2048x256_o1280_0_S256x256) e r h5
    (fun j => (slice_apply p 5 (by omega) slices_S2048x256_o1280_0_S256x256 j r).trans ((hp _).trans (by simp only [Nat.add_assoc])))
  have e6 := pvB_sum S v (n + 1536) (n + 2048) (by omega) v6 (extractStridedSlice S256x256 ![1536, 0] (truncf .bf16 p bitsLt_bf16_f32) slices_S2048x256_o1536_0_S256x256) e r h6
    (fun j => (slice_apply p 6 (by omega) slices_S2048x256_o1536_0_S256x256 j r).trans ((hp _).trans (by simp only [Nat.add_assoc])))
  have e7 := pvB_sum S v (n + 1792) (n + 2048) (by omega) v7 (extractStridedSlice S256x256 ![1792, 0] (truncf .bf16 p bitsLt_bf16_f32) slices_S2048x256_o1792_0_S256x256) e r h7
    (fun j => (slice_apply p 7 (by omega) slices_S2048x256_o1792_0_S256x256 j r).trans ((hp _).trans (by simp only [Nat.add_assoc])))
  simp only [Nat.add_assoc, Nat.add_zero] at e0 e1 e2 e3 e4 e5 e6 e7
  rw [← e0, ← e1, ← e2, ← e3, ← e4, ← e5, ← e6, ← e7]
  rfl

end Cert.KernelIdeal.Attn

end
-- ==== Proof.Reads.lean ====
module

public import proofs.«01_k».proof.Proof.Ops
public import Idealize.ShloMosaic.Lib.WritesUnit
public import proofs.«01_k».proof.Proof.Gen.KernelIdeal.Frame.Runs

@[expose] public section

set_option maxRecDepth 16384

noncomputable section

namespace Cert.KernelIdeal.Attn

open Cert.KernelIdeal Cert.KernelIdeal.Gen
open Idealize.ShloMosaic

variable {κ : Kind} {sp : Space}

/-- The half just stored is read back. -/
theorem rd_same_128_0 (v : View sig κ sp S2x128x256 .f32) (f) (inb) (w : Vec Ideal S1x128x256 .f32) (L) (x : Fin 128) (y : Fin 256) :
    v.read (Elt Ideal) (v.writes (Elt Ideal) f (⟨Rect.unit (s := S2x128x256) ![0, 0, 0] S1x128x256.size inb, w⟩ :: L)) (ix3 0 x y) = w (ix3 0 x y) :=
  View.read_writes_cons_unit_of_mem v f inb w L (ix3 0 x y) (ix3 0 x y) rfl
    (fun a => by fin_cases a <;> simp [ix3])

/-- The other half reads what was there. -/
theorem rd_other_128_0 (v : View sig κ sp S2x128x256 .f32) (f) (inb) (w : Vec Ideal S1x128x256 .f32) (L) (x : Fin 128) (y : Fin 256) :
    v.read (Elt Ideal) (v.writes (Elt Ideal) f (⟨Rect.unit (s := S2x128x256) ![1, 0, 0] S1x128x256.size inb, w⟩ :: L)) (ix3 0 x y)
      = v.read (Elt Ideal) (v.writes (Elt Ideal) f L) (ix3 0 x y) :=
  View.read_writes_cons_unit_of_not_mem v f inb w L (ix3 0 x y) rfl 0 (by simp [ix3, S1x128x256])

/-- A load of a half, as a matrix. -/
theorem ld_128_0 (v : View sig κ sp S2x128x256 .f32) (f) (inb) (h) (x : Fin 128) (y : Fin 256) :
    shapeCast S128x256 (v.readAt (Elt Ideal) (Rect.unit (s := S2x128x256) ![0, 0, 0] S1x128x256.size inb).toLoadRect f) h (ix2 x y)
      = v.read (Elt Ideal) f (ix3 0 x y) := by
  refine (shapeCast_dropUnit_apply ![128, 256] _ h (ix2 x y)).trans ?_
  refine congrArg (v.read (Elt Ideal) f) (funext fun a => Fin.ext ?_)
  fin_cases a <;> simp [ix3, ix2, Rect.unit, LoadRect.idx, Rect.toLoadRect] <;> rfl

theorem cv_128_0 (v : View sig κ sp S2x128x256 .f32) (L) (inb) (h) (x : Fin 128) (y : Fin 256) :
    shapeCast S128x256 (v.readCov L (Rect.unit (s := S2x128x256) ![0, 0, 0] S1x128x256.size inb).toLoadRect) h (ix2 x y)
      = v.read (Elt Ideal) (v.writes (Elt Ideal) v.junk L) (ix3 0 x y) :=
  ld_128_0 v _ inb h x y

/-- The half just stored is read back. -/
theorem rd_same_128_1 (v : View sig κ sp S2x128x256 .f32) (f) (inb) (w : Vec Ideal S1x128x256 .f32) (L) (x : Fin 128) (y : Fin 256) :
    v.read (Elt Ideal) (v.writes (Elt Ideal) f (⟨Rect.unit (s := S2x128x256) ![1, 0, 0] S1x128x256.size inb, w⟩ :: L)) (ix3 1 x y) = w (ix3 0 x y) :=
  View.read_writes_cons_unit_of_mem v f inb w L (ix3 1 x y) (ix3 0 x y) rfl
    (fun a => by fin_cases a <;> simp [ix3])

/-- The other half reads what was there. -/
theorem rd_other_128_1 (v : View sig κ sp S2x128x256 .f32) (f) (inb) (w : Vec Ideal S1x128x256 .f32) (L) (x : Fin 128) (y : Fin 256) :
    v.read (Elt Ideal) (v.writes (Elt Ideal) f (⟨Rect.unit (s := S2x128x256) ![0, 0, 0] S1x128x256.size inb, w⟩ :: L)) (ix3 1 x y)
      = v.read (Elt Ideal) (v.writes (Elt Ideal) f L) (ix3 1 x y) :=
  View.read_writes_cons_unit_of_not_mem v f inb w L (ix3 1 x y) rfl 0 (by simp [ix3, S1x128x256])

/-- A load of a half, as a matrix. -/
theorem ld_128_1 (v : View sig κ sp S2x128x256 .f32) (f) (inb) (h) (x : Fin 128) (y : Fin 256) :
    shapeCast S128x256 (v.readAt (Elt Ideal) (Rect.unit (s := S2x128x256) ![1, 0, 0] S1x128x256.size inb).toLoadRect f) h (ix2 x y)
      = v.read (Elt Ideal) f (ix3 1 x y) := by
  refine (shapeCast_dropUnit_apply ![128, 256] _ h (ix2 x y)).trans ?_
  refine congrArg (v.read (Elt Ideal) f) (funext fun a => Fin.ext ?_)
  fin_cases a <;> simp [ix3, ix2, Rect.unit, LoadRect.idx, Rect.toLoadRect] <;> rfl

theorem cv_128_1 (v : View sig κ sp S2x128x256 .f32) (L) (inb) (h) (x : Fin 128) (y : Fin 256) :
    shapeCast S128x256 (v.readCov L (Rect.unit (s := S2x128x256) ![1, 0, 0] S1x128x256.size inb).toLoadRect) h (ix2 x y)
      = v.read (Elt Ideal) (v.writes (Elt Ideal) v.junk L) (ix3 1 x y) :=
  ld_128_1 v _ inb h x y

/-- The half just stored is read back. -/
theorem rd_same_1_0 (v : View sig κ sp S2x1x256 .f32) (f) (inb) (w : Vec Ideal S1x1x256 .f32) (L) (x : Fin 1) (y : Fin 256) :
    v.read (Elt Ideal) (v.writes (Elt Ideal) f (⟨Rect.unit (s := S2x1x256) ![0, 0, 0] S1x1x256.size inb, w⟩ :: L)) (ix3 0 x y) = w (ix3 0 x y) :=
  View.read_writes_cons_unit_of_mem v f inb w L (ix3 0 x y) (ix3 0 x y) rfl
    (fun a => by fin_cases a <;> simp [ix3])

/-- The other half reads what was there. -/
theorem rd_other_1_0 (v : View sig κ sp S2x1x256 .f32) (f) (inb) (w : Vec Ideal S1x1x256 .f32) (L) (x : Fin 1) (y : Fin 256) :
    v.read (Elt Ideal) (v.writes (Elt Ideal) f (⟨Rect.unit (s := S2x1x256) ![1, 0, 0] S1x1x256.size inb, w⟩ :: L)) (ix3 0 x y)
      = v.read (Elt Ideal) (v.writes (Elt Ideal) f L) (ix3 0 x y) :=
  View.read_writes_cons_unit_of_not_mem v f inb w L (ix3 0 x y) rfl 0 (by simp [ix3, S1x1x256])

/-- A load of a half, as a matrix. -/
theorem ld_1_0 (v : View sig κ sp S2x1x256 .f32) (f) (inb) (h) (x : Fin 1) (y : Fin 256) :
    shapeCast S1x256 (v.readAt (Elt Ideal) (Rect.unit (s := S2x1x256) ![0, 0, 0] S1x1x256.size inb).toLoadRect f) h (ix2 x y)
      = v.read (Elt Ideal) f (ix3 0 x y) := by
  refine (shapeCast_dropUnit_apply ![1, 256] _ h (ix2 x y)).trans ?_
  refine congrArg (v.read (Elt Ideal) f) (funext fun a => Fin.ext ?_)
  fin_cases a <;> simp [ix3, ix2, Rect.unit, LoadRect.idx, Rect.toLoadRect] <;> first | rfl | exact (Nat.lt_one_iff.mp x.isLt)

theorem cv_1_0 (v : View sig κ sp S2x1x256 .f32) (L) (inb) (h) (x : Fin 1) (y : Fin 256) :
    shapeCast S1x256 (v.readCov L (Rect.unit (s := S2x1x256) ![0, 0, 0] S1x1x256.size inb).toLoadRect) h (ix2 x y)
      = v.read (Elt Ideal) (v.writes (Elt Ideal) v.junk L) (ix3 0 x y) :=
  ld_1_0 v _ inb h x y

/-- The half just stored is read back. -/
theorem rd_same_1_1 (v : View sig κ sp S2x1x256 .f32) (f) (inb) (w : Vec Ideal S1x1x256 .f32) (L) (x : Fin 1) (y : Fin 256) :
    v.read (Elt Ideal) (v.writes (Elt Ideal) f (⟨Rect.unit (s := S2x1x256) ![1, 0, 0] S1x1x256.size inb, w⟩ :: L)) (ix3 1 x y) = w (ix3 0 x y) :=
  View.read_writes_cons_unit_of_mem v f inb w L (ix3 1 x y) (ix3 0 x y) rfl
    (fun a => by fin_cases a <;> simp [ix3])

/-- The other half reads what was there. -/
theorem rd_other_1_1 (v : View sig κ sp S2x1x256 .f32) (f) (inb) (w : Vec Ideal S1x1x256 .f32) (L) (x : Fin 1) (y : Fin 256) :
    v.read (Elt Ideal) (v.writes (Elt Ideal) f (⟨Rect.unit (s := S2x1x256) ![0, 0, 0] S1x1x256.size inb, w⟩ :: L)) (ix3 1 x y)
      = v.read (Elt Ideal) (v.writes (Elt Ideal) f L) (ix3 1 x y) :=
  View.read_writes_cons_unit_of_not_mem v f inb w L (ix3 1 x y) rfl 0 (by simp [ix3, S1x1x256])

/-- A load of a half, as a matrix. -/
theorem ld_1_1 (v : View sig κ sp S2x1x256 .f32) (f) (inb) (h) (x : Fin 1) (y : Fin 256) :
    shapeCast S1x256 (v.readAt (Elt Ideal) (Rect.unit (s := S2x1x256) ![1, 0, 0] S1x1x256.size inb).toLoadRect f) h (ix2 x y)
      = v.read (Elt Ideal) f (ix3 1 x y) := by
  refine (shapeCast_dropUnit_apply ![1, 256] _ h (ix2 x y)).trans ?_
  refine congrArg (v.read (Elt Ideal) f) (funext fun a => Fin.ext ?_)
  fin_cases a <;> simp [ix3, ix2, Rect.unit, LoadRect.idx, Rect.toLoadRect] <;> first | rfl | exact (Nat.lt_one_iff.mp x.isLt)

theorem cv_1_1 (v : View sig κ sp S2x1x256 .f32) (L) (inb) (h) (x : Fin 1) (y : Fin 256) :
    shapeCast S1x256 (v.readCov L (Rect.unit (s := S2x1x256) ![1, 0, 0] S1x1x256.size inb).toLoadRect) h (ix2 x y)
      = v.read (Elt Ideal) (v.writes (Elt Ideal) v.junk L) (ix3 1 x y) :=
  ld_1_1 v _ inb h x y

/-- The half just stored is read back. -/
theorem rd_same_2048_0 (v : View sig κ sp S2x2048x256 .f32) (f) (inb) (w : Vec Ideal S1x2048x256 .f32) (L) (x : Fin 2048) (y : Fin 256) :
    v.read (Elt Ideal) (v.writes (Elt Ideal) f (⟨Rect.unit (s := S2x2048x256) ![0, 0, 0] S1x2048x256.size inb, w⟩ :: L)) (ix3 0 x y) = w (ix3 0 x y) :=
  View.read_writes_cons_unit_of_mem v f inb w L (ix3 0 x y) (ix3 0 x y) rfl
    (fun a => by fin_cases a <;> simp [ix3])

/-- The other half reads what was there. -/
theorem rd_other_2048_0 (v : View sig κ sp S2x2048x256 .f32) (f) (inb) (w : Vec Ideal S1x2048x256 .f32) (L) (x : Fin 2048) (y : Fin 256) :
    v.read (Elt Ideal) (v.writes (Elt Ideal) f (⟨Rect.unit (s := S2x2048x256) ![1, 0, 0] S1x2048x256.size inb, w⟩ :: L)) (ix3 0 x y)
      = v.read (Elt Ideal) (v.writes (Elt Ideal) f L) (ix3 0 x y) :=
  View.read_writes_cons_unit_of_not_mem v f inb w L (ix3 0 x y) rfl 0 (by simp [ix3, S1x2048x256])

/-- A load of a half, as a matrix. -/
theorem ld_2048_0 (v : View sig κ sp S2x2048x256 .f32) (f) (inb) (h) (x : Fin 2048) (y : Fin 256) :
    shapeCast S2048x256 (v.readAt (Elt Ideal) (Rect.unit (s := S2x2048x256) ![0, 0, 0] S1x2048x256.size inb).toLoadRect f) h (ix2 x y)
      = v.read (Elt Ideal) f (ix3 0 x y) := by
  refine (shapeCast_dropUnit_apply ![2048, 256] _ h (ix2 x y)).trans ?_
  refine congrArg (v.read (Elt Ideal) f) (funext fun a => Fin.ext ?_)
  fin_cases a <;> simp [ix3, ix2, Rect.unit, LoadRect.idx, Rect.toLoadRect] <;> rfl

theorem cv_2048_0 (v : View sig κ sp S2x2048x256 .f32) (L) (inb) (h) (x : Fin 2048) (y : Fin 256) :
    shapeCast S2048x256 (v.readCov L (Rect.unit (s := S2x2048x256) ![0, 0, 0] S1x2048x256.size inb).toLoadRect) h (ix2 x y)
      = v.read (Elt Ideal) (v.writes (Elt Ideal) v.junk L) (ix3 0 x y) :=
  ld_2048_0 v _ inb h x y

/-- The half just stored is read back. -/
theorem rd_same_2048_1 (v : View sig κ sp S2x2048x256 .f32) (f) (inb) (w : Vec Ideal S1x2048x256 .f32) (L) (x : Fin 2048) (y : Fin 256) :
    v.read (Elt Ideal) (v.writes (Elt Ideal) f (⟨Rect.unit (s := S2x2048x256) ![1, 0, 0] S1x2048x256.size inb, w⟩ :: L)) (ix3 1 x y) = w (ix3 0 x y) :=
  View.read_writes_cons_unit_of_mem v f inb w L (ix3 1 x y) (ix3 0 x y) rfl
    (fun a => by fin_cases a <;> simp [ix3])

/-- The other half reads what was there. -/
theorem rd_other_2048_1 (v : View sig κ sp S2x2048x256 .f32) (f) (inb) (w : Vec Ideal S1x2048x256 .f32) (L) (x : Fin 2048) (y : Fin 256) :
    v.read (Elt Ideal) (v.writes (Elt Ideal) f (⟨Rect.unit (s := S2x2048x256) ![0, 0, 0] S1x2048x256.size inb, w⟩ :: L)) (ix3 1 x y)
      = v.read (Elt Ideal) (v.writes (Elt Ideal) f L) (ix3 1 x y) :=
  View.read_writes_cons_unit_of_not_mem v f inb w L (ix3 1 x y) rfl 0 (by simp [ix3, S1x2048x256])

/-- A load of a half, as a matrix. -/
theorem ld_2048_1 (v : View sig κ sp S2x2048x256 .f32) (f) (inb) (h) (x : Fin 2048) (y : Fin 256) :
    shapeCast S2048x256 (v.readAt (Elt Ideal) (Rect.unit (s := S2x2048x256) ![1, 0, 0] S1x2048x256.size inb).toLoadRect f) h (ix2 x y)
      = v.read (Elt Ideal) f (ix3 1 x y) := by
  refine (shapeCast_dropUnit_apply ![2048, 256] _ h (ix2 x y)).trans ?_
  refine congrArg (v.read (Elt Ideal) f) (funext fun a => Fin.ext ?_)
  fin_cases a <;> simp [ix3, ix2, Rect.unit, LoadRect.idx, Rect.toLoadRect] <;> rfl

theorem cv_2048_1 (v : View sig κ sp S2x2048x256 .f32) (L) (inb) (h) (x : Fin 2048) (y : Fin 256) :
    shapeCast S2048x256 (v.readCov L (Rect.unit (s := S2x2048x256) ![1, 0, 0] S1x2048x256.size inb).toLoadRect) h (ix2 x y)
      = v.read (Elt Ideal) (v.writes (Elt Ideal) v.junk L) (ix3 1 x y) :=
  ld_2048_1 v _ inb h x y

end Cert.KernelIdeal.Attn

end
-- ==== Proof.TripA.lean ====
module

public import proofs.«01_k».proof.Proof.Absorb
public import proofs.«01_k».proof.Proof.Reads
public import proofs.«01_k».proof.Proof.Gen.KernelIdeal.Loops

@[expose] public section

set_option maxRecDepth 16384

noncomputable section

namespace Cert.KernelIdeal.Attn

open Cert.KernelIdeal Cert.KernelIdeal.Gen Cert.Attn
open Idealize.ShloMosaic

/-- The running state of one score map after `n` keys: greatest scores, sums of weights, weighted sums of values. -/
def Inv (i : Fin 2) (R8 : S2x128x256.Idx → EReal) (R9 R10 : S2x1x256.Idx → EReal) (S : Fin 256 → ℕ → EReal) (V : Fin 128 → ℕ → ℝ) (n : ℕ) : Prop :=
  ∀ r : Fin 256, R9 (ix3 i 0 r) = mx (S r) n ∧ R10 (ix3 i 0 r) = ((ls (S r) n : ℝ) : EReal) ∧ ∀ e : Fin 128, R8 (ix3 i e r) = ((av (S r) (V e) n : ℝ) : EReal)

/-- A row vector stored as a slab of one is read at its column. -/
theorem up1 (w : FVec Ideal S1x256 .f32) (h) (r : Fin 256) : shapeCast S1x1x256 w h (ix3 0 0 r) = w (ix2 0 r) := by
  pointwise

theorem up128 (w : FVec Ideal S128x256 .f32) (h) (e : Fin 128) (r : Fin 256) : shapeCast S1x128x256 w h (ix3 0 e r) = w (ix2 e r) := by
  pointwise

theorem up2048 (w : FVec Ideal S2048x256 .f32) (h) (e : Fin 2048) (r : Fin 256) : shapeCast S1x2048x256 w h (ix3 0 e r) = w (ix2 e r) := by
  pointwise

theorem trips_eq : k0_t1_loop.trips = 4 := by decide +kernel

theorem off1_eq : ∀ k : Fin k0_t1_loop.trips, k0_off1 k = ![256 + 4096 * k.val + 2048, 0] := by decide +kernel
theorem off4_eq : ∀ k : Fin k0_t1_loop.trips, k.val < 3 → k0_off4 k = ![256 + 4096 * k.val + 4096, 0] := by decide +kernel
theorem off2_eq : ∀ k : Fin k0_t1_loop.trips, k0_off2 k = ![0, 1 + 16 * k.val, 0, 0] := by decide +kernel
theorem off5_eq : ∀ k : Fin k0_t1_loop.trips, k0_off5 k = ![0, 9 + 16 * k.val, 0, 0] := by decide +kernel
theorem off3_1_eq : ∀ k : Fin k0_t1_loop.trips, k0_off3 k 1#32 = ![0, 2 + 16 * k.val, 0, 0] := by decide +kernel
theorem off6_1_eq : ∀ k : Fin k0_t1_loop.trips, k0_off6 k 1#32 = ![0, 10 + 16 * k.val, 0, 0] := by decide +kernel
theorem off3_2_eq : ∀ k : Fin k0_t1_loop.trips, k0_off3 k 2#32 = ![0, 3 + 16 * k.val, 0, 0] := by decide +kernel
theorem off6_2_eq : ∀ k : Fin k0_t1_loop.trips, k0_off6 k 2#32 = ![0, 11 + 16 * k.val, 0, 0] := by decide +kernel
theorem off3_3_eq : ∀ k : Fin k0_t1_loop.trips, k0_off3 k 3#32 = ![0, 4 + 16 * k.val, 0, 0] := by decide +kernel
theorem off6_3_eq : ∀ k : Fin k0_t1_loop.trips, k0_off6 k 3#32 = ![0, 12 + 16 * k.val, 0, 0] := by decide +kernel
theorem off3_4_eq : ∀ k : Fin k0_t1_loop.trips, k0_off3 k 4#32 = ![0, 5 + 16 * k.val, 0, 0] := by decide +kernel
theorem off6_4_eq : ∀ k : Fin k0_t1_loop.trips, k0_off6 k 4#32 = ![0, 13 + 16 * k.val, 0, 0] := by decide +kernel
theorem off3_5_eq : ∀ k : Fin k0_t1_loop.trips, k0_off3 k 5#32 = ![0, 6 + 16 * k.val, 0, 0] := by decide +kernel
theorem off6_5_eq : ∀ k : Fin k0_t1_loop.trips, k0_off6 k 5#32 = ![0, 14 + 16 * k.val, 0, 0] := by decide +kernel
theorem off3_6_eq : ∀ k : Fin k0_t1_loop.trips, k0_off3 k 6#32 = ![0, 7 + 16 * k.val, 0, 0] := by decide +kernel
theorem off6_6_eq : ∀ k : Fin k0_t1_loop.trips, k0_off6 k 6#32 = ![0, 15 + 16 * k.val, 0, 0] := by decide +kernel
theorem off3_7_eq : ∀ k : Fin k0_t1_loop.trips, k0_off3 k 7#32 = ![0, 8 + 16 * k.val, 0, 0] := by decide +kernel
theorem off6_7_eq : ∀ k : Fin k0_t1_loop.trips, k0_off6 k 7#32 = ![0, 16 + 16 * k.val, 0, 0] := by decide +kernel

variable {κ : Kind} {sp : Space}

/-- A tile of 2048 keys read from the keys' buffer. -/
theorem ldK (v : View sig κ sp S16640x128 .bf16) (f) (off : Fin 2 → ℕ) (n : ℕ) (ho : off = ![n, 0]) (inb) (h) (j : Fin 2048) (d : Fin 128) (hj : n + j.val < 16640) :
    shapeCast S2048x128 (v.readAt (Elt Ideal) (Rect.unit (s := S16640x128) off S2048x128.size inb).toLoadRect f) h (ix2 j d)
      = v.read (Elt Ideal) f (ix2 ⟨n + j.val, hj⟩ d) := by
  subst ho
  refine (Eq.trans (congrFun (shapeCast_self _ h) _) ?_)
  refine congrArg (v.read (Elt Ideal) f) (funext fun a => Fin.ext ?_)
  fin_cases a <;> simp [ix2, Rect.unit, LoadRect.idx, Rect.toLoadRect]

/-- A block of 256 keys' values read from the values' buffer. -/
theorem ldV (v : View sig κ sp S1x65x128x256 .bf16) (f) (off : Fin 4 → ℕ) (b : ℕ) (hb : b < 65) (ho : off = ![0, b, 0, 0]) (inb) (e : Fin 128) (j : Fin 256) :
    (v.readAt (Elt Ideal) (Rect.unit (s := S1x65x128x256) off S1x1x128x256.size inb).toLoadRect f) (ix4 0 0 e j)
      = v.read (Elt Ideal) f (ix4 0 ⟨b, hb⟩ e j) := by
  subst ho
  refine congrArg (v.read (Elt Ideal) f) (funext fun a => Fin.ext ?_)
  fin_cases a <;> simp [ix4, Rect.unit, LoadRect.idx, Rect.toLoadRect]

end Cert.KernelIdeal.Attn

end
-- ==== Proof.Trip.lean ====
module

public import proofs.«01_k».proof.Proof.TripA

@[expose] public section

set_option maxRecDepth 16384

noncomputable section

namespace Cert.KernelIdeal.Attn

open Cert.KernelIdeal Cert.KernelIdeal.Gen Cert.Attn
open Idealize.ShloMosaic

variable (𝒱 : Variants) (c : Dev nD) (bd : Option 𝒱.V) (i : grid0.Coords) (arg2 : Memref sig .tc .vmem S256x128 .bf16) (harg2 : arg2.IsWhole) (arg3 : Memref sig .tc .vmem S16640x128 .bf16) (harg3 : arg3.IsWhole) (arg4 : Memref sig .tc .vmem S1x65x128x256 .bf16) (harg4 : arg4.IsWhole) (arg5 : Memref sig .tc .vmem S4x64 .f32) (harg5 : arg5.IsWhole) (arg6 : Memref sig .tc .vmem S128x1 .f32) (harg6 : arg6.IsWhole) (arg7 : Memref sig .tc .vmem S256x128 .bf16) (harg7 : arg7.IsWhole) (arg8 : Memref sig .tc .vmem S2x128x256 .f32) (harg8 : arg8.IsWhole) (arg9 : Memref sig .tc .vmem S2x1x256 .f32) (harg9 : arg9.IsWhole) (arg10 : Memref sig .tc .vmem S2x1x256 .f32) (harg10 : arg10.IsWhole) (arg11 : Memref sig .tc .vmem S2x2048x256 .f32) (harg11 : arg11.IsWhole) (arg12 : Memref sig .tc .vmem S2x2048x256 .f32) (harg12 : arg12.IsWhole) (v10 : FVec Ideal S256x128 .bf16) (v13 : FVec Ideal S256x128 .bf16) (k0_h2 : k0_cond2 i = 1#1) (X_arg3 : BufTy.Contents (Elt Ideal) arg3.view.ty) (X_arg4 : BufTy.Contents (Elt Ideal) arg4.view.ty) (k : Fin k0_t1_loop.trips)
  (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty)
  (S : Fin 256 → ℕ → EReal) (V : Fin 128 → ℕ → ℝ)

/-- A tile of scores from a tile of keys. -/
theorem tile_scores (X : S16640x128.Idx → EReal) (q : FVec Ideal S256x128 .bf16)
    (hS : ∀ (r : Fin 256) (j : ℕ) (h : j < 16640), ∑ d : Fin 128, X (ix2 ⟨j, h⟩ d) * q (ix2 r d) = S r j)
    (kt : FVec Ideal S2048x128 .bf16) (n : ℕ) (hn : n + 2048 ≤ 16640)
    (hk : ∀ (j : Fin 2048) (d : Fin 128), kt (ix2 j d) = X (ix2 ⟨n + j.val, by omega⟩ d)) (j : Fin 2048) (r : Fin 256) :
    matmul dot_S2048x128_S256x128_S2048x256_1_1_0_0_n_n none kt q (constant S2048x256 .f32 0#32) (ix2 j r) = S r (n + j.val) := by
  rw [scores2048, ← hS r (n + j.val) (by omega)]; simp only [hk]

set_option maxHeartbeats 4000000 in
/-- One trip absorbs two tiles of keys into the state of score map 0. -/
theorem trip_inv_0
    (hS : ∀ (r : Fin 256) (j : ℕ) (h : j < 16640), ∑ d : Fin 128, arg3.view.read (Elt Ideal) X_arg3 (ix2 ⟨j, h⟩ d) * v10 (ix2 r d) = S r j)
    (hV : ∀ (e : Fin 128) (b : Fin 65) (j : Fin 256), arg4.view.read (Elt Ideal) X_arg4 (ix4 0 b e j) = ((V e (256 * b.val + j.val) : ℝ) : EReal))
    (hI : Inv 0 (arg8.view.read (Elt Ideal) f8) (arg9.view.read (Elt Ideal) f9) (arg10.view.read (Elt Ideal) f10) S V (256 + 4096 * k.val))
    (hA : ∀ (j : Fin 2048) (r : Fin 256), arg11.view.read (Elt Ideal) f11 (ix3 0 j r) = S r (256 + 4096 * k.val + j.val)) :
    Inv 0 (arg8.view.read (Elt Ideal) (arg8.view.writes (Elt Ideal) f8 ((trip_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 k).1 f8 f9 f10 f11 f12))) (arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 k).2.1 f8 f9 f10 f11 f12))) (arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 k).2.2.1 f8 f9 f10 f11 f12))) S V (256 + 4096 * (k.val + 1)) := by
  have hk : k.val < 4 := lt_of_lt_of_le k.isLt (le_of_eq trips_eq)
  unfold trip_k0_t1
  intro r
  obtain ⟨hm, hl, ha⟩ := hI r
  rw [show 256 + 4096 * (k.val + 1) = (256 + 4096 * k.val + 2048) + 2048 by ring]
  refine ⟨?_, ?_, fun e => ?_⟩ <;> dsimp only [k0_pay101]
  · refine ((rd_other_1_0 ..).trans (rd_same_1_0 ..)).trans ((up1 ..).trans ?_)
    refine absM2048 (S r) (256 + 4096 * k.val + 2048) _ _ r (fun j => ?_) ?_
    · exact ((cv_2048_0 ..).trans (((rd_other_2048_0 ..).trans (rd_same_2048_0 ..)).trans (up2048 ..))).trans (tile_scores S (arg3.view.read (Elt Ideal) X_arg3) v10 hS _ (256 + 4096 * k.val + 2048) (by omega) (fun j d => ldK _ _ _ (256 + 4096 * k.val + 2048) (off1_eq k) _ _ j d _) j r)
    · exact ((cv_1_0 ..).trans (((rd_other_1_0 ..).trans (rd_same_1_0 ..)).trans (up1 ..))).trans (absM2048 (S r) (256 + 4096 * k.val) _ _ r (fun j => (ld_2048_0 ..).trans (hA j r)) ((ld_1_0 ..).trans hm))
  · refine ((rd_other_1_0 ..).trans (rd_same_1_0 ..)).trans ((up1 ..).trans ?_)
    refine absL2048 (S r) (256 + 4096 * k.val + 2048) _ _ _ r (fun j => ?_) ?_ ?_
    · exact ((cv_2048_0 ..).trans (((rd_other_2048_0 ..).trans (rd_same_2048_0 ..)).trans (up2048 ..))).trans (tile_scores S (arg3.view.read (Elt Ideal) X_arg3) v10 hS _ (256 + 4096 * k.val + 2048) (by omega) (fun j d => ldK _ _ _ (256 + 4096 * k.val + 2048) (off1_eq k) _ _ j d _) j r)
    · exact ((cv_1_0 ..).trans (((rd_other_1_0 ..).trans (rd_same_1_0 ..)).trans (up1 ..))).trans (absM2048 (S r) (256 + 4096 * k.val) _ _ r (fun j => (ld_2048_0 ..).trans (hA j r)) ((ld_1_0 ..).trans hm))
    · refine (cv_1_0 ..).trans (((rd_other_1_0 ..).trans (rd_same_1_0 ..)).trans ((up1 ..).trans ?_))
      exact absL2048 (S r) (256 + 4096 * k.val) _ _ _ r (fun j => (ld_2048_0 ..).trans (hA j r)) ((ld_1_0 ..).trans hm) ((ld_1_0 ..).trans hl)
  · refine ((rd_other_128_0 ..).trans (rd_same_128_0 ..)).trans ((up128 ..).trans ?_)
    refine absA2048 (S r) (V e) (256 + 4096 * k.val + 2048) _ _ _ _ e r (fun j => ?_) ?_ ?_ ?_
    · exact ((cv_2048_0 ..).trans (((rd_other_2048_0 ..).trans (rd_same_2048_0 ..)).trans (up2048 ..))).trans (tile_scores S (arg3.view.read (Elt Ideal) X_arg3) v10 hS _ (256 + 4096 * k.val + 2048) (by omega) (fun j d => ldK _ _ _ (256 + 4096 * k.val + 2048) (off1_eq k) _ _ j d _) j r)
    · exact ((cv_1_0 ..).trans (((rd_other_1_0 ..).trans (rd_same_1_0 ..)).trans (up1 ..))).trans (absM2048 (S r) (256 + 4096 * k.val) _ _ r (fun j => (ld_2048_0 ..).trans (hA j r)) ((ld_1_0 ..).trans hm))
    · refine (cv_128_0 ..).trans (((rd_other_128_0 ..).trans (rd_same_128_0 ..)).trans ((up128 ..).trans ?_))
      refine absA2048 (S r) (V e) (256 + 4096 * k.val) _ _ _ _ e r (fun j => (ld_2048_0 ..).trans (hA j r)) ((ld_1_0 ..).trans hm) ((ld_128_0 ..).trans (ha e)) ?_
      refine pv2048_sum (S r) (V e) (256 + 4096 * k.val) _ _ _ _ _ _ _ _ _ e r (fun j => absP2048 (S r) (256 + 4096 * k.val) _ _ r (fun j => (ld_2048_0 ..).trans (hA j r)) ((ld_1_0 ..).trans hm) j) (fun j => ?_) (fun j => ?_) (fun j => ?_) (fun j => ?_) (fun j => ?_) (fun j => ?_) (fun j => ?_) (fun j => ?_)
      · exact (ldV _ _ _ (1 + 16 * k.val) (by omega) (off2_eq k) _ e j).trans ((hV e ⟨1 + 16 * k.val, by omega⟩ j).trans (by dsimp only; congr 3; omega))
      · exact (ldV _ _ _ (2 + 16 * k.val) (by omega) (off3_1_eq k) _ e j).trans ((hV e ⟨2 + 16 * k.val, by omega⟩ j).trans (by dsimp only; congr 3; omega))
      · exact (ldV _ _ _ (3 + 16 * k.val) (by omega) (off3_2_eq k) _ e j).trans ((hV e ⟨3 + 16 * k.val, by omega⟩ j).trans (by dsimp only; congr 3; omega))
      · exact (ldV _ _ _ (4 + 16 * k.val) (by omega) (off3_3_eq k) _ e j).trans ((hV e ⟨4 + 16 * k.val, by omega⟩ j).trans (by dsimp only; congr 3; omega))
      · exact (ldV _ _ _ (5 + 16 * k.val) (by omega) (off3_4_eq k) _ e j).trans ((hV e ⟨5 + 16 * k.val, by omega⟩ j).trans (by dsimp only; congr 3; omega))
      · exact (ldV _ _ _ (6 + 16 * k.val) (by omega) (off3_5_eq k) _ e j).trans ((hV e ⟨6 + 16 * k.val, by omega⟩ j).trans (by dsimp only; congr 3; omega))
      · exact (ldV _ _ _ (7 + 16 * k.val) (by omega) (off3_6_eq k) _ e j).trans ((hV e ⟨7 + 16 * k.val, by omega⟩ j).trans (by dsimp only; congr 3; omega))
      · exact (ldV _ _ _ (8 + 16 * k.val) (by omega) (off3_7_eq k) _ e j).trans ((hV e ⟨8 + 16 * k.val, by omega⟩ j).trans (by dsimp only; congr 3; omega))
    · refine pv2048_sum (S r) (V e) (256 + 4096 * k.val + 2048) _ _ _ _ _ _ _ _ _ e r (fun j => absP2048 (S r) (256 + 4096 * k.val + 2048) _ _ r (fun j => ?_) ?_ j) (fun j => ?_) (fun j => ?_) (fun j => ?_) (fun j => ?_) (fun j => ?_) (fun j => ?_) (fun j => ?_) (fun j => ?_)
      · exact ((cv_2048_0 ..).trans (((rd_other_2048_0 ..).trans (rd_same_2048_0 ..)).trans (up2048 ..))).trans (tile_scores S (arg3.view.read (Elt Ideal) X_arg3) v10 hS _ (256 + 4096 * k.val + 2048) (by omega) (fun j d => ldK _ _ _ (256 + 4096 * k.val + 2048) (off1_eq k) _ _ j d _) j r)
      · exact ((cv_1_0 ..).trans (((rd_other_1_0 ..).trans (rd_same_1_0 ..)).trans (up1 ..))).trans (absM2048 (S r) (256 + 4096 * k.val) _ _ r (fun j => (ld_2048_0 ..).trans (hA j r)) ((ld_1_0 ..).trans hm))
      · exact (ldV _ _ _ (9 + 16 * k.val) (by omega) (off5_eq k) _ e j).trans ((hV e ⟨9 + 16 * k.val, by omega⟩ j).trans (by dsimp only; congr 3; omega))
      · exact (ldV _ _ _ (10 + 16 * k.val) (by omega) (off6_1_eq k) _ e j).trans ((hV e ⟨10 + 16 * k.val, by omega⟩ j).trans (by dsimp only; congr 3; omega))
      · exact (ldV _ _ _ (11 + 16 * k.val) (by omega) (off6_2_eq k) _ e j).trans ((hV e ⟨11 + 16 * k.val, by omega⟩ j).trans (by dsimp only; congr 3; omega))
      · exact (ldV _ _ _ (12 + 16 * k.val) (by omega) (off6_3_eq k) _ e j).trans ((hV e ⟨12 + 16 * k.val, by omega⟩ j).trans (by dsimp only; congr 3; omega))
      · exact (ldV _ _ _ (13 + 16 * k.val) (by omega) (off6_4_eq k) _ e j).trans ((hV e ⟨13 + 16 * k.val, by omega⟩ j).trans (by dsimp only; congr 3; omega))
      · exact (ldV _ _ _ (14 + 16 * k.val) (by omega) (off6_5_eq k) _ e j).trans ((hV e ⟨14 + 16 * k.val, by omega⟩ j).trans (by dsimp only; congr 3; omega))
      · exact (ldV _ _ _ (15 + 16 * k.val) (by omega) (off6_6_eq k) _ e j).trans ((hV e ⟨15 + 16 * k.val, by omega⟩ j).trans (by dsimp only; congr 3; omega))
      · exact (ldV _ _ _ (16 + 16 * k.val) (by omega) (off6_7_eq k) _ e j).trans ((hV e ⟨16 + 16 * k.val, by omega⟩ j).trans (by dsimp only; congr 3; omega))

set_option maxHeartbeats 4000000 in
/-- One trip absorbs two tiles of keys into the state of score map 1. -/
theorem trip_inv_1
    (hS : ∀ (r : Fin 256) (j : ℕ) (h : j < 16640), ∑ d : Fin 128, arg3.view.read (Elt Ideal) X_arg3 (ix2 ⟨j, h⟩ d) * v13 (ix2 r d) = S r j)
    (hV : ∀ (e : Fin 128) (b : Fin 65) (j : Fin 256), arg4.view.read (Elt Ideal) X_arg4 (ix4 0 b e j) = ((V e (256 * b.val + j.val) : ℝ) : EReal))
    (hI : Inv 1 (arg8.view.read (Elt Ideal) f8) (arg9.view.read (Elt Ideal) f9) (arg10.view.read (Elt Ideal) f10) S V (256 + 4096 * k.val))
    (hA : ∀ (j : Fin 2048) (r : Fin 256), arg11.view.read (Elt Ideal) f11 (ix3 1 j r) = S r (256 + 4096 * k.val + j.val)) :
    Inv 1 (arg8.view.read (Elt Ideal) (arg8.view.writes (Elt Ideal) f8 ((trip_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 k).1 f8 f9 f10 f11 f12))) (arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 k).2.1 f8 f9 f10 f11 f12))) (arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 k).2.2.1 f8 f9 f10 f11 f12))) S V (256 + 4096 * (k.val + 1)) := by
  have hk : k.val < 4 := lt_of_lt_of_le k.isLt (le_of_eq trips_eq)
  unfold trip_k0_t1
  intro r
  obtain ⟨hm, hl, ha⟩ := hI r
  rw [show 256 + 4096 * (k.val + 1) = (256 + 4096 * k.val + 2048) + 2048 by ring]
  refine ⟨?_, ?_, fun e => ?_⟩ <;> dsimp only [k0_pay101]
  · refine ((rd_same_1_1 ..)).trans ((up1 ..).trans ?_)
    refine absM2048 (S r) (256 + 4096 * k.val + 2048) _ _ r (fun j => ?_) ?_
    · exact ((cv_2048_1 ..).trans ((rd_same_2048_1 ..).trans (up2048 ..))).trans (tile_scores S (arg3.view.read (Elt Ideal) X_arg3) v13 hS _ (256 + 4096 * k.val + 2048) (by omega) (fun j d => ldK _ _ _ (256 + 4096 * k.val + 2048) (off1_eq k) _ _ j d _) j r)
    · exact ((cv_1_1 ..).trans (((rd_other_1_1 ..).trans (rd_same_1_1 ..)).trans (up1 ..))).trans (absM2048 (S r) (256 + 4096 * k.val) _ _ r (fun j => (ld_2048_1 ..).trans (hA j r)) ((ld_1_1 ..).trans hm))
  · refine ((rd_same_1_1 ..)).trans ((up1 ..).trans ?_)
    refine absL2048 (S r) (256 + 4096 * k.val + 2048) _ _ _ r (fun j => ?_) ?_ ?_
    · exact ((cv_2048_1 ..).trans ((rd_same_2048_1 ..).trans (up2048 ..))).trans (tile_scores S (arg3.view.read (Elt Ideal) X_arg3) v13 hS _ (256 + 4096 * k.val + 2048) (by omega) (fun j d => ldK _ _ _ (256 + 4096 * k.val + 2048) (off1_eq k) _ _ j d _) j r)
    · exact ((cv_1_1 ..).trans (((rd_other_1_1 ..).trans (rd_same_1_1 ..)).trans (up1 ..))).trans (absM2048 (S r) (256 + 4096 * k.val) _ _ r (fun j => (ld_2048_1 ..).trans (hA j r)) ((ld_1_1 ..).trans hm))
    · refine (cv_1_1 ..).trans (((rd_other_1_1 ..).trans (rd_same_1_1 ..)).trans ((up1 ..).trans ?_))
      exact absL2048 (S r) (256 + 4096 * k.val) _ _ _ r (fun j => (ld_2048_1 ..).trans (hA j r)) ((ld_1_1 ..).trans hm) ((ld_1_1 ..).trans hl)
  · refine ((rd_same_128_1 ..)).trans ((up128 ..).trans ?_)
    refine absA2048 (S r) (V e) (256 + 4096 * k.val + 2048) _ _ _ _ e r (fun j => ?_) ?_ ?_ ?_
    · exact ((cv_2048_1 ..).trans ((rd_same_2048_1 ..).trans (up2048 ..))).trans (tile_scores S (arg3.view.read (Elt Ideal) X_arg3) v13 hS _ (256 + 4096 * k.val + 2048) (by omega) (fun j d => ldK _ _ _ (256 + 4096 * k.val + 2048) (off1_eq k) _ _ j d _) j r)
    · exact ((cv_1_1 ..).trans (((rd_other_1_1 ..).trans (rd_same_1_1 ..)).trans (up1 ..))).trans (absM2048 (S r) (256 + 4096 * k.val) _ _ r (fun j => (ld_2048_1 ..).trans (hA j r)) ((ld_1_1 ..).trans hm))
    · refine (cv_128_1 ..).trans (((rd_other_128_1 ..).trans (rd_same_128_1 ..)).trans ((up128 ..).trans ?_))
      refine absA2048 (S r) (V e) (256 + 4096 * k.val) _ _ _ _ e r (fun j => (ld_2048_1 ..).trans (hA j r)) ((ld_1_1 ..).trans hm) ((ld_128_1 ..).trans (ha e)) ?_
      refine pv2048_sum (S r) (V e) (256 + 4096 * k.val) _ _ _ _ _ _ _ _ _ e r (fun j => absP2048 (S r) (256 + 4096 * k.val) _ _ r (fun j => (ld_2048_1 ..).trans (hA j r)) ((ld_1_1 ..).trans hm) j) (fun j => ?_) (fun j => ?_) (fun j => ?_) (fun j => ?_) (fun j => ?_) (fun j => ?_) (fun j => ?_) (fun j => ?_)
      · exact (ldV _ _ _ (1 + 16 * k.val) (by omega) (off2_eq k) _ e j).trans ((hV e ⟨1 + 16 * k.val, by omega⟩ j).trans (by dsimp only; congr 3; omega))
      · exact (ldV _ _ _ (2 + 16 * k.val) (by omega) (off3_1_eq k) _ e j).trans ((hV e ⟨2 + 16 * k.val, by omega⟩ j).trans (by dsimp only; congr 3; omega))
      · exact (ldV _ _ _ (3 + 16 * k.val) (by omega) (off3_2_eq k) _ e j).trans ((hV e ⟨3 + 16 * k.val, by omega⟩ j).trans (by dsimp only; congr 3; omega))
      · exact (ldV _ _ _ (4 + 16 * k.val) (by omega) (off3_3_eq k) _ e j).trans ((hV e ⟨4 + 16 * k.val, by omega⟩ j).trans (by dsimp only; congr 3; omega))
      · exact (ldV _ _ _ (5 + 16 * k.val) (by omega) (off3_4_eq k) _ e j).trans ((hV e ⟨5 + 16 * k.val, by omega⟩ j).trans (by dsimp only; congr 3; omega))
      · exact (ldV _ _ _ (6 + 16 * k.val) (by omega) (off3_5_eq k) _ e j).trans ((hV e ⟨6 + 16 * k.val, by omega⟩ j).trans (by dsimp only; congr 3; omega))
      · exact (ldV _ _ _ (7 + 16 * k.val) (by omega) (off3_6_eq k) _ e j).trans ((hV e ⟨7 + 16 * k.val, by omega⟩ j).trans (by dsimp only; congr 3; omega))
      · exact (ldV _ _ _ (8 + 16 * k.val) (by omega) (off3_7_eq k) _ e j).trans ((hV e ⟨8 + 16 * k.val, by omega⟩ j).trans (by dsimp only; congr 3; omega))
    · refine pv2048_sum (S r) (V e) (256 + 4096 * k.val + 2048) _ _ _ _ _ _ _ _ _ e r (fun j => absP2048 (S r) (256 + 4096 * k.val + 2048) _ _ r (fun j => ?_) ?_ j) (fun j => ?_) (fun j => ?_) (fun j => ?_) (fun j => ?_) (fun j => ?_) (fun j => ?_) (fun j => ?_) (fun j => ?_)
      · exact ((cv_2048_1 ..).trans ((rd_same_2048_1 ..).trans (up2048 ..))).trans (tile_scores S (arg3.view.read (Elt Ideal) X_arg3) v13 hS _ (256 + 4096 * k.val + 2048) (by omega) (fun j d => ldK _ _ _ (256 + 4096 * k.val + 2048) (off1_eq k) _ _ j d _) j r)
      · exact ((cv_1_1 ..).trans (((rd_other_1_1 ..).trans (rd_same_1_1 ..)).trans (up1 ..))).trans (absM2048 (S r) (256 + 4096 * k.val) _ _ r (fun j => (ld_2048_1 ..).trans (hA j r)) ((ld_1_1 ..).trans hm))
      · exact (ldV _ _ _ (9 + 16 * k.val) (by omega) (off5_eq k) _ e j).trans ((hV e ⟨9 + 16 * k.val, by omega⟩ j).trans (by dsimp only; congr 3; omega))
      · exact (ldV _ _ _ (10 + 16 * k.val) (by omega) (off6_1_eq k) _ e j).trans ((hV e ⟨10 + 16 * k.val, by omega⟩ j).trans (by dsimp only; congr 3; omega))
      · exact (ldV _ _ _ (11 + 16 * k.val) (by omega) (off6_2_eq k) _ e j).trans ((hV e ⟨11 + 16 * k.val, by omega⟩ j).trans (by dsimp only; congr 3; omega))
      · exact (ldV _ _ _ (12 + 16 * k.val) (by omega) (off6_3_eq k) _ e j).trans ((hV e ⟨12 + 16 * k.val, by omega⟩ j).trans (by dsimp only; congr 3; omega))
      · exact (ldV _ _ _ (13 + 16 * k.val) (by omega) (off6_4_eq k) _ e j).trans ((hV e ⟨13 + 16 * k.val, by omega⟩ j).trans (by dsimp only; congr 3; omega))
      · exact (ldV _ _ _ (14 + 16 * k.val) (by omega) (off6_5_eq k) _ e j).trans ((hV e ⟨14 + 16 * k.val, by omega⟩ j).trans (by dsimp only; congr 3; omega))
      · exact (ldV _ _ _ (15 + 16 * k.val) (by omega) (off6_6_eq k) _ e j).trans ((hV e ⟨15 + 16 * k.val, by omega⟩ j).trans (by dsimp only; congr 3; omega))
      · exact (ldV _ _ _ (16 + 16 * k.val) (by omega) (off6_7_eq k) _ e j).trans ((hV e ⟨16 + 16 * k.val, by omega⟩ j).trans (by dsimp only; congr 3; omega))

end Cert.KernelIdeal.Attn

end
-- ==== Proof.Loop.lean ====
module

public import proofs.«01_k».proof.Proof.Trip

@[expose] public section

set_option maxRecDepth 16384

noncomputable section

namespace Cert.KernelIdeal.Attn

open Cert.KernelIdeal Cert.KernelIdeal.Gen Cert.Attn
open Idealize.ShloMosaic

variable (𝒱 : Variants) (c : Dev nD) (bd : Option 𝒱.V) (i : grid0.Coords) (arg2 : Memref sig .tc .vmem S256x128 .bf16) (harg2 : arg2.IsWhole) (arg3 : Memref sig .tc .vmem S16640x128 .bf16) (harg3 : arg3.IsWhole) (arg4 : Memref sig .tc .vmem S1x65x128x256 .bf16) (harg4 : arg4.IsWhole) (arg5 : Memref sig .tc .vmem S4x64 .f32) (harg5 : arg5.IsWhole) (arg6 : Memref sig .tc .vmem S128x1 .f32) (harg6 : arg6.IsWhole) (arg7 : Memref sig .tc .vmem S256x128 .bf16) (harg7 : arg7.IsWhole) (arg8 : Memref sig .tc .vmem S2x128x256 .f32) (harg8 : arg8.IsWhole) (arg9 : Memref sig .tc .vmem S2x1x256 .f32) (harg9 : arg9.IsWhole) (arg10 : Memref sig .tc .vmem S2x1x256 .f32) (harg10 : arg10.IsWhole) (arg11 : Memref sig .tc .vmem S2x2048x256 .f32) (harg11 : arg11.IsWhole) (arg12 : Memref sig .tc .vmem S2x2048x256 .f32) (harg12 : arg12.IsWhole) (v10 : FVec Ideal S256x128 .bf16) (v13 : FVec Ideal S256x128 .bf16) (k0_h2 : k0_cond2 i = 1#1) (X_arg3 : BufTy.Contents (Elt Ideal) arg3.view.ty) (X_arg4 : BufTy.Contents (Elt Ideal) arg4.view.ty)
  (f8 : BufTy.Contents (Elt Ideal) arg8.view.ty) (f9 : BufTy.Contents (Elt Ideal) arg9.view.ty) (f10 : BufTy.Contents (Elt Ideal) arg10.view.ty) (f11 : BufTy.Contents (Elt Ideal) arg11.view.ty) (f12 : BufTy.Contents (Elt Ideal) arg12.view.ty)
  (S : Fin 256 → ℕ → EReal) (V : Fin 128 → ℕ → ℝ)

set_option maxHeartbeats 4000000 in
/-- A trip before the last leaves the scores of the tile after its two in the first tile's buffer, for score map 0. -/
theorem trip_next_0 (k : Fin k0_t1_loop.trips) (hk : k.val < 3)
    (hS : ∀ (r : Fin 256) (j : ℕ) (h : j < 16640), ∑ d : Fin 128, arg3.view.read (Elt Ideal) X_arg3 (ix2 ⟨j, h⟩ d) * v10 (ix2 r d) = S r j) (j : Fin 2048) (r : Fin 256) :
    arg11.view.read (Elt Ideal) (arg11.view.writes (Elt Ideal) f11 ((trip_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 k).2.2.2.1 f8 f9 f10 f11 f12)) (ix3 0 j r) = S r (256 + 4096 * (k.val + 1) + j.val) := by
  unfold trip_k0_t1
  dsimp only
  refine ((rd_other_2048_0 ..).trans (rd_same_2048_0 ..)).trans ((up2048 ..).trans ?_)
  rw [show 256 + 4096 * (k.val + 1) = 256 + 4096 * k.val + 4096 by ring]
  exact tile_scores S (arg3.view.read (Elt Ideal) X_arg3) v10 hS _ (256 + 4096 * k.val + 4096) (by omega) (fun j d => ldK _ _ _ (256 + 4096 * k.val + 4096) (off4_eq k hk) _ _ j d _) j r

set_option maxHeartbeats 4000000 in
/-- The loop's trips absorb the tiles of keys into the state of score map 0, two a trip. -/
theorem loop_inv_0
    (hS : ∀ (r : Fin 256) (j : ℕ) (h : j < 16640), ∑ d : Fin 128, arg3.view.read (Elt Ideal) X_arg3 (ix2 ⟨j, h⟩ d) * v10 (ix2 r d) = S r j)
    (hV : ∀ (e : Fin 128) (b : Fin 65) (j : Fin 256), arg4.view.read (Elt Ideal) X_arg4 (ix4 0 b e j) = ((V e (256 * b.val + j.val) : ℝ) : EReal))
    (hI : Inv 0 (arg8.view.read (Elt Ideal) f8) (arg9.view.read (Elt Ideal) f9) (arg10.view.read (Elt Ideal) f10) S V 256)
    (hA : ∀ (j : Fin 2048) (r : Fin 256), arg11.view.read (Elt Ideal) f11 (ix3 0 j r) = S r (256 + j.val)) :
    ∀ n : ℕ, n ≤ 4 →
      Inv 0 (arg8.view.read (Elt Ideal) (arg8.view.writes (Elt Ideal) f8 (pb_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 f8 f9 f10 f11 f12 n).1)) (arg9.view.read (Elt Ideal) (arg9.view.writes (Elt Ideal) f9 (pb_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 f8 f9 f10 f11 f12 n).2.1)) (arg10.view.read (Elt Ideal) (arg10.view.writes (Elt Ideal) f10 (pb_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 f8 f9 f10 f11 f12 n).2.2.1)) S V (256 + 4096 * n)
      ∧ (n < 4 → ∀ (j : Fin 2048) (r : Fin 256), arg11.view.read (Elt Ideal) (arg11.view.writes (Elt Ideal) f11 (pb_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 f8 f9 f10 f11 f12 n).2.2.2.1) (ix3 0 j r) = S r (256 + 4096 * n + j.val)) := by
  intro n
  induction n with
  | zero => intro _; exact ⟨hI, fun _ => hA⟩
  | succ n ih =>
    intro hn
    obtain ⟨h1, h2⟩ := ih (by omega)
    have hlt : n < k0_t1_loop.trips := by rw [trips_eq]; omega
    have e := pb_k0_t1_succ (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 f8 f9 f10 f11 f12 ⟨n, hlt⟩
    dsimp only at e
    rw [e]
    dsimp only
    simp only [View.writes_append]
    refine ⟨trip_inv_0 𝒱 c bd i arg2 harg2 arg3 harg3 arg4 harg4 arg5 harg5 arg6 harg6 arg7 harg7 arg8 harg8 arg9 harg9 arg10 harg10 arg11 harg11 arg12 harg12 v10 v13 k0_h2 X_arg3 X_arg4 ⟨n, hlt⟩ _ _ _ _ _ S V hS hV h1 (h2 (by omega)), fun h4 j r => ?_⟩
    exact trip_next_0 𝒱 c bd i arg2 harg2 arg3 harg3 arg4 harg4 arg5 harg5 arg6 harg6 arg7 harg7 arg8 harg8 arg9 harg9 arg10 harg10 arg11 harg11 arg12 harg12 v10 v13 k0_h2 X_arg3 X_arg4 _ _ _ _ _ S ⟨n, hlt⟩ (by dsimp only; omega) hS j r

set_option maxHeartbeats 4000000 in
/-- A trip before the last leaves the scores of the tile after its two in the first tile's buffer, for score map 1. -/
theorem trip_next_1 (k : Fin k0_t1_loop.trips) (hk : k.val < 3)
    (hS : ∀ (r : Fin 256) (j : ℕ) (h : j < 16640), ∑ d : Fin 128, arg3.view.read (Elt Ideal) X_arg3 (ix2 ⟨j, h⟩ d) * v13 (ix2 r d) = S r j) (j : Fin 2048) (r : Fin 256) :
    arg11.view.read (Elt Ideal) (arg11.view.writes (Elt Ideal) f11 ((trip_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 k).2.2.2.1 f8 f9 f10 f11 f12)) (ix3 1 j r) = S r (256 + 4096 * (k.val + 1) + j.val) := by
  unfold trip_k0_t1
  dsimp only
  refine (rd_same_2048_1 ..).trans ((up2048 ..).trans ?_)
  rw [show 256 + 4096 * (k.val + 1) = 256 + 4096 * k.val + 4096 by ring]
  exact tile_scores S (arg3.view.read (Elt Ideal) X_arg3) v13 hS _ (256 + 4096 * k.val + 4096) (by omega) (fun j d => ldK _ _ _ (256 + 4096 * k.val + 4096) (off4_eq k hk) _ _ j d _) j r

set_option maxHeartbeats 4000000 in
/-- The loop's trips absorb the tiles of keys into the state of score map 1, two a trip. -/
theorem loop_inv_1
    (hS : ∀ (r : Fin 256) (j : ℕ) (h : j < 16640), ∑ d : Fin 128, arg3.view.read (Elt Ideal) X_arg3 (ix2 ⟨j, h⟩ d) * v13 (ix2 r d) = S r j)
    (hV : ∀ (e : Fin 128) (b : Fin 65) (j : Fin 256), arg4.view.read (Elt Ideal) X_arg4 (ix4 0 b e j) = ((V e (256 * b.val + j.val) : ℝ) : EReal))
    (hI : Inv 1 (arg8.view.read (Elt Ideal) f8) (arg9.view.read (Elt Ideal) f9) (arg10.view.read (Elt Ideal) f10) S V 256)
    (hA : ∀ (j : Fin 2048) (r : Fin 256), arg11.view.read (Elt Ideal) f11 (ix3 1 j r) = S r (256 + j.val)) :
    ∀ n : ℕ, n ≤ 4 →
      Inv 1 (arg8.view.read (Elt Ideal) (arg8.view.writes (Elt Ideal) f8 (pb_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 f8 f9 f10 f11 f12 n).1)) (arg9.view.read (Elt Ideal) (arg9.view.writes (Elt Ideal) f9 (pb_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 f8 f9 f10 f11 f12 n).2.1)) (arg10.view.read (Elt Ideal) (arg10.view.writes (Elt Ideal) f10 (pb_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 f8 f9 f10 f11 f12 n).2.2.1)) S V (256 + 4096 * n)
      ∧ (n < 4 → ∀ (j : Fin 2048) (r : Fin 256), arg11.view.read (Elt Ideal) (arg11.view.writes (Elt Ideal) f11 (pb_k0_t1 (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 f8 f9 f10 f11 f12 n).2.2.2.1) (ix3 1 j r) = S r (256 + 4096 * n + j.val)) := by
  intro n
  induction n with
  | zero => intro _; exact ⟨hI, fun _ => hA⟩
  | succ n ih =>
    intro hn
    obtain ⟨h1, h2⟩ := ih (by omega)
    have hlt : n < k0_t1_loop.trips := by rw [trips_eq]; omega
    have e := pb_k0_t1_succ (F := Ideal) 𝒱 c bd i arg2 harg2 arg3 harg3 arg4 harg4 arg5 harg5 arg6 harg6 arg7 harg7 arg8 harg8 arg9 harg9 arg10 harg10 arg11 harg11 arg12 harg12 v10 v13 k0_h2 X_arg3 X_arg4 f8 f9 f10 f11 f12 ⟨n, hlt⟩
    dsimp only at e
    rw [e]
    dsimp only
    simp only [View.writes_append]
    refine ⟨trip_inv_1 𝒱 c bd i arg2 harg2 arg3 harg3 arg4 harg4 arg5 harg5 arg6 harg6 arg7 harg7 arg8 harg8 arg9 harg9 arg10 harg10 arg11 harg11 arg12 harg12 v10 v13 k0_h2 X_arg3 X_arg4 ⟨n, hlt⟩ _ _ _ _ _ S V hS hV h1 (h2 (by omega)), fun h4 j r => ?_⟩
    exact trip_next_1 𝒱 c bd i arg2 harg2 arg3 harg3 arg4 harg4 arg5 harg5 arg6 harg6 arg7 harg7 arg8 harg8 arg9 harg9 arg10 harg10 arg11 harg11 arg12 harg12 v10 v13 k0_h2 X_arg3 X_arg4 _ _ _ _ _ S ⟨n, hlt⟩ (by dsimp only; omega) hS j r

end Cert.KernelIdeal.Attn

end
-- ==== Proof.Base.lean ====
module

public import proofs.«01_k».proof.Proof.Loop

@[expose] public section

set_option maxRecDepth 16384

noncomputable section

namespace Cert.KernelIdeal.Attn

open Cert.KernelIdeal Cert.KernelIdeal.Gen Cert.Attn
open Idealize.ShloMosaic

/-- The weight of the second score map, from its four vectors. -/
def lamF (L : S4x64.Idx → EReal) : EReal :=
  Ideal.exp (∑ d : Fin 64, L (ix2 0 d) * L (ix2 1 d)) - Ideal.exp (∑ d : Fin 64, L (ix2 2 d) * L (ix2 3 d)) + Ideal.ofBits .f32 0x3EB60549#32

/-- One entry of the difference of the two maps' outputs. -/
def oo (lam a0 l0 a1 l1 : EReal) : EReal := Ideal.div a0 l0 - lam * Ideal.div a1 l1

/-- A row scaled to unit mean square, then by its weight and a constant. -/
def normed (o : Fin 128 → EReal) (w : EReal) (e : Fin 128) : EReal :=
  o e * Ideal.rsqrt (Ideal.div (∑ e' : Fin 128, o e' * o e') (Ideal.ofBits .f32 0x43000000#32) + Ideal.ofBits .f32 0x3727C5AC#32) * w
    * Ideal.ofBits .f32 0x3F24FD5C#32

theorem pay102_apply (L : Vec Ideal S4x64 .f32) (a0 : Vec Ideal S1x128x256 .f32) (l0 : Vec Ideal S1x1x256 .f32) (a1 : Vec Ideal S1x128x256 .f32) (l1 : Vec Ideal S1x1x256 .f32)
    (e : Fin 128) (r : Fin 256) :
    k0_pay102 L a0 l0 a1 l1 (ix2 e r) = oo (lamF L) (a0 (ix3 0 e r)) (l0 (ix3 0 0 r)) (a1 (ix3 0 e r)) (l1 (ix3 0 0 r)) := by
  unfold k0_pay102 oo lamF; pointwise

theorem pay103_apply (L : Vec Ideal S4x64 .f32) (a0 : Vec Ideal S1x128x256 .f32) (l0 : Vec Ideal S1x1x256 .f32) (a1 : Vec Ideal S1x128x256 .f32) (l1 : Vec Ideal S1x1x256 .f32)
    (r : Fin 256) :
    k0_pay103 L a0 l0 a1 l1 (ix2 0 r) = Ideal.rsqrt (Ideal.div (∑ e : Fin 128, k0_pay102 L a0 l0 a1 l1 (ix2 e r) * k0_pay102 L a0 l0 a1 l1 (ix2 e r)) (Ideal.ofBits .f32 0x43000000#32) + Ideal.ofBits .f32 0x3727C5AC#32) := by
  unfold k0_pay103; generalize k0_pay102 L a0 l0 a1 l1 = w; pointwise

theorem pay1_apply (w : FVec Ideal S128x256 .f32) (s : FVec Ideal S1x256 .f32) (u : Vec Ideal S128x1 .f32) (e : Fin 128) (r : Fin 256) :
    k0_pay1 w s u (ix2 r e) = w (ix2 e r) * s (ix2 0 r) * u (ix2 e 0) * Ideal.ofBits .f32 0x3F24FD5C#32 := by
  unfold k0_pay1; pointwise

/-- The scores of the 256 queries against every key, nothing past the last key. -/
def scoreS (q : S256x128.Idx → EReal) (x1 : S16640x128.Idx → EReal) (r : Fin 256) (j : ℕ) : EReal :=
  if h : j < 16640 then ∑ d : Fin 128, x1 (ix2 ⟨j, h⟩ d) * q (ix2 r d) else 0

/-- The values as real numbers, nothing past the last key. -/
def valV (x2 : S1x65x128x256.Idx → EReal) (e : Fin 128) (j : ℕ) : ℝ :=
  if h : j < 16640 then (x2 (ix4 0 ⟨j / 256, by omega⟩ e ⟨j % 256, Nat.mod_lt _ (by omega)⟩)).toReal else 0

/-- What the kernel's body computes of one block of queries, with `N` keys seen. -/
def outB (N : ℕ) (x0 : Vec Ideal S256x128 .bf16) (x1 : Vec Ideal S16640x128 .bf16) (x2 : Vec Ideal S1x65x128x256 .bf16) (x3 : Vec Ideal S4x64 .f32) (x4 : Vec Ideal S128x1 .f32)
    (r : Fin 256) (e : Fin 128) : EReal :=
  normed (fun e => oo (lamF x3) ((av (scoreS (k0_pay91 x0) x1 r) (valV x2 e) N : ℝ) : EReal) ((ls (scoreS (k0_pay91 x0) x1 r) N : ℝ) : EReal)
      ((av (scoreS (k0_pay92 x0) x1 r) (valV x2 e) N : ℝ) : EReal) ((ls (scoreS (k0_pay92 x0) x1 r) N : ℝ) : EReal))
    (x4 (ix2 e 0)) e

theorem out_eq (N : ℕ) (x0 : Vec Ideal S256x128 .bf16) (x1 : Vec Ideal S16640x128 .bf16) (x2 : Vec Ideal S1x65x128x256 .bf16) (x3 : Vec Ideal S4x64 .f32) (x4 : Vec Ideal S128x1 .f32)
    (L : Vec Ideal S4x64 .f32) (a0 : Vec Ideal S1x128x256 .f32) (l0 : Vec Ideal S1x1x256 .f32) (a1 : Vec Ideal S1x128x256 .f32) (l1 : Vec Ideal S1x1x256 .f32) (u : Vec Ideal S128x1 .f32)
    (r : Fin 256) (e : Fin 128) (hL : L = x3) (hu : u = x4)
    (ha0 : ∀ e, a0 (ix3 0 e r) = ((av (scoreS (k0_pay91 x0) x1 r) (valV x2 e) N : ℝ) : EReal))
    (hl0 : l0 (ix3 0 0 r) = ((ls (scoreS (k0_pay91 x0) x1 r) N : ℝ) : EReal))
    (ha1 : ∀ e, a1 (ix3 0 e r) = ((av (scoreS (k0_pay92 x0) x1 r) (valV x2 e) N : ℝ) : EReal))
    (hl1 : l1 (ix3 0 0 r) = ((ls (scoreS (k0_pay92 x0) x1 r) N : ℝ) : EReal)) :
    k0_pay1 (k0_pay102 L a0 l0 a1 l1) (k0_pay103 L a0 l0 a1 l1) u (ix2 r e) = outB N x0 x1 x2 x3 x4 r e := by
  subst hL hu
  rw [pay1_apply, pay103_apply]
  simp only [pay102_apply, ha0, hl0, ha1, hl1]
  rfl

variable {κ : Kind} {sp : Space}

/-- A store of the whole buffer is read back. -/
theorem rd_full_128 (v : View sig κ sp S2x128x256 .f32) (f) (inb) (w : Vec Ideal S2x128x256 .f32) (L) (i : Fin 2) (x : Fin 128) (y : Fin 256) :
    v.read (Elt Ideal) (v.writes (Elt Ideal) f (⟨Rect.unit (s := S2x128x256) ![0, 0, 0] S2x128x256.size inb, w⟩ :: L)) (ix3 i x y) = w (ix3 i x y) :=
  View.read_writes_cons_unit_of_mem v f inb w L (ix3 i x y) (ix3 i x y) rfl
    (fun a => by fin_cases a <;> simp [ix3])

/-- A load of a half, as it stands. -/
theorem lr_128_0 (v : View sig κ sp S2x128x256 .f32) (f) (inb) (x : Fin 128) (y : Fin 256) :
    (v.readAt (Elt Ideal) (Rect.unit (s := S2x128x256) ![0, 0, 0] S1x128x256.size inb).toLoadRect f) (ix3 0 x y)
      = v.read (Elt Ideal) f (ix3 0 x y) := by
  refine congrArg (v.read (Elt Ideal) f) (funext fun a => Fin.ext ?_)
  fin_cases a <;> simp [ix3, Rect.unit, LoadRect.idx, Rect.toLoadRect]

theorem cr_128_0 (v : View sig κ sp S2x128x256 .f32) (L) (inb) (x : Fin 128) (y : Fin 256) :
    (v.readCov L (Rect.unit (s := S2x128x256) ![0, 0, 0] S1x128x256.size inb).toLoadRect) (ix3 0 x y)
      = v.read (Elt Ideal) (v.writes (Elt Ideal) v.junk L) (ix3 0 x y) :=
  lr_128_0 v _ inb x y

/-- A load of a half, as it stands. -/
theorem lr_128_1 (v : View sig κ sp S2x128x256 .f32) (f) (inb) (x : Fin 128) (y : Fin 256) :
    (v.readAt (Elt Ideal) (Rect.unit (s := S2x128x256) ![1, 0, 0] S1x128x256.size inb).toLoadRect f) (ix3 0 x y)
      = v.read (Elt Ideal) f (ix3 1 x y) := by
  refine congrArg (v.read (Elt Ideal) f) (funext fun a => Fin.ext ?_)
  fin_cases a <;> simp [ix3, Rect.unit, LoadRect.idx, Rect.toLoadRect]

theorem cr_128_1 (v : View sig κ sp S2x128x256 .f32) (L) (inb) (x : Fin 128) (y : Fin 256) :
    (v.readCov L (Rect.unit (s := S2x128x256) ![1, 0, 0] S1x128x256.size inb).toLoadRect) (ix3 0 x y)
      = v.read (Elt Ideal) (v.writes (Elt Ideal) v.junk L) (ix3 1 x y) :=
  lr_128_1 v _ inb x y

/-- A store of the whole buffer is read back. -/
theorem rd_full_1 (v : View sig κ sp S2x1x256 .f32) (f) (inb) (w : Vec Ideal S2x1x256 .f32) (L) (i : Fin 2) (x : Fin 1) (y : Fin 256) :
    v.read (Elt Ideal) (v.writes (Elt Ideal) f (⟨Rect.unit (s := S2x1x256) ![0, 0, 0] S2x1x256.size inb, w⟩ :: L)) (ix3 i x y) = w (ix3 i x y) :=
  View.read_writes_cons_unit_of_mem v f inb w L (ix3 i x y) (ix3 i x y) rfl
    (fun a => by fin_cases a <;> simp [ix3])

/-- A load of a half, as it stands. -/
theorem lr_1_0 (v : View sig κ sp S2x1x256 .f32) (f) (inb) (x : Fin 1) (y : Fin 256) :
    (v.readAt (Elt Ideal) (Rect.unit (s := S2x1x256) ![0, 0, 0] S1x1x256.size inb).toLoadRect f) (ix3 0 x y)
      = v.read (Elt Ideal) f (ix3 0 x y) := by
  refine congrArg (v.read (Elt Ideal) f) (funext fun a => Fin.ext ?_)
  fin_cases a <;> simp [ix3, Rect.unit, LoadRect.idx, Rect.toLoadRect]

theorem cr_1_0 (v : View sig κ sp S2x1x256 .f32) (L) (inb) (x : Fin 1) (y : Fin 256) :
    (v.readCov L (Rect.unit (s := S2x1x256) ![0, 0, 0] S1x1x256.size inb).toLoadRect) (ix3 0 x y)
      = v.read (Elt Ideal) (v.writes (Elt Ideal) v.junk L) (ix3 0 x y) :=
  lr_1_0 v _ inb x y

/-- A load of a half, as it stands. -/
theorem lr_1_1 (v : View sig κ sp S2x1x256 .f32) (f) (inb) (x : Fin 1) (y : Fin 256) :
    (v.readAt (Elt Ideal) (Rect.unit (s := S2x1x256) ![1, 0, 0] S1x1x256.size inb).toLoadRect f) (ix3 0 x y)
      = v.read (Elt Ideal) f (ix3 1 x y) := by
  refine congrArg (v.read (Elt Ideal) f) (funext fun a => Fin.ext ?_)
  fin_cases a <;> simp [ix3, Rect.unit, LoadRect.idx, Rect.toLoadRect]

theorem cr_1_1 (v : View sig κ sp S2x1x256 .f32) (L) (inb) (x : Fin 1) (y : Fin 256) :
    (v.readCov L (Rect.unit (s := S2x1x256) ![1, 0, 0] S1x1x256.size inb).toLoadRect) (ix3 0 x y)
      = v.read (Elt Ideal) (v.writes (Elt Ideal) v.junk L) (ix3 1 x y) :=
  lr_1_1 v _ inb x y

/-- The first 256 keys read from the keys' buffer. -/
theorem ldK256 (v : View sig κ sp S16640x128 .bf16) (f) (inb) (h) (j : Fin 256) (d : Fin 128) :
    shapeCast S256x128 (v.readAt (Elt Ideal) (Rect.unit (s := S16640x128) ![0, 0] S256x128.size inb).toLoadRect f) h (ix2 j d)
      = v.read (Elt Ideal) f (ix2 ⟨j.val, by omega⟩ d) := by
  refine (Eq.trans (congrFun (shapeCast_self _ h) _) ?_)
  refine congrArg (v.read (Elt Ideal) f) (funext fun a => Fin.ext ?_)
  fin_cases a <;> simp [ix2, Rect.unit, LoadRect.idx, Rect.toLoadRect]

/-- The scores of the first 256 keys. -/
theorem tile256 (v : View sig κ sp S16640x128 .bf16) (f) (x1) (hx1 : v.read (Elt Ideal) f = x1) (q q' : FVec Ideal S256x128 .bf16) (hq : q' = q) (inb) (h) (j : Fin 256) (r : Fin 256) :
    matmul (φ₁ := .bf16) dot_S256x128_S256x128_S256x256_1_1_0_0_n_n none
      (shapeCast S256x128 (v.readAt (Elt Ideal) (Rect.unit (s := S16640x128) ![0, 0] S256x128.size inb).toLoadRect f) h) q' (constant S256x256 .f32 0#32) (ix2 j r)
      = scoreS q x1 r (0 + j.val) := by
  subst hq hx1
  refine (scores256 _ _ j r).trans ?_
  unfold scoreS
  rw [dif_pos (by omega)]
  refine Finset.sum_congr rfl fun d _ => ?_
  rw [ldK256]; simp only [Nat.zero_add]

/-- The scores of the tile of keys after the first 256. -/
theorem tile2048 (v : View sig κ sp S16640x128 .bf16) (f) (x1) (hx1 : v.read (Elt Ideal) f = x1) (q q' : FVec Ideal S256x128 .bf16) (hq : q' = q) (inb) (h) (j : Fin 2048) (r : Fin 256) :
    matmul (φ₁ := .bf16) dot_S2048x128_S256x128_S2048x256_1_1_0_0_n_n none
      (shapeCast S2048x128 (v.readAt (Elt Ideal) (Rect.unit (s := S16640x128) ![256, 0] S2048x128.size inb).toLoadRect f) h) q' (constant S2048x256 .f32 0#32) (ix2 j r)
      = scoreS q x1 r (256 + j.val) := by
  subst hq hx1
  refine (scores2048 _ _ j r).trans ?_
  unfold scoreS
  rw [dif_pos (by omega)]
  refine Finset.sum_congr rfl fun d _ => ?_
  rw [ldK _ _ _ 256 rfl _ _ j d (by omega)]

/-- The values of the first 256 keys. -/
theorem val256 (v : View sig κ sp S1x65x128x256 .bf16) (f) (x2) (hx2 : v.read (Elt Ideal) f = x2) (hfin : ∀ y, x2 y = ((x2 y).toReal : EReal)) (inb) (e : Fin 128) (j : Fin 256) :
    (v.readAt (Elt Ideal) (Rect.unit (s := S1x65x128x256) ![0, 0, 0, 0] S1x1x128x256.size inb).toLoadRect f) (ix4 0 0 e j)
      = ((valV x2 e (0 + j.val) : ℝ) : EReal) := by
  subst hx2
  refine (ldV v f _ 0 (by omega) rfl inb e j).trans ?_
  unfold valV
  rw [dif_pos (by omega), hfin]
  have h1 : (0 + j.val) / 256 = 0 := by omega
  have h2 : (0 + j.val) % 256 = j.val := by omega
  simp only [h1, h2]

theorem valV_block (x2 : S1x65x128x256.Idx → EReal) (hfin : ∀ y, x2 y = ((x2 y).toReal : EReal)) (e : Fin 128) (b : Fin 65) (j : Fin 256) :
    x2 (ix4 0 b e j) = ((valV x2 e (256 * b.val + j.val) : ℝ) : EReal) := by
  unfold valV
  rw [dif_pos (by omega), hfin]
  have h1 : (256 * b.val + j.val) / 256 = b.val := by omega
  have h2 : (256 * b.val + j.val) % 256 = j.val := by omega
  simp only [h1, h2]

theorem pay93_apply (y : S2x128x256.Idx) : (k0_pay93 (F := Ideal)) y = ((0 : ℝ) : EReal) := by
  show Ideal.ofBits .f32 0x00000000#32 = _
  simp [Ideal.ofBits, Ideal.ieee]
theorem pay95_apply (y : S2x1x256.Idx) : (k0_pay95 (F := Ideal)) y = ((0 : ℝ) : EReal) := by
  show Ideal.ofBits .f32 0x00000000#32 = _
  simp [Ideal.ofBits, Ideal.ieee]
theorem pay94_apply (y : S2x1x256.Idx) : (k0_pay94 (F := Ideal)) y = ⊥ := ninf

/-- A load of a whole buffer of two axes. -/
theorem ld_whole {a b : ℕ} {ε : EltTy} (v : View sig κ sp (⟨2, ![a, b]⟩ : Shape) ε) (f) (inb) (x) (hx : v.read (Elt Ideal) f = x) :
    v.readAt (Elt Ideal) (Rect.unit (s := (⟨2, ![a, b]⟩ : Shape)) ![0, 0] (⟨2, ![a, b]⟩ : Shape).size inb).toLoadRect f = x := by
  subst hx
  funext y
  refine congrArg (v.read (Elt Ideal) f) (funext fun a => Fin.ext ?_)
  fin_cases a <;> simp [Rect.unit, LoadRect.idx, Rect.toLoadRect]

end Cert.KernelIdeal.Attn

end
-- ==== Proof.RunA.lean ====
module

public import proofs.«01_k».proof.Proof.Base

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body at a block of context queries, ending with the block's attention in the output window. -/
theorem runA (c : Dev nD) (i : grid0.Coords) (arg2 : Memref sig .tc .vmem S256x128 .bf16) (harg2 : arg2.IsWhole) (arg3 : Memref sig .tc .vmem S16640x128 .bf16) (harg3 : arg3.IsWhole) (arg4 : Memref sig .tc .vmem S1x65x128x256 .bf16) (harg4 : arg4.IsWhole) (arg5 : Memref sig .tc .vmem S4x64 .f32) (harg5 : arg5.IsWhole) (arg6 : Memref sig .tc .vmem S128x1 .f32) (harg6 : arg6.IsWhole) (arg7 : Memref sig .tc .vmem S256x128 .bf16) (harg7 : arg7.IsWhole) (arg8 : Memref sig .tc .vmem S2x128x256 .f32) (harg8 : arg8.IsWhole) (arg9 : Memref sig .tc .vmem S2x1x256 .f32) (harg9 : arg9.IsWhole) (arg10 : Memref sig .tc .vmem S2x1x256 .f32) (harg10 : arg10.IsWhole) (arg11 : Memref sig .tc .vmem S2x2048x256 .f32) (harg11 : arg11.IsWhole) (arg12 : Memref sig .tc .vmem S2x2048x256 .f32) (harg12 : arg12.IsWhole) (hc0 : cond0_0 i) (hc1 : ¬cond0_1 i)
    (x0 : Vec Ideal S256x128 .bf16) (x1 : Vec Ideal S16640x128 .bf16) (x2 : Vec Ideal S1x65x128x256 .bf16) (x3 : Vec Ideal S4x64 .f32) (x4 : Vec Ideal S128x1 .f32) (hfin : ∀ y, x2 y = ((x2 y).toReal : EReal)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (fun y => outB 256 x0 x1 x2 x3 x4 (y 0) (y 1)) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_diff_attn (F := Ideal) i arg2 harg2 arg3 harg3 arg4 harg4 arg5 harg5 arg6 harg6 arg7 harg7 arg8 harg8 arg9 harg9 arg10 harg10 arg11 harg11 arg12 harg12) K := by
  intro E K
  simp only [cc0_diff_attn_eq_skeleton]; unfold cc0_diff_attn_skel
  simp only [k0_part17_eq_skeleton, k0_part1_eq_skeleton, k0_part2_eq_skeleton, k0_part18_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    funext y
    obtain ⟨r, e, rfl⟩ : ∃ (r : Fin 256) (e : Fin 128), y = ix2 r e := ⟨y 0, y 1, funext fun a => by fin_cases a <;> rfl⟩
    refine (View.read_writes_cons_unit_of_mem arg7.view _ _ _ _ (ix2 r e) (ix2 r e) rfl (fun a => by fin_cases a <;> simp [ix2])).trans ?_
    refine out_eq 256 x0 x1 x2 x3 x4 _ _ _ _ _ _ r e (ld_whole arg5.view _ _ x3 (harg5.read_unread x3)) (ld_whole arg6.view _ _ x4 (harg6.read_unread x4)) (fun e => ?_) ?_ (fun e => ?_) ?_
    · exact (cr_128_0 ..).trans ((rd_other_128_0 ..).trans ((rd_same_128_0 ..).trans ((up128 ..).trans (absA256 (scoreS (k0_pay91 x0) x1 r) (valV x2 e) 0 _ _ _ _ e r (fun j => tile256 arg3.view _ x1 (harg3.read_unread x1) (k0_pay91 x0) _ (congrArg k0_pay91 (ld_whole arg2.view _ _ x0 (harg2.read_unread x0))) _ _ j r) ((cv_1_0 ..).trans ((rd_full_1 ..).trans ((pay94_apply _).trans (mx_zero _).symm))) ((cv_128_0 ..).trans ((rd_full_128 ..).trans ((pay93_apply _).trans (congrArg _ (av_zero _ _).symm))))
          (pvB_sum (scoreS (k0_pay91 x0) x1 r) (valV x2 e) 0 (0 + 256) (by omega) _ _ e r (fun j => val256 arg4.view _ x2 (harg4.read_unread x2) hfin _ e j) (fun j => absP256 (scoreS (k0_pay91 x0) x1 r) 0 _ _ r (fun j => tile256 arg3.view _ x1 (harg3.read_unread x1) (k0_pay91 x0) _ (congrArg k0_pay91 (ld_whole arg2.view _ _ x0 (harg2.read_unread x0))) _ _ j r) ((cv_1_0 ..).trans ((rd_full_1 ..).trans ((pay94_apply _).trans (mx_zero _).symm))) j))))))
    · exact (cr_1_0 ..).trans ((rd_other_1_0 ..).trans ((rd_same_1_0 ..).trans ((up1 ..).trans (absL256 (scoreS (k0_pay91 x0) x1 r) 0 _ _ _ r (fun j => tile256 arg3.view _ x1 (harg3.read_unread x1) (k0_pay91 x0) _ (congrArg k0_pay91 (ld_whole arg2.view _ _ x0 (harg2.read_unread x0))) _ _ j r) ((cv_1_0 ..).trans ((rd_full_1 ..).trans ((pay94_apply _).trans (mx_zero _).symm))) ((cv_1_0 ..).trans ((rd_full_1 ..).trans ((pay95_apply _).trans (congrArg _ (ls_zero _).symm))))))))
    · exact (cr_128_1 ..).trans ((rd_same_128_1 ..).trans ((up128 ..).trans (absA256 (scoreS (k0_pay92 x0) x1 r) (valV x2 e) 0 _ _ _ _ e r (fun j => tile256 arg3.view _ x1 (harg3.read_unread x1) (k0_pay92 x0) _ (congrArg k0_pay92 (ld_whole arg2.view _ _ x0 (harg2.read_unread x0))) _ _ j r) ((cv_1_1 ..).trans ((rd_other_1_1 ..).trans ((rd_full_1 ..).trans ((pay94_apply _).trans (mx_zero _).symm)))) ((cv_128_1 ..).trans ((rd_other_128_1 ..).trans ((rd_full_128 ..).trans ((pay93_apply _).trans (congrArg _ (av_zero _ _).symm)))))
          (pvB_sum (scoreS (k0_pay92 x0) x1 r) (valV x2 e) 0 (0 + 256) (by omega) _ _ e r (fun j => val256 arg4.view _ x2 (harg4.read_unread x2) hfin _ e j) (fun j => absP256 (scoreS (k0_pay92 x0) x1 r) 0 _ _ r (fun j => tile256 arg3.view _ x1 (harg3.read_unread x1) (k0_pay92 x0) _ (congrArg k0_pay92 (ld_whole arg2.view _ _ x0 (harg2.read_unread x0))) _ _ j r) ((cv_1_1 ..).trans ((rd_other_1_1 ..).trans ((rd_full_1 ..).trans ((pay94_apply _).trans (mx_zero _).symm)))) j)))))
    · exact (cr_1_1 ..).trans ((rd_same_1_1 ..).trans ((up1 ..).trans (absL256 (scoreS (k0_pay92 x0) x1 r) 0 _ _ _ r (fun j => tile256 arg3.view _ x1 (harg3.read_unread x1) (k0_pay92 x0) _ (congrArg k0_pay92 (ld_whole arg2.view _ _ x0 (harg2.read_unread x0))) _ _ j r) ((cv_1_1 ..).trans ((rd_other_1_1 ..).trans ((rd_full_1 ..).trans ((pay94_apply _).trans (mx_zero _).symm)))) ((cv_1_1 ..).trans ((rd_other_1_1 ..).trans ((rd_full_1 ..).trans ((pay95_apply _).trans (congrArg _ (ls_zero _).symm))))))))
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.KernelIdeal.Attn

end
-- ==== Proof.RunB.lean ====
module

public import proofs.«01_k».proof.Proof.Base

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 4000000 in
/-- The body at a block of latent queries, ending with the block's attention in the output window. -/
theorem runB (c : Dev nD) (i : grid0.Coords) (arg2 : Memref sig .tc .vmem S256x128 .bf16) (harg2 : arg2.IsWhole) (arg3 : Memref sig .tc .vmem S16640x128 .bf16) (harg3 : arg3.IsWhole) (arg4 : Memref sig .tc .vmem S1x65x128x256 .bf16) (harg4 : arg4.IsWhole) (arg5 : Memref sig .tc .vmem S4x64 .f32) (harg5 : arg5.IsWhole) (arg6 : Memref sig .tc .vmem S128x1 .f32) (harg6 : arg6.IsWhole) (arg7 : Memref sig .tc .vmem S256x128 .bf16) (harg7 : arg7.IsWhole) (arg8 : Memref sig .tc .vmem S2x128x256 .f32) (harg8 : arg8.IsWhole) (arg9 : Memref sig .tc .vmem S2x1x256 .f32) (harg9 : arg9.IsWhole) (arg10 : Memref sig .tc .vmem S2x1x256 .f32) (harg10 : arg10.IsWhole) (arg11 : Memref sig .tc .vmem S2x2048x256 .f32) (harg11 : arg11.IsWhole) (arg12 : Memref sig .tc .vmem S2x2048x256 .f32) (harg12 : arg12.IsWhole) (hc0 : ¬cond0_0 i) (hc1 : cond0_1 i)
    (x0 : Vec Ideal S256x128 .bf16) (x1 : Vec Ideal S16640x128 .bf16) (x2 : Vec Ideal S1x65x128x256 .bf16) (x3 : Vec Ideal S4x64 .f32) (x4 : Vec Ideal S128x1 .f32) (hfin : ∀ y, x2 y = ((x2 y).toReal : EReal)) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (fun y => outB 16640 x0 x1 x2 x3 x4 (y 0) (y 1)) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)) -∗ K ⟨⟩))
          ⊢ wp frame (wpE (defs₀ (F := Ideal)) Variants.none c none) E (cc0_diff_attn (F := Ideal) i arg2 harg2 arg3 harg3 arg4 harg4 arg5 harg5 arg6 harg6 arg7 harg7 arg8 harg8 arg9 harg9 arg10 harg10 arg11 harg11 arg12 harg12) K := by
  intro E K
  simp only [cc0_diff_attn_eq_skeleton]; unfold cc0_diff_attn_skel
  simp only [k0_part17_eq_skeleton, k0_part18_eq_skeleton, k0_part15_eq_skeleton, k0_part16_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg2.eq_unread hf0; obtain rfl := harg3.eq_unread hf1; obtain rfl := harg4.eq_unread hf2; obtain rfl := harg5.eq_unread hf3; obtain rfl := harg6.eq_unread hf4
  sl_exec (disch := first | sl_exact hc0 | sl_exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    have hscore_0 : ∀ (r : Fin 256) (j : ℕ) (h : j < 16640), ∑ d : Fin 128, arg3.view.read (Elt Ideal) (harg3.unread x1) (ix2 ⟨j, h⟩ d) * k0_pay91 (arg2.view.readAt (Elt Ideal) (Rect.unit (s := S256x128) ![0, 0] S256x128.size inb_S256x128_S256x128_0_0).toLoadRect (harg2.unread x0)) (ix2 r d) = scoreS (k0_pay91 x0) x1 r j := by
      intro r j h
      rw [harg3.read_unread, ld_whole arg2.view _ _ x0 (harg2.read_unread x0)]
      unfold scoreS; rw [dif_pos h]
    have hscore_1 : ∀ (r : Fin 256) (j : ℕ) (h : j < 16640), ∑ d : Fin 128, arg3.view.read (Elt Ideal) (harg3.unread x1) (ix2 ⟨j, h⟩ d) * k0_pay92 (arg2.view.readAt (Elt Ideal) (Rect.unit (s := S256x128) ![0, 0] S256x128.size inb_S256x128_S256x128_0_0).toLoadRect (harg2.unread x0)) (ix2 r d) = scoreS (k0_pay92 x0) x1 r j := by
      intro r j h
      rw [harg3.read_unread, ld_whole arg2.view _ _ x0 (harg2.read_unread x0)]
      unfold scoreS; rw [dif_pos h]
    have hval : ∀ (e : Fin 128) (b : Fin 65) (j : Fin 256), arg4.view.read (Elt Ideal) (harg4.unread x2) (ix4 0 b e j) = ((valV x2 e (256 * b.val + j.val) : ℝ) : EReal) := by
      intro e b j
      rw [harg4.read_unread]; exact valV_block x2 hfin e b j
    funext y
    obtain ⟨r, e, rfl⟩ : ∃ (r : Fin 256) (e : Fin 128), y = ix2 r e := ⟨y 0, y 1, funext fun a => by fin_cases a <;> rfl⟩
    refine (View.read_writes_cons_unit_of_mem arg7.view _ _ _ _ (ix2 r e) (ix2 r e) rfl (fun a => by fin_cases a <;> simp [ix2])).trans ?_
    refine out_eq 16640 x0 x1 x2 x3 x4 _ _ _ _ _ _ r e (ld_whole arg5.view _ _ x3 (harg5.read_unread x3)) (ld_whole arg6.view _ _ x4 (harg6.read_unread x4)) (fun e => ?_) ?_ (fun e => ?_) ?_
    · refine (cr_128_0 ..).trans ((congrFun (congrArg _ (View.writes_append ..)) _).trans (Eq.trans (((loop_inv_0 _ _ _ _ _ _ _ _ _ _ _ _ _ _ _ _ _ _ _ _ _ _ _ _ _ _ _ _ _ _ _  _ _ _ _ _ (scoreS (k0_pay91 x0) x1) (valV x2)
        (fun r j h => (hscore_0 r j h)) (fun e b j => hval e b j)
        (fun r => ⟨((rd_other_1_0 ..).trans ((rd_same_1_0 ..).trans ((up1 ..).trans (absM256 (scoreS (k0_pay91 x0) x1 r) 0 _ _ r (fun j => tile256 arg3.view _ x1 (harg3.read_unread x1) (k0_pay91 x0) _ (congrArg k0_pay91 (ld_whole arg2.view _ _ x0 (harg2.read_unread x0))) _ _ j r) ((cv_1_0 ..).trans ((rd_full_1 ..).trans ((pay94_apply _).trans (mx_zero _).symm))))))),
        ((rd_other_1_0 ..).trans ((rd_same_1_0 ..).trans ((up1 ..).trans (absL256 (scoreS (k0_pay91 x0) x1 r) 0 _ _ _ r (fun j => tile256 arg3.view _ x1 (harg3.read_unread x1) (k0_pay91 x0) _ (congrArg k0_pay91 (ld_whole arg2.view _ _ x0 (harg2.read_unread x0))) _ _ j r) ((cv_1_0 ..).trans ((rd_full_1 ..).trans ((pay94_apply _).trans (mx_zero _).symm))) ((cv_1_0 ..).trans ((rd_full_1 ..).trans ((pay95_apply _).trans (congrArg _ (ls_zero _).symm)))))))),
        fun e => ((rd_other_128_0 ..).trans ((rd_same_128_0 ..).trans ((up128 ..).trans (absA256 (scoreS (k0_pay91 x0) x1 r) (valV x2 e) 0 _ _ _ _ e r (fun j => tile256 arg3.view _ x1 (harg3.read_unread x1) (k0_pay91 x0) _ (congrArg k0_pay91 (ld_whole arg2.view _ _ x0 (harg2.read_unread x0))) _ _ j r) ((cv_1_0 ..).trans ((rd_full_1 ..).trans ((pay94_apply _).trans (mx_zero _).symm))) ((cv_128_0 ..).trans ((rd_full_128 ..).trans ((pay93_apply _).trans (congrArg _ (av_zero _ _).symm))))
          (pvB_sum (scoreS (k0_pay91 x0) x1 r) (valV x2 e) 0 (0 + 256) (by omega) _ _ e r (fun j => val256 arg4.view _ x2 (harg4.read_unread x2) hfin _ e j) (fun j => absP256 (scoreS (k0_pay91 x0) x1 r) 0 _ _ r (fun j => tile256 arg3.view _ x1 (harg3.read_unread x1) (k0_pay91 x0) _ (congrArg k0_pay91 (ld_whole arg2.view _ _ x0 (harg2.read_unread x0))) _ _ j r) ((cv_1_0 ..).trans ((rd_full_1 ..).trans ((pay94_apply _).trans (mx_zero _).symm))) j))))))⟩)
        (fun j r => ((rd_other_2048_0 ..).trans ((rd_same_2048_0 ..).trans ((up2048 ..).trans (tile2048 arg3.view _ x1 (harg3.read_unread x1) (k0_pay91 x0) _ (congrArg k0_pay91 (ld_whole arg2.view _ _ x0 (harg2.read_unread x0))) _ _ j r))))) _ (le_of_eq trips_eq)).1 r).2.2 e) ?_))
      rw [trips_eq]
    · refine (cr_1_0 ..).trans ((congrFun (congrArg _ (View.writes_append ..)) _).trans (Eq.trans (((loop_inv_0 _ _ _ _ _ _ _ _ _ _ _ _ _ _ _ _ _ _ _ _ _ _ _ _ _ _ _ _ _ _ _  _ _ _ _ _ (scoreS (k0_pay91 x0) x1) (valV x2)
        (fun r j h => (hscore_0 r j h)) (fun e b j => hval e b j)
        (fun r => ⟨((rd_other_1_0 ..).trans ((rd_same_1_0 ..).trans ((up1 ..).trans (absM256 (scoreS (k0_pay91 x0) x1 r) 0 _ _ r (fun j => tile256 arg3.view _ x1 (harg3.read_unread x1) (k0_pay91 x0) _ (congrArg k0_pay91 (ld_whole arg2.view _ _ x0 (harg2.read_unread x0))) _ _ j r) ((cv_1_0 ..).trans ((rd_full_1 ..).trans ((pay94_apply _).trans (mx_zero _).symm))))))),
        ((rd_other_1_0 ..).trans ((rd_same_1_0 ..).trans ((up1 ..).trans (absL256 (scoreS (k0_pay91 x0) x1 r) 0 _ _ _ r (fun j => tile256 arg3.view _ x1 (harg3.read_unread x1) (k0_pay91 x0) _ (congrArg k0_pay91 (ld_whole arg2.view _ _ x0 (harg2.read_unread x0))) _ _ j r) ((cv_1_0 ..).trans ((rd_full_1 ..).trans ((pay94_apply _).trans (mx_zero _).symm))) ((cv_1_0 ..).trans ((rd_full_1 ..).trans ((pay95_apply _).trans (congrArg _ (ls_zero _).symm)))))))),
        fun e => ((rd_other_128_0 ..).trans ((rd_same_128_0 ..).trans ((up128 ..).trans (absA256 (scoreS (k0_pay91 x0) x1 r) (valV x2 e) 0 _ _ _ _ e r (fun j => tile256 arg3.view _ x1 (harg3.read_unread x1) (k0_pay91 x0) _ (congrArg k0_pay91 (ld_whole arg2.view _ _ x0 (harg2.read_unread x0))) _ _ j r) ((cv_1_0 ..).trans ((rd_full_1 ..).trans ((pay94_apply _).trans (mx_zero _).symm))) ((cv_128_0 ..).trans ((rd_full_128 ..).trans ((pay93_apply _).trans (congrArg _ (av_zero _ _).symm))))
          (pvB_sum (scoreS (k0_pay91 x0) x1 r) (valV x2 e) 0 (0 + 256) (by omega) _ _ e r (fun j => val256 arg4.view _ x2 (harg4.read_unread x2) hfin _ e j) (fun j => absP256 (scoreS (k0_pay91 x0) x1 r) 0 _ _ r (fun j => tile256 arg3.view _ x1 (harg3.read_unread x1) (k0_pay91 x0) _ (congrArg k0_pay91 (ld_whole arg2.view _ _ x0 (harg2.read_unread x0))) _ _ j r) ((cv_1_0 ..).trans ((rd_full_1 ..).trans ((pay94_apply _).trans (mx_zero _).symm))) j))))))⟩)
        (fun j r => ((rd_other_2048_0 ..).trans ((rd_same_2048_0 ..).trans ((up2048 ..).trans (tile2048 arg3.view _ x1 (harg3.read_unread x1) (k0_pay91 x0) _ (congrArg k0_pay91 (ld_whole arg2.view _ _ x0 (harg2.read_unread x0))) _ _ j r))))) _ (le_of_eq trips_eq)).1 r).2.1) ?_))
      rw [trips_eq]
    · refine (cr_128_1 ..).trans ((congrFun (congrArg _ (View.writes_append ..)) _).trans (Eq.trans (((loop_inv_1 _ _ _ _ _ _ _ _ _ _ _ _ _ _ _ _ _ _ _ _ _ _ _ _ _ _ _ _ _ _ _  _ _ _ _ _ (scoreS (k0_pay92 x0) x1) (valV x2)
        (fun r j h => (hscore_1 r j h)) (fun e b j => hval e b j)
        (fun r => ⟨((rd_same_1_1 ..).trans ((up1 ..).trans (absM256 (scoreS (k0_pay92 x0) x1 r) 0 _ _ r (fun j => tile256 arg3.view _ x1 (harg3.read_unread x1) (k0_pay92 x0) _ (congrArg k0_pay92 (ld_whole arg2.view _ _ x0 (harg2.read_unread x0))) _ _ j r) ((cv_1_1 ..).trans ((rd_other_1_1 ..).trans ((rd_full_1 ..).trans ((pay94_apply _).trans (mx_zero _).symm))))))),
        ((rd_same_1_1 ..).trans ((up1 ..).trans (absL256 (scoreS (k0_pay92 x0) x1 r) 0 _ _ _ r (fun j => tile256 arg3.view _ x1 (harg3.read_unread x1) (k0_pay92 x0) _ (congrArg k0_pay92 (ld_whole arg2.view _ _ x0 (harg2.read_unread x0))) _ _ j r) ((cv_1_1 ..).trans ((rd_other_1_1 ..).trans ((rd_full_1 ..).trans ((pay94_apply _).trans (mx_zero _).symm)))) ((cv_1_1 ..).trans ((rd_other_1_1 ..).trans ((rd_full_1 ..).trans ((pay95_apply _).trans (congrArg _ (ls_zero _).symm)))))))),
        fun e => ((rd_same_128_1 ..).trans ((up128 ..).trans (absA256 (scoreS (k0_pay92 x0) x1 r) (valV x2 e) 0 _ _ _ _ e r (fun j => tile256 arg3.view _ x1 (harg3.read_unread x1) (k0_pay92 x0) _ (congrArg k0_pay92 (ld_whole arg2.view _ _ x0 (harg2.read_unread x0))) _ _ j r) ((cv_1_1 ..).trans ((rd_other_1_1 ..).trans ((rd_full_1 ..).trans ((pay94_apply _).trans (mx_zero _).symm)))) ((cv_128_1 ..).trans ((rd_other_128_1 ..).trans ((rd_full_128 ..).trans ((pay93_apply _).trans (congrArg _ (av_zero _ _).symm)))))
          (pvB_sum (scoreS (k0_pay92 x0) x1 r) (valV x2 e) 0 (0 + 256) (by omega) _ _ e r (fun j => val256 arg4.view _ x2 (harg4.read_unread x2) hfin _ e j) (fun j => absP256 (scoreS (k0_pay92 x0) x1 r) 0 _ _ r (fun j => tile256 arg3.view _ x1 (harg3.read_unread x1) (k0_pay92 x0) _ (congrArg k0_pay92 (ld_whole arg2.view _ _ x0 (harg2.read_unread x0))) _ _ j r) ((cv_1_1 ..).trans ((rd_other_1_1 ..).trans ((rd_full_1 ..).trans ((pay94_apply _).trans (mx_zero _).symm)))) j)))))⟩)
        (fun j r => ((rd_same_2048_1 ..).trans ((up2048 ..).trans (tile2048 arg3.view _ x1 (harg3.read_unread x1) (k0_pay92 x0) _ (congrArg k0_pay92 (ld_whole arg2.view _ _ x0 (harg2.read_unread x0))) _ _ j r)))) _ (le_of_eq trips_eq)).1 r).2.2 e) ?_))
      rw [trips_eq]
    · refine (cr_1_1 ..).trans ((congrFun (congrArg _ (View.writes_append ..)) _).trans (Eq.trans (((loop_inv_1 _ _ _ _ _ _ _ _ _ _ _ _ _ _ _ _ _ _ _ _ _ _ _ _ _ _ _ _ _ _ _  _ _ _ _ _ (scoreS (k0_pay92 x0) x1) (valV x2)
        (fun r j h => (hscore_1 r j h)) (fun e b j => hval e b j)
        (fun r => ⟨((rd_same_1_1 ..).trans ((up1 ..).trans (absM256 (scoreS (k0_pay92 x0) x1 r) 0 _ _ r (fun j => tile256 arg3.view _ x1 (harg3.read_unread x1) (k0_pay92 x0) _ (congrArg k0_pay92 (ld_whole arg2.view _ _ x0 (harg2.read_unread x0))) _ _ j r) ((cv_1_1 ..).trans ((rd_other_1_1 ..).trans ((rd_full_1 ..).trans ((pay94_apply _).trans (mx_zero _).symm))))))),
        ((rd_same_1_1 ..).trans ((up1 ..).trans (absL256 (scoreS (k0_pay92 x0) x1 r) 0 _ _ _ r (fun j => tile256 arg3.view _ x1 (harg3.read_unread x1) (k0_pay92 x0) _ (congrArg k0_pay92 (ld_whole arg2.view _ _ x0 (harg2.read_unread x0))) _ _ j r) ((cv_1_1 ..).trans ((rd_other_1_1 ..).trans ((rd_full_1 ..).trans ((pay94_apply _).trans (mx_zero _).symm)))) ((cv_1_1 ..).trans ((rd_other_1_1 ..).trans ((rd_full_1 ..).trans ((pay95_apply _).trans (congrArg _ (ls_zero _).symm)))))))),
        fun e => ((rd_same_128_1 ..).trans ((up128 ..).trans (absA256 (scoreS (k0_pay92 x0) x1 r) (valV x2 e) 0 _ _ _ _ e r (fun j => tile256 arg3.view _ x1 (harg3.read_unread x1) (k0_pay92 x0) _ (congrArg k0_pay92 (ld_whole arg2.view _ _ x0 (harg2.read_unread x0))) _ _ j r) ((cv_1_1 ..).trans ((rd_other_1_1 ..).trans ((rd_full_1 ..).trans ((pay94_apply _).trans (mx_zero _).symm)))) ((cv_128_1 ..).trans ((rd_other_128_1 ..).trans ((rd_full_128 ..).trans ((pay93_apply _).trans (congrArg _ (av_zero _ _).symm)))))
          (pvB_sum (scoreS (k0_pay92 x0) x1 r) (valV x2 e) 0 (0 + 256) (by omega) _ _ e r (fun j => val256 arg4.view _ x2 (harg4.read_unread x2) hfin _ e j) (fun j => absP256 (scoreS (k0_pay92 x0) x1 r) 0 _ _ r (fun j => tile256 arg3.view _ x1 (harg3.read_unread x1) (k0_pay92 x0) _ (congrArg k0_pay92 (ld_whole arg2.view _ _ x0 (harg2.read_unread x0))) _ _ j r) ((cv_1_1 ..).trans ((rd_other_1_1 ..).trans ((rd_full_1 ..).trans ((pay94_apply _).trans (mx_zero _).symm)))) j)))))⟩)
        (fun j r => ((rd_same_2048_1 ..).trans ((up2048 ..).trans (tile2048 arg3.view _ x1 (harg3.read_unread x1) (k0_pay92 x0) _ (congrArg k0_pay92 (ld_whole arg2.view _ _ x0 (harg2.read_unread x0))) _ _ j r)))) _ (le_of_eq trips_eq)).1 r).2.1) ?_))
      rw [trips_eq]
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  iexists _, _; isplitr; swap; · iexact HS4
  ipureintro; rfl

end Cert.KernelIdeal.Attn

end
-- ==== Proof.Launch.lean ====
module

public import proofs.«01_k».proof.Proof.RunA
public import proofs.«01_k».proof.Proof.RunB
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)
/-! ## The pipeline's proof data -/

/-- What the body leaves in the output window at point `t`: the context's queries see 256 keys, the others all of them. -/
def outT (c : Dev nD) (t : Fin cfg0.N) : Vec Ideal S256x128 .bf16 := fun y =>
  outB (if t.val % 65 = 0 then 256 else 16640) (iblk m c 0 t) (iblk m c 1 t) (iblk m c 2 t) (iblk m c 3 t) (iblk m c 4 t) (y 0) (y 1)

/-- The proof data of the pipeline: each input's buffer keeps its block, the output's holds `outT`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outT m c t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_5 (c : Dev nD) (t : Fin cfg0.N) : (dats m 0 c).after 5 t = outT m c t := by dsimp only [dats]
theorem after0_4 (c : Dev nD) (t : Fin cfg0.N) : (dats m 0 c).after 4 t = iblk m c 4 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (hfin : ∀ (c : Dev nD) (t : Fin cfg0.N) y, iblk m c 2 t y = ((iblk m c 2 t y).toReal : EReal)) (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  have hN : t.val < 520 := lt_of_lt_of_eq t.isLt (show cfg0.N = 520 from N_0)
  by_cases h0 : t.val % 65 = 0
  · by_cases h1 : 1 ≤ t.val % 65
    · exfalso; omega
    · have hT : outT m c t = fun y => outB 256 (iblk m c 0 t) (iblk m c 1 t) (iblk m c 2 t) (iblk m c 3 t) (iblk m c 4 t) (y 0) (y 1) := by
        unfold outT; rw [if_pos h0]
      rw [hT]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((runA c (grid0.coords t) _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (hfin c t)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      iexact H5
  · by_cases h1 : 1 ≤ t.val % 65
    · have hT : outT m c t = fun y => outB 16640 (iblk m c 0 t) (iblk m c 1 t) (iblk m c 2 t) (iblk m c 3 t) (iblk m c 4 t) (y 0) (y 1) := by
        unfold outT; rw [if_neg h0]
      rw [hT]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩⟩
      iapply ((runB c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (hfin c t)) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      isplitl [HS3]; · iexact HS3
      isplitl [HS4]; · iexact HS4
      iintro ⟨H0, H1, H2, H3, H4, H5, HS0, HS1, HS2, HS3, HS4⟩
      isplitl [HS0 HS1 HS2 HS3 HS4 Hg]
      · isplitl [HS0 HS1 HS2 HS3 HS4]
        · isplitl [HS0]
          · iexact HS0
          isplitl [HS1]
          · iexact HS1
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      iexact H5
    · exfalso; omega

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hfin : ∀ (c : Dev nD) (t : Fin cfg0.N) y, iblk m c 2 t y = ((iblk m c 2 t y).toReal : EReal)) (c : Dev nD) : BodyObligation (dats m 0 c) (defs₀ (F := Ideal)) Variants.none () Set.univ := fun t => by
  rw [bigSep_W0, bigSep_W0, defs₀_row]
  exact triple_restated (sound_body m hfin c t) rfl .rfl fun _ => .rfl

/-! ## The run and the frame -/

-- `θ_run_frame_shared`'s implicit arguments are found by unifying its conclusion with this one, which takes unfolding plain
-- definitions in a metavariable's type
set_option backward.isDefEq.respectTransparency.types false in
/-- The launch: the same, and every counter at zero. -/
theorem run_main_quiescent (hfin : ∀ (c : Dev nD) (t : Fin cfg0.N) y, iblk m c 2 t y = ((iblk m c 2 t y).toReal : EReal)) : θ_run defs (onTc (τ := τ) (main (F := Ideal))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m hfin c).loose) (hq := fun _ _ _ => rfl)
    (howed := fun _ _ => rfl) (V := V m) (hmain := hmain m Variants.none) (hA := A_eq m) (hΦ := fun _ _ => rfl)

/-- Every execution ends, with every array of the pipeline at what the proof data says. -/
theorem run_main (hfin : ∀ (c : Dev nD) (t : Fin cfg0.N) y, iblk m c 2 t y = ((iblk m c 2 t y).toReal : EReal)) : θ_run defs (onTc (τ := τ) (main (F := Ideal))) (s₀ m ρ) (Pipeline.FramePost cfgs (dats m) 0 (V m)) :=
  (θ_run defs _ _).mono (fun _ h => h.1) (run_main_quiescent m ρ hfin)

/-- The run with the result array named and the arguments as they were. -/
theorem run_blocks (hfin : ∀ (c : Dev nD) (t : Fin cfg0.N) y, iblk m c 2 t y = ((iblk m c 2 t y).toReal : EReal)) : θ_run defs (onTc (τ := τ) (main (F := Ideal))) ⟨m, fun _ => 0, ρ⟩ fun r => ∀ c : Dev nD,
      r.2.mem ((c : Thread nD τ).loc main_v6) = (dats m 0 c).arrAt 5 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1 5,
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c)⟩)
    (run_main m ρ hfin)

end Cert.KernelIdeal.Attn

end
-- ==== Proof.Arr.lean ====
module

public import proofs.«01_k».proof.Proof.Launch
public import Idealize.ShloMosaic.Lib.Pipeline.ValueKit

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The host's queries, keys and values side by side. -/
theorem V_v1 (c : Dev nD) : V m c main_v1 = truncf (F := Ideal) .bf16 (concatenate S16640x3072 1
    [⟨S16640x1024, m ((c : Thread nD τ).loc main_arg0)⟩, ⟨S16640x1024, m ((c : Thread nD τ).loc main_arg1)⟩, ⟨S16640x1024, m ((c : Thread nD τ).loc main_arg2)⟩]
    concatenates_S16640x1024_S16640x1024_S16640x1024_S16640x3072_d1) bitsLt_bf16_f32 := by
  unfold V hostOps0
  after_results_simp <;> rfl

/-- The host's values, a head at a time and transposed within each block of keys. -/
theorem V_v4 (c : Dev nD) : V m c main_v4 = truncf (F := Ideal) .bf16 (transpose S8x65x128x256 [2, 0, 3, 1]
    (shapeCast S65x256x8x128 (m ((c : Thread nD τ).loc main_arg2)) shapeCasts_S16640x1024_S65x256x8x128)
    transposes_S65x256x8x128_S8x65x128x256_2_0_3_1) bitsLt_bf16_f32 := by
  unfold V hostOps0
  after_results_simp <;> rfl

/-- The host's norm weights as a column. -/
theorem V_v5 (c : Dev nD) : V m c main_v5 = shapeCast S128x1 (m ((c : Thread nD τ).loc main_arg4)) shapeCasts_S128_S128x1 := by
  unfold V hostOps0
  after_results_simp <;> rfl

theorem ix0 : ∀ t : Fin cfg0.N, win0_0.index t = ![t.val % 65, t.val / 65] := by
  have : ∀ t : Fin grid0.N, win0_0.index t = ![t.val % 65, t.val / 65] := by decide +kernel
  exact this
theorem ix1' : ∀ t : Fin cfg0.N, win0_1.index t = ![0, 8 + t.val / 65] := by
  have : ∀ t : Fin grid0.N, win0_1.index t = ![0, 8 + t.val / 65] := by decide +kernel
  exact this
theorem ix2' : ∀ t : Fin cfg0.N, win0_2.index t = ![t.val / 65, 0, 0, 0] := by
  have : ∀ t : Fin grid0.N, win0_2.index t = ![t.val / 65, 0, 0, 0] := by decide +kernel
  exact this
theorem ix3' : ∀ t : Fin cfg0.N, win0_3.index t = ![0, 0] := by
  have : ∀ t : Fin grid0.N, win0_3.index t = ![0, 0] := by decide +kernel
  exact this
theorem ix4' : ∀ t : Fin cfg0.N, win0_4.index t = ![0, 0] := by
  have : ∀ t : Fin grid0.N, win0_4.index t = ![0, 0] := by decide +kernel
  exact this
theorem ix5' : ∀ t : Fin cfg0.N, win0_5.index t = ![t.val % 65, t.val / 65] := by
  have : ∀ t : Fin grid0.N, win0_5.index t = ![t.val % 65, t.val / 65] := by decide +kernel
  exact this
theorem covers5 : (cfg0.win 5).Covers := by decide +kernel

theorem N520 (t : Fin cfg0.N) : t.val < 520 := lt_of_lt_of_eq t.isLt (show cfg0.N = 520 from N_0)

/-- A query block's element in the argument. -/
theorem iblk0 (c : Dev nD) (t : Fin cfg0.N) (r : Fin 256) (d : Fin 128) :
    iblk m c 0 t (ix2 r d) = m ((c : Thread nD τ).loc main_arg0)
      (ix2 ⟨256 * (t.val % 65) + r.val, by omega⟩ ⟨128 * (t.val / 65) + d.val, by have := N520 t; omega⟩) := by
  have := N520 t
  have he : (win0_0.blk t).view.emb (ix2 r d)
      = (ix2 ⟨256 * (t.val % 65) + r.val, by omega⟩ ⟨128 * (t.val / 65) + d.val, by omega⟩ : S16640x3072.Idx) := by
    blk_ext [ix0]
  blk_simp [iblk]
  rw [V_v1, he]
  pointwise
  rw [dif_pos (show 128 * (t.val / 65) + d.val < 1024 by omega)]

/-- A key block's element in the argument. -/
theorem iblk1 (c : Dev nD) (t : Fin cfg0.N) (r : Fin 16640) (d : Fin 128) :
    iblk m c 1 t (ix2 r d) = m ((c : Thread nD τ).loc main_arg1)
      (ix2 r ⟨128 * (t.val / 65) + d.val, by have := N520 t; omega⟩) := by
  have := N520 t
  have he : (win0_1.blk t).view.emb (ix2 r d)
      = (ix2 r ⟨1024 + (128 * (t.val / 65) + d.val), by omega⟩ : S16640x3072.Idx) := by
    blk_ext [ix1']
  blk_simp [iblk]
  rw [V_v1, he]
  pointwise
  exact dif_pos (show 128 * (t.val / 65) + d.val < 1024 by omega)

/-- The host's values at an index. -/
theorem V_v4_apply (c : Dev nD) (h : Fin 8) (b : Fin 65) (e : Fin 128) (j : Fin 256) :
    V m c main_v4 (ix4 h b e j : S8x65x128x256.Idx) = m ((c : Thread nD τ).loc main_arg2)
      (ix2 ⟨256 * b.val + j.val, by omega⟩ ⟨128 * h.val + e.val, by omega⟩) := by
  rw [V_v4]
  have ht : ∀ (X : FVec Ideal S8x65x128x256 .f32) i, truncf (F := Ideal) .bf16 X bitsLt_bf16_f32 i = X i := fun _ _ => rfl
  rw [ht]
  refine (transpose_apply (s := S65x256x8x128) (t := S8x65x128x256) [2, 0, 3, 1] _ transposes_S65x256x8x128_S8x65x128x256_2_0_3_1 (ix4 h b e j)
    (ix4 b j h e) (fun b => match b with
    | ⟨0, _⟩ => rfl
    | ⟨1, _⟩ => rfl
    | ⟨2, _⟩ => rfl
    | ⟨3, _⟩ => rfl)).trans ?_
  exact shapeCast_apply _ shapeCasts_S16640x1024_S65x256x8x128 _ _ (by
    rewrite [Shape.rowMajor_val_two, Shape.rowMajor_val_four]
    show (256 * b.val + j.val) * 1024 + (128 * h.val + e.val) = ((b.val * 256 + j.val) * 8 + h.val) * 128 + e.val
    omega)

/-- A value block's element in the argument. -/
theorem iblk2 (c : Dev nD) (t : Fin cfg0.N) (b : Fin 65) (e : Fin 128) (j : Fin 256) :
    iblk m c 2 t (ix4 0 b e j : S1x65x128x256.Idx) = m ((c : Thread nD τ).loc main_arg2)
      (ix2 ⟨256 * b.val + j.val, by omega⟩ ⟨128 * (t.val / 65) + e.val, by have := N520 t; omega⟩) := by
  have := N520 t
  have he : (win0_2.blk t).view.emb (ix4 0 b e j : S1x65x128x256.Idx)
      = (ix4 ⟨t.val / 65, by omega⟩ b e j : S8x65x128x256.Idx) := by
    blk_ext [ix2']
  refine Eq.trans ?_ (V_v4_apply m c ⟨t.val / 65, by omega⟩ b e j)
  exact congrArg (V m c main_v4) he

/-- The lambda vectors' block is the argument. -/
theorem iblk3 (c : Dev nD) (t : Fin cfg0.N) : iblk m c 3 t = m ((c : Thread nD τ).loc main_arg3) := by
  funext y
  have he : (win0_3.blk t).view.emb y = y := by
    blk_ext [ix3']
  blk_simp [iblk]
  rw [V_main_arg3, he]

/-- The norm weights' block is the argument, as a column. -/
theorem iblk4 (c : Dev nD) (t : Fin cfg0.N) (e : Fin 128) : iblk m c 4 t (ix2 e 0) = m ((c : Thread nD τ).loc main_arg4) (ix1 e) := by
  have he : (win0_4.blk t).view.emb (ix2 e 0) = (ix2 e 0 : S128x1.Idx) := by
    blk_ext [ix4']
  blk_simp [iblk]
  rw [V_v5, he]
  pointwise

/-- The output array. -/
theorem arr5 (c : Dev nD) (G : S16640x1024.Idx → EReal) (hG : ∀ (t : Fin cfg0.N) (r : Fin 256) (e : Fin 128),
    outT m c t (ix2 r e) = G (ix2 ⟨256 * (t.val % 65) + r.val, by omega⟩ ⟨128 * (t.val / 65) + e.val, by have := N520 t; omega⟩)) :
    (dats m 0 c).arrAt 5 cfg0.N = G := by
  refine (dats m 0 c).arrAt_eq_of_covers 5 _ covers5 fun t hf y => ?_
  blk_simp
  rw [after0_5]
  have := N520 t
  have hy : y = (ix2 (y 0) (y 1) : S256x128.Idx) := by
    funext a; fin_cases a <;> rfl
  have he : (win0_5.blk t).view.emb y
      = (ix2 ⟨256 * (t.val % 65) + (y 0).val, by have : (y 0).val < 256 := (y 0).isLt; omega⟩ ⟨128 * (t.val / 65) + (y 1).val, by have : (y 1).val < 128 := (y 1).isLt; omega⟩ : S16640x1024.Idx) := by
    blk_ext [ix5']
  rw [he]
  exact (congrArg (outT m c t) hy).trans (hG t (y 0) (y 1))

end Cert.KernelIdeal.Attn

end
-- ==== Proof.Eqn.lean ====
module

public import proofs.«01_k».proof.Proof.Base

@[expose] public section

noncomputable section

namespace Cert.KernelIdeal.Attn

open Cert.Attn Idealize.ShloMosaic

/-- Nought over nought. -/
theorem div00 : Ideal.div 0 0 = ⊥ := by simp [Ideal.div]

/-- A quotient of reals whose divisor is not nought is real. -/
theorem div_real (x : ℝ) {y : ℝ} (h : y ≠ 0) : Ideal.div (x : EReal) (y : EReal) = ((x / y : ℝ) : EReal) := by
  rw [Ideal.div_coe h, ← EReal.coe_mul, mul_one_div]

theorem two_ne : Ideal.ofBits .f32 0x43000000#32 = ((128 : ℝ) : EReal) := by
  simp [Ideal.ofBits, Ideal.ieee, -EReal.coe_mul]; norm_num

theorem eps_real : ∃ x : ℝ, Ideal.ofBits .f32 0x3727C5AC#32 = (x : EReal) := by
  refine ⟨10995116 / 2 ^ 40, ?_⟩
  simp [Ideal.ofBits, Ideal.ieee, -EReal.coe_mul]; norm_num

theorem init_real : ∃ x : ℝ, Ideal.ofBits .f32 0x3EB60549#32 = (x : EReal) := by
  refine ⟨11928905 / 2 ^ 25, ?_⟩
  simp [Ideal.ofBits, Ideal.ieee, -EReal.coe_mul]; norm_num

/-- A row of infinities and noughts is normed to noughts. -/
theorem normed_inf (o : Fin 128 → EReal) (W : EReal) (e : Fin 128) (h : ∀ e, o e = ⊤ ∨ o e = ⊥ ∨ o e = 0) : normed o W e = 0 := by
  unfold normed
  by_cases h0 : ∀ e, o e = 0
  · rw [h0 e]; simp
  · push Not at h0
    obtain ⟨e₀, he₀⟩ := h0
    have hsq : ∀ e, 0 ≤ o e * o e := fun e => by
      rcases h e with h | h | h <;> rw [h] <;> simp
    have ht : (∑ e', o e' * o e') = ⊤ := by
      refine top_le_iff.mp (le_trans (le_of_eq ?_) (Finset.single_le_sum (fun e _ => hsq e) (Finset.mem_univ e₀)))
      rcases h e₀ with h | h | h
      · rw [h]; simp
      · rw [h]; simp
      · exact absurd h he₀
    obtain ⟨x, hx⟩ := eps_real
    rw [ht, two_ne, hx, Ideal.div_coe (by norm_num), EReal.top_mul_coe_of_pos (by norm_num), EReal.top_add_coe]
    simp

theorem sum_ereal (N : ℕ) (f : ℕ → EReal) (h : ∀ j, f j = ⊤ ∨ f j = ⊥ ∨ f j = 0) :
    (∑ j ∈ Finset.range N, f j) = ⊤ ∨ (∑ j ∈ Finset.range N, f j) = ⊥ ∨ (∑ j ∈ Finset.range N, f j) = 0 := by
  induction N with
  | zero => simp
  | succ N ih =>
    rw [Finset.sum_range_succ]
    rcases ih with i | i | i <;> rcases h N with k | k | k <;> rw [i, k] <;> simp

theorem mul_inf (x : ℝ) {y : EReal} (h : y = ⊤ ∨ y = ⊥) : (x : EReal) * y = ⊤ ∨ (x : EReal) * y = ⊥ ∨ (x : EReal) * y = 0 := by
  rcases lt_trichotomy x 0 with hx | hx | hx
  · rcases h with rfl | rfl
    · rw [EReal.coe_mul_top_of_neg hx]; simp
    · rw [EReal.coe_mul_bot_of_neg hx]; simp
  · subst hx; simp
  · rcases h with rfl | rfl
    · rw [EReal.coe_mul_top_of_pos hx]; simp
    · rw [EReal.coe_mul_bot_of_pos hx]; simp

/-- The two maps' weighted means, their difference normed, are the normed weighted mean of the maps' difference. -/
theorem core (N : ℕ) (u w : ℕ → ℝ) (hu : ∀ j, 0 ≤ u j) (hw : ∀ j, 0 ≤ w j) (v : Fin 128 → ℕ → ℝ) (lam : ℝ) (W : EReal) (e : Fin 128) :
    normed (fun e => oo lam ((∑ j ∈ Finset.range N, u j * v e j : ℝ) : EReal) ((∑ j ∈ Finset.range N, u j : ℝ) : EReal)
        ((∑ j ∈ Finset.range N, w j * v e j : ℝ) : EReal) ((∑ j ∈ Finset.range N, w j : ℝ) : EReal)) W e
      = normed (fun e => ∑ j ∈ Finset.range N, (v e j : EReal) * (Ideal.div (u j : EReal) ((∑ j ∈ Finset.range N, u j : ℝ) : EReal)
          - lam * Ideal.div (w j : EReal) ((∑ j ∈ Finset.range N, w j : ℝ) : EReal))) W e := by
  have hz : ∀ (u : ℕ → ℝ), (∀ j, 0 ≤ u j) → (∑ j ∈ Finset.range N, u j) = 0 → ∀ j ∈ Finset.range N, u j = 0 := fun u hu h =>
    (Finset.sum_eq_zero_iff_of_nonneg fun j _ => hu j).mp h
  have hza : ∀ (u : ℕ → ℝ) (e), (∀ j ∈ Finset.range N, u j = 0) → (∑ j ∈ Finset.range N, u j * v e j) = 0 := fun u e h =>
    Finset.sum_eq_zero fun j hj => by rw [h j hj, zero_mul]
  -- both sides are noughts when the weights' differences are one infinity
  have hinf : ∀ {y : EReal}, (y = ⊤ ∨ y = ⊥) →
      (∀ e, oo lam ((∑ j ∈ Finset.range N, u j * v e j : ℝ) : EReal) ((∑ j ∈ Finset.range N, u j : ℝ) : EReal)
        ((∑ j ∈ Finset.range N, w j * v e j : ℝ) : EReal) ((∑ j ∈ Finset.range N, w j : ℝ) : EReal) = y) →
      (∀ j ∈ Finset.range N, (Ideal.div (u j : EReal) ((∑ j ∈ Finset.range N, u j : ℝ) : EReal)
          - lam * Ideal.div (w j : EReal) ((∑ j ∈ Finset.range N, w j : ℝ) : EReal)) = y) →
      normed (fun e => oo lam ((∑ j ∈ Finset.range N, u j * v e j : ℝ) : EReal) ((∑ j ∈ Finset.range N, u j : ℝ) : EReal)
        ((∑ j ∈ Finset.range N, w j * v e j : ℝ) : EReal) ((∑ j ∈ Finset.range N, w j : ℝ) : EReal)) W e
      = normed (fun e => ∑ j ∈ Finset.range N, (v e j : EReal) * (Ideal.div (u j : EReal) ((∑ j ∈ Finset.range N, u j : ℝ) : EReal)
          - lam * Ideal.div (w j : EReal) ((∑ j ∈ Finset.range N, w j : ℝ) : EReal))) W e := by
    intro y hy h1 h2
    rw [normed_inf _ W e fun e => by rw [h1 e]; rcases hy with h | h <;> simp [h]]
    refine (normed_inf _ W e fun e => ?_).symm
    rw [Finset.sum_congr rfl fun j hj => by rw [h2 j hj]]
    exact sum_ereal N _ fun j => mul_inf _ hy
  by_cases h0 : (∑ j ∈ Finset.range N, u j) = 0
  · have hu0 := hz u hu h0
    refine hinf (y := ⊥) (.inr rfl) (fun e => ?_) fun j hj => ?_
    · rw [h0, hza u e hu0, oo, EReal.coe_zero, div00, sub_eq_add_neg, EReal.bot_add]
    · rw [h0, hu0 j hj, EReal.coe_zero, div00, sub_eq_add_neg, EReal.bot_add]
  · by_cases h1 : (∑ j ∈ Finset.range N, w j) = 0
    · have hw0 := hz w hw h1
      rcases lt_trichotomy lam 0 with hl | hl | hl
      · refine hinf (y := ⊥) (.inr rfl) (fun e => ?_) fun j hj => ?_
        · rw [h1, hza w e hw0, oo, EReal.coe_zero, div00, EReal.coe_mul_bot_of_neg hl, sub_eq_add_neg, EReal.neg_top, EReal.add_bot]
        · rw [h1, hw0 j hj, EReal.coe_zero, div00, EReal.coe_mul_bot_of_neg hl, sub_eq_add_neg, EReal.neg_top, EReal.add_bot]
      · subst hl
        congr 1
        funext e
        rw [h1, hza w e hw0, oo, EReal.coe_zero, div00, zero_mul, sub_zero, div_real _ h0, Finset.sum_div, coe_sum_range]
        refine Finset.sum_congr rfl fun j hj => ?_
        rw [hw0 j hj, zero_mul, sub_zero, div_real _ h0, ← EReal.coe_mul]
        congr 1; ring
      · refine hinf (y := ⊤) (.inl rfl) (fun e => ?_) fun j hj => ?_
        · rw [h1, hza w e hw0, oo, EReal.coe_zero, div00, EReal.coe_mul_bot_of_pos hl, sub_eq_add_neg, EReal.neg_bot, div_real _ h0, EReal.coe_add_top]
        · rw [h1, hw0 j hj, EReal.coe_zero, div00, EReal.coe_mul_bot_of_pos hl, sub_eq_add_neg, EReal.neg_bot, div_real _ h0, EReal.coe_add_top]
    · congr 1
      funext e
      rw [oo, div_real _ h0, div_real _ h1, ← EReal.coe_mul, ← EReal.coe_sub, Finset.sum_div, Finset.sum_div, Finset.mul_sum,
        ← Finset.sum_sub_distrib, coe_sum_range]
      refine Finset.sum_congr rfl fun j hj => ?_
      rw [div_real _ h0, div_real _ h1, ← EReal.coe_mul, ← EReal.coe_sub, ← EReal.coe_mul]
      congr 1; ring

/-! ## The kernel's weights are the softmax's -/

/-- Multiplying by a positive real keeps the order. -/
theorem mono_mul {c : ℝ} (hc : 0 < c) : Monotone fun x : EReal => (c : EReal) * x := fun x y h =>
  mul_le_mul_of_nonneg_left h (by exact_mod_cast hc.le)

/-- The greatest of the scaled scores is the scaled greatest score. -/
theorem mx_mul {c : ℝ} (hc : 0 < c) (s : ℕ → EReal) (n : ℕ) : mx (fun j => (c : EReal) * s j) n = (c : EReal) * mx s n := by
  induction n with
  | zero => rw [mx_zero, mx_zero, EReal.coe_mul_bot_of_pos hc]
  | succ n ih =>
    unfold mx at *
    rw [Finset.range_add_one, Finset.sup_insert, Finset.sup_insert, ih]
    exact ((mono_mul hc).map_max (a := s n) (b := (Finset.range n).sup s)).symm

/-- Two to the power of a scaled difference is the exponential of the difference scaled with the logarithm of two. -/
theorem exp_eq {x M : EReal} (h : x ≤ M) :
    Ideal.exp (((8⁻¹ : ℝ) : EReal) * x - ((8⁻¹ : ℝ) : EReal) * M)
      = ((wt (((8⁻¹ * (Real.log 2)⁻¹ : ℝ) : EReal) * x) (((8⁻¹ * (Real.log 2)⁻¹ : ℝ) : EReal) * M) : ℝ) : EReal) := by
  have hl : 0 < Real.log 2 := Real.log_pos (by norm_num)
  have hc : (0 : ℝ) < 8⁻¹ * (Real.log 2)⁻¹ := by positivity
  rw [← exp2_eq_wt (show ((8⁻¹ * (Real.log 2)⁻¹ : ℝ) : EReal) * x ≤ ((8⁻¹ * (Real.log 2)⁻¹ : ℝ) : EReal) * M from mono_mul hc h)]
  induction M with
  | top =>
    rw [EReal.coe_mul_top_of_pos hc, EReal.coe_mul_top_of_pos (by norm_num), sub_eq_add_neg, sub_eq_add_neg, EReal.neg_top, EReal.add_bot, EReal.add_bot]; simp
  | bot =>
    rw [le_bot_iff.mp h, EReal.coe_mul_bot_of_pos hc, EReal.coe_mul_bot_of_pos (by norm_num), sub_eq_add_neg, EReal.bot_add]; simp
  | coe M =>
    induction x with
    | top => exact absurd h (by simp)
    | bot =>
      rw [EReal.coe_mul_bot_of_pos hc, EReal.coe_mul_bot_of_pos (by norm_num), sub_eq_add_neg, sub_eq_add_neg, EReal.bot_add, EReal.bot_add]; simp
    | coe x =>
      rw [← EReal.coe_mul, ← EReal.coe_mul, ← EReal.coe_mul, ← EReal.coe_mul, ← EReal.coe_sub, ← EReal.coe_sub, Ideal.exp2_coe, Ideal.exp_coe]
      congr 1
      refine Eq.trans ?_ (Real.rpow_def_of_pos (by norm_num : (0 : ℝ) < 2) _).symm
      congr 1
      field_simp

/-- A positive real multiplies out of a sum. -/
theorem coe_mul_sum {c : ℝ} (hc : 0 ≤ c) {ι : Type} (s : Finset ι) (f : ι → EReal) : (c : EReal) * ∑ d ∈ s, f d = ∑ d ∈ s, (c : EReal) * f d := by
  classical
  induction s using Finset.induction_on with
  | empty => simp
  | insert a s ha ih =>
    rw [Finset.sum_insert ha, Finset.sum_insert ha, EReal.left_distrib_of_nonneg_of_ne_top (by exact_mod_cast hc) (EReal.coe_ne_top c), ih]

end Cert.KernelIdeal.Attn

end
-- ==== Proof.Val.lean ====
module

public import proofs.«01_k».proof.Proof.Arr
public import proofs.«01_k».proof.Proof.Eqn

@[expose] public section

set_option maxRecDepth 16384

noncomputable section

namespace Cert.KernelIdeal.Attn

open Cert.KernelIdeal Cert.KernelIdeal.Gen Cert.Attn
open Idealize.ShloMosaic Idealize.ShloMosaic.TcCoe Idealize.ShloMosaic.Tactic Idealize.SL.Sem
open Idealize.ShloMosaic.Pipeline (Dat)

/-! ## The specification, of the argument arrays -/

/-- Query `i`'s product with key `j`, in map `p` of head `h`. -/
def dotS (A0 A1 : S16640x1024.Idx → EReal) (i : Fin 16640) (h : Fin 8) (p : Fin 2) (j : ℕ) : EReal :=
  if hj : j < 16640 then ∑ d : Fin 64, A0 (ix2 i ⟨128 * h.val + 64 * p.val + d.val, by omega⟩) * A1 (ix2 ⟨j, hj⟩ ⟨128 * h.val + 64 * p.val + d.val, by omega⟩) else 0

/-- Value `j`'s feature `e` in head `h`, as a real number. -/
def valR (A2 : S16640x1024.Idx → EReal) (h : Fin 8) (e : Fin 128) (j : ℕ) : ℝ :=
  if hj : j < 16640 then (A2 (ix2 ⟨j, hj⟩ ⟨128 * h.val + e.val, by omega⟩)).toReal else 0

/-- The softmax of an eighth of the first `N` products. -/
def sm (D : ℕ → EReal) (N : ℕ) (j : ℕ) : EReal :=
  Ideal.div (Ideal.exp (((8⁻¹ : ℝ) : EReal) * D j - ((8⁻¹ : ℝ) : EReal) * mx D N))
    (∑ k ∈ Finset.range N, Ideal.exp (((8⁻¹ : ℝ) : EReal) * D k - ((8⁻¹ : ℝ) : EReal) * mx D N))

/-- The differential attention of query `i` in head `h` over the first `N` keys, normed, at feature `e`. -/
def spec (A0 A1 A2 : S16640x1024.Idx → EReal) (L : S4x64.Idx → EReal) (W : S128.Idx → EReal) (N : ℕ) (i : Fin 16640) (h : Fin 8) (e : Fin 128) : EReal :=
  normed (fun e => ∑ j ∈ Finset.range N, (valR A2 h e j : EReal) * (sm (dotS A0 A1 i h 0) N j - lamF L * sm (dotS A0 A1 i h 1) N j)) (W (ix1 e)) e

/-- Lambda is a real number when its vectors are. -/
theorem lamF_real (L : S4x64.Idx → EReal) (hL : ∀ i, L i = ((L i).toReal : EReal)) : ∃ x : ℝ, lamF L = (x : EReal) := by
  obtain ⟨y, hy⟩ := init_real
  have hs : ∀ a b : Fin 4, (∑ d : Fin 64, L (ix2 a d) * L (ix2 b d)) = ((∑ d : Fin 64, (L (ix2 a d)).toReal * (L (ix2 b d)).toReal : ℝ) : EReal) := by
    intro a b
    have hc : ∀ (s : Finset (Fin 64)) (f : Fin 64 → ℝ), ((∑ d ∈ s, f d : ℝ) : EReal) = ∑ d ∈ s, (f d : EReal) := fun s f => by
      induction s using Finset.induction_on with
      | empty => simp
      | insert a s ha ih => rw [Finset.sum_insert ha, Finset.sum_insert ha, EReal.coe_add, ih]
    rw [hc]
    refine Finset.sum_congr rfl fun d _ => ?_
    rw [EReal.coe_mul, ← hL, ← hL]
  unfold lamF
  rw [hs, hs, hy, Ideal.exp_coe, Ideal.exp_coe, ← EReal.coe_sub, ← EReal.coe_add]
  exact ⟨_, rfl⟩

/-- The kernel's weighted means are the softmax's. -/
theorem kern_spec (D0 D1 : ℕ → EReal) (N : ℕ) (v : Fin 128 → ℕ → ℝ) (lam : ℝ) (W : EReal) (e : Fin 128) :
    normed (fun e => oo lam ((av (fun j => ((8⁻¹ * (Real.log 2)⁻¹ : ℝ) : EReal) * D0 j) (v e) N : ℝ) : EReal)
        ((ls (fun j => ((8⁻¹ * (Real.log 2)⁻¹ : ℝ) : EReal) * D0 j) N : ℝ) : EReal)
        ((av (fun j => ((8⁻¹ * (Real.log 2)⁻¹ : ℝ) : EReal) * D1 j) (v e) N : ℝ) : EReal)
        ((ls (fun j => ((8⁻¹ * (Real.log 2)⁻¹ : ℝ) : EReal) * D1 j) N : ℝ) : EReal)) W e
      = normed (fun e => ∑ j ∈ Finset.range N, (v e j : EReal) * (sm D0 N j - lam * sm D1 N j)) W e := by
  have hl : 0 < Real.log 2 := Real.log_pos (by norm_num)
  have hc : (0 : ℝ) < 8⁻¹ * (Real.log 2)⁻¹ := by positivity
  have hs : ∀ (D : ℕ → EReal), ∀ j ∈ Finset.range N, sm D N j
      = Ideal.div ((wt (((8⁻¹ * (Real.log 2)⁻¹ : ℝ) : EReal) * D j) (((8⁻¹ * (Real.log 2)⁻¹ : ℝ) : EReal) * mx D N) : ℝ) : EReal)
        ((∑ j ∈ Finset.range N, wt (((8⁻¹ * (Real.log 2)⁻¹ : ℝ) : EReal) * D j) (((8⁻¹ * (Real.log 2)⁻¹ : ℝ) : EReal) * mx D N) : ℝ) : EReal) := by
    intro D j hj
    rw [sm, exp_eq (le_mx D (Finset.mem_range.mp hj)), coe_sum_range]
    congr 1
    exact Finset.sum_congr rfl fun k hk => exp_eq (le_mx D (Finset.mem_range.mp hk))
  unfold av ls
  rw [mx_mul hc, mx_mul hc]
  rw [core N _ _ (fun j => wt_nonneg _ _) (fun j => wt_nonneg _ _) v lam W e]
  congr 1
  funext e
  refine Finset.sum_congr rfl fun j hj => ?_
  rw [hs D0 j hj, hs D1 j hj]

/-! ## A block's scores and values -/

theorem qs_eq : (Named.named (F := Ideal) (φ := .f32) Cert.KernelIdeal.κ "qs" 0x3E38AA3B#32 : EReal) = ((8⁻¹ * (Real.log 2)⁻¹ : ℝ) : EReal) :=
  IdealRules.named_const.ideal_named_scalar _ _ _ _ rfl

theorem lane_lt : ∀ d : Fin 128, IntOp.cmpi CmpIPredicate.slt (BitVec.ofNat 32 d.val) 64#32 = if d.val < 64 then 1#1 else 0#1 := by decide +kernel
theorem lane_ge : ∀ d : Fin 128, IntOp.cmpi CmpIPredicate.sge (BitVec.ofNat 32 d.val) 64#32 = if d.val < 64 then 0#1 else 1#1 := by decide +kernel

/-- The first map's queries: scaled, the second map's lanes cleared. -/
theorem pay91_apply (x0 : Vec Ideal S256x128 .bf16) (r : Fin 256) (d : Fin 128) :
    k0_pay91 x0 (ix2 r d) = if d.val < 64 then x0 (ix2 r d) * ((8⁻¹ * (Real.log 2)⁻¹ : ℝ) : EReal) else 0 := by
  unfold k0_pay91 k0_pay89 k0_pay90
  pointwise
  rw [lane_lt, qs_eq]
  split <;> rfl

/-- The second map's queries. -/
theorem pay92_apply (x0 : Vec Ideal S256x128 .bf16) (r : Fin 256) (d : Fin 128) :
    k0_pay92 x0 (ix2 r d) = if d.val < 64 then 0 else x0 (ix2 r d) * ((8⁻¹ * (Real.log 2)⁻¹ : ℝ) : EReal) := by
  unfold k0_pay92 k0_pay89 k0_pay90
  pointwise
  rw [lane_ge, qs_eq]
  split <;> rfl

theorem sum_halves (f : Fin 128 → EReal) : (∑ d, f d) = (∑ d : Fin 64, f ⟨d.val, by omega⟩) + ∑ d : Fin 64, f ⟨64 + d.val, by omega⟩ :=
  Fin.sum_univ_add (a := 64) (b := 64) f

/-- The first map's scores of a block. -/
theorem score91 (x0 : Vec Ideal S256x128 .bf16) (x1 : Vec Ideal S16640x128 .bf16) (r : Fin 256) (j : ℕ) :
    scoreS (k0_pay91 x0) x1 r j = ((8⁻¹ * (Real.log 2)⁻¹ : ℝ) : EReal) * (if h : j < 16640 then ∑ d : Fin 64, x0 (ix2 r ⟨d.val, by omega⟩) * x1 (ix2 ⟨j, h⟩ ⟨d.val, by omega⟩) else 0) := by
  have hc : (0 : ℝ) ≤ 8⁻¹ * (Real.log 2)⁻¹ := by have : 0 < Real.log 2 := Real.log_pos (by norm_num); positivity
  unfold scoreS
  split
  · rw [coe_mul_sum hc, sum_halves]
    have h2 : (∑ d : Fin 64, x1 (ix2 ⟨j, by assumption⟩ ⟨64 + d.val, by omega⟩) * k0_pay91 x0 (ix2 r ⟨64 + d.val, by omega⟩)) = 0 :=
      Finset.sum_eq_zero fun d _ => by rw [pay91_apply, if_neg (by simp), mul_zero]
    rw [h2, add_zero]
    refine Finset.sum_congr rfl fun d _ => ?_
    rw [pay91_apply, if_pos (by simp)]
    rw [mul_comm, mul_comm (x0 _) _, mul_assoc]
  · simp

/-- The second map's scores of a block. -/
theorem score92 (x0 : Vec Ideal S256x128 .bf16) (x1 : Vec Ideal S16640x128 .bf16) (r : Fin 256) (j : ℕ) :
    scoreS (k0_pay92 x0) x1 r j = ((8⁻¹ * (Real.log 2)⁻¹ : ℝ) : EReal) * (if h : j < 16640 then ∑ d : Fin 64, x0 (ix2 r ⟨64 + d.val, by omega⟩) * x1 (ix2 ⟨j, h⟩ ⟨64 + d.val, by omega⟩) else 0) := by
  have hc : (0 : ℝ) ≤ 8⁻¹ * (Real.log 2)⁻¹ := by have : 0 < Real.log 2 := Real.log_pos (by norm_num); positivity
  unfold scoreS
  split
  · rw [coe_mul_sum hc, sum_halves]
    have h2 : (∑ d : Fin 64, x1 (ix2 ⟨j, by assumption⟩ ⟨d.val, by omega⟩) * k0_pay92 x0 (ix2 r ⟨d.val, by omega⟩)) = 0 :=
      Finset.sum_eq_zero fun d _ => by rw [pay92_apply, if_pos (by simp), mul_zero]
    rw [h2, zero_add]
    refine Finset.sum_congr rfl fun d _ => ?_
    rw [pay92_apply, if_neg (by simp)]
    rw [mul_comm, mul_comm (x0 _) _, mul_assoc]
  · simp

/-- A block's values are the array's. -/
theorem valV_eq (x2 : Vec Ideal S1x65x128x256 .bf16) (A2 : S16640x1024.Idx → EReal) (h : Fin 8)
    (H : ∀ (b : Fin 65) (e : Fin 128) (j : Fin 256), x2 (ix4 0 b e j) = A2 (ix2 ⟨256 * b.val + j.val, by omega⟩ ⟨128 * h.val + e.val, by omega⟩)) (e : Fin 128) :
    valV x2 e = valR A2 h e := by
  funext j
  unfold valV valR
  split
  · rw [H]
    exact congrArg (fun k => (A2 (ix2 k ⟨128 * h.val + e.val, by omega⟩)).toReal) (Fin.ext (by show 256 * (j / 256) + j % 256 = j; omega))
  · rfl

variable (m : (ℓ : Loc nD τ sig) → Buf (Elt Ideal) ℓ) (ρ : Dev nD → PrngReg)

/-- The argument arrays. -/
abbrev a0 (c : Dev nD) : S16640x1024.Idx → EReal := m ((c : Thread nD τ).loc main_arg0)
abbrev a1 (c : Dev nD) : S16640x1024.Idx → EReal := m ((c : Thread nD τ).loc main_arg1)
abbrev a2 (c : Dev nD) : S16640x1024.Idx → EReal := m ((c : Thread nD τ).loc main_arg2)
abbrev a3 (c : Dev nD) : S4x64.Idx → EReal := m ((c : Thread nD τ).loc main_arg3)
abbrev a4 (c : Dev nD) : S128.Idx → EReal := m ((c : Thread nD τ).loc main_arg4)

/-- What the kernel leaves in a block is the specification. -/
theorem out_spec (c : Dev nD) (h3 : ∀ i, a3 m c i = ((a3 m c i).toReal : EReal)) (t : Fin cfg0.N) (r : Fin 256) (e : Fin 128) :
    outT m c t (ix2 r e) = spec (a0 m c) (a1 m c) (a2 m c) (a3 m c) (a4 m c) (if t.val % 65 = 0 then 256 else 16640)
      ⟨256 * (t.val % 65) + r.val, by omega⟩ ⟨t.val / 65, by have := N520 t; omega⟩ e := by
  have := N520 t
  obtain ⟨lam, hlam⟩ := lamF_real _ h3
  show outB _ _ _ _ _ _ r e = _
  unfold outB spec
  rw [iblk3, iblk4, hlam, ← kern_spec]
  have hs0 : scoreS (k0_pay91 (iblk m c 0 t)) (iblk m c 1 t) r = fun j => ((8⁻¹ * (Real.log 2)⁻¹ : ℝ) : EReal) *
      dotS (a0 m c) (a1 m c) ⟨256 * (t.val % 65) + r.val, by omega⟩ ⟨t.val / 65, by omega⟩ 0 j := by
    funext j
    rw [score91, dotS]
    by_cases hj : j < 16640
    · rw [dif_pos hj, dif_pos hj]
      refine congrArg (_ * ·) (Finset.sum_congr rfl fun d _ => ?_)
      rw [iblk0, iblk1]
      refine congrArg₂ (· * ·) (congrArg _ (congrArg (ix2 _) (Fin.ext ?_))) (congrArg _ (congrArg (ix2 _) (Fin.ext ?_))) <;>
        (show 128 * (t.val / 65) + d.val = 128 * (t.val / 65) + 64 * 0 + d.val; omega)
    · rw [dif_neg hj, dif_neg hj]
  have hs1 : scoreS (k0_pay92 (iblk m c 0 t)) (iblk m c 1 t) r = fun j => ((8⁻¹ * (Real.log 2)⁻¹ : ℝ) : EReal) *
      dotS (a0 m c) (a1 m c) ⟨256 * (t.val % 65) + r.val, by omega⟩ ⟨t.val / 65, by omega⟩ 1 j := by
    funext j
    rw [score92, dotS]
    by_cases hj : j < 16640
    · rw [dif_pos hj, dif_pos hj]
      refine congrArg (_ * ·) (Finset.sum_congr rfl fun d _ => ?_)
      rw [iblk0, iblk1]
      refine congrArg₂ (· * ·) (congrArg _ (congrArg (ix2 _) (Fin.ext ?_))) (congrArg _ (congrArg (ix2 _) (Fin.ext ?_))) <;>
        (show 128 * (t.val / 65) + (64 + d.val) = 128 * (t.val / 65) + 64 * 1 + d.val; omega)
    · rw [dif_neg hj, dif_neg hj]
  have hv : ∀ e, valV (iblk m c 2 t) e = valR (a2 m c) ⟨t.val / 65, by omega⟩ e := by
    intro e
    have H : ∀ (b : Fin 65) (e : Fin 128) (j : Fin 256), (iblk m c 2 t : Vec Ideal S1x65x128x256 .bf16) (ix4 0 b e j) = a2 m c (ix2 ⟨256 * b.val + j.val, by omega⟩ ⟨128 * (t.val / 65) + e.val, by omega⟩) := by
      intro b e j
      exact iblk2 m c t b e j
    exact valV_eq (iblk m c 2 t) (a2 m c) ⟨t.val / 65, by omega⟩ H e
  simp only [hs0, hs1, hv]

/-- The values' blocks are real when the values are. -/
theorem hfin_of (c : Dev nD) (h2 : ∀ i, a2 m c i = ((a2 m c i).toReal : EReal)) (t : Fin cfg0.N) (y) :
    iblk m c 2 t y = ((iblk m c 2 t y).toReal : EReal) := by
  have hy : y = (ix4 0 (y 1) (y 2) (y 3) : S1x65x128x256.Idx) := by
    funext a; fin_cases a
    · exact Fin.ext (by have : (y 0).val < 1 := (y 0).isLt; show (y 0).val = 0; omega)
    all_goals rfl
  have e := iblk2 m c t (y 1) (y 2) (y 3)
  rw [hy, e]
  exact h2 _

/-- The result array is the specification: the context's queries over the context's keys, the others over every key. -/
theorem arr_spec (c : Dev nD) (h3 : ∀ i, a3 m c i = ((a3 m c i).toReal : EReal)) :
    (dats m 0 c).arrAt 5 cfg0.N = fun i : S16640x1024.Idx => spec (a0 m c) (a1 m c) (a2 m c) (a3 m c) (a4 m c) (if (i 0).val < 256 then 256 else 16640)
      (i 0) ⟨(i 1).val / 128, by have : (i 1).val < 1024 := (i 1).isLt; omega⟩ ⟨(i 1).val % 128, Nat.mod_lt _ (by omega)⟩ := by
  refine arr5 m c _ fun t r e => ?_
  have := N520 t
  rw [out_spec m c h3]
  have e1 : (if t.val % 65 = 0 then 256 else 16640) = if 256 * (t.val % 65) + r.val < 256 then 256 else 16640 := by
    by_cases h : t.val % 65 = 0
    · rw [if_pos h, if_pos (by omega)]
    · rw [if_neg h, if_neg (by omega)]
  have e2 : (⟨t.val / 65, by omega⟩ : Fin 8) = ⟨(128 * (t.val / 65) + e.val) / 128, by omega⟩ := Fin.ext (by simp; omega)
  have e3 : e = ⟨(128 * (t.val / 65) + e.val) % 128, Nat.mod_lt _ (by omega)⟩ := Fin.ext (by simp; omega)
  rw [e1]
  exact congrArg₂ (spec _ _ _ _ _ _ _) e2 e3

/-- The kernel's run, read: the result at the specification, the arguments unchanged. -/
theorem run_spec (h2 : ∀ c i, a2 m c i = ((a2 m c i).toReal : EReal)) (h3 : ∀ c i, a3 m c i = ((a3 m c i).toReal : EReal)) :
    θ_run defs (onTc (τ := τ) (main (F := Ideal))) ⟨m, fun _ => 0, ρ⟩ fun r => ∀ c : Dev nD,
      r.2.mem ((c : Thread nD τ).loc main_v6) = (fun i : S16640x1024.Idx => spec (a0 m c) (a1 m c) (a2 m c) (a3 m c) (a4 m c) (if (i 0).val < 256 then 256 else 16640)
        (i 0) ⟨(i 1).val / 128, by have : (i 1).val < 1024 := (i 1).isLt; omega⟩ ⟨(i 1).val % 128, Nat.mod_lt _ (by omega)⟩)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (arr_spec m c (h3 c)), (h c).2⟩)
    (run_blocks m ρ fun c t y => hfin_of m c (h2 c) t y)

end Cert.KernelIdeal.Attn

end
-- ==== Proof.RefA.lean ====
module

public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe Idealize.ShloMosaic.StableHlo

variable (x0 x1 x2 : S16640x1024.Idx → EReal) (x3 : S4x64.Idx → EReal) (x4 : S128.Idx → EReal)

/-- The context: a query at its argument. -/
theorem q_ctx (q : Fin 256) (g : Fin 16) (d : Fin 64) :
    val_main_v19 (F := Ideal) x0 (ix3 q g d) = x0 (ix2 ⟨q.val, by omega⟩ ⟨64 * g.val + d.val, by omega⟩) := by
  unfold val_main_v19 val_main_v16
  pointwise
  exact congrArg x0 (congrArg₂ ix2 (Fin.ext (by try dsimp only
                                                try omega)) (Fin.ext (by try dsimp only
                                                                         omega)))

/-- The context: a key at its argument. -/
theorem k_ctx (k : Fin 256) (g : Fin 16) (d : Fin 64) :
    val_main_v20 (F := Ideal) x1 (ix3 k g d) = x1 (ix2 ⟨k.val, by omega⟩ ⟨64 * g.val + d.val, by omega⟩) := by
  unfold val_main_v20 val_main_v17
  pointwise
  exact congrArg x1 (congrArg₂ ix2 (Fin.ext (by try dsimp only
                                                try omega)) (Fin.ext (by try dsimp only
                                                                         omega)))

/-- The context: a value at its argument. -/
theorem v_ctx (k : Fin 256) (h : Fin 8) (e : Fin 128) :
    val_main_v21 (F := Ideal) x2 (ix3 k h e) = x2 (ix2 ⟨k.val, by omega⟩ ⟨128 * h.val + e.val, by omega⟩) := by
  unfold val_main_v21 val_main_v18
  pointwise
  exact congrArg x2 (congrArg₂ ix2 (Fin.ext (by try dsimp only
                                                try omega)) (Fin.ext (by try dsimp only
                                                                         omega)))

/-- The context: a score. -/
theorem s_ctx (g : Fin 16) (q : Fin 256) (k : Fin 256) :
    val_main_v24 (F := Ideal) x0 x1 (ix3 g q k) = (∑ d : Fin 64, val_main_v19 (F := Ideal) x0 (ix3 q g d) * val_main_v20 (F := Ideal) x1 (ix3 k g d)) * Ideal.ofBits .f32 0x3E000000#32 := by
  unfold val_main_v24 val_main_v23 val_main_v22 val_main_cst_2
  pointwise

/-- The context: the greatest of a query's scores, folded. -/
theorem f_ctx (g : Fin 16) (q : Fin 256) :
    val_main_v25 (F := Ideal) x0 x1 (ix2 g q) = (Finset.univ : Finset (Fin 256)).fold max ⊥ fun k => val_main_v24 (F := Ideal) x0 x1 (ix3 g q k) := by
  have hb : val_main_cst_3 (F := Ideal) (Shape.Idx.first h_S_) = ⊥ := by
    rw [val_main_cst_3_apply]
    show Ideal.ofBits .f32 0xFF800000#32 = ⊥
    simp [Ideal.ofBits, Ideal.ieee]
  unfold val_main_v25
  generalize val_main_v24 (F := Ideal) x0 x1 = y
  refine (Host.reduce_eq_fold_single _ y _ reducesTo_S16x256x256_S16x256_d2 (by decide) h_S_ (ix2 g q)).trans ?_
  rw [hb]
  exact congrArg (Finset.fold max ⊥ · Finset.univ) (funext fun k => congrArg y (funext fun a => Fin.ext (by match a with | ⟨0, _⟩ => rfl | ⟨1, _⟩ => rfl | ⟨2, _⟩ => rfl)))

/-- The context: the greatest of a query's scores. -/
theorem m_ctx (g : Fin 16) (q : Fin 256) :
    val_main_v27 (F := Ideal) x0 x1 (ix2 g q) = Finset.univ.sup fun k : Fin 256 => val_main_v24 (F := Ideal) x0 x1 (ix3 g q k) := by
  rw [val_main_v27_apply, f_ctx, val_main_v26_apply, val_main_cst_4_apply]
  have hb : FloatOps.ofBits (F := Ideal) .f32 0xFF800000#32 = (⊥ : EReal) := by
    show Ideal.ofBits .f32 0xFF800000#32 = ⊥
    simp [Ideal.ofBits, Ideal.ieee]
  rw [hb]
  exact (max_eq_right bot_le).trans rfl

/-- The context: a score's exponential. -/
theorem x_ctx (g : Fin 16) (q : Fin 256) (k : Fin 256) :
    val_main_v31 (F := Ideal) x0 x1 (ix3 g q k)
      = Ideal.exp (val_main_v24 (F := Ideal) x0 x1 (ix3 g q k) - val_main_v27 (F := Ideal) x0 x1 (ix2 g q)) := by
  rw [val_main_v31_apply, val_main_v30_apply, val_main_v29_apply, val_main_v28_apply]
  have hi : idx_main_v28 (idx_main_v29 (ix3 g q k)) = ix2 g q := by funext a; fin_cases a <;> rfl
  rw [hi]
  rfl

/-- The context: a softmax weight. -/
theorem p_ctx (g : Fin 16) (q : Fin 256) (k : Fin 256) :
    val_main_v35 (F := Ideal) x0 x1 (ix3 g q k)
      = Ideal.div (Ideal.exp (val_main_v24 (F := Ideal) x0 x1 (ix3 g q k) - val_main_v27 (F := Ideal) x0 x1 (ix2 g q)))
          (∑ x : Fin 256, Ideal.exp (val_main_v24 (F := Ideal) x0 x1 (ix3 g q x) - val_main_v27 (F := Ideal) x0 x1 (ix2 g q))) := by
  rw [val_main_v35_apply, val_main_v34_apply, val_main_v33_apply, x_ctx]
  have hi : idx_main_v33 (idx_main_v34 (ix3 g q k)) = ix2 g q := by funext a; fin_cases a <;> rfl
  have hs : val_main_v32 (F := Ideal) x0 x1 (ix2 g q)
      = ∑ x : Fin 256, Ideal.exp (val_main_v24 (F := Ideal) x0 x1 (ix3 g q x) - val_main_v27 (F := Ideal) x0 x1 (ix2 g q)) := by
    rw [val_main_v32_apply, val_main_cst_5_apply]
    have h0 : FloatOps.ofBits (F := Ideal) .f32 0x00000000#32 = (0 : EReal) := Ideal.ofBits_zero_f32
    rw [h0]
    refine (zero_add _).trans (Finset.sum_congr rfl fun x _ => ?_)
    have hx : idx_main_v32 (ix2 g q) x = ix3 g q x := by funext a; fin_cases a <;> rfl
    rw [hx, x_ctx]
  rw [hi, hs]
  rfl

/-- The context: the two maps' difference. -/
theorem a_ctx (h : Fin 8) (q : Fin 256) (k : Fin 256) :
    val_main_v43 (F := Ideal) x0 x1 x3 (ix3 h q k)
      = val_main_v35 (F := Ideal) x0 x1 (ix3 ⟨h.val * 2, by omega⟩ q k) - val_main_v15 (F := Ideal) x3 ix0 * val_main_v35 (F := Ideal) x0 x1 (ix3 ⟨h.val * 2 + 1, by omega⟩ q k) := by
  rw [val_main_v43_apply, val_main_v42_apply, val_main_v41_apply, val_main_v40_apply, val_main_v39_apply,
    val_main_v38_apply, val_main_v37_apply, val_main_v36_apply, val_main_v36_apply]
  generalize val_main_v35 (F := Ideal) x0 x1 = y
  have h0 : idx_main_v36 (idx_main_v37 (idx_main_v38 (ix3 h q k))) = ix3 ⟨h.val * 2, by omega⟩ q k := by
    have := h.isLt
    have := q.isLt
    have := k.isLt
    funext a
    refine Fin.ext ?_
    match a with
    | ⟨0, _⟩ =>
      show (((((h.val * 256 + q.val) * 256 + k.val) / 65536 * 2 + 0) * 256 + ((h.val * 256 + q.val) * 256 + k.val) / 256 % 256) * 256 + ((h.val * 256 + q.val) * 256 + k.val) % 256) / 65536 = h.val * 2
      omega
    | ⟨1, _⟩ =>
      show (((((h.val * 256 + q.val) * 256 + k.val) / 65536 * 2 + 0) * 256 + ((h.val * 256 + q.val) * 256 + k.val) / 256 % 256) * 256 + ((h.val * 256 + q.val) * 256 + k.val) % 256) / 256 % 256 = q.val
      omega
    | ⟨2, _⟩ =>
      show (((((h.val * 256 + q.val) * 256 + k.val) / 65536 * 2 + 0) * 256 + ((h.val * 256 + q.val) * 256 + k.val) / 256 % 256) * 256 + ((h.val * 256 + q.val) * 256 + k.val) % 256) % 256 = k.val
      omega
  have h1 : idx_main_v36 (idx_main_v39 (idx_main_v40 (ix3 h q k))) = ix3 ⟨h.val * 2 + 1, by omega⟩ q k := by
    have := h.isLt
    have := q.isLt
    have := k.isLt
    funext a
    refine Fin.ext ?_
    match a with
    | ⟨0, _⟩ =>
      show (((((h.val * 256 + q.val) * 256 + k.val) / 65536 * 2 + (1 + 0)) * 256 + ((h.val * 256 + q.val) * 256 + k.val) / 256 % 256) * 256 + ((h.val * 256 + q.val) * 256 + k.val) % 256) / 65536 = h.val * 2 + 1
      omega
    | ⟨1, _⟩ =>
      show (((((h.val * 256 + q.val) * 256 + k.val) / 65536 * 2 + (1 + 0)) * 256 + ((h.val * 256 + q.val) * 256 + k.val) / 256 % 256) * 256 + ((h.val * 256 + q.val) * 256 + k.val) % 256) / 256 % 256 = q.val
      omega
    | ⟨2, _⟩ =>
      show (((((h.val * 256 + q.val) * 256 + k.val) / 65536 * 2 + (1 + 0)) * 256 + ((h.val * 256 + q.val) * 256 + k.val) / 256 % 256) * 256 + ((h.val * 256 + q.val) * 256 + k.val) % 256) % 256 = k.val
      omega
  have hl : idx_main_v41 (ix3 h q k) = ix0 := by
    funext a
    exact a.elim0
  rw [h0, h1, hl]
  rfl

/-- The context: the weighted values. -/
theorem o_ctx (q : Fin 256) (h : Fin 8) (e : Fin 128) :
    val_main_v45 (F := Ideal) x0 x1 x2 x3 (ix3 q h e)
      = ∑ k : Fin 256, val_main_v21 (F := Ideal) x2 (ix3 k h e) * val_main_v43 (F := Ideal) x0 x1 x3 (ix3 h q k) := by
  unfold val_main_v45 val_main_v44
  pointwise

/-- The context: the norm. -/
theorem n_ctx (q : Fin 256) (h : Fin 8) (e : Fin 128) :
    val_main_v60 (F := Ideal) x0 x1 x2 x3 x4 (ix3 q h e)
      = val_main_v45 (F := Ideal) x0 x1 x2 x3 (ix3 q h e) *
          Ideal.rsqrt (Ideal.div (∑ x : Fin 128, val_main_v45 (F := Ideal) x0 x1 x2 x3 (ix3 q h x) * val_main_v45 (F := Ideal) x0 x1 x2 x3 (ix3 q h x))
            (Ideal.ofBits .f32 0x43000000#32) + Ideal.ofBits .f32 0x3727C5AC#32) * x4 (ix1 e) * Ideal.ofBits .f32 0x3F24FD5C#32 := by
  unfold val_main_v60 val_main_v59 val_main_v58 val_main_v57 val_main_v56 val_main_v55 val_main_v54 val_main_v53 val_main_v52 val_main_v51 val_main_v50 val_main_v49 val_main_v48 val_main_v47 val_main_v46 val_main_cst_9 val_main_cst_8 val_main_cst_7 val_main_cst_6
  pointwise

/-- The context: the heads side by side. -/
theorem r_ctx (q : Fin 256) (j : Fin 1024) :
    val_main_v61 (F := Ideal) x0 x1 x2 x3 x4 (ix2 q j)
      = val_main_v60 (F := Ideal) x0 x1 x2 x3 x4 (ix3 q ⟨j.val / 128, by omega⟩ ⟨j.val % 128, Nat.mod_lt _ (by omega)⟩) := by
  rw [val_main_v61_apply]
  refine congrArg (val_main_v60 (F := Ideal) x0 x1 x2 x3 x4) (funext fun a => Fin.ext ?_)
  fin_cases a
  · show (q.val * 1024 + j.val) / 1024 = q.val; omega
  · show (q.val * 1024 + j.val) / 128 % 8 = j.val / 128; omega
  · show (q.val * 1024 + j.val) % 128 = j.val % 128; omega

end Cert.ReferenceIdeal.Attn

end
-- ==== Proof.RefB.lean ====
module

public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe Idealize.ShloMosaic.StableHlo

variable (x0 x1 x2 : S16640x1024.Idx → EReal) (x3 : S4x64.Idx → EReal) (x4 : S128.Idx → EReal)

/-- The latents: a query at its argument. -/
theorem q_lat (q : Fin 16384) (g : Fin 16) (d : Fin 64) :
    val_main_v62 (F := Ideal) x0 (ix3 q g d) = x0 (ix2 ⟨256 + q.val, by omega⟩ ⟨64 * g.val + d.val, by omega⟩) := by
  unfold val_main_v62 val_main_v16
  pointwise
  exact congrArg x0 (congrArg₂ ix2 (Fin.ext (by try dsimp only
                                                try omega)) (Fin.ext (by try dsimp only
                                                                         omega)))

/-- The latents: a key at its argument. -/
theorem k_lat (k : Fin 16640) (g : Fin 16) (d : Fin 64) :
    val_main_v17 (F := Ideal) x1 (ix3 k g d) = x1 (ix2 ⟨k.val, by omega⟩ ⟨64 * g.val + d.val, by omega⟩) := by
  unfold val_main_v17
  pointwise
  exact congrArg x1 (congrArg₂ ix2 (Fin.ext (by try dsimp only
                                                try omega)) (Fin.ext (by try dsimp only
                                                                         omega)))

/-- The latents: a value at its argument. -/
theorem v_lat (k : Fin 16640) (h : Fin 8) (e : Fin 128) :
    val_main_v18 (F := Ideal) x2 (ix3 k h e) = x2 (ix2 ⟨k.val, by omega⟩ ⟨128 * h.val + e.val, by omega⟩) := by
  unfold val_main_v18
  pointwise
  exact congrArg x2 (congrArg₂ ix2 (Fin.ext (by try dsimp only
                                                try omega)) (Fin.ext (by try dsimp only
                                                                         omega)))

/-- The latents: a score. -/
theorem s_lat (g : Fin 16) (q : Fin 16384) (k : Fin 16640) :
    val_main_v65 (F := Ideal) x0 x1 (ix3 g q k) = (∑ d : Fin 64, val_main_v62 (F := Ideal) x0 (ix3 q g d) * val_main_v17 (F := Ideal) x1 (ix3 k g d)) * Ideal.ofBits .f32 0x3E000000#32 := by
  unfold val_main_v65 val_main_v64 val_main_v63 val_main_cst_10
  pointwise

/-- The latents: the greatest of a query's scores, folded. -/
theorem f_lat (g : Fin 16) (q : Fin 16384) :
    val_main_v66 (F := Ideal) x0 x1 (ix2 g q) = (Finset.univ : Finset (Fin 16640)).fold max ⊥ fun k => val_main_v65 (F := Ideal) x0 x1 (ix3 g q k) := by
  have hb : val_main_cst_11 (F := Ideal) (Shape.Idx.first h_S_) = ⊥ := by
    rw [val_main_cst_11_apply]
    show Ideal.ofBits .f32 0xFF800000#32 = ⊥
    simp [Ideal.ofBits, Ideal.ieee]
  unfold val_main_v66
  generalize val_main_v65 (F := Ideal) x0 x1 = y
  refine (Host.reduce_eq_fold_single _ y _ reducesTo_S16x16384x16640_S16x16384_d2 (by decide) h_S_ (ix2 g q)).trans ?_
  rw [hb]
  exact congrArg (Finset.fold max ⊥ · Finset.univ) (funext fun k => congrArg y (funext fun a => Fin.ext (by match a with | ⟨0, _⟩ => rfl | ⟨1, _⟩ => rfl | ⟨2, _⟩ => rfl)))

/-- The latents: the greatest of a query's scores. -/
theorem m_lat (g : Fin 16) (q : Fin 16384) :
    val_main_v68 (F := Ideal) x0 x1 (ix2 g q) = Finset.univ.sup fun k : Fin 16640 => val_main_v65 (F := Ideal) x0 x1 (ix3 g q k) := by
  rw [val_main_v68_apply, f_lat, val_main_v67_apply, val_main_cst_12_apply]
  have hb : FloatOps.ofBits (F := Ideal) .f32 0xFF800000#32 = (⊥ : EReal) := by
    show Ideal.ofBits .f32 0xFF800000#32 = ⊥
    simp [Ideal.ofBits, Ideal.ieee]
  rw [hb]
  exact (max_eq_right bot_le).trans rfl

/-- The latents: a score's exponential. -/
theorem x_lat (g : Fin 16) (q : Fin 16384) (k : Fin 16640) :
    val_main_v72 (F := Ideal) x0 x1 (ix3 g q k)
      = Ideal.exp (val_main_v65 (F := Ideal) x0 x1 (ix3 g q k) - val_main_v68 (F := Ideal) x0 x1 (ix2 g q)) := by
  rw [val_main_v72_apply, val_main_v71_apply, val_main_v70_apply, val_main_v69_apply]
  have hi : idx_main_v69 (idx_main_v70 (ix3 g q k)) = ix2 g q := by funext a; fin_cases a <;> rfl
  rw [hi]
  rfl

/-- The latents: a softmax weight. -/
theorem p_lat (g : Fin 16) (q : Fin 16384) (k : Fin 16640) :
    val_main_v76 (F := Ideal) x0 x1 (ix3 g q k)
      = Ideal.div (Ideal.exp (val_main_v65 (F := Ideal) x0 x1 (ix3 g q k) - val_main_v68 (F := Ideal) x0 x1 (ix2 g q)))
          (∑ x : Fin 16640, Ideal.exp (val_main_v65 (F := Ideal) x0 x1 (ix3 g q x) - val_main_v68 (F := Ideal) x0 x1 (ix2 g q))) := by
  rw [val_main_v76_apply, val_main_v75_apply, val_main_v74_apply, x_lat]
  have hi : idx_main_v74 (idx_main_v75 (ix3 g q k)) = ix2 g q := by funext a; fin_cases a <;> rfl
  have hs : val_main_v73 (F := Ideal) x0 x1 (ix2 g q)
      = ∑ x : Fin 16640, Ideal.exp (val_main_v65 (F := Ideal) x0 x1 (ix3 g q x) - val_main_v68 (F := Ideal) x0 x1 (ix2 g q)) := by
    rw [val_main_v73_apply, val_main_cst_13_apply]
    have h0 : FloatOps.ofBits (F := Ideal) .f32 0x00000000#32 = (0 : EReal) := Ideal.ofBits_zero_f32
    rw [h0]
    refine (zero_add _).trans (Finset.sum_congr rfl fun x _ => ?_)
    have hx : idx_main_v73 (ix2 g q) x = ix3 g q x := by funext a; fin_cases a <;> rfl
    rw [hx, x_lat]
  rw [hi, hs]
  rfl

/-- The latents: the two maps' difference. -/
theorem a_lat (h : Fin 8) (q : Fin 16384) (k : Fin 16640) :
    val_main_v84 (F := Ideal) x0 x1 x3 (ix3 h q k)
      = val_main_v76 (F := Ideal) x0 x1 (ix3 ⟨h.val * 2, by omega⟩ q k) - val_main_v15 (F := Ideal) x3 ix0 * val_main_v76 (F := Ideal) x0 x1 (ix3 ⟨h.val * 2 + 1, by omega⟩ q k) := by
  rw [val_main_v84_apply, val_main_v83_apply, val_main_v82_apply, val_main_v81_apply, val_main_v80_apply,
    val_main_v79_apply, val_main_v78_apply, val_main_v77_apply, val_main_v77_apply]
  generalize val_main_v76 (F := Ideal) x0 x1 = y
  have h0 : idx_main_v77 (idx_main_v78 (idx_main_v79 (ix3 h q k))) = ix3 ⟨h.val * 2, by omega⟩ q k := by
    have := h.isLt
    have := q.isLt
    have := k.isLt
    funext a
    refine Fin.ext ?_
    match a with
    | ⟨0, _⟩ =>
      show (((((h.val * 16384 + q.val) * 16640 + k.val) / 272629760 * 2 + 0) * 16384 + ((h.val * 16384 + q.val) * 16640 + k.val) / 16640 % 16384) * 16640 + ((h.val * 16384 + q.val) * 16640 + k.val) % 16640) / 272629760 = h.val * 2
      omega
    | ⟨1, _⟩ =>
      show (((((h.val * 16384 + q.val) * 16640 + k.val) / 272629760 * 2 + 0) * 16384 + ((h.val * 16384 + q.val) * 16640 + k.val) / 16640 % 16384) * 16640 + ((h.val * 16384 + q.val) * 16640 + k.val) % 16640) / 16640 % 16384 = q.val
      omega
    | ⟨2, _⟩ =>
      show (((((h.val * 16384 + q.val) * 16640 + k.val) / 272629760 * 2 + 0) * 16384 + ((h.val * 16384 + q.val) * 16640 + k.val) / 16640 % 16384) * 16640 + ((h.val * 16384 + q.val) * 16640 + k.val) % 16640) % 16640 = k.val
      omega
  have h1 : idx_main_v77 (idx_main_v80 (idx_main_v81 (ix3 h q k))) = ix3 ⟨h.val * 2 + 1, by omega⟩ q k := by
    have := h.isLt
    have := q.isLt
    have := k.isLt
    funext a
    refine Fin.ext ?_
    match a with
    | ⟨0, _⟩ =>
      show (((((h.val * 16384 + q.val) * 16640 + k.val) / 272629760 * 2 + (1 + 0)) * 16384 + ((h.val * 16384 + q.val) * 16640 + k.val) / 16640 % 16384) * 16640 + ((h.val * 16384 + q.val) * 16640 + k.val) % 16640) / 272629760 = h.val * 2 + 1
      omega
    | ⟨1, _⟩ =>
      show (((((h.val * 16384 + q.val) * 16640 + k.val) / 272629760 * 2 + (1 + 0)) * 16384 + ((h.val * 16384 + q.val) * 16640 + k.val) / 16640 % 16384) * 16640 + ((h.val * 16384 + q.val) * 16640 + k.val) % 16640) / 16640 % 16384 = q.val
      omega
    | ⟨2, _⟩ =>
      show (((((h.val * 16384 + q.val) * 16640 + k.val) / 272629760 * 2 + (1 + 0)) * 16384 + ((h.val * 16384 + q.val) * 16640 + k.val) / 16640 % 16384) * 16640 + ((h.val * 16384 + q.val) * 16640 + k.val) % 16640) % 16640 = k.val
      omega
  have hl : idx_main_v82 (ix3 h q k) = ix0 := by
    funext a
    exact a.elim0
  rw [h0, h1, hl]
  rfl

/-- The latents: the weighted values. -/
theorem o_lat (q : Fin 16384) (h : Fin 8) (e : Fin 128) :
    val_main_v86 (F := Ideal) x0 x1 x2 x3 (ix3 q h e)
      = ∑ k : Fin 16640, val_main_v18 (F := Ideal) x2 (ix3 k h e) * val_main_v84 (F := Ideal) x0 x1 x3 (ix3 h q k) := by
  unfold val_main_v86 val_main_v85
  pointwise

/-- The latents: the norm. -/
theorem n_lat (q : Fin 16384) (h : Fin 8) (e : Fin 128) :
    val_main_v101 (F := Ideal) x0 x1 x2 x3 x4 (ix3 q h e)
      = val_main_v86 (F := Ideal) x0 x1 x2 x3 (ix3 q h e) *
          Ideal.rsqrt (Ideal.div (∑ x : Fin 128, val_main_v86 (F := Ideal) x0 x1 x2 x3 (ix3 q h x) * val_main_v86 (F := Ideal) x0 x1 x2 x3 (ix3 q h x))
            (Ideal.ofBits .f32 0x43000000#32) + Ideal.ofBits .f32 0x3727C5AC#32) * x4 (ix1 e) * Ideal.ofBits .f32 0x3F24FD5C#32 := by
  unfold val_main_v101 val_main_v100 val_main_v99 val_main_v98 val_main_v97 val_main_v96 val_main_v95 val_main_v94 val_main_v93 val_main_v92 val_main_v91 val_main_v90 val_main_v89 val_main_v88 val_main_v87 val_main_cst_17 val_main_cst_16 val_main_cst_15 val_main_cst_14
  pointwise

/-- The latents: the heads side by side. -/
theorem r_lat (q : Fin 16384) (j : Fin 1024) :
    val_main_v102 (F := Ideal) x0 x1 x2 x3 x4 (ix2 q j)
      = val_main_v101 (F := Ideal) x0 x1 x2 x3 x4 (ix3 q ⟨j.val / 128, by omega⟩ ⟨j.val % 128, Nat.mod_lt _ (by omega)⟩) := by
  rw [val_main_v102_apply]
  refine congrArg (val_main_v101 (F := Ideal) x0 x1 x2 x3 x4) (funext fun a => Fin.ext ?_)
  fin_cases a
  · show (q.val * 1024 + j.val) / 1024 = q.val; omega
  · show (q.val * 1024 + j.val) / 128 % 8 = j.val / 128; omega
  · show (q.val * 1024 + j.val) % 128 = j.val % 128; omega

end Cert.ReferenceIdeal.Attn

end
-- ==== Proof.RefL.lean ====
module

public import proofs.«01_k».proof.Proof.Gen.ReferenceIdeal.Read
public import Idealize.ShloMosaic.Lib.Pointwise

@[expose] public section

set_option maxRecDepth 16384

noncomputable section

namespace Cert.ReferenceIdeal.Attn

open Cert.ReferenceIdeal Cert.ReferenceIdeal.Gen Cert.ReferenceIdeal.Read
open Idealize.ShloMosaic Idealize.ShloMosaic.TcCoe Idealize.ShloMosaic.StableHlo

variable (x0 x1 x2 : S16640x1024.Idx → EReal) (x3 : S4x64.Idx → EReal) (x4 : S128.Idx → EReal)

/-- Lambda. -/
theorem lam_eq : val_main_v15 (F := Ideal) x3 ix0
    = Ideal.exp (∑ x : Fin 64, x3 (ix2 0 x) * x3 (ix2 1 x)) - Ideal.exp (∑ x : Fin 64, x3 (ix2 2 x) * x3 (ix2 3 x)) + Ideal.ofBits .f32 0x3EB60549#32 := by
  unfold val_main_v15 val_main_cst_1 val_main_v14 val_main_v13 val_main_v12 val_main_cst_0 val_main_v11 val_main_v10 val_main_v9 val_main_v8 val_main_v7 val_main_v6 val_main_v5 val_main_cst val_main_v4 val_main_v3 val_main_v2 val_main_v1 val_main_v0
  pointwise

/-- The result: the context's rows, then the latents'. -/
theorem res_eq (i : Fin 16640) (j : Fin 1024) : val_main_v104 (F := Ideal) x0 x1 x2 x3 x4 (ix2 i j)
    = if h : i.val < 256 then val_main_v61 (F := Ideal) x0 x1 x2 x3 x4 (ix2 ⟨i.val, h⟩ j) else val_main_v102 (F := Ideal) x0 x1 x2 x3 x4 (ix2 ⟨i.val - 256, by omega⟩ j) := by
  unfold val_main_v104 val_main_v103
  pointwise

end Cert.ReferenceIdeal.Attn

end
-- ==== Proof.Same.lean ====
module

public import proofs.«01_k».proof.Proof.Val
public import proofs.«01_k».proof.Proof.RefA
public import proofs.«01_k».proof.Proof.RefB
public import proofs.«01_k».proof.Proof.RefL

@[expose] public section

set_option maxRecDepth 16384

noncomputable section

namespace Cert.ReferenceIdeal.Attn

open Cert.ReferenceIdeal Cert.ReferenceIdeal.Gen Cert.ReferenceIdeal.Read
open Cert.KernelIdeal.Attn (dotS valR sm spec mx_mul lamF normed)
open Cert.Attn (mx)
open Idealize.ShloMosaic Idealize.ShloMosaic.TcCoe Idealize.ShloMosaic.StableHlo

/-- The reference's scale is an eighth. -/
theorem eighth : Ideal.ofBits .f32 0x3E000000#32 = ((8⁻¹ : ℝ) : EReal) := by
  simp [Ideal.ofBits, Ideal.ieee]
  rw [← EReal.coe_mul]
  norm_num

/-- A softmax over keys numbered below `N` is the softmax over the range. -/
theorem softmax_sm {N : ℕ} (D : ℕ → EReal) (S : Fin N → EReal) (hS : ∀ k, S k = D k.val * Ideal.ofBits .f32 0x3E000000#32) (k : Fin N) :
    Ideal.div (Ideal.exp (S k - Finset.univ.sup S)) (∑ x, Ideal.exp (S x - Finset.univ.sup S)) = sm D N k.val := by
  have hS' : ∀ k, S k = ((8⁻¹ : ℝ) : EReal) * D k.val := fun k => by rw [hS, eighth, mul_comm]
  have hm : Finset.univ.sup S = ((8⁻¹ : ℝ) : EReal) * mx D N := by
    rw [← mx_mul (by norm_num), mx]
    refine le_antisymm (Finset.sup_le fun k _ => ?_) (Finset.sup_le fun j hj => ?_)
    · rw [hS']
      exact Finset.le_sup (f := fun j => ((8⁻¹ : ℝ) : EReal) * D j) (Finset.mem_range.mpr k.isLt)
    · rw [← hS' ⟨j, Finset.mem_range.mp hj⟩]
      exact Finset.le_sup (f := S) (Finset.mem_univ _)
  rw [sm, hm, hS', ← Fin.sum_univ_eq_sum_range (fun j => Ideal.exp (((8⁻¹ : ℝ) : EReal) * D j - ((8⁻¹ : ℝ) : EReal) * mx D N)) N]
  refine congrArg _ (Finset.sum_congr rfl fun x _ => ?_)
  rw [hS']

variable (x0 x1 x2 : S16640x1024.Idx → EReal) (x3 : S4x64.Idx → EReal) (x4 : S128.Idx → EReal)

/-- The context: a score is an eighth of the product. -/
theorem score_ctx (h : Fin 8) (p : Fin 2) (q : Fin 256) (k : Fin 256) (g : Fin 16) (hg : g.val = h.val * 2 + p.val) :
    val_main_v24 (F := Ideal) x0 x1 (ix3 g q k) = dotS x0 x1 ⟨q.val, by omega⟩ h p k.val * Ideal.ofBits .f32 0x3E000000#32 := by
  have hk : k.val < 16640 := by omega
  rw [s_ctx, dotS, dif_pos hk]
  refine congrArg (· * _) (Finset.sum_congr rfl fun d _ => ?_)
  rw [q_ctx, k_ctx]
  have hd : 64 * g.val + d.val = 128 * h.val + 64 * p.val + d.val := by omega
  exact congrArg₂ (· * ·) (congrArg x0 (congrArg (ix2 _) (Fin.ext hd))) (congrArg x1 (congrArg (ix2 _) (Fin.ext hd)))

/-- The context: a weight is the softmax's. -/
theorem weight_ctx (h : Fin 8) (p : Fin 2) (q : Fin 256) (k : Fin 256) (g : Fin 16) (hg : g.val = h.val * 2 + p.val) :
    val_main_v35 (F := Ideal) x0 x1 (ix3 g q k) = sm (dotS x0 x1 ⟨q.val, by omega⟩ h p) 256 k.val := by
  rw [p_ctx, m_ctx]
  exact softmax_sm (dotS x0 x1 ⟨q.val, by omega⟩ h p) (fun k => val_main_v24 (F := Ideal) x0 x1 (ix3 g q k)) (fun k => score_ctx x0 x1 h p q k g hg) k

/-- The context: the weighted values. -/
theorem out_ctx (h2 : ∀ i, x2 i = ((x2 i).toReal : EReal)) (q : Fin 256) (h : Fin 8) (e : Fin 128) :
    val_main_v45 (F := Ideal) x0 x1 x2 x3 (ix3 q h e) = ∑ j ∈ Finset.range 256, (valR x2 h e j : EReal) *
      (sm (dotS x0 x1 ⟨q.val, by omega⟩ h 0) 256 j - lamF x3 * sm (dotS x0 x1 ⟨q.val, by omega⟩ h 1) 256 j) := by
  rw [o_ctx, ← Fin.sum_univ_eq_sum_range (fun j => (valR x2 h e j : EReal) *
      (sm (dotS x0 x1 ⟨q.val, by omega⟩ h 0) 256 j - lamF x3 * sm (dotS x0 x1 ⟨q.val, by omega⟩ h 1) 256 j)) 256]
  refine Finset.sum_congr rfl fun k _ => ?_
  rw [a_ctx, v_ctx, weight_ctx x0 x1 h 0 q k _ rfl, weight_ctx x0 x1 h 1 q k _ rfl, lam_eq]
  have hk : k.val < 16640 := by omega
  refine congrArg₂ (· * ·) ?_ rfl
  rw [valR, dif_pos hk]
  exact h2 _

/-- The context: the result. -/
theorem whole_ctx (h2 : ∀ i, x2 i = ((x2 i).toReal : EReal)) (q : Fin 256) (j : Fin 1024) :
    val_main_v61 (F := Ideal) x0 x1 x2 x3 x4 (ix2 q j)
      = spec x0 x1 x2 x3 x4 256 ⟨q.val, by omega⟩ ⟨j.val / 128, by omega⟩ ⟨j.val % 128, Nat.mod_lt _ (by omega)⟩ := by
  rw [r_ctx, n_ctx]
  simp only [out_ctx x0 x1 x2 x3 h2]
  rfl

/-- The latents: a score is an eighth of the product. -/
theorem score_lat (h : Fin 8) (p : Fin 2) (q : Fin 16384) (k : Fin 16640) (g : Fin 16) (hg : g.val = h.val * 2 + p.val) :
    val_main_v65 (F := Ideal) x0 x1 (ix3 g q k) = dotS x0 x1 ⟨256 + q.val, by omega⟩ h p k.val * Ideal.ofBits .f32 0x3E000000#32 := by
  have hk : k.val < 16640 := by omega
  rw [s_lat, dotS, dif_pos hk]
  refine congrArg (· * _) (Finset.sum_congr rfl fun d _ => ?_)
  rw [q_lat, k_lat]
  have hd : 64 * g.val + d.val = 128 * h.val + 64 * p.val + d.val := by omega
  exact congrArg₂ (· * ·) (congrArg x0 (congrArg (ix2 _) (Fin.ext hd))) (congrArg x1 (congrArg (ix2 _) (Fin.ext hd)))

/-- The latents: a weight is the softmax's. -/
theorem weight_lat (h : Fin 8) (p : Fin 2) (q : Fin 16384) (k : Fin 16640) (g : Fin 16) (hg : g.val = h.val * 2 + p.val) :
    val_main_v76 (F := Ideal) x0 x1 (ix3 g q k) = sm (dotS x0 x1 ⟨256 + q.val, by omega⟩ h p) 16640 k.val := by
  rw [p_lat, m_lat]
  exact softmax_sm (dotS x0 x1 ⟨256 + q.val, by omega⟩ h p) (fun k => val_main_v65 (F := Ideal) x0 x1 (ix3 g q k)) (fun k => score_lat x0 x1 h p q k g hg) k

/-- The latents: the weighted values. -/
theorem out_lat (h2 : ∀ i, x2 i = ((x2 i).toReal : EReal)) (q : Fin 16384) (h : Fin 8) (e : Fin 128) :
    val_main_v86 (F := Ideal) x0 x1 x2 x3 (ix3 q h e) = ∑ j ∈ Finset.range 16640, (valR x2 h e j : EReal) *
      (sm (dotS x0 x1 ⟨256 + q.val, by omega⟩ h 0) 16640 j - lamF x3 * sm (dotS x0 x1 ⟨256 + q.val, by omega⟩ h 1) 16640 j) := by
  rw [o_lat, ← Fin.sum_univ_eq_sum_range (fun j => (valR x2 h e j : EReal) *
      (sm (dotS x0 x1 ⟨256 + q.val, by omega⟩ h 0) 16640 j - lamF x3 * sm (dotS x0 x1 ⟨256 + q.val, by omega⟩ h 1) 16640 j)) 16640]
  refine Finset.sum_congr rfl fun k _ => ?_
  rw [a_lat, v_lat, weight_lat x0 x1 h 0 q k _ rfl, weight_lat x0 x1 h 1 q k _ rfl, lam_eq]
  have hk : k.val < 16640 := by omega
  refine congrArg₂ (· * ·) ?_ rfl
  rw [valR, dif_pos hk]
  exact h2 _

/-- The latents: the result. -/
theorem whole_lat (h2 : ∀ i, x2 i = ((x2 i).toReal : EReal)) (q : Fin 16384) (j : Fin 1024) :
    val_main_v102 (F := Ideal) x0 x1 x2 x3 x4 (ix2 q j)
      = spec x0 x1 x2 x3 x4 16640 ⟨256 + q.val, by omega⟩ ⟨j.val / 128, by omega⟩ ⟨j.val % 128, Nat.mod_lt _ (by omega)⟩ := by
  rw [r_lat, n_lat]
  simp only [out_lat x0 x1 x2 x3 h2]
  rfl

/-- The reference's result is the specification. -/
theorem ref_spec (h2 : ∀ i, x2 i = ((x2 i).toReal : EReal)) :
    val_main_v104 (F := Ideal) x0 x1 x2 x3 x4 = fun i : S16640x1024.Idx => spec x0 x1 x2 x3 x4 (if (i 0).val < 256 then 256 else 16640)
      (i 0) ⟨(i 1).val / 128, by have : (i 1).val < 1024 := (i 1).isLt; omega⟩ ⟨(i 1).val % 128, Nat.mod_lt _ (by omega)⟩ := by
  have key : ∀ (i : Fin 16640) (j : Fin 1024), val_main_v104 (F := Ideal) x0 x1 x2 x3 x4 (ix2 i j)
      = spec x0 x1 x2 x3 x4 (if i.val < 256 then 256 else 16640) i ⟨j.val / 128, by omega⟩ ⟨j.val % 128, Nat.mod_lt _ (by omega)⟩ := by
    intro i j
    rw [res_eq]
    by_cases h : i.val < 256
    · rw [dif_pos h, if_pos h, whole_ctx x0 x1 x2 x3 x4 h2]
    · rw [dif_neg h, if_neg h, whole_lat x0 x1 x2 x3 x4 h2]
      exact congrArg (spec x0 x1 x2 x3 x4 16640 · _ _) (Fin.ext (by show 256 + (i.val - 256) = i.val; omega))
  funext i
  have hi : i = ix2 (i 0) (i 1) := by funext a; fin_cases a <;> rfl
  exact (congrArg _ hi).trans (key (i 0) (i 1))

end Cert.ReferenceIdeal.Attn

end
-- ==== Proof.Meet.lean ====
module

public import proofs.«01_k».proof.Defs
public import proofs.«01_k».proof.Proof.Same
public import proofs.«01_k».proof.Proof.Gen.ReferenceIdeal.Run
public import proofs.«01_k».proof.Proof.Gen.Pre_finite_values

@[expose] public section

set_option maxRecDepth 16384

noncomputable section

namespace Cert.Meet

open Idealize.ShloMosaic Idealize.ShloMosaic.TcCoe Idealize.SL.Sem

/-- A value whose magnitude compares below infinity is a real number. -/
theorem real_of_lt (x : EReal) (h : FloatOps.cmpf (F := Ideal) (φ := .f32) .olt (FloatOps.absf (F := Ideal) (φ := .f32) x) (FloatOps.ofBits (F := Ideal) .f32 0x7F800000#32) = 1#1) :
    x = ((x.toReal : ℝ) : EReal) := by
  have hi : FloatOps.ofBits (F := Ideal) .f32 0x7F800000#32 = (⊤ : EReal) := by
    show Ideal.ofBits .f32 0x7F800000#32 = ⊤
    simp [Ideal.ofBits, Ideal.ieee]
  rw [hi] at h
  induction x using EReal.rec with
  | bot => exact absurd h (by simp [FloatOps.cmpf, FloatOps.absf, Ideal.cmp])
  | coe r => simp
  | top => exact absurd h (by simp [FloatOps.cmpf, FloatOps.absf, Ideal.cmp])

/-- The precondition, read at the values. -/
theorem values_real (x0 x1 x2 : FVec Ideal Cert.Pre_finite_values.S16640x1024 .f32) (x3 : FVec Ideal Cert.Pre_finite_values.S4x64 .f32) (x4 : FVec Ideal Cert.Pre_finite_values.S128 .f32)
    (h : (Cert.Pre_finite_values.fn (F := Ideal) x0 x1 x2 x3 x4).1 = fun _ => 1#1) (i) : x2 i = ((EReal.toReal (x2 i) : ℝ) : EReal) :=
  real_of_lt _ (congrFun h i)

/-- The precondition, read at lambda's vectors. -/
theorem lam_real (x0 x1 x2 : FVec Ideal Cert.Pre_finite_values.S16640x1024 .f32) (x3 : FVec Ideal Cert.Pre_finite_values.S4x64 .f32) (x4 : FVec Ideal Cert.Pre_finite_values.S128 .f32)
    (h : (Cert.Pre_finite_values.fn (F := Ideal) x0 x1 x2 x3 x4).2 = fun _ => 1#1) (i) : x3 i = ((EReal.toReal (x3 i) : ℝ) : EReal) :=
  real_of_lt _ (congrFun h i)

/-- The reference's frame: it runs, its arguments end unchanged, and it declares no semaphore. -/
theorem frame_ref : Cert.quiescent_ReferenceIdeal := fun m ρ _ =>
  (θ_run _ _ _).mono (fun r h => ⟨fun c => (h c).2, sem_eq_zero_of_no_sems (by decide) r.2⟩) (Cert.ReferenceIdeal.Value.run (F := Ideal) m ρ)

/-- The reference's frame under the precondition. -/
theorem frame_ref_pre : Cert.quiescent_ReferenceIdeal_pre_finite_values := fun m ρ _ =>
  (θ_run _ _ _).mono (fun r h => ⟨fun c => (h c).2, sem_eq_zero_of_no_sems (by decide) r.2⟩) (Cert.ReferenceIdeal.Value.run (F := Ideal) m ρ)

/-- The kernel's result is the reference's, exactly. -/
theorem algebraic : Cert.algebraic_KernelIdeal_ReferenceIdeal_pre_finite_values := fun m ρ m' ρ' hpre hag => by
  have h2 : ∀ c i, Cert.KernelIdeal.Attn.a2 m c i = ((Cert.KernelIdeal.Attn.a2 m c i).toReal : EReal) := fun c i => values_real _ _ _ _ _ (hpre c).1 i
  have h3 : ∀ c i, Cert.KernelIdeal.Attn.a3 m c i = ((Cert.KernelIdeal.Attn.a3 m c i).toReal : EReal) := fun c i => lam_real _ _ _ _ _ (hpre c).2 i
  refine ⟨fun c => _, Cert.KernelIdeal.Attn.run_spec m ρ h2 h3, (θ_run _ _ _).mono (fun r h c => ⟨(h c).1.trans ?_, (h c).2⟩) (Cert.ReferenceIdeal.Value.run (F := Ideal) m' ρ')⟩
  rw [Cert.ReferenceIdeal.Read.val_main_v104_eq, (hag c).1, (hag c).2.1, (hag c).2.2.1, (hag c).2.2.2.1, (hag c).2.2.2.2]
  exact Cert.ReferenceIdeal.Attn.ref_spec _ _ _ _ _ (h2 c)

end Cert.Meet

end
-- ==== Proof.ProjOps.lean ====
module

public import proofs.«01_k».proof.Proof.Gen.Kernel2Ideal.Frame
public import Idealize.ShloMosaic.Lib.Pointwise
public import Idealize.ShloMosaic.Lib.Pipeline.Value

@[expose] public section

set_option maxRecDepth 16384

noncomputable section

namespace Cert.Kernel2Ideal.Proj

open Cert.Kernel2Ideal Cert.Kernel2Ideal.Gen
open Idealize.ShloMosaic

/-- A row block times 512 columns of the weights, at an element. -/
theorem mm512 (u : FVec Ideal S256x1024 .bf16) (w : FVec Ideal S1024x512 .bf16) (r : Fin 256) (j : Fin 512) :
    matmul dot_S256x1024_S1024x512_S256x512_1_0_0_1_n_n none u w (constant S256x512 .f32 0x00000000#32) (ix2 r j)
      = ∑ k : Fin 1024, u (ix2 r k) * w (ix2 k j) := by
  pointwise

/-- A row block times the 128 last columns, at an element. -/
theorem mm128 (u : FVec Ideal S256x1024 .bf16) (w : FVec Ideal S1024x128 .bf16) (r : Fin 256) (j : Fin 128) :
    matmul dot_S256x1024_S1024x128_S256x128_1_0_0_1_n_n none u w (constant S256x128 .f32 0x00000000#32) (ix2 r j)
      = ∑ k : Fin 1024, u (ix2 r k) * w (ix2 k j) := by
  pointwise

/-- What one store of 512 columns writes. -/
def mmT (u : FVec Ideal S256x1024 .bf16) (w : FVec Ideal S1024x512 .bf16) : FVec Ideal S256x512 .bf16 :=
  truncf (F := Ideal) .bf16 (matmul dot_S256x1024_S1024x512_S256x512_1_0_0_1_n_n none u
    (shapeCast S1024x512 w shapeCasts_S1024x512_S1024x512) (constant S256x512 .f32 0x00000000#32)) bitsLt_bf16_f32

theorem mmT_apply (u : FVec Ideal S256x1024 .bf16) (w : FVec Ideal S1024x512 .bf16) (r : Fin 256) (j : Fin 512) :
    mmT u w (ix2 r j) = ∑ k : Fin 1024, u (ix2 r k) * w (ix2 k j) := by
  unfold mmT
  rw [shapeCast_self]
  exact mm512 u w r j

/-- The whole block's product, 6144 columns wide. -/
def GM (u : FVec Ideal S256x1024 .bf16) (w : Vec Ideal S1024x6144 .bf16) : S256x6144.Idx → EReal :=
  fun y => ∑ k : Fin 1024, u (ix2 (y 0) k) * w (ix2 k (y 1))

/-- The store at column `o` writes the whole product's columns from `o` on. -/
theorem piece (o : ℕ) (inb : ∀ a, (![0, o] : Fin 2 → Nat) a + S256x512.size a ≤ S256x6144.size a)
    (inb' : ∀ a, (![0, o] : Fin 2 → Nat) a + S1024x512.size a ≤ S1024x6144.size a)
    (u : FVec Ideal S256x1024 .bf16) (w : Vec Ideal S1024x6144 .bf16) (x : S256x512.Idx) :
    mmT u (View.ld (Val := Elt Ideal) w (Rect.unit (s := S1024x6144) ![0, o] S1024x512.size inb')) x
      = GM u w ((Rect.unit (s := S256x6144) ![0, o] S256x512.size inb).emb x) := by
  have hx : x = (ix2 (x 0) (x 1) : S256x512.Idx) := by
    funext a; fin_cases a <;> rfl
  refine (congrArg _ hx).trans ((mmT_apply u _ (x 0) (x 1)).trans ?_)
  unfold GM
  refine Finset.sum_congr rfl fun k _ => congrArg₂ (· * ·) (congrArg u ?_) (congrArg w ?_)
  · funext a
    match a with
    | ⟨0, _⟩ => exact Fin.ext (by show (x 0).val = 0 + 1 * (x 0).val; omega)
    | ⟨1, _⟩ => rfl
  · funext a
    match a with
    | ⟨0, _⟩ => exact Fin.ext (by show 0 + 1 * k.val = k.val; omega)
    | ⟨1, _⟩ => rfl

/-- The modulated rows of a block. -/
theorem mod_apply (x0 : Vec Ideal S256x1024 .f32) (x1 : Vec Ideal S1x6x1024 .f32) (x2 : Vec Ideal S1024x6144 .bf16) (x3 : Vec Ideal S1024x128 .bf16)
    (r : Fin 256) (k : Fin 1024) :
    k0_pay16 (F := Ideal) x0 x1 x2 x3 (ix2 r k) = x0 (ix2 r k) * (1 + x1 (ix3 0 1 k)) + x1 (ix3 0 0 k) := by
  have h1 : FloatOps.ofBits (F := Ideal) .f32 0x3F800000#32 = (1 : EReal) := by
    show Ideal.ofBits .f32 0x3F800000#32 = 1
    simp [Ideal.ofBits, Ideal.ieee]
    rw [← EReal.coe_mul]; norm_num
  have e0 : View.ld (Val := Elt Ideal) x0 r0_0 = x0 := View.ld_unit_zero (by funext a; fin_cases a <;> rfl) _ x0
  have e1 : ∀ k : Fin 1024, View.ld (Val := Elt Ideal) x1 r0_1 (ix3 0 0 k : S1x1x1024.Idx) = x1 (ix3 0 1 k) := fun k =>
    congrArg x1 (funext fun a => match a with
      | ⟨0, _⟩ => rfl
      | ⟨1, _⟩ => rfl
      | ⟨2, _⟩ => Fin.ext (by show 0 + 1 * k.val = k.val; omega))
  have e2 : ∀ k : Fin 1024, View.ld (Val := Elt Ideal) x1 r0_2 (ix3 0 0 k : S1x1x1024.Idx) = x1 (ix3 0 0 k) := fun k =>
    congrArg x1 (funext fun a => match a with
      | ⟨0, _⟩ => rfl
      | ⟨1, _⟩ => rfl
      | ⟨2, _⟩ => Fin.ext (by show 0 + 1 * k.val = k.val; omega))
  unfold k0_pay16
  rw [e0]
  rw [← e1, ← e2]
  generalize View.ld (Val := Elt Ideal) x1 r0_1 = y1
  generalize View.ld (Val := Elt Ideal) x1 r0_2 = y2
  rw [← h1]
  unfold k0_pay5
  pointwise

/-- The first output's block at an element. -/
theorem out4_apply (x0 : Vec Ideal S256x1024 .f32) (x1 : Vec Ideal S1x6x1024 .f32) (x2 : Vec Ideal S1024x6144 .bf16) (x3 : Vec Ideal S1024x128 .bf16) (y : S256x6144.Idx) :
    out0_4 (F := Ideal) x0 x1 x2 x3 y = GM (k0_pay16 (F := Ideal) x0 x1 x2 x3) x2 y := by
  unfold out0_4
  refine View.canon_apply_of_pieces (Val := Elt Ideal) _ _ ?_ y (cover0_4 _ _ _ _ _ _ _ _ _ _ _ _ y)
  simp only [List.forall_mem_cons]
  refine ⟨fun x => ?_, fun x => ?_, fun x => ?_, fun x => ?_, fun x => ?_, fun x => ?_, fun x => ?_, fun x => ?_, fun x => ?_, fun x => ?_, fun x => ?_, fun x => ?_, fun p hp => absurd hp List.not_mem_nil⟩
  · exact piece 5632 _ _ (k0_pay16 (F := Ideal) x0 x1 x2 x3) x2 x
  · exact piece 5120 _ _ (k0_pay16 (F := Ideal) x0 x1 x2 x3) x2 x
  · exact piece 4608 _ _ (k0_pay16 (F := Ideal) x0 x1 x2 x3) x2 x
  · exact piece 4096 _ _ (k0_pay16 (F := Ideal) x0 x1 x2 x3) x2 x
  · exact piece 3584 _ _ (k0_pay16 (F := Ideal) x0 x1 x2 x3) x2 x
  · exact piece 3072 _ _ (k0_pay16 (F := Ideal) x0 x1 x2 x3) x2 x
  · exact piece 2560 _ _ (k0_pay16 (F := Ideal) x0 x1 x2 x3) x2 x
  · exact piece 2048 _ _ (k0_pay16 (F := Ideal) x0 x1 x2 x3) x2 x
  · exact piece 1536 _ _ (k0_pay16 (F := Ideal) x0 x1 x2 x3) x2 x
  · exact piece 1024 _ _ (k0_pay16 (F := Ideal) x0 x1 x2 x3) x2 x
  · exact piece 512 _ _ (k0_pay16 (F := Ideal) x0 x1 x2 x3) x2 x
  · exact piece 0 _ _ (k0_pay16 (F := Ideal) x0 x1 x2 x3) x2 x

/-- The second output's block at an element. -/
theorem out5_apply (x0 : Vec Ideal S256x1024 .f32) (x1 : Vec Ideal S1x6x1024 .f32) (x2 : Vec Ideal S1024x6144 .bf16) (x3 : Vec Ideal S1024x128 .bf16) (r : Fin 256) (j : Fin 128) :
    out0_5 (F := Ideal) x0 x1 x2 x3 (ix2 r j) = ∑ k : Fin 1024, k0_pay16 (F := Ideal) x0 x1 x2 x3 (ix2 r k) * x3 (ix2 k j) := by
  unfold out0_5
  rw [View.canon_unit_zero (by funext a; fin_cases a <;> rfl), View.ld_unit_zero (by funext a; fin_cases a <;> rfl)]
  unfold k0_pay4
  rw [shapeCast_self]
  exact mm128 _ x3 r j

end Cert.Kernel2Ideal.Proj

end
-- ==== Proof.ProjArr.lean ====
module

public import proofs.«01_k».proof.Proof.ProjOps
public import proofs.«01_k».proof.Proof.Gen.Kernel2Ideal.Value
public import Idealize.ShloMosaic.Lib.Pipeline.ValueKit
public import Idealize.ShloMosaic.Lib.Routing.OpsOne

@[expose] public section

set_option maxRecDepth 16384

noncomputable section

namespace Cert.Kernel2Ideal.Proj

open Cert.Kernel2Ideal Cert.Kernel2Ideal.Gen
open Idealize.ShloMosaic Idealize.ShloMosaic.TcCoe Idealize.ShloMosaic.Tactic Idealize.SL.Sem
open Idealize.ShloMosaic.Pipeline (Dat)
open Idealize.ShloMosaic.Routing

/-- A context row or a latent row, by the joint row number. -/
def hrow (x : S16384x1024.Idx → EReal) (ctx : S256x1024.Idx → EReal) (i : Fin 16640) (k : Fin 1024) : EReal :=
  if h : i.val < 256 then ctx (ix2 ⟨i.val, h⟩ k) else x (ix2 ⟨i.val - 256, by omega⟩ k)

/-- Which modulation a row takes. -/
def sel (i : Fin 16640) : Fin 2 := if i.val < 256 then 0 else 1

/-- A modulated row. -/
def U (x : S16384x1024.Idx → EReal) (ctx : S256x1024.Idx → EReal) (md : S2x6x1024.Idx → EReal) (i : Fin 16640) (k : Fin 1024) : EReal :=
  hrow x ctx i k * (1 + md (ix3 (sel i) 1 k)) + md (ix3 (sel i) 0 k)

/-- The projection at a row and a column of the input weights. -/
def P (x : S16384x1024.Idx → EReal) (ctx : S256x1024.Idx → EReal) (md : S2x6x1024.Idx → EReal) (w : S1024x6208.Idx → EReal)
    (i : Fin 16640) (j : Fin 6208) : EReal := ∑ k : Fin 1024, U x ctx md i k * w (ix2 k j)

/-- The first result: the first 6144 columns. -/
def R0 (x : S16384x1024.Idx → EReal) (ctx : S256x1024.Idx → EReal) (md : S2x6x1024.Idx → EReal) (w : S1024x6208.Idx → EReal) : S16640x6144.Idx → EReal :=
  fun y => P x ctx md w (y 0) ⟨(y 1).val, lt_trans (y 1).isLt (by decide)⟩

/-- The second result: the last 64 columns, then zeros. -/
def R1 (x : S16384x1024.Idx → EReal) (ctx : S256x1024.Idx → EReal) (md : S2x6x1024.Idx → EReal) (w : S1024x6208.Idx → EReal) : S16640x128.Idx → EReal :=
  fun y => if h : (y 1).val < 64 then P x ctx md w (y 0) ⟨6144 + (y 1).val, by omega⟩ else 0

/-- Where an element of the 64 columns lands among the 128. -/
theorem lands (k : S1024x64.Idx) (idx : IVec S1 32) (h0 : (idx (ix1 0)).toInt = 0) (r : Fin 1024) (c : Fin 128) :
    scatter_S1024x128_S1_S1024x64_01_n_1_0.resultIdx? k idx = some (ix2 r c) ↔ (k 0).val = r.val ∧ (k 1).val = c.val := by
  have hs0 : scatter_S1024x128_S1_S1024x64_01_n_1_0.start k idx 0 = 0 := by
    unfold ScatterDims.start
    rw [dif_neg (by decide)]
  have hs1 : scatter_S1024x128_S1_S1024x64_01_n_1_0.start k idx 1 = 0 := by
    unfold ScatterDims.start
    rw [dif_pos (by decide)]
    refine Eq.trans ?_ h0
    congr 2
    funext b
    match b with
    | ⟨0, _⟩ => exact Subsingleton.elim (α := Fin 1) _ _
  have hw0 : scatter_S1024x128_S1_S1024x64_01_n_1_0.window k 0 = (k 0).val := by
    unfold ScatterDims.window
    rw [dif_pos (by decide)]
    rfl
  have hw1 : scatter_S1024x128_S1_S1024x64_01_n_1_0.window k 1 = (k 1).val := by
    unfold ScatterDims.window
    rw [dif_pos (by decide)]
    rfl
  refine (resultIdx?_ix2 (R := 1024) (C := 128) scatter_S1024x128_S1_S1024x64_01_n_1_0 k idx r c).trans ?_
  rw [hs0, hs1, hw0, hw1]
  omega

/-- The 64 columns written over the first of 128, at an element. -/
theorem scatter_apply (x : S1024x128.Idx → EReal) (idx : IVec S1 32) (h0 : (idx (ix1 0)).toInt = 0) (u : S1024x64.Idx → EReal) (r : Fin 1024) (c : Fin 128) :
    Host.scatter scatter_S1024x128_S1_S1024x64_01_n_1_0 (fun _ b => b) x idx u (ix2 r c)
      = if h : c.val < 64 then u (ix2 r ⟨c.val, h⟩) else x (ix2 r c) := by
  by_cases h : c.val < 64
  · rw [dif_pos h]
    refine scatter_set_hit _ x idx u _ _ (fun k hk => congrArg u ?_) (ix2 r ⟨c.val, h⟩) ((lands _ idx h0 r c).2 ⟨rfl, rfl⟩)
    have := (lands k idx h0 r c).1 hk
    funext a
    match a with
    | ⟨0, _⟩ => exact Fin.ext this.1
    | ⟨1, _⟩ => exact Fin.ext this.2
  · rw [dif_neg h]
    refine scatter_set_miss _ x idx u _ fun k hk => h ?_
    have := ((lands k idx h0 r c).1 hk).2
    have hk1 : (k 1).val < 64 := (k 1).isLt
    omega

variable (m : (ℓ : Loc nD τ sig) → Buf (Elt Ideal) ℓ)

/-- The host's rows: the context, then the latents. -/
theorem V_v0 (c : Dev nD) : V m c main_v0 = concatenate S16640x1024 0
    [⟨S256x1024, m ((c : Thread nD τ).loc main_arg1)⟩, ⟨S16384x1024, m ((c : Thread nD τ).loc main_arg0)⟩]
    concatenates_S256x1024_S16384x1024_S16640x1024_d0 := by
  unfold V hostOps0
  after_results_simp <;> rfl

/-- The host's first 6144 columns of the weights. -/
theorem V_v2 (c : Dev nD) : V m c main_v2 = truncf (F := Ideal) .bf16
    (extractStridedSlice S1024x6144 ![0, 0] (m ((c : Thread nD τ).loc main_arg3)) slices_S1024x6208_S1024x6144_0_0) bitsLt_bf16_f32 := by
  unfold V hostOps0
  after_results_simp <;> rfl

/-- The host's last 64 columns of the weights, padded to 128. -/
theorem V_v7 (c : Dev nD) : V m c main_v7 = truncf (F := Ideal) .bf16
    (Host.scatter scatter_S1024x128_S1_S1024x64_01_n_1_0 (fun _ b => b)
      (broadcastInDim S1024x128 ![] bcast_S_S1024x128 (constant (F := Ideal) S_ .f32 0x00000000#32))
      (broadcastInDim S1 ![] bcast_S_S1 (constantI S_ 32 0#32))
      (extractStridedSlice S1024x64 ![0, 6144] (m ((c : Thread nD τ).loc main_arg3)) slices_S1024x6208_S1024x64_0_6144)) bitsLt_bf16_f32 := by
  unfold V hostOps0
  after_results_simp <;> rfl

theorem V_v7_apply (c : Dev nD) (k : Fin 1024) (j : Fin 128) : V m c main_v7 (ix2 k j : S1024x128.Idx)
    = if h : j.val < 64 then m ((c : Thread nD τ).loc main_arg3) (ix2 k ⟨6144 + j.val, by omega⟩) else (0 : EReal) := by
  rw [V_v7]
  have ht : ∀ (X : FVec Ideal S1024x128 .f32) i, truncf (F := Ideal) .bf16 X bitsLt_bf16_f32 i = X i := fun _ _ => rfl
  have hz : ∀ i, broadcastInDim S1024x128 ![] bcast_S_S1024x128 (constant (F := Ideal) S_ .f32 0x00000000#32) i = (0 : EReal) := fun i => by
    show Ideal.ofBits .f32 0#32 = 0
    simp [Ideal.ofBits, Ideal.ieee]
  have hi : (broadcastInDim S1 ![] bcast_S_S1 (constantI S_ 32 0#32) (ix1 0)).toInt = 0 := by
    show (0#32).toInt = 0
    decide
  rw [ht]
  generalize (broadcastInDim S1024x128 ![] bcast_S_S1024x128 (constant (F := Ideal) S_ .f32 0x00000000#32)) = z at hz
  generalize (broadcastInDim S1 ![] bcast_S_S1 (constantI S_ 32 0#32)) = ii at hi
  rw [scatter_apply z ii hi _ k j]
  by_cases h : j.val < 64
  · rw [dif_pos h, dif_pos h]
    exact extractStridedSlice_apply ![0, 6144] (m ((c : Thread nD τ).loc main_arg3)) slices_S1024x6208_S1024x64_0_6144
      (ix2 k ⟨j.val, h⟩) (ix2 k ⟨6144 + j.val, by omega⟩) (fun a => match a with
      | ⟨0, _⟩ => by show k.val = 0 + k.val; omega
      | ⟨1, _⟩ => by show 6144 + j.val = 6144 + j.val; omega)
  · rw [dif_neg h, dif_neg h]
    exact hz _

theorem ix0 : ∀ t : Fin cfg0.N, win0_0.index t = ![t.val, 0] := by
  have : ∀ t : Fin grid0.N, win0_0.index t = ![t.val, 0] := by decide +kernel
  exact this
theorem ix1' : ∀ t : Fin cfg0.N, win0_1.index t = ![if t.val < 1 then 0 else 1, 0, 0] := by
  have : ∀ t : Fin grid0.N, win0_1.index t = ![if t.val < 1 then 0 else 1, 0, 0] := by decide +kernel
  exact this
theorem ix2' : ∀ t : Fin cfg0.N, win0_2.index t = ![0, 0] := by
  have : ∀ t : Fin grid0.N, win0_2.index t = ![0, 0] := by decide +kernel
  exact this
theorem ix3' : ∀ t : Fin cfg0.N, win0_3.index t = ![0, 0] := by
  have : ∀ t : Fin grid0.N, win0_3.index t = ![0, 0] := by decide +kernel
  exact this
theorem ix4' : ∀ t : Fin cfg0.N, win0_4.index t = ![t.val, 0] := by
  have : ∀ t : Fin grid0.N, win0_4.index t = ![t.val, 0] := by decide +kernel
  exact this
theorem ix5' : ∀ t : Fin cfg0.N, win0_5.index t = ![t.val, 0] := by
  have : ∀ t : Fin grid0.N, win0_5.index t = ![t.val, 0] := by decide +kernel
  exact this
theorem covers4 : (cfg0.win 4).Covers := by decide +kernel
theorem covers5 : (cfg0.win 5).Covers := by decide +kernel

theorem N65 (t : Fin cfg0.N) : t.val < 65 := lt_of_lt_of_eq t.isLt (show cfg0.N = 65 from N_0)

/-- A row block's element. -/
theorem iblk0 (c : Dev nD) (t : Fin cfg0.N) (r : Fin 256) (k : Fin 1024) :
    iblk m c 0 t (ix2 r k) = hrow (m ((c : Thread nD τ).loc main_arg0)) (m ((c : Thread nD τ).loc main_arg1))
      ⟨256 * t.val + r.val, by have := N65 t; omega⟩ k := by
  have := N65 t
  have he : (win0_0.blk t).view.emb (ix2 r k)
      = (ix2 ⟨256 * t.val + r.val, by omega⟩ k : S16640x1024.Idx) := by
    blk_ext [ix0]
  blk_simp [iblk]
  rw [V_v0, he]
  unfold hrow
  pointwise

/-- A modulation block's element. -/
theorem iblk1 (c : Dev nD) (t : Fin cfg0.N) (q : Fin 6) (k : Fin 1024) :
    iblk m c 1 t (ix3 0 q k : S1x6x1024.Idx) = m ((c : Thread nD τ).loc main_arg2) (ix3 (if t.val < 1 then 0 else 1) q k : S2x6x1024.Idx) := by
  have := N65 t
  have he : (win0_1.blk t).view.emb (ix3 0 q k : S1x6x1024.Idx)
      = (ix3 (if t.val < 1 then 0 else 1) q k : S2x6x1024.Idx) := by
    by_cases h : t.val < 1
    · rw [if_pos h]
      have hi : win0_1.index t = ![0, 0, 0] := by rw [ix1', if_pos h]
      blk_ext [hi]
    · rw [if_neg h]
      have hi : win0_1.index t = ![1, 0, 0] := by rw [ix1', if_neg h]
      blk_ext [hi]
  blk_simp [iblk]
  rw [V_main_arg2, he]

/-- The weights' block at an element. -/
theorem iblk2 (c : Dev nD) (t : Fin cfg0.N) (k : Fin 1024) (j : Fin 6144) :
    iblk m c 2 t (ix2 k j) = m ((c : Thread nD τ).loc main_arg3) (ix2 k ⟨j.val, by omega⟩) := by
  have he : (win0_2.blk t).view.emb (ix2 k j) = (ix2 k j : S1024x6144.Idx) := by
    blk_ext [ix2']
  blk_simp [iblk]
  rw [V_v2, he]
  refine (extractStridedSlice_apply ![0, 0] (m ((c : Thread nD τ).loc main_arg3)) slices_S1024x6208_S1024x6144_0_0 (ix2 k j) (ix2 k ⟨j.val, by omega⟩) (fun a => match a with
      | ⟨0, _⟩ => by show k.val = 0 + k.val; omega
      | ⟨1, _⟩ => by show j.val = 0 + j.val; omega))

/-- The padded weights' block at an element. -/
theorem iblk3 (c : Dev nD) (t : Fin cfg0.N) (k : Fin 1024) (j : Fin 128) :
    iblk m c 3 t (ix2 k j) = if h : j.val < 64 then m ((c : Thread nD τ).loc main_arg3) (ix2 k ⟨6144 + j.val, by omega⟩) else (0 : EReal) := by
  have he : (win0_3.blk t).view.emb (ix2 k j) = (ix2 k j : S1024x128.Idx) := by
    blk_ext [ix3']
  refine Eq.trans ?_ (V_v7_apply m c k j)
  exact congrArg (V m c main_v7) he

/-- The modulated rows of grid point `t`. -/
theorem u_apply (c : Dev nD) (t : Fin cfg0.N) (r : Fin 256) (k : Fin 1024) :
    k0_pay16 (F := Ideal) (iblk m c 0 t) (iblk m c 1 t) (iblk m c 2 t) (iblk m c 3 t) (ix2 r k)
      = U (m ((c : Thread nD τ).loc main_arg0)) (m ((c : Thread nD τ).loc main_arg1)) (m ((c : Thread nD τ).loc main_arg2))
        ⟨256 * t.val + r.val, by have := N65 t; omega⟩ k := by
  have hs : sel ⟨256 * t.val + r.val, by have := N65 t; omega⟩ = if t.val < 1 then 0 else 1 := by
    unfold sel
    by_cases h : t.val < 1
    · rw [if_pos h, if_pos (show 256 * t.val + r.val < 256 by omega)]
    · rw [if_neg h, if_neg (show ¬ 256 * t.val + r.val < 256 by omega)]
  refine (mod_apply _ _ _ _ r k).trans ?_
  unfold U
  rw [hs, iblk0]
  exact congrArg₂ (fun a b => hrow _ _ _ k * (1 + a) + b) (iblk1 m c t 1 k) (iblk1 m c t 0 k)

/-- The first output array. -/
theorem arr4 (c : Dev nD) : (dats m 0 c).arrAt 4 cfg0.N
    = R0 (m ((c : Thread nD τ).loc main_arg0)) (m ((c : Thread nD τ).loc main_arg1)) (m ((c : Thread nD τ).loc main_arg2)) (m ((c : Thread nD τ).loc main_arg3)) := by
  refine (dats m 0 c).arrAt_eq_of_covers 4 _ covers4 fun t hf y => ?_
  blk_simp
  rw [after0_4]
  have := N65 t
  have he : (win0_4.blk t).view.emb y
      = (ix2 ⟨256 * t.val + (y 0).val, by have : (y 0).val < 256 := (y 0).isLt; omega⟩ (y 1) : S16640x6144.Idx) := by
    blk_ext [ix4']
  rw [he]
  refine (out4_apply _ _ _ _ y).trans ?_
  exact Finset.sum_congr rfl fun k _ => congrArg₂ (· * ·) (u_apply m c t (y 0) k) (iblk2 m c t k (y 1))

/-- The second output array. -/
theorem arr5 (c : Dev nD) : (dats m 0 c).arrAt 5 cfg0.N
    = R1 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ covers5 fun t hf y => ?_
  blk_simp
  rw [after0_5]
  have := N65 t
  have hy : y = (ix2 (y 0) (y 1) : S256x128.Idx) := by
    funext a; fin_cases a <;> rfl
  have he : (win0_5.blk t).view.emb y
      = (ix2 ⟨256 * t.val + (y 0).val, by have : (y 0).val < 256 := (y 0).isLt; omega⟩ (y 1) : S16640x128.Idx) := by
    blk_ext [ix5']
  rw [he]
  refine (congrArg _ hy).trans ((out5_apply _ _ _ _ (y 0) (y 1)).trans ?_)
  by_cases h : (y 1).val < 64
  · refine Eq.trans ?_ (dif_pos h).symm
    exact Finset.sum_congr rfl fun k _ => congrArg₂ (· * ·) (u_apply m c t (y 0) k) ((iblk3 m c t k (y 1)).trans (dif_pos h))
  · refine Eq.trans ?_ (dif_neg h).symm
    exact Finset.sum_eq_zero fun k _ => (congrArg _ ((iblk3 m c t k (y 1)).trans (dif_neg h))).trans (mul_zero _)

/-- A run of the program ends with the two results and its arguments unchanged. -/
theorem run_spec (ρ : Dev nD → PrngReg) : θ_run (defs (F := Ideal)) (onTc (τ := τ) (main (F := Ideal))) ⟨m, fun _ => 0, ρ⟩ fun r => ∀ c : Dev nD,
      r.2.mem ((c : Thread nD τ).loc main_v8_0) = R0 (m ((c : Thread nD τ).loc main_arg0)) (m ((c : Thread nD τ).loc main_arg1)) (m ((c : Thread nD τ).loc main_arg2)) (m ((c : Thread nD τ).loc main_arg3))
      ∧ r.2.mem ((c : Thread nD τ).loc main_v8_1) = R1 (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun r h c => ⟨(h c).1.trans (arr4 m c), (h c).2.1.trans (arr5 m c), (h c).2.2⟩) (Cert.Kernel2Ideal.Value.run_blocks (F := Ideal) m ρ)

end Cert.Kernel2Ideal.Proj

end
-- ==== Proof.ProjRef.lean ====
module

public import proofs.«01_k».proof.Proof.Gen.Reference2Ideal.Read
public import Idealize.ShloMosaic.Lib.Pointwise

@[expose] public section

set_option maxRecDepth 16384

noncomputable section

namespace Cert.Reference2Ideal.Proj

open Cert.Reference2Ideal Cert.Reference2Ideal.Gen Cert.Reference2Ideal.Read
open Idealize.ShloMosaic Idealize.ShloMosaic.TcCoe Idealize.ShloMosaic.StableHlo

variable (x : S16384x1024.Idx → EReal) (ctx : S256x1024.Idx → EReal) (md : S2x6x1024.Idx → EReal) (w : S1024x6208.Idx → EReal)

theorem one_bits : FloatOps.ofBits (F := Ideal) .f32 0x3F800000#32 = (1 : EReal) := by
  show Ideal.ofBits .f32 0x3F800000#32 = 1
  simp [Ideal.ofBits, Ideal.ieee]
  rw [← EReal.coe_mul]; norm_num

/-- A modulated context row. -/
theorem u_ctx (r : Fin 256) (k : Fin 1024) :
    val_main_v23 (F := Ideal) ctx md (ix2 r k) = ctx (ix2 r k) * (1 + md (ix3 0 1 k)) + md (ix3 0 0 k) := by
  rw [← one_bits]
  unfold val_main_v23 val_main_v22 val_main_v21 val_main_v20 val_main_v19 val_main_v18 val_main_v17 val_main_v16 val_main_v15 val_main_v14 val_main_v13 val_main_v12 val_main_cst_0
  pointwise

/-- A modulated latent row. -/
theorem u_lat (r : Fin 16384) (k : Fin 1024) :
    val_main_v11 (F := Ideal) x md (ix2 r k) = x (ix2 r k) * (1 + md (ix3 1 1 k)) + md (ix3 1 0 k) := by
  rw [← one_bits]
  unfold val_main_v11 val_main_v10 val_main_v9 val_main_v8 val_main_v7 val_main_v6 val_main_v5 val_main_v4 val_main_v3 val_main_v2 val_main_v1 val_main_v0 val_main_cst
  pointwise

/-- A context row's projection. -/
theorem p_ctx (r : Fin 256) (j : Fin 6208) :
    val_main_v24 (F := Ideal) ctx md w (ix2 r j) = ∑ k : Fin 1024, (ctx (ix2 r k) * (1 + md (ix3 0 1 k)) + md (ix3 0 0 k)) * w (ix2 k j) := by
  rw [val_main_v24_apply]
  refine Finset.sum_congr rfl fun k _ => congrArg₂ (· * ·) (Eq.trans (congrArg _ ?_) (u_ctx ctx md r k)) (congrArg w ?_)
  · funext a; match a with
    | ⟨0, _⟩ => rfl
    | ⟨1, _⟩ => rfl
  · funext a; match a with
    | ⟨0, _⟩ => rfl
    | ⟨1, _⟩ => rfl

/-- A latent row's projection. -/
theorem p_lat (r : Fin 16384) (j : Fin 6208) :
    val_main_v25 (F := Ideal) x md w (ix2 r j) = ∑ k : Fin 1024, (x (ix2 r k) * (1 + md (ix3 1 1 k)) + md (ix3 1 0 k)) * w (ix2 k j) := by
  rw [val_main_v25_apply]
  refine Finset.sum_congr rfl fun k _ => congrArg₂ (· * ·) (Eq.trans (congrArg _ ?_) (u_lat x md r k)) (congrArg w ?_)
  · funext a; match a with
    | ⟨0, _⟩ => rfl
    | ⟨1, _⟩ => rfl
  · funext a; match a with
    | ⟨0, _⟩ => rfl
    | ⟨1, _⟩ => rfl

/-- The joint projection: a context row's below row 256, a latent row's from there on. -/
theorem p_all (i : Fin 16640) (j : Fin 6208) :
    val_main_v26 (F := Ideal) x ctx md w (ix2 i j) = if h : i.val < 256 then val_main_v24 (F := Ideal) ctx md w (ix2 ⟨i.val, h⟩ j)
      else val_main_v25 (F := Ideal) x md w (ix2 ⟨i.val - 256, by omega⟩ j) := by
  unfold val_main_v26
  generalize val_main_v24 (F := Ideal) ctx md w = y
  generalize val_main_v25 (F := Ideal) x md w = z
  pointwise

/-- The first result at an element. -/
theorem r0 (i : Fin 16640) (j : Fin 6144) :
    val_main_v30 (F := Ideal) x ctx md w (ix2 i j) = val_main_v26 (F := Ideal) x ctx md w (ix2 i ⟨j.val, by omega⟩) := by
  rw [val_main_v30_apply]
  refine (val_main_v29_apply (F := Ideal) x ctx md w (ix2 i j)).trans ?_
  refine congrArg _ ?_
  funext a; match a with
    | ⟨0, _⟩ => rfl
    | ⟨1, _⟩ => rfl

/-- The second result at an element. -/
theorem r1 (i : Fin 16640) (j : Fin 128) :
    val_main_v31 (F := Ideal) x ctx md w (ix2 i j) = if h : j.val < 64 then val_main_v26 (F := Ideal) x ctx md w (ix2 i ⟨6144 + j.val, by omega⟩) else (0 : EReal) := by
  have hz : ∀ y, val_main_v28 (F := Ideal) y = (0 : EReal) := fun y => by
    rw [val_main_v28_apply, val_main_cst_1_apply]
    show Ideal.ofBits .f32 0#32 = 0
    simp [Ideal.ofBits, Ideal.ieee]
  have h27 : ∀ j : Fin 64, val_main_v27 (F := Ideal) x ctx md w (ix2 i j) = val_main_v26 (F := Ideal) x ctx md w (ix2 i ⟨6144 + j.val, by omega⟩) := fun j => by
    rw [val_main_v27_apply]
    refine congrArg _ ?_
    funext a; match a with
    | ⟨0, _⟩ => rfl
    | ⟨1, _⟩ => rfl
  have hc : val_main_v31 (F := Ideal) x ctx md w (ix2 i j) = if h : j.val < 64 then val_main_v27 (F := Ideal) x ctx md w (ix2 i ⟨j.val, h⟩)
      else val_main_v28 (F := Ideal) (ix2 i ⟨j.val - 64, by omega⟩) := by
    unfold val_main_v31
    generalize val_main_v27 (F := Ideal) x ctx md w = y
    generalize val_main_v28 (F := Ideal) = z
    pointwise
  rw [hc]
  by_cases h : j.val < 64
  · rw [dif_pos h, dif_pos h, h27]
  · rw [dif_neg h, dif_neg h, hz]

end Cert.Reference2Ideal.Proj

end
-- ==== Proof.ProjMeet.lean ====
module

public import proofs.«01_k».proof.Defs
public import proofs.«01_k».proof.Proof.ProjArr
public import proofs.«01_k».proof.Proof.ProjRef
public import proofs.«01_k».proof.Proof.Gen.Reference2Ideal.Run

@[expose] public section

set_option maxRecDepth 16384

noncomputable section

namespace Cert.Meet

open Idealize.ShloMosaic Idealize.ShloMosaic.TcCoe Idealize.SL.Sem

/-- The projection's reference runs, its arguments end unchanged, and it declares no semaphore. -/
theorem frame_ref2 : Cert.quiescent_Reference2Ideal := fun m ρ _ =>
  (θ_run _ _ _).mono (fun r h => ⟨fun c => (h c).2.2, sem_eq_zero_of_no_sems (by decide) r.2⟩) (Cert.Reference2Ideal.Value.run (F := Ideal) m ρ)

section
open Cert.Kernel2Ideal.Proj Cert.Reference2Ideal.Proj

variable (x : Cert.Kernel2Ideal.S16384x1024.Idx → EReal) (ctx : Cert.Kernel2Ideal.S256x1024.Idx → EReal)
  (md : Cert.Kernel2Ideal.S2x6x1024.Idx → EReal) (w : Cert.Kernel2Ideal.S1024x6208.Idx → EReal)

/-- The reference's joint projection is the projection. -/
theorem p_spec (i : Fin 16640) (j : Fin 6208) :
    Cert.Reference2Ideal.Read.val_main_v26 (F := Ideal) x ctx md w (ix2 i j) = P x ctx md w i j := by
  rw [p_all]
  unfold P U hrow sel
  by_cases h : i.val < 256
  · rw [dif_pos h, p_ctx]
    exact Finset.sum_congr rfl fun k _ => by rw [dif_pos h, if_pos h]
  · rw [dif_neg h, p_lat]
    exact Finset.sum_congr rfl fun k _ => by rw [dif_neg h, if_neg h]

/-- The reference's first result. -/
theorem ref0 : Cert.Reference2Ideal.Read.val_main_v30 (F := Ideal) x ctx md w = R0 x ctx md w := by
  funext y
  have hy : y = (ix2 (y 0) (y 1) : Cert.Kernel2Ideal.S16640x6144.Idx) := by
    funext a; fin_cases a <;> rfl
  exact (congrArg _ hy).trans ((r0 x ctx md w (y 0) (y 1)).trans (p_spec x ctx md w (y 0) _))

/-- The reference's second result. -/
theorem ref1 : Cert.Reference2Ideal.Read.val_main_v31 (F := Ideal) x ctx md w = R1 x ctx md w := by
  funext y
  have hy : y = (ix2 (y 0) (y 1) : Cert.Kernel2Ideal.S16640x128.Idx) := by
    funext a; fin_cases a <;> rfl
  refine (congrArg _ hy).trans ((r1 x ctx md w (y 0) (y 1)).trans ?_)
  unfold R1
  by_cases h : (y 1).val < 64
  · refine (dif_pos h).trans ?_
    refine Eq.trans ?_ (dif_pos h).symm
    exact p_spec x ctx md w (y 0) _
  · refine (dif_neg h).trans ?_
    refine Eq.trans ?_ (dif_neg h).symm
    rfl

end

/-- The projection's results are the reference's, exactly. -/
theorem algebraic2 : Cert.algebraic_Kernel2Ideal_Reference2Ideal := fun m ρ m' ρ' _ hag => by
  refine ⟨fun c => _, fun c => _, Cert.Kernel2Ideal.Proj.run_spec m ρ, (θ_run _ _ _).mono (fun r h c => ⟨(h c).1.trans ?_, (h c).2.1.trans ?_, (h c).2.2⟩) (Cert.Reference2Ideal.Value.run (F := Ideal) m' ρ')⟩
  · rw [Cert.Reference2Ideal.Read.val_main_v30_eq, (hag c).1, (hag c).2.1, (hag c).2.2.1, (hag c).2.2.2]
    exact ref0 _ _ _ _
  · rw [Cert.Reference2Ideal.Read.val_main_v31_eq, (hag c).1, (hag c).2.1, (hag c).2.2.1, (hag c).2.2.2]
    exact ref1 _ _ _ _

end Cert.Meet

end
-- ==== Proof.MoeTab.lean ====
/-
  The tables of the experts' call as the kernel's host code makes them from the counts, next to the reference's.
-/
module

public import proofs.«01_k».proof.Proof.Gen.Kernel3Ideal.Launch
public import proofs.«01_k».proof.Proof.Gen.Reference3Ideal.Read
public import Idealize.ShloMosaic.Lib.Pointwise
public import Idealize.ShloMosaic.Lib.Routing.Ops
public import Idealize.ShloMosaic.Lib.Pipeline.Value

@[expose] public section

set_option maxRecDepth 16384

noncomputable section

namespace Cert.Moe

open Cert.Kernel3Ideal Cert.Kernel3Ideal.Gen
open Idealize.ShloMosaic
open Cert.Reference3Ideal.Read

variable {F : FTy → Type} [FloatOps F]

/-- Each block's expert: the number of experts whose padded rows end at or before the block, at most 31. -/
def tabE (x1 : (⟨S32, .i32⟩ : BufTy).Contents (Elt F)) : (⟨S292, .i32⟩ : BufTy).Contents (Elt F) :=
  minsi (Host.reduce IntOp.addi (extui 32 (cmpi .sle
      (broadcastInDim S292x32 ![0, 1] bcast_S1x32_S292x32_0_1 (broadcastInDim S1x32 ![1] bcast_S32_S1x32_1 (val_main_v7 (F := F) x1 : S32.Idx → BitVec 32)))
      (broadcastInDim S292x32 ![0, 1] bcast_S292x1_S292x32_0_1 (broadcastInDim S292x1 ![0] bcast_S292_S292x1_0 (val_main_v11 (F := F) : S292.Idx → BitVec 32)))) natLt_1_32)
    (constantI S_ 32 0#32) reducesTo_S292x32_S292_d1 h_S_) (broadcastInDim S292 ![] bcast_S_S292 (constantI S_ 32 31#32))

/-- A table of experts as the gathers read it: a negative entry counts from the end. -/
def tabI (e : (⟨S292, .i32⟩ : BufTy).Contents (Elt F)) : (⟨S292x1, .i32⟩ : BufTy).Contents (Elt F) :=
  broadcastInDim S292x1 ![0] bcast_S292_S292x1_0 (select (cmpi .slt e (broadcastInDim S292 ![] bcast_S_S292 (constantI S_ 32 0#32)))
    (addi e (broadcastInDim S292 ![] bcast_S_S292 (constantI S_ 32 32#32))) e)

/-- The rows of each block's expert that are left at the block. -/
def tabW (e : (⟨S292, .i32⟩ : BufTy).Contents (Elt F)) (x1 : (⟨S32, .i32⟩ : BufTy).Contents (Elt F)) : (⟨S292, .i32⟩ : BufTy).Contents (Elt F) :=
  subi (Host.gather gather_S32_S292x1_S292_n_0_n_n_0_1_1 (x1 : S32.Idx → BitVec 32) (tabI (F := F) e))
    (subi (val_main_v11 (F := F)) (Host.gather gather_S32_S292x1_S292_n_0_n_n_0_1_1 (val_main_v8 (F := F) x1 : S32.Idx → BitVec 32) (tabI (F := F) e)))

/-- Those rows kept between 0 and 256. -/
def tabV (w : IVec S292 32) : IVec S292 32 :=
  minsi (broadcastInDim S292 ![] bcast_S_S292 (constantI S_ 32 256#32)) (maxsi (broadcastInDim S292 ![] bcast_S_S292 (constantI S_ 32 0#32)) w)

/-- The number of used blocks, from the end of the last expert's rows. -/
def tabN (s : IVec S1 32) : IVec S1 32 :=
  select (andi (cmpi .ne (signi s) (broadcastInDim S1 ![] bcast_S_S1 (signi (constantI S_ 32 256#32))))
      (cmpi .ne (Host.remsi s (broadcastInDim S1 ![] bcast_S_S1 (constantI S_ 32 256#32))) (broadcastInDim S1 ![] bcast_S_S1 (constantI S_ 32 0#32))))
    (subi (Host.divsi s (broadcastInDim S1 ![] bcast_S_S1 (constantI S_ 32 256#32))) (broadcastInDim S1 ![] bcast_S_S1 (constantI S_ 32 1#32)))
    (Host.divsi s (broadcastInDim S1 ![] bcast_S_S1 (constantI S_ 32 256#32)))

/-- The rows left are the reference's at its own table of experts. -/
theorem tabW_eq (x1 : (⟨S32, .i32⟩ : BufTy).Contents (Elt F)) : tabW (F := F) (val_main_v14 (F := F) x1) x1 = val_main_v39 (F := F) x1 := rfl

/-- Counting along the second axis of a mask and along the first of its transpose is one count. -/
theorem count_eq (A : IVec S292x32 1) (B : IVec Cert.Reference3Ideal.S32x292 1) (hAB : ∀ (b : Fin 292) (e : Fin 32), A (ix2 b e) = B (ix2 e b))
    (h : S292x32.ReducesTo [1] S292) (h' : Cert.Reference3Ideal.S32x292.ReducesTo [0] S292) (hw : 1 < 32) (hu : 0 < S_.numel) :
    Host.reduce IntOp.addi (extui 32 A hw) (constantI S_ 32 0#32) h hu = Host.reduce IntOp.addi (extui 32 B hw) (constantI S_ 32 0#32) h' hu := by
  funext b
  refine (Host.reduce_eq_fold_single (a := 1) IntOp.addi _ _ h (by decide) hu b).trans
    (Eq.trans ?_ (Host.reduce_eq_fold_single (a := 0) IntOp.addi _ _ h' (by decide) hu b).symm)
  refine congrArg (fun f : Fin 32 → BitVec 32 => (Finset.univ : Finset (Fin 32)).fold IntOp.addi 0#32 f) ?_
  funext e
  refine congrArg (fun z : BitVec 1 => z.setWidth 32) ?_
  refine Eq.trans (congrArg A ?_) ((hAB (b 0) e).trans (congrArg B ?_))
  · funext a
    match a with
    | ⟨0, _⟩ => rfl
    | ⟨1, _⟩ => rfl
  · funext a
    match a with
    | ⟨0, _⟩ => rfl
    | ⟨1, _⟩ => rfl

/-- The two programs count the same experts: the sum along the second axis is the reference's along the first. -/
theorem tabE_eq (x1 : (⟨S32, .i32⟩ : BufTy).Contents (Elt F)) : tabE (F := F) x1 = val_main_v14 (F := F) x1 := by
  refine congrArg (fun z : IVec S292 32 => minsi z (broadcastInDim S292 ![] bcast_S_S292 (constantI S_ 32 31#32))) ?_
  refine count_eq _ _ (fun b e => ?_) _ _ _ _
  have hA : ∀ (u : IVec S32 32), broadcastInDim S292x32 ![0, 1] bcast_S1x32_S292x32_0_1 (broadcastInDim S1x32 ![1] bcast_S32_S1x32_1 u) (ix2 b e) = u (ix1 e) := by
    intro u
    pointwise
  have hB : ∀ (u : IVec S292 32), broadcastInDim S292x32 ![0, 1] bcast_S292x1_S292x32_0_1 (broadcastInDim S292x1 ![0] bcast_S292_S292x1_0 u) (ix2 b e) = u (ix1 b) := by
    intro u
    pointwise
  refine (congrArg₂ (IntOp.cmpi .sle) (hA _) (hB _)).trans ?_
  refine Eq.trans ?_ (val_main_call2_call0_v4_apply (F := F) x1 (ix2 e b)).symm
  rw [val_main_call2_call0_v2_apply, val_main_call2_call0_v1_apply, val_main_call2_call0_v3_apply, val_main_call2_call0_v0_apply]
  exact congrArg₂ (IntOp.cmpi .sle) (congrArg (val_main_v7 (F := F) x1) (funext fun a => match a with | ⟨0, _⟩ => rfl))
    (congrArg (val_main_v11 (F := F)) (funext fun a => match a with | ⟨0, _⟩ => rfl))

/-- A word's sign. -/
def sgn (z : BitVec 32) : BitVec 32 := if z = 0 then 0 else if z.msb then -1 else 1

/-- The floor of a word's quotient by 256, as both programs compute it. -/
def fdiv (z : BitVec 32) : BitVec 32 :=
  Scalar.select (IntOp.andi (IntOp.cmpi .ne (sgn z) (sgn 256#32))
    (IntOp.cmpi .ne (IntOp.remsi .host z 256#32) 0#32)) (IntOp.subi (IntOp.divsi .host z 256#32) 1#32) (IntOp.divsi .host z 256#32)

/-- The reference's quotient of a scalar. -/
def refN (s : IVec S_ 32) : IVec S_ 32 :=
  select (andi (cmpi .ne (signi s) (signi (constantI S_ 32 256#32))) (cmpi .ne (Host.remsi s (constantI S_ 32 256#32)) (constantI S_ 32 0#32)))
    (subi (Host.divsi s (constantI S_ 32 256#32)) (constantI S_ 32 1#32)) (Host.divsi s (constantI S_ 32 256#32))

theorem refN_apply (s : IVec S_ 32) (i : S_.Idx) : refN s i = fdiv (s i) := rfl
theorem tabN_apply (s : IVec S1 32) (i : S1.Idx) : tabN s i = fdiv (s i) := rfl

/-- The reference's count of used blocks is the kernel's. -/
theorem tabN_eq (x1 : (⟨S32, .i32⟩ : BufTy).Contents (Elt F)) (i : S_.Idx) : val_main_v111 (F := F) x1 i = tabN (val_main_v109 (F := F) x1) (ix1 0) := by
  have h : (val_main_v110 (F := F) x1 : IVec S_ 32) i = (val_main_v109 (F := F) x1 : IVec S1 32) (ix1 0) := by
    unfold val_main_v110
    generalize (val_main_v109 (F := F) x1 : IVec S1 32) = u
    exact congrArg u (funext fun a => match a with | ⟨0, _⟩ => Subsingleton.elim (α := Fin 1) _ _)
  have e : val_main_v111 (F := F) x1 = refN (val_main_v110 (F := F) x1) := rfl
  rw [e, tabN_apply]
  exact (refN_apply _ i).trans (congrArg fdiv h)

/-- A count of at most 32, kept at most 31, is below 32. -/
theorem min_lt (n : ℕ) (h : n ≤ 32) : (IntOp.minsi (BitVec.ofNat 32 n) 31#32).toNat < 32 := by
  unfold IntOp.minsi
  split
  · next hc =>
    rw [BitVec.slt_iff_toInt_lt, BitVec.toInt_eq_toNat_cond, BitVec.toNat_ofNat, Nat.mod_eq_of_lt (by omega), show (31#32).toInt = 31 from rfl] at hc
    rw [BitVec.toNat_ofNat, Nat.mod_eq_of_lt (by omega)]
    split at hc <;> omega
  · decide

/-- Every block's expert is below 32. -/
theorem tabE_lt (x1 : (⟨S32, .i32⟩ : BufTy).Contents (Elt F)) (b : S292.Idx) : (tabE (F := F) x1 b : BitVec 32).toNat < 32 := by
  classical
  obtain ⟨p, rfl⟩ : ∃ p : Fin 292, b = ix1 p := ⟨b 0, funext fun a => match a with | ⟨0, _⟩ => rfl⟩
  have hr : ∀ msk : IVec S292x32 1, ((minsi (Host.reduce IntOp.addi (extui 32 msk natLt_1_32) (constantI S_ 32 0#32) reducesTo_S292x32_S292_d1 h_S_)
      (broadcastInDim S292 ![] bcast_S_S292 (constantI S_ 32 31#32)) : IVec S292 32) (ix1 p)).toNat < 32 := by
    intro msk
    have e := Routing.reduce_count (n := 292) (m := 32) (by decide) msk natLt_1_32 reducesTo_S292x32_S292_d1 h_S_ p
      (fun q => ∃ h : q < 32, msk (ix2 p ⟨q, h⟩) = 1#1) (fun q => ⟨fun h => ⟨q.isLt, h⟩, fun ⟨_, h⟩ => h⟩)
    show (IntOp.minsi (Host.reduce IntOp.addi (extui 32 msk natLt_1_32) (constantI S_ 32 0#32) reducesTo_S292x32_S292_d1 h_S_ (ix1 p)) 31#32).toNat < 32
    exact (congrArg (fun z : BitVec 32 => (IntOp.minsi z 31#32).toNat) e).trans_lt (min_lt _ (Nat.count_le _))
  exact hr _

/-- A row's number is below a block's rows kept between 0 and 256 exactly where it is below the rows themselves. -/
theorem tabV_slt (w : IVec S292 32) (b : S292.Idx) (r : ℕ) (hr : r < 256) :
    IntOp.cmpi .slt (BitVec.ofNat 32 r) (tabV w b) = IntOp.cmpi .slt (BitVec.ofNat 32 r) (w b) := by
  show BitVec.ofBool ((BitVec.ofNat 32 r).slt (IntOp.minsi 256#32 (IntOp.maxsi 0#32 (w b)))) = BitVec.ofBool ((BitVec.ofNat 32 r).slt (w b))
  generalize w b = z
  refine congrArg BitVec.ofBool ?_
  have hn : (BitVec.ofNat 32 r).toInt = r := by
    rw [BitVec.toInt_eq_toNat_cond, BitVec.toNat_ofNat, Nat.mod_eq_of_lt (by omega)]
    split <;> omega
  have h0 : (0#32).toInt = 0 := rfl
  have h1 : (256#32).toInt = 256 := rfl
  rw [Bool.eq_iff_iff, BitVec.slt_iff_toInt_lt, BitVec.slt_iff_toInt_lt, hn]
  unfold IntOp.minsi IntOp.maxsi
  simp only [BitVec.slt_iff_toInt_lt]
  have hm : ((if z.toInt < (0#32).toInt then 0#32 else z : BitVec 32)).toInt = max 0 z.toInt := by
    split <;> omega
  generalize (if z.toInt < (0#32).toInt then 0#32 else z : BitVec 32) = y at hm ⊢
  split <;> omega

end Cert.Moe

end
-- ==== Proof.MoeRun.lean ====
/- The expert kernel's body and pipeline: what every grid point does, and that the call ends with its arguments as they were. -/
module

public import proofs.«01_k».proof.Proof.Gen.Kernel3Ideal.Launch
public import proofs.«01_k».proof.Proof.Gen.Kernel3Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables as the body reads them -/

abbrev tb0 : Memref sig .tc .smem S292 .i32 := Memref.whole main_v20
abbrev tb1 : Memref sig .tc .smem S1 .i32 := Memref.whole main_v39
abbrev tb2 : Memref sig .tc .smem S292 .i32 := Memref.whole main_v37

/-- What a table holds on core `c`. -/
abbrev Tb (c : Dev nD) {S : Shape} {e : EltTy} (M : Memref sig .tc .smem S e) : Type := Buf (Elt F) (M.view.loc (c : Thread nD τ))
/-- A table held at half the full share. -/
abbrev tbPt (c : Dev nD) {S : Shape} {e : EltTy} (M : Memref sig .tc .smem S e) (f : Tb (F := F) c M) : sProp 𝕄 :=
  M.view.loc (c : Thread nD τ) ↦{fullShare.right} f

/-- The block's expert, as the body reads it at point `i`. -/
abbrev beAt (c : Dev nD) (i : grid0.Coords) (xt0 : Tb (F := F) c tb0) : BitVec 32 :=
  (tb0.access (Rect.unit (s := S292) (k0_off1 i) S1.size (k0_off1_inb i))).read (Elt F) xt0 (Shape.Idx.first (numel1_S1.symm ▸ Nat.one_pos))
/-- The expert of the block before. -/
abbrev bePrev (c : Dev nD) (i : grid0.Coords) (xt0 : Tb (F := F) c tb0) : BitVec 32 :=
  (tb0.access (Rect.unit (s := S292) (k0_off2 i) S1.size (k0_off2_inb i))).read (Elt F) xt0 (Shape.Idx.first (numel1_S1.symm ▸ Nat.one_pos))
/-- The number of blocks used. -/
abbrev nUsed (c : Dev nD) (xt1 : Tb (F := F) c tb1) : BitVec 32 :=
  (tb1.access (Rect.unit (s := S1) ![0] S1.size inb_S1_S1_0)).read (Elt F) xt1 (Shape.Idx.first (numel1_S1.symm ▸ Nat.one_pos))
/-- The number of rows used in the block. -/
abbrev bvAt (c : Dev nD) (i : grid0.Coords) (xt2 : Tb (F := F) c tb2) : BitVec 32 :=
  (tb2.access (Rect.unit (s := S292) (k0_off3 i) S1.size (k0_off3_inb i))).read (Elt F) xt2 (Shape.Idx.first (numel1_S1.symm ▸ Nat.one_pos))
/-- The weights are loaded anew at the first point and where the expert changes. -/
abbrev Reload (c : Dev nD) (i : grid0.Coords) (xt0 : Tb (F := F) c tb0) : Prop :=
  Scalar.cmpi .ne (Scalar.extui (Scalar.ori (Scalar.cmpi .eq (BitVec.ofNat 32 (i 0).val) 0#32) (Scalar.cmpi .ne (beAt c i xt0) (bePrev c i xt0)))) 0#32 = 1#1

section Reads

variable {κ : Kind} {sp : Space} {S : Shape} {e : EltTy}

/-- A store of the whole buffer is read back. -/
theorem rdw (v : View sig κ sp S e) (f) {off : Fin S.rank → Nat} (h : off = fun _ => 0) (inb : ∀ a, off a + S.size a ≤ S.size a) (w : S.Idx → Elt F e) :
    v.read (Elt F) (v.writes (Elt F) f [⟨Rect.unit off S.size inb, w⟩]) = w := by
  subst h; exact View.read_writes_whole v f w

/-- A load of the whole buffer. -/
theorem ldw (v : View sig κ sp S e) (f) {off : Fin S.rank → Nat} (h : off = fun _ => 0) (inb : ∀ a, off a + S.size a ≤ S.size a) (x : S.Idx → Elt F e)
    (hx : v.read (Elt F) f = x) :
    v.readAt (Elt F) (Rect.unit off S.size inb).toLoadRect f = x := by
  subst h; subst hx
  funext y
  refine congrArg (v.read (Elt F) f) (funext fun a => Fin.ext ?_)
  simp [Rect.unit, LoadRect.idx, Rect.toLoadRect]

end Reads

theorem off2 : (![0, 0] : Fin 2 → Nat) = fun _ => 0 := by funext a; fin_cases a <;> rfl
theorem off4 : (![0, 0, 0, 0] : Fin 4 → Nat) = fun _ => 0 := by funext a; fin_cases a <;> rfl

/-- The payload at equal loads. -/
theorem pay_congr {a0 b0 : Vec F S256x512 .i32} {z : BitVec 32} {a1 b1 : Vec F S1024x2048 .bf16} {a2 b2 : Vec F S1x1x1x2048 .f32} {a3 b3 : Vec F S1024x1024 .bf16} {a4 b4 : Vec F S1x1x1x1024 .f32}
    (h0 : a0 = b0) (h1 : a1 = b1) (h2 : a2 = b2) (h3 : a3 = b3) (h4 : a4 = b4) :
    k0_pay3 (k0_pay5 a0 z a1 a2 a3) a4 = k0_pay3 (k0_pay5 b0 z b1 b2 b3) b4 := by
  subst h0 h1 h2 h3 h4; rfl

set_option maxHeartbeats 1000000 in
/-- The body where the weights are loaded anew and the block is used. -/
theorem run_RU (c : Dev nD) (i : grid0.Coords) (arg4 : Memref sig .tc .vmem S256x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S256x1024 .bf16) (harg9 : arg9.IsWhole) (arg10 : Memref sig .tc .vmem S1024x2048 .bf16) (harg10 : arg10.IsWhole) (arg11 : Memref sig .tc .vmem S1024x1024 .bf16) (harg11 : arg11.IsWhole) (x0 : Vec F S256x512 .i32) (x1 : Vec F S1x1x1024x2048 .f32) (x2 : Vec F S1x1x1x2048 .f32) (x3 : Vec F S1x1x1024x1024 .f32) (x4 : Vec F S1x1x1x1024 .f32) (xt0 : Tb (F := F) c tb0) (xt1 : Tb (F := F) c tb1) (xt2 : Tb (F := F) c tb2) (y0 : Vec F S1024x2048 .bf16) (y1 : Vec F S1024x1024 .bf16)
    (hR : Reload c i xt0) (h2 : k0_cond2 i (nUsed c xt1) = 1#1) (h3 : ¬k0_cond3 i (nUsed c xt1) = 1#1) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare y0 ∗ owns (c : Thread nD τ) arg11 fullShare y1 ∗ tbPt c tb0 xt0 ∗ tbPt c tb1 xt1 ∗ tbPt c tb2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (k0_pay3 (k0_pay5 x0 (bvAt c i xt2) (k0_pay1 x1) x2 (k0_pay2 x3)) x4) ∗ owns (c : Thread nD τ) arg10 fullShare (k0_pay1 x1) ∗ owns (c : Thread nD τ) arg11 fullShare (k0_pay2 x3) ∗ tbPt c tb0 xt0 ∗ tbPt c tb1 xt1 ∗ tbPt c tb2 xt2) -∗ K ⟨⟩))
          ⊢ wp frame (wpE (defs₀ (F := F)) Variants.none c none) E (cc0_moe_experts i tb0 (Memref.isWhole_whole _) tb1 (Memref.isWhole_whole _) tb2 (Memref.isWhole_whole _) arg4 harg4 arg5 harg5 arg6 harg6 arg7 harg7 arg8 harg8 arg9 harg9 arg10 harg10 arg11 harg11) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    obtain rfl := harg10.eq_unread hs0; obtain rfl := harg11.eq_unread hs1
    sl_exec (disch := first | sl_exact hR | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; swap; · iexact H5
      ipureintro
      refine (rdw arg9.view _ off2 _ _).trans ?_
      exact pay_congr (ldw arg4.view _ off2 _ _ (harg4.read_unread x0)) (ldw arg10.view _ off2 _ _ ((congrArg (View.read (Elt F) arg10.view) (dif_pos hR)).trans ((rdw arg10.view _ off2 _ _).trans (congrArg k0_pay1 (ldw arg5.view _ off4 _ _ (harg5.read_unread x1)))))) (ldw arg6.view _ off4 _ _ (harg6.read_unread x2)) (ldw arg11.view _ off2 _ _ ((congrArg (View.read (Elt F) arg11.view) (dif_pos hR)).trans ((rdw arg11.view _ off2 _ _).trans (congrArg k0_pay2 (ldw arg7.view _ off4 _ _ (harg7.read_unread x3)))))) (ldw arg8.view _ off4 _ _ (harg8.read_unread x4))
    isplitl [HS0]
    · iexists _; isplitr; swap; · iexact HS0
      ipureintro
      exact (congrArg (View.read (Elt F) arg10.view) (dif_pos hR)).trans ((rdw arg10.view _ off2 _ _).trans (congrArg k0_pay1 (ldw arg5.view _ off4 _ _ (harg5.read_unread x1))))
    isplitl [HS1]
    · iexists _; isplitr; swap; · iexact HS1
      ipureintro
      exact (congrArg (View.read (Elt F) arg11.view) (dif_pos hR)).trans ((rdw arg11.view _ off2 _ _).trans (congrArg k0_pay2 (ldw arg7.view _ off4 _ _ (harg7.read_unread x3))))
    isplitl [HT0]; · iexact HT0
    isplitl [HT1]; · iexact HT1
    iexact HT2

set_option maxHeartbeats 1000000 in
/-- The body where the weights are kept and the block is used. -/
theorem run_KU (c : Dev nD) (i : grid0.Coords) (arg4 : Memref sig .tc .vmem S256x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S256x1024 .bf16) (harg9 : arg9.IsWhole) (arg10 : Memref sig .tc .vmem S1024x2048 .bf16) (harg10 : arg10.IsWhole) (arg11 : Memref sig .tc .vmem S1024x1024 .bf16) (harg11 : arg11.IsWhole) (x0 : Vec F S256x512 .i32) (x1 : Vec F S1x1x1024x2048 .f32) (x2 : Vec F S1x1x1x2048 .f32) (x3 : Vec F S1x1x1024x1024 .f32) (x4 : Vec F S1x1x1x1024 .f32) (xt0 : Tb (F := F) c tb0) (xt1 : Tb (F := F) c tb1) (xt2 : Tb (F := F) c tb2) (y0 : Vec F S1024x2048 .bf16) (y1 : Vec F S1024x1024 .bf16)
    (hR : ¬Reload c i xt0) (h2 : k0_cond2 i (nUsed c xt1) = 1#1) (h3 : ¬k0_cond3 i (nUsed c xt1) = 1#1) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare y0 ∗ owns (c : Thread nD τ) arg11 fullShare y1 ∗ tbPt c tb0 xt0 ∗ tbPt c tb1 xt1 ∗ tbPt c tb2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (k0_pay3 (k0_pay5 x0 (bvAt c i xt2) y0 x2 y1) x4) ∗ owns (c : Thread nD τ) arg10 fullShare y0 ∗ owns (c : Thread nD τ) arg11 fullShare y1 ∗ tbPt c tb0 xt0 ∗ tbPt c tb1 xt1 ∗ tbPt c tb2 xt2) -∗ K ⟨⟩))
          ⊢ wp frame (wpE (defs₀ (F := F)) Variants.none c none) E (cc0_moe_experts i tb0 (Memref.isWhole_whole _) tb1 (Memref.isWhole_whole _) tb2 (Memref.isWhole_whole _) arg4 harg4 arg5 harg5 arg6 harg6 arg7 harg7 arg8 harg8 arg9 harg9 arg10 harg10 arg11 harg11) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    obtain rfl := harg10.eq_unread hs0; obtain rfl := harg11.eq_unread hs1
    sl_exec (disch := first | sl_exact hR | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; swap; · iexact H5
      ipureintro
      refine (rdw arg9.view _ off2 _ _).trans ?_
      exact pay_congr (ldw arg4.view _ off2 _ _ (harg4.read_unread x0)) (ldw arg10.view _ off2 _ _ ((congrArg (View.read (Elt F) arg10.view) (dif_neg hR)).trans (harg10.read_unread y0))) (ldw arg6.view _ off4 _ _ (harg6.read_unread x2)) (ldw arg11.view _ off2 _ _ ((congrArg (View.read (Elt F) arg11.view) (dif_neg hR)).trans (harg11.read_unread y1))) (ldw arg8.view _ off4 _ _ (harg8.read_unread x4))
    isplitl [HS0]
    · iexists _; isplitr; swap; · iexact HS0
      ipureintro
      exact (congrArg (View.read (Elt F) arg10.view) (dif_neg hR)).trans (harg10.read_unread y0)
    isplitl [HS1]
    · iexists _; isplitr; swap; · iexact HS1
      ipureintro
      exact (congrArg (View.read (Elt F) arg11.view) (dif_neg hR)).trans (harg11.read_unread y1)
    isplitl [HT0]; · iexact HT0
    isplitl [HT1]; · iexact HT1
    iexact HT2

set_option maxHeartbeats 1000000 in
/-- The body where the weights are loaded anew and the block is unused. -/
theorem run_RN (c : Dev nD) (i : grid0.Coords) (arg4 : Memref sig .tc .vmem S256x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S256x1024 .bf16) (harg9 : arg9.IsWhole) (arg10 : Memref sig .tc .vmem S1024x2048 .bf16) (harg10 : arg10.IsWhole) (arg11 : Memref sig .tc .vmem S1024x1024 .bf16) (harg11 : arg11.IsWhole) (x0 : Vec F S256x512 .i32) (x1 : Vec F S1x1x1024x2048 .f32) (x2 : Vec F S1x1x1x2048 .f32) (x3 : Vec F S1x1x1024x1024 .f32) (x4 : Vec F S1x1x1x1024 .f32) (xt0 : Tb (F := F) c tb0) (xt1 : Tb (F := F) c tb1) (xt2 : Tb (F := F) c tb2) (y0 : Vec F S1024x2048 .bf16) (y1 : Vec F S1024x1024 .bf16)
    (hR : Reload c i xt0) (h2 : ¬k0_cond2 i (nUsed c xt1) = 1#1) (h3 : k0_cond3 i (nUsed c xt1) = 1#1) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare y0 ∗ owns (c : Thread nD τ) arg11 fullShare y1 ∗ tbPt c tb0 xt0 ∗ tbPt c tb1 xt1 ∗ tbPt c tb2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (k0_pay4 (F := F)) ∗ owns (c : Thread nD τ) arg10 fullShare (k0_pay1 x1) ∗ owns (c : Thread nD τ) arg11 fullShare (k0_pay2 x3) ∗ tbPt c tb0 xt0 ∗ tbPt c tb1 xt1 ∗ tbPt c tb2 xt2) -∗ K ⟨⟩))
          ⊢ wp frame (wpE (defs₀ (F := F)) Variants.none c none) E (cc0_moe_experts i tb0 (Memref.isWhole_whole _) tb1 (Memref.isWhole_whole _) tb2 (Memref.isWhole_whole _) arg4 harg4 arg5 harg5 arg6 harg6 arg7 harg7 arg8 harg8 arg9 harg9 arg10 harg10 arg11 harg11) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    obtain rfl := harg10.eq_unread hs0; obtain rfl := harg11.eq_unread hs1
    sl_exec (disch := first | sl_exact hR | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; swap; · iexact H5
      ipureintro
      exact rdw arg9.view _ off2 _ _
    isplitl [HS0]
    · iexists _; isplitr; swap; · iexact HS0
      ipureintro
      exact (congrArg (View.read (Elt F) arg10.view) (dif_pos hR)).trans ((rdw arg10.view _ off2 _ _).trans (congrArg k0_pay1 (ldw arg5.view _ off4 _ _ (harg5.read_unread x1))))
    isplitl [HS1]
    · iexists _; isplitr; swap; · iexact HS1
      ipureintro
      exact (congrArg (View.read (Elt F) arg11.view) (dif_pos hR)).trans ((rdw arg11.view _ off2 _ _).trans (congrArg k0_pay2 (ldw arg7.view _ off4 _ _ (harg7.read_unread x3))))
    isplitl [HT0]; · iexact HT0
    isplitl [HT1]; · iexact HT1
    iexact HT2

set_option maxHeartbeats 1000000 in
/-- The body where the weights are kept and the block is unused. -/
theorem run_KN (c : Dev nD) (i : grid0.Coords) (arg4 : Memref sig .tc .vmem S256x512 .i32) (harg4 : arg4.IsWhole) (arg5 : Memref sig .tc .vmem S1x1x1024x2048 .f32) (harg5 : arg5.IsWhole) (arg6 : Memref sig .tc .vmem S1x1x1x2048 .f32) (harg6 : arg6.IsWhole) (arg7 : Memref sig .tc .vmem S1x1x1024x1024 .f32) (harg7 : arg7.IsWhole) (arg8 : Memref sig .tc .vmem S1x1x1x1024 .f32) (harg8 : arg8.IsWhole) (arg9 : Memref sig .tc .vmem S256x1024 .bf16) (harg9 : arg9.IsWhole) (arg10 : Memref sig .tc .vmem S1024x2048 .bf16) (harg10 : arg10.IsWhole) (arg11 : Memref sig .tc .vmem S1024x1024 .bf16) (harg11 : arg11.IsWhole) (x0 : Vec F S256x512 .i32) (x1 : Vec F S1x1x1024x2048 .f32) (x2 : Vec F S1x1x1x2048 .f32) (x3 : Vec F S1x1x1024x1024 .f32) (x4 : Vec F S1x1x1x1024 .f32) (xt0 : Tb (F := F) c tb0) (xt1 : Tb (F := F) c tb1) (xt2 : Tb (F := F) c tb2) (y0 : Vec F S1024x2048 .bf16) (y1 : Vec F S1024x1024 .bf16)
    (hR : ¬Reload c i xt0) (h2 : ¬k0_cond2 i (nUsed c xt1) = 1#1) (h3 : k0_cond3 i (nUsed c xt1) = 1#1) :
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ (∃ d, owns (c : Thread nD τ) arg9 fullShare d) ∗ owns (c : Thread nD τ) arg10 fullShare y0 ∗ owns (c : Thread nD τ) arg11 fullShare y1 ∗ tbPt c tb0 xt0 ∗ tbPt c tb1 xt1 ∗ tbPt c tb2 xt2
            ∗ (iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare x4 ∗ owns (c : Thread nD τ) arg9 fullShare (k0_pay4 (F := F)) ∗ owns (c : Thread nD τ) arg10 fullShare y0 ∗ owns (c : Thread nD τ) arg11 fullShare y1 ∗ tbPt c tb0 xt0 ∗ tbPt c tb1 xt1 ∗ tbPt c tb2 xt2) -∗ K ⟨⟩))
          ⊢ wp frame (wpE (defs₀ (F := F)) Variants.none c none) E (cc0_moe_experts i tb0 (Memref.isWhole_whole _) tb1 (Memref.isWhole_whole _) tb2 (Memref.isWhole_whole _) arg4 harg4 arg5 harg5 arg6 harg6 arg7 harg7 arg8 harg8 arg9 harg9 arg10 harg10 arg11 harg11) K := by
    intro E K
    simp only [cc0_moe_experts_eq_skeleton]; unfold cc0_moe_experts_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hs0, HS0⟩, ⟨%fs1, %hs1, HS1⟩, HT0, HT1, HT2, Hk⟩
    obtain rfl := harg4.eq_unread hf0; obtain rfl := harg5.eq_unread hf1; obtain rfl := harg6.eq_unread hf2; obtain rfl := harg7.eq_unread hf3; obtain rfl := harg8.eq_unread hf4
    obtain rfl := harg10.eq_unread hs0; obtain rfl := harg11.eq_unread hs1
    sl_exec (disch := first | sl_exact hR | sl_exact h2 | sl_exact h3)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [H4]
    · iexists _; isplitr; · ipureintro; exact harg8.read_unread _
      iexact H4
    isplitl [H5]
    · iexists _; isplitr; swap; · iexact H5
      ipureintro
      exact rdw arg9.view _ off2 _ _
    isplitl [HS0]
    · iexists _; isplitr; swap; · iexact HS0
      ipureintro
      exact (congrArg (View.read (Elt F) arg10.view) (dif_neg hR)).trans (harg10.read_unread y0)
    isplitl [HS1]
    · iexists _; isplitr; swap; · iexact HS1
      ipureintro
      exact (congrArg (View.read (Elt F) arg11.view) (dif_neg hR)).trans (harg11.read_unread y1)
    isplitl [HT0]; · iexact HT0
    isplitl [HT1]; · iexact HT1
    iexact HT2

end Cert.Kernel3Ideal.Moe

end
-- ==== Proof.MoeHost.lean ====
/- What the host computes before the experts' call: the tables from the counts, and the biases' reshapes. -/
module

public import proofs.«01_k».proof.Proof.Gen.Kernel3Ideal.Launch
public import proofs.«01_k».proof.Proof.MoeTab
public import Idealize.ShloMosaic.Lib.StableHlo.Run

@[expose] public section

set_option maxRecDepth 16384
set_option Elab.async false

noncomputable section

namespace Cert.Kernel3Ideal.Moe

open Cert.Kernel3Ideal Cert.Kernel3Ideal.Gen
open Idealize.ShloMosaic Idealize.ShloMosaic.TcCoe Idealize.SL.Sem Idealize.ShloMosaic.StableHlo

variable {F : FTy → Type} [FloatOps F]

/-- The host's stretches, in order. -/
abbrev opss : List (List (HloOp τ sig (Elt F))) := [hostOps0, hostOps0_1, hostOps0_2, hostOps0_3, hostOps0_4, hostOps0_5, hostOps0_6, hostOps0_7, hostOps0_8]

/-- The buffers after stretch 1. -/
def hv1 (V0 : Valuation τ sig (Elt F)) : Valuation τ sig (Elt F) := after hostOps0 V0
/-- The buffers that it writes. -/
abbrev hW1 : List (Ref sig .tc) := [main_c, main_v0, main_v1, main_c_0, main_v2, main_v3, main_c_1]
theorem hw1 : (hostOps0 : List (HloOp τ sig (Elt F))).Forall fun op => op.writes ⊆ (hW1.map (Proc.devRef (τ := τ) .tc)).toFinset := by
  simp only [List.Forall, TRef.nullary, TRef.unary, TRef.binary, TRef.ternary]
  repeat' apply And.intro
  all_goals (simp only [nullary_writes, unary_writes, binary_writes, ternary_writes, reshape_writes, Finset.singleton_subset_iff, List.mem_toFinset]; exact List.mem_map_of_mem (by decide))
/-- A buffer that it does not write keeps its contents. -/
theorem hk1 (V0 : Valuation τ sig (Elt F)) (r : Ref sig .tc) (h : r ∉ hW1) : hv1 V0 (Proc.devRef .tc r) = V0 (Proc.devRef .tc r) :=
  after_of_writes_sub hostOps0 _ hw1 h

/-- The buffers after stretch 2. -/
def hv2 (V0 : Valuation τ sig (Elt F)) : Valuation τ sig (Elt F) := after hostOps0_1 (hv1 V0)
/-- The buffers that it writes. -/
abbrev hW2 : List (Ref sig .tc) := [main_call0_v0, main_call0_v1, main_call0_v2, main_call0_v3, main_call0_v4, main_call0_v5, main_call0_v6, main_call0_v7, main_call0_v8, main_call0_c, main_call0_v9, main_call0_v10, main_call0_v11, main_call0_c_0, main_call0_v12, main_call0_v13, main_v4]
theorem hw2 : (hostOps0_1 : List (HloOp τ sig (Elt F))).Forall fun op => op.writes ⊆ (hW2.map (Proc.devRef (τ := τ) .tc)).toFinset := by
  simp only [List.Forall, TRef.nullary, TRef.unary, TRef.binary, TRef.ternary]
  repeat' apply And.intro
  all_goals (simp only [nullary_writes, unary_writes, binary_writes, ternary_writes, reshape_writes, Finset.singleton_subset_iff, List.mem_toFinset]; exact List.mem_map_of_mem (by decide))
/-- A buffer that it does not write keeps its contents. -/
theorem hk2 (V0 : Valuation τ sig (Elt F)) (r : Ref sig .tc) (h : r ∉ hW2) : hv2 V0 (Proc.devRef .tc r) = (hv1 V0) (Proc.devRef .tc r) :=
  after_of_writes_sub hostOps0_1 _ hw2 h

/-- The buffers after stretch 3. -/
def hv3 (V0 : Valuation τ sig (Elt F)) : Valuation τ sig (Elt F) := after hostOps0_2 (hv2 V0)
/-- The buffers that it writes. -/
abbrev hW3 : List (Ref sig .tc) := [main_c_2, main_v5, main_v6]
theorem hw3 : (hostOps0_2 : List (HloOp τ sig (Elt F))).Forall fun op => op.writes ⊆ (hW3.map (Proc.devRef (τ := τ) .tc)).toFinset := by
  simp only [List.Forall, TRef.nullary, TRef.unary, TRef.binary, TRef.ternary]
  repeat' apply And.intro
  all_goals (simp only [nullary_writes, unary_writes, binary_writes, ternary_writes, reshape_writes, Finset.singleton_subset_iff, List.mem_toFinset]; exact List.mem_map_of_mem (by decide))
/-- A buffer that it does not write keeps its contents. -/
theorem hk3 (V0 : Valuation τ sig (Elt F)) (r : Ref sig .tc) (h : r ∉ hW3) : hv3 V0 (Proc.devRef .tc r) = (hv2 V0) (Proc.devRef .tc r) :=
  after_of_writes_sub hostOps0_2 _ hw3 h

/-- The buffers after stretch 4. -/
def hv4 (V0 : Valuation τ sig (Elt F)) : Valuation τ sig (Elt F) := after hostOps0_3 (hv3 V0)
/-- The buffers that it writes. -/
abbrev hW4 : List (Ref sig .tc) := [main_call1_call0_c, main_call1_call0_v0, main_v7]
theorem hw4 : (hostOps0_3 : List (HloOp τ sig (Elt F))).Forall fun op => op.writes ⊆ (hW4.map (Proc.devRef (τ := τ) .tc)).toFinset := by
  simp only [List.Forall, TRef.nullary, TRef.unary, TRef.binary, TRef.ternary]
  repeat' apply And.intro
  all_goals (simp only [nullary_writes, unary_writes, binary_writes, ternary_writes, reshape_writes, Finset.singleton_subset_iff, List.mem_toFinset]; exact List.mem_map_of_mem (by decide))
/-- A buffer that it does not write keeps its contents. -/
theorem hk4 (V0 : Valuation τ sig (Elt F)) (r : Ref sig .tc) (h : r ∉ hW4) : hv4 V0 (Proc.devRef .tc r) = (hv3 V0) (Proc.devRef .tc r) :=
  after_of_writes_sub hostOps0_3 _ hw4 h

/-- The buffers after stretch 5. -/
def hv5 (V0 : Valuation τ sig (Elt F)) : Valuation τ sig (Elt F) := after hostOps0_4 (hv4 V0)
/-- The buffers that it writes. -/
abbrev hW5 : List (Ref sig .tc) := [main_v8, main_v9, main_c_3, main_v10, main_v11, main_v12, main_v13, main_v14, main_v15, main_v16, main_v17, main_c_4, main_v18, main_c_5, main_v19, main_v20, main_c_6, main_v21, main_v22, main_c_7, main_v23, main_v24, main_v25, main_v26, main_v27, main_c_8, main_v28, main_v29, main_c_9, main_v30, main_v31, main_v32, main_v33, main_v34, main_v35, main_v36, main_c_10, main_c_11]
theorem hw5 : (hostOps0_4 : List (HloOp τ sig (Elt F))).Forall fun op => op.writes ⊆ (hW5.map (Proc.devRef (τ := τ) .tc)).toFinset := by
  simp only [List.Forall, TRef.nullary, TRef.unary, TRef.binary, TRef.ternary]
  repeat' apply And.intro
  all_goals (simp only [nullary_writes, unary_writes, binary_writes, ternary_writes, reshape_writes, Finset.singleton_subset_iff, List.mem_toFinset]; exact List.mem_map_of_mem (by decide))
/-- A buffer that it does not write keeps its contents. -/
theorem hk5 (V0 : Valuation τ sig (Elt F)) (r : Ref sig .tc) (h : r ∉ hW5) : hv5 V0 (Proc.devRef .tc r) = (hv4 V0) (Proc.devRef .tc r) :=
  after_of_writes_sub hostOps0_4 _ hw5 h

/-- The buffers after stretch 6. -/
def hv6 (V0 : Valuation τ sig (Elt F)) : Valuation τ sig (Elt F) := after hostOps0_5 (hv5 V0)
/-- The buffers that it writes. -/
abbrev hW6 : List (Ref sig .tc) := [main_call2_v0, main_call2_v1, main_call2_v2, main_call2_v3, main_call2_v4, main_v37]
theorem hw6 : (hostOps0_5 : List (HloOp τ sig (Elt F))).Forall fun op => op.writes ⊆ (hW6.map (Proc.devRef (τ := τ) .tc)).toFinset := by
  simp only [List.Forall, TRef.nullary, TRef.unary, TRef.binary, TRef.ternary]
  repeat' apply And.intro
  all_goals (simp only [nullary_writes, unary_writes, binary_writes, ternary_writes, reshape_writes, Finset.singleton_subset_iff, List.mem_toFinset]; exact List.mem_map_of_mem (by decide))
/-- A buffer that it does not write keeps its contents. -/
theorem hk6 (V0 : Valuation τ sig (Elt F)) (r : Ref sig .tc) (h : r ∉ hW6) : hv6 V0 (Proc.devRef .tc r) = (hv5 V0) (Proc.devRef .tc r) :=
  after_of_writes_sub hostOps0_5 _ hw6 h

/-- The buffers after stretch 7. -/
def hv7 (V0 : Valuation τ sig (Elt F)) : Valuation τ sig (Elt F) := after hostOps0_6 (hv6 V0)
/-- The buffers that it writes. -/
abbrev hW7 : List (Ref sig .tc) := [main_v38, main_c_12]
theorem hw7 : (hostOps0_6 : List (HloOp τ sig (Elt F))).Forall fun op => op.writes ⊆ (hW7.map (Proc.devRef (τ := τ) .tc)).toFinset := by
  simp only [List.Forall, TRef.nullary, TRef.unary, TRef.binary, TRef.ternary]
  repeat' apply And.intro
  all_goals (simp only [nullary_writes, unary_writes, binary_writes, ternary_writes, reshape_writes, Finset.singleton_subset_iff, List.mem_toFinset]; exact List.mem_map_of_mem (by decide))
/-- A buffer that it does not write keeps its contents. -/
theorem hk7 (V0 : Valuation τ sig (Elt F)) (r : Ref sig .tc) (h : r ∉ hW7) : hv7 V0 (Proc.devRef .tc r) = (hv6 V0) (Proc.devRef .tc r) :=
  after_of_writes_sub hostOps0_6 _ hw7 h

/-- The buffers after stretch 8. -/
def hv8 (V0 : Valuation τ sig (Elt F)) : Valuation τ sig (Elt F) := after hostOps0_7 (hv7 V0)
/-- The buffers that it writes. -/
abbrev hW8 : List (Ref sig .tc) := [main_call3_v0, main_call3_v1, main_call3_v2, main_call3_v3, main_call3_v4, main_call3_v5, main_call3_v6, main_call3_v7, main_call3_v8, main_call3_c, main_call3_v9, main_call3_v10, main_call3_v11, main_call3_c_0, main_call3_v12, main_call3_v13, main_v39]
theorem hw8 : (hostOps0_7 : List (HloOp τ sig (Elt F))).Forall fun op => op.writes ⊆ (hW8.map (Proc.devRef (τ := τ) .tc)).toFinset := by
  simp only [List.Forall, TRef.nullary, TRef.unary, TRef.binary, TRef.ternary]
  repeat' apply And.intro
  all_goals (simp only [nullary_writes, unary_writes, binary_writes, ternary_writes, reshape_writes, Finset.singleton_subset_iff, List.mem_toFinset]; exact List.mem_map_of_mem (by decide))
/-- A buffer that it does not write keeps its contents. -/
theorem hk8 (V0 : Valuation τ sig (Elt F)) (r : Ref sig .tc) (h : r ∉ hW8) : hv8 V0 (Proc.devRef .tc r) = (hv7 V0) (Proc.devRef .tc r) :=
  after_of_writes_sub hostOps0_7 _ hw8 h

/-- The buffers after stretch 9. -/
def hv9 (V0 : Valuation τ sig (Elt F)) : Valuation τ sig (Elt F) := after hostOps0_8 (hv8 V0)
/-- The buffers that it writes. -/
abbrev hW9 : List (Ref sig .tc) := [main_v40, main_v41]
theorem hw9 : (hostOps0_8 : List (HloOp τ sig (Elt F))).Forall fun op => op.writes ⊆ (hW9.map (Proc.devRef (τ := τ) .tc)).toFinset := by
  simp only [List.Forall, TRef.nullary, TRef.unary, TRef.binary, TRef.ternary]
  repeat' apply And.intro
  all_goals (simp only [nullary_writes, unary_writes, binary_writes, ternary_writes, reshape_writes, Finset.singleton_subset_iff, List.mem_toFinset]; exact List.mem_map_of_mem (by decide))
/-- A buffer that it does not write keeps its contents. -/
theorem hk9 (V0 : Valuation τ sig (Elt F)) (r : Ref sig .tc) (h : r ∉ hW9) : hv9 V0 (Proc.devRef .tc r) = (hv8 V0) (Proc.devRef .tc r) :=
  after_of_writes_sub hostOps0_8 _ hw9 h

theorem after_opss (V0 : Valuation τ sig (Elt F)) : after opss.flatten V0 = hv9 V0 := by
  simp only [opss, List.flatten_cons, List.flatten_nil, List.append_nil, after_append]
  rfl

/-- A buffer that no stretch writes keeps its contents through all of them. -/
theorem hk_all (V0 : Valuation τ sig (Elt F)) (r : Ref sig .tc) (h : r ∉ hW1 ++ hW2 ++ hW3 ++ hW4 ++ hW5 ++ hW6 ++ hW7 ++ hW8 ++ hW9) :
    hv9 V0 (Proc.devRef .tc r) = V0 (Proc.devRef .tc r) := by
  simp only [List.mem_append, not_or] at h
  obtain ⟨⟨⟨⟨⟨⟨⟨⟨h1, h2⟩, h3⟩, h4⟩, h5⟩, h6⟩, h7⟩, h8⟩, h9⟩ := h
  rw [hk9 _ _ h9, hk8 _ _ h8, hk7 _ _ h7, hk6 _ _ h6, hk5 _ _ h5, hk4 _ _ h4, hk3 _ _ h3, hk2 _ _ h2, hk1 _ _ h1]

/-! ## What each stretch computes -/

variable (V0 : Valuation τ sig (Elt F))

theorem h1_main_arg1 : hv1 V0 (no_index (Proc.devRef .tc main_arg1)) = V0 (Proc.devRef .tc main_arg1) :=
  (hk1 V0 main_arg1 (by decide)).trans rfl

theorem h2_main_arg1 : hv2 V0 (no_index (Proc.devRef .tc main_arg1)) = V0 (Proc.devRef .tc main_arg1) :=
  (hk2 V0 main_arg1 (by decide)).trans (h1_main_arg1 V0)

theorem h3_main_arg1 : hv3 V0 (no_index (Proc.devRef .tc main_arg1)) = V0 (Proc.devRef .tc main_arg1) :=
  (hk3 V0 main_arg1 (by decide)).trans (h2_main_arg1 V0)

theorem h4_main_arg1 : hv4 V0 (no_index (Proc.devRef .tc main_arg1)) = V0 (Proc.devRef .tc main_arg1) :=
  (hk4 V0 main_arg1 (by decide)).trans (h3_main_arg1 V0)

set_option maxHeartbeats 2000000 in
theorem h1_main_v3 : hv1 V0 (no_index (Proc.devRef .tc main_v3)) = Cert.Reference3Ideal.Read.val_main_v3 (F := F) (V0 (Proc.devRef .tc main_arg1)) := by
  unfold hv1
  simp only [hostOps0, TRef.binary, TRef.nullary, TRef.ternary, TRef.unary, TRef.toBuf, TRef.ofBuf, cast_eq]
  after_results_simp
  all_goals rfl

set_option maxHeartbeats 2000000 in
theorem h1_main_c_1 : hv1 V0 (no_index (Proc.devRef .tc main_c_1)) = constantI S_ 32 256#32 := by
  unfold hv1
  simp only [hostOps0, TRef.binary, TRef.nullary, TRef.ternary, TRef.unary, TRef.toBuf, TRef.ofBuf, cast_eq]
  after_results_simp
  all_goals rfl

set_option maxHeartbeats 2000000 in
theorem h2_main_v4 : hv2 V0 (no_index (Proc.devRef .tc main_v4)) = Cert.Reference3Ideal.Read.val_main_v4 (F := F) (V0 (Proc.devRef .tc main_arg1)) := by
  unfold hv2
  simp only [hostOps0_1, TRef.binary, TRef.nullary, TRef.ternary, TRef.unary, TRef.toBuf, TRef.ofBuf, cast_eq]
  after_results_simp
  simp only [h1_main_v3, h1_main_c_1] <;> rfl

set_option maxHeartbeats 2000000 in
theorem h3_main_v6 : hv3 V0 (no_index (Proc.devRef .tc main_v6)) = Cert.Reference3Ideal.Read.val_main_v6 (F := F) (V0 (Proc.devRef .tc main_arg1)) := by
  unfold hv3
  simp only [hostOps0_2, TRef.binary, TRef.nullary, TRef.ternary, TRef.unary, TRef.toBuf, TRef.ofBuf, cast_eq]
  after_results_simp
  simp only [h2_main_v4] <;> rfl

set_option maxHeartbeats 2000000 in
theorem h4_main_v7 : hv4 V0 (no_index (Proc.devRef .tc main_v7)) = Cert.Reference3Ideal.Read.val_main_v7 (F := F) (V0 (Proc.devRef .tc main_arg1)) := by
  unfold hv4
  simp only [hostOps0_3, TRef.binary, TRef.nullary, TRef.ternary, TRef.unary, TRef.toBuf, TRef.ofBuf, cast_eq]
  after_results_simp
  simp only [h3_main_v6] <;> rfl

theorem h4_main_v6 : hv4 V0 (no_index (Proc.devRef .tc main_v6)) = Cert.Reference3Ideal.Read.val_main_v6 (F := F) (V0 (Proc.devRef .tc main_arg1)) :=
  (hk4 V0 main_v6 (by decide)).trans (h3_main_v6 V0)

set_option maxHeartbeats 2000000 in
theorem h5_main_v20 : hv5 V0 (no_index (Proc.devRef .tc main_v20)) = Cert.Moe.tabE (F := F) (V0 (Proc.devRef .tc main_arg1)) := by
  unfold hv5
  simp only [hostOps0_4, TRef.binary, TRef.nullary, TRef.ternary, TRef.unary, TRef.toBuf, TRef.ofBuf, cast_eq]
  after_results_simp
  simp only [h4_main_v7] <;> rfl

set_option maxHeartbeats 2000000 in
theorem h5_main_v36 : hv5 V0 (no_index (Proc.devRef .tc main_v36)) = Cert.Moe.tabW (F := F) (Cert.Moe.tabE (F := F) (V0 (Proc.devRef .tc main_arg1))) (V0 (Proc.devRef .tc main_arg1)) := by
  unfold hv5
  simp only [hostOps0_4, TRef.binary, TRef.nullary, TRef.ternary, TRef.unary, TRef.toBuf, TRef.ofBuf, cast_eq]
  after_results_simp
  simp only [h4_main_v7, h4_main_v6, h4_main_arg1] <;> rfl

set_option maxHeartbeats 2000000 in
theorem h5_main_c_10 : hv5 V0 (no_index (Proc.devRef .tc main_c_10)) = constantI S_ 32 0#32 := by
  unfold hv5
  simp only [hostOps0_4, TRef.binary, TRef.nullary, TRef.ternary, TRef.unary, TRef.toBuf, TRef.ofBuf, cast_eq]
  after_results_simp
  all_goals rfl

set_option maxHeartbeats 2000000 in
theorem h5_main_c_11 : hv5 V0 (no_index (Proc.devRef .tc main_c_11)) = constantI S_ 32 256#32 := by
  unfold hv5
  simp only [hostOps0_4, TRef.binary, TRef.nullary, TRef.ternary, TRef.unary, TRef.toBuf, TRef.ofBuf, cast_eq]
  after_results_simp
  all_goals rfl

theorem h5_main_v7 : hv5 V0 (no_index (Proc.devRef .tc main_v7)) = Cert.Reference3Ideal.Read.val_main_v7 (F := F) (V0 (Proc.devRef .tc main_arg1)) :=
  (hk5 V0 main_v7 (by decide)).trans (h4_main_v7 V0)

set_option maxHeartbeats 2000000 in
theorem h6_main_v37 : hv6 V0 (no_index (Proc.devRef .tc main_v37)) = Cert.Moe.tabV (Cert.Moe.tabW (F := F) (Cert.Moe.tabE (F := F) (V0 (Proc.devRef .tc main_arg1))) (V0 (Proc.devRef .tc main_arg1))) := by
  unfold hv6
  simp only [hostOps0_5, TRef.binary, TRef.nullary, TRef.ternary, TRef.unary, TRef.toBuf, TRef.ofBuf, cast_eq]
  after_results_simp
  simp only [h5_main_v36, h5_main_c_10, h5_main_c_11] <;> rfl

theorem h6_main_v7 : hv6 V0 (no_index (Proc.devRef .tc main_v7)) = Cert.Reference3Ideal.Read.val_main_v7 (F := F) (V0 (Proc.devRef .tc main_arg1)) :=
  (hk6 V0 main_v7 (by decide)).trans (h5_main_v7 V0)

set_option maxHeartbeats 2000000 in
theorem h7_main_v38 : hv7 V0 (no_index (Proc.devRef .tc main_v38)) = Cert.Reference3Ideal.Read.val_main_v109 (F := F) (V0 (Proc.devRef .tc main_arg1)) := by
  unfold hv7
  simp only [hostOps0_6, TRef.binary, TRef.nullary, TRef.ternary, TRef.unary, TRef.toBuf, TRef.ofBuf, cast_eq]
  after_results_simp
  simp only [h6_main_v7] <;> rfl

set_option maxHeartbeats 2000000 in
theorem h7_main_c_12 : hv7 V0 (no_index (Proc.devRef .tc main_c_12)) = constantI S_ 32 256#32 := by
  unfold hv7
  simp only [hostOps0_6, TRef.binary, TRef.nullary, TRef.ternary, TRef.unary, TRef.toBuf, TRef.ofBuf, cast_eq]
  after_results_simp
  all_goals rfl

set_option maxHeartbeats 2000000 in
theorem h8_main_v39 : hv8 V0 (no_index (Proc.devRef .tc main_v39)) = Cert.Moe.tabN (Cert.Reference3Ideal.Read.val_main_v109 (F := F) (V0 (Proc.devRef .tc main_arg1))) := by
  unfold hv8
  simp only [hostOps0_7, TRef.binary, TRef.nullary, TRef.ternary, TRef.unary, TRef.toBuf, TRef.ofBuf, cast_eq]
  after_results_simp
  simp only [h7_main_v38, h7_main_c_12] <;> rfl

theorem h6_main_v20 : hv6 V0 (no_index (Proc.devRef .tc main_v20)) = Cert.Moe.tabE (F := F) (V0 (Proc.devRef .tc main_arg1)) :=
  (hk6 V0 main_v20 (by decide)).trans (h5_main_v20 V0)

theorem h7_main_v20 : hv7 V0 (no_index (Proc.devRef .tc main_v20)) = Cert.Moe.tabE (F := F) (V0 (Proc.devRef .tc main_arg1)) :=
  (hk7 V0 main_v20 (by decide)).trans (h6_main_v20 V0)

theorem h8_main_v20 : hv8 V0 (no_index (Proc.devRef .tc main_v20)) = Cert.Moe.tabE (F := F) (V0 (Proc.devRef .tc main_arg1)) :=
  (hk8 V0 main_v20 (by decide)).trans (h7_main_v20 V0)

theorem h9_main_v20 : hv9 V0 (no_index (Proc.devRef .tc main_v20)) = Cert.Moe.tabE (F := F) (V0 (Proc.devRef .tc main_arg1)) :=
  (hk9 V0 main_v20 (by decide)).trans (h8_main_v20 V0)

theorem h7_main_v37 : hv7 V0 (no_index (Proc.devRef .tc main_v37)) = Cert.Moe.tabV (Cert.Moe.tabW (F := F) (Cert.Moe.tabE (F := F) (V0 (Proc.devRef .tc main_arg1))) (V0 (Proc.devRef .tc main_arg1))) :=
  (hk7 V0 main_v37 (by decide)).trans (h6_main_v37 V0)

theorem h8_main_v37 : hv8 V0 (no_index (Proc.devRef .tc main_v37)) = Cert.Moe.tabV (Cert.Moe.tabW (F := F) (Cert.Moe.tabE (F := F) (V0 (Proc.devRef .tc main_arg1))) (V0 (Proc.devRef .tc main_arg1))) :=
  (hk8 V0 main_v37 (by decide)).trans (h7_main_v37 V0)

theorem h9_main_v37 : hv9 V0 (no_index (Proc.devRef .tc main_v37)) = Cert.Moe.tabV (Cert.Moe.tabW (F := F) (Cert.Moe.tabE (F := F) (V0 (Proc.devRef .tc main_arg1))) (V0 (Proc.devRef .tc main_arg1))) :=
  (hk9 V0 main_v37 (by decide)).trans (h8_main_v37 V0)

theorem h9_main_v39 : hv9 V0 (no_index (Proc.devRef .tc main_v39)) = Cert.Moe.tabN (Cert.Reference3Ideal.Read.val_main_v109 (F := F) (V0 (Proc.devRef .tc main_arg1))) :=
  (hk9 V0 main_v39 (by decide)).trans (h8_main_v39 V0)

theorem h1_main_arg3 : hv1 V0 (no_index (Proc.devRef .tc main_arg3)) = V0 (Proc.devRef .tc main_arg3) :=
  (hk1 V0 main_arg3 (by decide)).trans rfl

theorem h2_main_arg3 : hv2 V0 (no_index (Proc.devRef .tc main_arg3)) = V0 (Proc.devRef .tc main_arg3) :=
  (hk2 V0 main_arg3 (by decide)).trans (h1_main_arg3 V0)

theorem h3_main_arg3 : hv3 V0 (no_index (Proc.devRef .tc main_arg3)) = V0 (Proc.devRef .tc main_arg3) :=
  (hk3 V0 main_arg3 (by decide)).trans (h2_main_arg3 V0)

theorem h4_main_arg3 : hv4 V0 (no_index (Proc.devRef .tc main_arg3)) = V0 (Proc.devRef .tc main_arg3) :=
  (hk4 V0 main_arg3 (by decide)).trans (h3_main_arg3 V0)

theorem h5_main_arg3 : hv5 V0 (no_index (Proc.devRef .tc main_arg3)) = V0 (Proc.devRef .tc main_arg3) :=
  (hk5 V0 main_arg3 (by decide)).trans (h4_main_arg3 V0)

theorem h6_main_arg3 : hv6 V0 (no_index (Proc.devRef .tc main_arg3)) = V0 (Proc.devRef .tc main_arg3) :=
  (hk6 V0 main_arg3 (by decide)).trans (h5_main_arg3 V0)

theorem h7_main_arg3 : hv7 V0 (no_index (Proc.devRef .tc main_arg3)) = V0 (Proc.devRef .tc main_arg3) :=
  (hk7 V0 main_arg3 (by decide)).trans (h6_main_arg3 V0)

theorem h8_main_arg3 : hv8 V0 (no_index (Proc.devRef .tc main_arg3)) = V0 (Proc.devRef .tc main_arg3) :=
  (hk8 V0 main_arg3 (by decide)).trans (h7_main_arg3 V0)

theorem h1_main_arg5 : hv1 V0 (no_index (Proc.devRef .tc main_arg5)) = V0 (Proc.devRef .tc main_arg5) :=
  (hk1 V0 main_arg5 (by decide)).trans rfl

theorem h2_main_arg5 : hv2 V0 (no_index (Proc.devRef .tc main_arg5)) = V0 (Proc.devRef .tc main_arg5) :=
  (hk2 V0 main_arg5 (by decide)).trans (h1_main_arg5 V0)

theorem h3_main_arg5 : hv3 V0 (no_index (Proc.devRef .tc main_arg5)) = V0 (Proc.devRef .tc main_arg5) :=
  (hk3 V0 main_arg5 (by decide)).trans (h2_main_arg5 V0)

theorem h4_main_arg5 : hv4 V0 (no_index (Proc.devRef .tc main_arg5)) = V0 (Proc.devRef .tc main_arg5) :=
  (hk4 V0 main_arg5 (by decide)).trans (h3_main_arg5 V0)

theorem h5_main_arg5 : hv5 V0 (no_index (Proc.devRef .tc main_arg5)) = V0 (Proc.devRef .tc main_arg5) :=
  (hk5 V0 main_arg5 (by decide)).trans (h4_main_arg5 V0)

theorem h6_main_arg5 : hv6 V0 (no_index (Proc.devRef .tc main_arg5)) = V0 (Proc.devRef .tc main_arg5) :=
  (hk6 V0 main_arg5 (by decide)).trans (h5_main_arg5 V0)

theorem h7_main_arg5 : hv7 V0 (no_index (Proc.devRef .tc main_arg5)) = V0 (Proc.devRef .tc main_arg5) :=
  (hk7 V0 main_arg5 (by decide)).trans (h6_main_arg5 V0)

theorem h8_main_arg5 : hv8 V0 (no_index (Proc.devRef .tc main_arg5)) = V0 (Proc.devRef .tc main_arg5) :=
  (hk8 V0 main_arg5 (by decide)).trans (h7_main_arg5 V0)

set_option maxHeartbeats 2000000 in
theorem h9_main_v40 : hv9 V0 (no_index (Proc.devRef .tc main_v40)) = shapeCast S4x32x1x2048 (V0 (Proc.devRef .tc main_arg3)) shapeCasts_S4x32x2048_S4x32x1x2048 := by
  unfold hv9
  simp only [hostOps0_8, TRef.binary, TRef.nullary, TRef.ternary, TRef.unary, TRef.toBuf, TRef.ofBuf, cast_eq]
  after_results_simp
  simp only [h8_main_arg3] <;> rfl

set_option maxHeartbeats 2000000 in
theorem h9_main_v41 : hv9 V0 (no_index (Proc.devRef .tc main_v41)) = shapeCast S4x32x1x1024 (V0 (Proc.devRef .tc main_arg5)) shapeCasts_S4x32x1024_S4x32x1x1024 := by
  unfold hv9
  simp only [hostOps0_8, TRef.binary, TRef.nullary, TRef.ternary, TRef.unary, TRef.toBuf, TRef.ofBuf, cast_eq]
  after_results_simp
  simp only [h8_main_arg5] <;> rfl

end Cert.Kernel3Ideal.Moe

end
-- ==== Proof.MoeKit.lean ====
/- The expert kernel's body and pipeline: what every grid point does, and that the call ends with its arguments as they were. -/
module

public import proofs.«01_k».proof.Proof.MoeRun
public import proofs.«01_k».proof.Proof.MoeHost
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host's part -/

/-- What core `c` holds when the kernel is entered: the host's part done. -/
@[irreducible] def V (c : Dev nD) (b : Ref sig .tc) : Buf (Elt F) ((c : Thread nD τ).loc b) := StableHlo.after opss.flatten (fun b => m (c, b)) b

theorem hostOps0_fresh : (opss : List (List (HloOp τ sig (Elt F)))).Forall fun ops => ops.Forall fun op => op.fresh = ∅ := by
  simp only [List.Forall]; repeat' constructor

theorem hostOps0_subs : (opss : List (List (HloOp τ sig (Elt F)))).Forall fun ops => ops.Forall fun op => op.bufs ⊆ StableHlo.tcRefs τ sig := by
  simp only [opss, List.Forall]
  exact ⟨hostOps0_sub, hostOps0_1_sub, hostOps0_2_sub, hostOps0_3_sub, hostOps0_4_sub, hostOps0_5_sub, hostOps0_6_sub, hostOps0_7_sub, hostOps0_8_sub⟩

set_option maxHeartbeats 800000 in
theorem hmain (𝒱₀ : Variants) : Pipeline.HMainP (Ix := Unit) (Name := ℕ) (U := UR sig nD τ) (Lvl := ℕ) pcfgs 0 defs₀ 𝒱₀ m (main (F := F)) (V m) := by
  have e : V m = fun (c : Dev nD) (b : Ref sig .tc) => StableHlo.after opss.flatten (fun b => m (c, b)) (Proc.devRef .tc b) := by unfold V; rfl
  rw [e]
  exact Pipeline.hmainP_prefixes pcfgs 0 defs₀ 𝒱₀ m main opss hostOps0_subs hostOps0_fresh main_chain

theorem V_eq (c : Dev nD) (b : Ref sig .tc) : V m c b = hv9 (fun b => m (c, b)) (Proc.devRef .tc b) := by
  unfold V
  exact congrFun (after_opss (fun b => m (c, b))) (Proc.devRef .tc b)

/-- The host leaves argument 0 as it was. -/
theorem V_main_arg0 (c : Dev nD) : V m c main_arg0 = m ((c : Thread nD τ).loc main_arg0) :=
  (V_eq m c main_arg0).trans (hk_all _ main_arg0 (by decide))

/-- The host leaves argument 1 as it was. -/
theorem V_main_arg1 (c : Dev nD) : V m c main_arg1 = m ((c : Thread nD τ).loc main_arg1) :=
  (V_eq m c main_arg1).trans (hk_all _ main_arg1 (by decide))

/-- The host leaves argument 2 as it was. -/
theorem V_main_arg2 (c : Dev nD) : V m c main_arg2 = m ((c : Thread nD τ).loc main_arg2) :=
  (V_eq m c main_arg2).trans (hk_all _ main_arg2 (by decide))

/-- The host leaves argument 3 as it was. -/
theorem V_main_arg3 (c : Dev nD) : V m c main_arg3 = m ((c : Thread nD τ).loc main_arg3) :=
  (V_eq m c main_arg3).trans (hk_all _ main_arg3 (by decide))

/-- The host leaves argument 4 as it was. -/
theorem V_main_arg4 (c : Dev nD) : V m c main_arg4 = m ((c : Thread nD τ).loc main_arg4) :=
  (V_eq m c main_arg4).trans (hk_all _ main_arg4 (by decide))

/-- The host leaves argument 5 as it was. -/
theorem V_main_arg5 (c : Dev nD) : V m c main_arg5 = m ((c : Thread nD τ).loc main_arg5) :=
  (V_eq m c main_arg5).trans (hk_all _ main_arg5 (by decide))

/-- The biases' reshapes. -/
theorem V_main_v40 (c : Dev nD) : V m c main_v40 = shapeCast S4x32x1x2048 (m ((c : Thread nD τ).loc main_arg3)) shapeCasts_S4x32x2048_S4x32x1x2048 :=
  (V_eq m c main_v40).trans (h9_main_v40 _)
theorem V_main_v41 (c : Dev nD) : V m c main_v41 = shapeCast S4x32x1x1024 (m ((c : Thread nD τ).loc main_arg5)) shapeCasts_S4x32x1024_S4x32x1x1024 :=
  (V_eq m c main_v41).trans (h9_main_v41 _)

/-- The tables, from the counts. -/
theorem V_main_v20 (c : Dev nD) : V m c main_v20 = Cert.Moe.tabE (F := F) (m ((c : Thread nD τ).loc main_arg1)) :=
  (V_eq m c main_v20).trans (h9_main_v20 _)
theorem V_main_v39 (c : Dev nD) : V m c main_v39 = Cert.Moe.tabN (Cert.Reference3Ideal.Read.val_main_v109 (F := F) (m ((c : Thread nD τ).loc main_arg1))) :=
  (V_eq m c main_v39).trans (h9_main_v39 _)
theorem V_main_v37 (c : Dev nD) : V m c main_v37 = Cert.Moe.tabV (Cert.Moe.tabW (F := F) (Cert.Moe.tabE (F := F) (m ((c : Thread nD τ).loc main_arg1))) (m ((c : Thread nD τ).loc main_arg1))) :=
  (V_eq m c main_v37).trans (h9_main_v37 _)

/-! ## The tables -/

/-- The tables' contents. -/
def tbl : pre0.Contents (Elt F) := fun j => V m (0 : Dev nD) (pre0.ref j)
theorem V_pre (c : Dev nD) (j : Fin 3) : V m c (pre0.ref j) = tbl m j := by
  obtain rfl : c = 0 := Subsingleton.elim _ _; rfl
/-- Every block the tables name lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

theorem PhiT_eq (c : Dev nD) : (Pipeline.ΦT pre0 (tbl m) c : sProp 𝕄) = iprop(tbPt c tb0 (tbl m 0) ∗ tbPt c tb1 (tbl m 1) ∗ tbPt c tb2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows' blocks -/

/-- Window `w`'s block at point `t`. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before_of0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_of1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before_of2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before_of3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before_of4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

abbrev ms0 (hO : Ok m) (t : Fin (cfgM m hO).N) : Memref sig .tc .vmem S256x512 .i32 := spec0_0.stage ((cfgM m hO).slots t 0)
abbrev hs0 (hO : Ok m) (t : Fin (cfgM m hO).N) : (ms0 m hO t).IsWhole := hstage0_0 (((cfgM m hO).slots t 0).cast nbuf0_0)
abbrev ms1 (hO : Ok m) (t : Fin (cfgM m hO).N) : Memref sig .tc .vmem S1x1x1024x2048 .f32 := spec0_1.stage ((cfgM m hO).slots t 1)
abbrev hs1 (hO : Ok m) (t : Fin (cfgM m hO).N) : (ms1 m hO t).IsWhole := hstage0_1 (((cfgM m hO).slots t 1).cast nbuf0_1)
abbrev ms2 (hO : Ok m) (t : Fin (cfgM m hO).N) : Memref sig .tc .vmem S1x1x1x2048 .f32 := spec0_2.stage ((cfgM m hO).slots t 2)
abbrev hs2 (hO : Ok m) (t : Fin (cfgM m hO).N) : (ms2 m hO t).IsWhole := hstage0_2 (((cfgM m hO).slots t 2).cast nbuf0_2)
abbrev ms3 (hO : Ok m) (t : Fin (cfgM m hO).N) : Memref sig .tc .vmem S1x1x1024x1024 .f32 := spec0_3.stage ((cfgM m hO).slots t 3)
abbrev hs3 (hO : Ok m) (t : Fin (cfgM m hO).N) : (ms3 m hO t).IsWhole := hstage0_3 (((cfgM m hO).slots t 3).cast nbuf0_3)
abbrev ms4 (hO : Ok m) (t : Fin (cfgM m hO).N) : Memref sig .tc .vmem S1x1x1x1024 .f32 := spec0_4.stage ((cfgM m hO).slots t 4)
abbrev hs4 (hO : Ok m) (t : Fin (cfgM m hO).N) : (ms4 m hO t).IsWhole := hstage0_4 (((cfgM m hO).slots t 4).cast nbuf0_4)
abbrev ms5 (hO : Ok m) (t : Fin (cfgM m hO).N) : Memref sig .tc .vmem S256x1024 .bf16 := spec0_5.stage ((cfgM m hO).slots t 5)
abbrev hs5 (hO : Ok m) (t : Fin (cfgM m hO).N) : (ms5 m hO t).IsWhole := hstage0_5 (((cfgM m hO).slots t 5).cast nbuf0_5)
abbrev sc0 : Memref sig .tc .vmem S1024x2048 .bf16 := Memref.whole cc0_scratch0
abbrev sc1 : Memref sig .tc .vmem S1024x1024 .bf16 := Memref.whole cc0_scratch1

theorem PhiA_eq (c : Dev nD) :
    (Pipeline.ΦA spec0 c : sProp 𝕄)
      = iprop(iprop((∃ d, owns (c : Thread nD τ) sc0 fullShare d) ∗ (∃ d, owns (c : Thread nD τ) sc1 fullShare d)) ∗ (∃ r, prngReg c r)) := by
  unfold Pipeline.ΦA; rw [scopedRest0_eq]; simp only [sc0, sc1, owns_whole]; try rfl

/-- The kernel body at point `t`. -/
abbrev bodyAt (hO : Ok m) (t : Fin (cfgM m hO).N) : Prog (TpuEff nD τ sig (Elt F) Λ₀ .tc) PUnit :=
  cc0_moe_experts (grid0.coords t) tb0 (Memref.isWhole_whole _) tb1 (Memref.isWhole_whole _) tb2 (Memref.isWhole_whole _) (ms0 m hO t) (hs0 m hO t) (ms1 m hO t) (hs1 m hO t) (ms2 m hO t) (hs2 m hO t) (ms3 m hO t) (hs3 m hO t) (ms4 m hO t) (hs4 m hO t) (ms5 m hO t) (hs5 m hO t) sc0 (Memref.isWhole_whole _) sc1 (Memref.isWhole_whole _)

/-! ## The conditions -/

theorem coord_val : ∀ t : Fin grid0.N, (grid0.coords t 0).val = t.val := by decide +kernel
theorem off2_val : ∀ t : Fin grid0.N, k0_off2 (grid0.coords t) = ![t.val - 1] := by decide +kernel

theorem off1_val (t : Fin grid0.N) : k0_off1 (grid0.coords t) = ![t.val] := by
  rw [k0_off1_eq, coord_val]

/-- The weights are loaded anew exactly under one of the two conditions. -/
theorem reload_iff (p : BitVec 1) (a b : BitVec 32) :
    Scalar.cmpi .ne (Scalar.extui (Scalar.ori p (Scalar.cmpi .ne a b)) : BitVec 32) 0#32 = 1#1 ↔ p = 1#1 ∨ a ≠ b := by
  by_cases h : a = b
  · subst h
    have hp : p = 0#1 ∨ p = 1#1 := by revert p; decide
    have e : Scalar.cmpi .ne a a = 0#1 := by simp [Scalar.cmpi, IntOp.cmpi]
    rw [e]
    rcases hp with rfl | rfl <;> simp <;> decide
  · have hp : p = 0#1 ∨ p = 1#1 := by revert p; decide
    have e : Scalar.cmpi .ne a b = 1#1 := by show BitVec.ofBool (a != b) = 1#1; rw [bne_iff_ne.mpr h]; rfl
    rw [e]
    rcases hp with rfl | rfl <;> simp [h] <;> decide

/-- The two conditions on the block number exclude each other and leave nothing out. -/
theorem cond3_iff (i : grid0.Coords) (n : BitVec 32) : k0_cond3 i n = 1#1 ↔ ¬k0_cond2 i n = 1#1 := by
  unfold k0_cond3 k0_cond2
  generalize BitVec.ofNat 32 (i 0).val = a
  by_cases h : BitVec.slt a n = true <;> simp [Scalar.cmpi, IntOp.cmpi, BitVec.sle_eq_not_slt, h] <;> decide

theorem idle5 (pf : pre0.Contents (Elt F)) (i : grid0.Coords) : idle0 pf 5 i = false := by
  show (!(k0_cond2 i (pf.atD 1 ![0]) == 1#1) && !(k0_cond3 i (pf.atD 1 ![0]) == 1#1)) = false
  by_cases h : k0_cond2 i (pf.atD 1 ![0]) = 1#1
  · rw [h]; rfl
  · rw [(cond3_iff i _).mpr h]; simp

end Cert.Kernel3Ideal.Moe

end
-- ==== Proof.MoeFrame.lean ====
/- The expert kernel's body and pipeline: what every grid point does, and that the call ends with its arguments as they were. -/
module

public import proofs.«01_k».proof.Proof.MoeKit
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Where the weights are kept -/

section Congr
variable (hO : Ok m) (c : Dev nD)

/-- Window 1's blocks at two points whose indices agree are one. -/
theorem iblk1_congr (t s : Fin (cfgM m hO).N)
    (h : cc0_transform_1 k0_off1_inb numel1_S1 (tbl m) (grid0.coords t) = cc0_transform_1 k0_off1_inb numel1_S1 (tbl m) (grid0.coords s)) :
    (iblk m hO c 1 t : Vec F S1x1x1024x2048 .f32) = iblk m hO c 1 s := by
  have key : ∀ (o o' : Fin 4 → ℕ) (a : ∀ a, (o a + 1) * S1x1x1024x2048.size a ≤ S4x32x1024x2048.size a) (b : ∀ a, (o' a + 1) * S1x1x1024x2048.size a ≤ S4x32x1024x2048.size a), o = o' →
      (fun y : S1x1x1024x2048.Idx => V m c main_arg2 ((Rect.block (s := S4x32x1024x2048) S1x1x1024x2048.size o a).emb y)) = fun y => V m c main_arg2 ((Rect.block (s := S4x32x1024x2048) S1x1x1024x2048.size o' b).emb y) := by
    intro o o' a b e; subst e; rfl
  obtain ⟨a, -⟩ := hO.1 (grid0.coords t)
  obtain ⟨b, -⟩ := hO.1 (grid0.coords s)
  exact key _ _ a b h

/-- Window 3's blocks at two points whose indices agree are one. -/
theorem iblk3_congr (t s : Fin (cfgM m hO).N)
    (h : cc0_transform_3 k0_off1_inb numel1_S1 (tbl m) (grid0.coords t) = cc0_transform_3 k0_off1_inb numel1_S1 (tbl m) (grid0.coords s)) :
    (iblk m hO c 3 t : Vec F S1x1x1024x1024 .f32) = iblk m hO c 3 s := by
  have key : ∀ (o o' : Fin 4 → ℕ) (a : ∀ a, (o a + 1) * S1x1x1024x1024.size a ≤ S4x32x1024x1024.size a) (b : ∀ a, (o' a + 1) * S1x1x1024x1024.size a ≤ S4x32x1024x1024.size a), o = o' →
      (fun y : S1x1x1024x1024.Idx => V m c main_arg4 ((Rect.block (s := S4x32x1024x1024) S1x1x1024x1024.size o a).emb y)) = fun y => V m c main_arg4 ((Rect.block (s := S4x32x1024x1024) S1x1x1024x1024.size o' b).emb y) := by
    intro o o' a b e; subst e; rfl
  obtain ⟨a, -⟩ := hO.2.2.1 (grid0.coords t)
  obtain ⟨b, -⟩ := hO.2.2.1 (grid0.coords s)
  exact key _ _ a b h

/-- The index maps read the block's expert. -/
theorem tr_eq (t s : Fin grid0.N) (h : beAt (F := F) c (grid0.coords t) (tbl m 0) = beAt (F := F) c (grid0.coords s) (tbl m 0)) :
    cc0_transform_1 k0_off1_inb numel1_S1 (tbl m) (grid0.coords t) = cc0_transform_1 k0_off1_inb numel1_S1 (tbl m) (grid0.coords s)
    ∧ cc0_transform_3 k0_off1_inb numel1_S1 (tbl m) (grid0.coords t) = cc0_transform_3 k0_off1_inb numel1_S1 (tbl m) (grid0.coords s) :=
  ⟨congrArg (fun z : BitVec 32 => (![(0#32).toNat, z.toNat, (0#32).toNat, (0#32).toNat] : Fin 4 → ℕ)) h,
   congrArg (fun z : BitVec 32 => (![(0#32).toNat, z.toNat, (0#32).toNat, (0#32).toNat] : Fin 4 → ℕ)) h⟩

/-- The body's look back reads the expert of the point before. -/
theorem bePrev_eq (t s : Fin grid0.N) (h : s.val = t.val - 1) :
    bePrev (F := F) c (grid0.coords t) (tbl m 0) = beAt (F := F) c (grid0.coords s) (tbl m 0) := by
  have key : ∀ (o o' : Fin 1 → ℕ) (a : ∀ a, o a + S1.size a ≤ S292.size a) (b : ∀ a, o' a + S1.size a ≤ S292.size a), o = o' →
      ((tb0.access (Rect.unit (s := S292) o S1.size a)).read (Elt F) (tbl m 0) (Shape.Idx.first (numel1_S1.symm ▸ Nat.one_pos)) : BitVec 32)
      = (tb0.access (Rect.unit (s := S292) o' S1.size b)).read (Elt F) (tbl m 0) (Shape.Idx.first (numel1_S1.symm ▸ Nat.one_pos)) := by
    intro o o' a b e; subst e; rfl
  exact key _ _ _ _ (by rw [off2_val, off1_val, h])

/-- At the first point the weights are loaded. -/
theorem reload_zero (t : Fin grid0.N) (h : t.val = 0) : Reload (F := F) c (grid0.coords t) (tbl m 0) := by
  refine (reload_iff _ _ _).mpr (.inl ?_)
  rw [coord_val, h]; rfl

/-- Where they are kept, the blocks are those of the point before. -/
theorem keep (t s : Fin (cfgM m hO).N) (h : s.val = t.val - 1) (hR : ¬Reload (F := F) c (grid0.coords t) (tbl m 0)) :
    (iblk m hO c 1 t : Vec F S1x1x1024x2048 .f32) = iblk m hO c 1 s ∧ (iblk m hO c 3 t : Vec F S1x1x1024x1024 .f32) = iblk m hO c 3 s := by
  have e : beAt (F := F) c (grid0.coords t) (tbl m 0) = beAt (F := F) c (grid0.coords s) (tbl m 0) := by
    by_contra hne
    exact hR ((reload_iff _ _ _).mpr (.inr fun hh => hne (hh.trans (bePrev_eq m c t s h))))
  exact ⟨iblk1_congr m hO c t s (tr_eq m c t s e).1, iblk3_congr m hO c t s (tr_eq m c t s e).2⟩

end Congr

/-! ## What every point leaves -/

/-- The weights as the scratch holds them after point `t`. -/
def w0 (hO : Ok m) (c : Dev nD) (t : Fin (cfgM m hO).N) : Vec F S1024x2048 .bf16 := k0_pay1 (iblk m hO c 1 t)
def w1 (hO : Ok m) (c : Dev nD) (t : Fin (cfgM m hO).N) : Vec F S1024x1024 .bf16 := k0_pay2 (iblk m hO c 3 t)

/-- A used point. -/
abbrev Used (c : Dev nD) (i : grid0.Coords) : Prop := k0_cond2 i (nUsed (F := F) c (tbl m 1)) = 1#1

/-- The output block after point `t`. -/
def outB (hO : Ok m) (c : Dev nD) (t : Fin (cfgM m hO).N) : Vec F S256x1024 .bf16 :=
  if Used m c (grid0.coords t) then
    k0_pay3 (k0_pay5 (iblk m hO c 0 t) (bvAt c (grid0.coords t) (tbl m 2)) (w0 m hO c t) (iblk m hO c 2 t) (w1 m hO c t)) (iblk m hO c 4 t)
  else k0_pay4

/-- What holds before position `n`. -/
def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) sc0 fullShare (w0 m hO c ⟨n, hn⟩) ∗ owns (c : Thread nD τ) sc1 fullShare (w1 m hO c ⟨n, hn⟩)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl
theorem PhiS_succ (hO : Ok m) (c : Dev nD) (t : Fin (cfgM m hO).N) :
    PhiS m hO c (t.val + 1) t.isLt = iprop(iprop(iprop(owns (c : Thread nD τ) sc0 fullShare (w0 m hO c t) ∗ owns (c : Thread nD τ) sc1 fullShare (w1 m hO c t)) ∗ (∃ r, prngReg c r)) ∗ Pipeline.ΦT pre0 (tbl m) c) := rfl
theorem PhiS_pos (hO : Ok m) (c : Dev nD) (n : ℕ) (h : n ≤ (cfgM m hO).N) (hz : n ≠ 0) :
    PhiS m hO c n h = iprop(iprop(iprop(owns (c : Thread nD τ) sc0 fullShare (w0 m hO c ⟨n - 1, by omega⟩) ∗ owns (c : Thread nD τ) sc1 fullShare (w1 m hO c ⟨n - 1, by omega⟩)) ∗ (∃ r, prngReg c r)) ∗ Pipeline.ΦT pre0 (tbl m) c) := by
  cases n with
  | zero => exact absurd rfl hz
  | succ n => rfl

/-- The pipeline's data: every input's block in place, the output at `outB`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => outB m hO c t
  Φ t := PhiS m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]
theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0 (hO : Ok m) (c : Dev nD) (t : Fin (cfgM m hO).N) : (dats m hO 0 c).after 0 t = iblk m hO c 0 t := by dsimp only [dats]; try rfl
theorem before0 (hO : Ok m) (c : Dev nD) (t : Fin (cfgM m hO).N) (d) : (dats m hO 0 c).before 0 t d = iblk m hO c 0 t :=
  before_of0 m hO (dats m hO 0 c) (A_eq m hO c 0) (after0 m hO c) t d
theorem after1 (hO : Ok m) (c : Dev nD) (t : Fin (cfgM m hO).N) : (dats m hO 0 c).after 1 t = iblk m hO c 1 t := by dsimp only [dats]; try rfl
theorem before1 (hO : Ok m) (c : Dev nD) (t : Fin (cfgM m hO).N) (d) : (dats m hO 0 c).before 1 t d = iblk m hO c 1 t :=
  before_of1 m hO (dats m hO 0 c) (A_eq m hO c 1) (after1 m hO c) t d
theorem after2 (hO : Ok m) (c : Dev nD) (t : Fin (cfgM m hO).N) : (dats m hO 0 c).after 2 t = iblk m hO c 2 t := by dsimp only [dats]; try rfl
theorem before2 (hO : Ok m) (c : Dev nD) (t : Fin (cfgM m hO).N) (d) : (dats m hO 0 c).before 2 t d = iblk m hO c 2 t :=
  before_of2 m hO (dats m hO 0 c) (A_eq m hO c 2) (after2 m hO c) t d
theorem after3 (hO : Ok m) (c : Dev nD) (t : Fin (cfgM m hO).N) : (dats m hO 0 c).after 3 t = iblk m hO c 3 t := by dsimp only [dats]; try rfl
theorem before3 (hO : Ok m) (c : Dev nD) (t : Fin (cfgM m hO).N) (d) : (dats m hO 0 c).before 3 t d = iblk m hO c 3 t :=
  before_of3 m hO (dats m hO 0 c) (A_eq m hO c 3) (after3 m hO c) t d
theorem after4 (hO : Ok m) (c : Dev nD) (t : Fin (cfgM m hO).N) : (dats m hO 0 c).after 4 t = iblk m hO c 4 t := by dsimp only [dats]; try rfl
theorem before4 (hO : Ok m) (c : Dev nD) (t : Fin (cfgM m hO).N) (d) : (dats m hO 0 c).before 4 t d = iblk m hO c 4 t :=
  before_of4 m hO (dats m hO 0 c) (A_eq m hO c 4) (after4 m hO c) t d
theorem after5 (hO : Ok m) (c : Dev nD) (t : Fin (cfgM m hO).N) : (dats m hO 0 c).after 5 t = outB m hO c t := by dsimp only [dats]; try rfl

/-! ## The body at any point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d))
    ∗ (∃ d, owns (c : Thread nD τ) (ms5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0 m hO t) fullShare ((dats m hO 0 c).after 0 t)
    ∗ owns (c : Thread nD τ) (ms1 m hO t) fullShare ((dats m hO 0 c).after 1 t)
    ∗ owns (c : Thread nD τ) (ms2 m hO t) fullShare ((dats m hO 0 c).after 2 t)
    ∗ owns (c : Thread nD τ) (ms3 m hO t) fullShare ((dats m hO 0 c).after 3 t)
    ∗ owns (c : Thread nD τ) (ms4 m hO t) fullShare ((dats m hO 0 c).after 4 t)
    ∗ owns (c : Thread nD τ) (ms5 m hO t) fullShare ((dats m hO 0 c).after 5 t))

set_option maxHeartbeats 6400000 in
/-- The body at any point. -/
theorem sound_body (hO : Ok m) (c : Dev nD) (t : Fin (cfgM m hO).N) :
    bodyPre m hO c t ⊢ wp frame (wpE (defs₀ (F := F)) Variants.none c none) Set.univ (bodyAt m hO t) (fun _ => bodyPost m hO c t) := by
  unfold bodyPre bodyPost bodyAt
  simp only [before0, before1, before2, before3, before4]
  rw [show (dats m hO 0 c).owesAt () t.succ = (dats m hO 0 c).owesAt () t.castSucc from rfl,
    after0, after1, after2, after3, after4, after5]
  rw [show (dats m hO 0 c).Φ t.succ = PhiS m hO c (t.val + 1) t.isLt from rfl, PhiS_succ, PhiT_eq]
  by_cases hz : t.val = 0
  · have hR := reload_zero (F := F) m c t hz
    rw [PhiS_castSucc m hO c t, PhiS_zero m hO c _ _ hz, PhiT_eq, PhiA_eq]
    by_cases hU : Used m c (grid0.coords t)
    · rw [show outB m hO c t = _ from if_pos hU]
      iintro ⟨⟨⟨⟨⟨%y0, HS0⟩, ⟨%y1, HS1⟩⟩, Hg⟩, ⟨HT0, HT1, HT2⟩⟩, Ho, ⟨%d0, H0⟩, ⟨%d1, H1⟩, ⟨%d2, H2⟩, ⟨%d3, H3⟩, ⟨%d4, H4⟩, ⟨%d5, H5⟩⟩
      iapply (run_RU (F := F) c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) sc0 (Memref.isWhole_whole _) sc1 (Memref.isWhole_whole _) (iblk m hO c 0 t) (iblk m hO c 1 t) (iblk m hO c 2 t) (iblk m hO c 3 t) (iblk m hO c 4 t) (tbl m 0) (tbl m 1) (tbl m 2) y0 y1 hR hU (fun h => (cond3_iff _ _).mp h hU) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      isplitl [HT2]; · iexact HT2
      iintro ⟨H0, H1, H2, H3, H4, H5, HS0, HS1, HT0, HT1, HT2⟩
      isplitl [HS0 HS1 Hg HT0 HT1 HT2]
      · isplitl [HS0 HS1 Hg]
        · isplitl [HS0 HS1]
          · isplitl [HS0]
            · iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      iexact H5

    · rw [show outB m hO c t = _ from if_neg hU]
      iintro ⟨⟨⟨⟨⟨%y0, HS0⟩, ⟨%y1, HS1⟩⟩, Hg⟩, ⟨HT0, HT1, HT2⟩⟩, Ho, ⟨%d0, H0⟩, ⟨%d1, H1⟩, ⟨%d2, H2⟩, ⟨%d3, H3⟩, ⟨%d4, H4⟩, ⟨%d5, H5⟩⟩
      iapply (run_RN (F := F) c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) sc0 (Memref.isWhole_whole _) sc1 (Memref.isWhole_whole _) (iblk m hO c 0 t) (iblk m hO c 1 t) (iblk m hO c 2 t) (iblk m hO c 3 t) (iblk m hO c 4 t) (tbl m 0) (tbl m 1) (tbl m 2) y0 y1 hR hU ((cond3_iff _ _).mpr hU) Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HT0]; · iexact HT0
      isplitl [HT1]; · iexact HT1
      isplitl [HT2]; · iexact HT2
      iintro ⟨H0, H1, H2, H3, H4, H5, HS0, HS1, HT0, HT1, HT2⟩
      isplitl [HS0 HS1 Hg HT0 HT1 HT2]
      · isplitl [HS0 HS1 Hg]
        · isplitl [HS0 HS1]
          · isplitl [HS0]
            · iexact HS0
            iexact HS1
          iexact Hg
        isplitl [HT0]; · iexact HT0
        isplitl [HT1]; · iexact HT1
        iexact HT2
      isplitl [Ho]; · iexact Ho
      isplitl [H0]; · iexact H0
      isplitl [H1]; · iexact H1
      isplitl [H2]; · iexact H2
      isplitl [H3]; · iexact H3
      isplitl [H4]; · iexact H4
      iexact H5

  · rw [PhiS_castSucc m hO c t, PhiS_pos m hO c _ _ hz, PhiT_eq]
    by_cases hR : Reload (F := F) c (grid0.coords t) (tbl m 0)
    · by_cases hU : Used m c (grid0.coords t)
      · rw [show outB m hO c t = _ from if_pos hU]
        iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
        iapply (run_RU (F := F) c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) sc0 (Memref.isWhole_whole _) sc1 (Memref.isWhole_whole _) (iblk m hO c 0 t) (iblk m hO c 1 t) (iblk m hO c 2 t) (iblk m hO c 3 t) (iblk m hO c 4 t) (tbl m 0) (tbl m 1) (tbl m 2) _ _ hR hU (fun h => (cond3_iff _ _).mp h hU) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HT0]; · iexact HT0
        isplitl [HT1]; · iexact HT1
        isplitl [HT2]; · iexact HT2
        iintro ⟨H0, H1, H2, H3, H4, H5, HS0, HS1, HT0, HT1, HT2⟩
        isplitl [HS0 HS1 Hg HT0 HT1 HT2]
        · isplitl [HS0 HS1 Hg]
          · isplitl [HS0 HS1]
            · isplitl [HS0]
              · iexact HS0
              iexact HS1
            iexact Hg
          isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        isplitl [H4]; · iexact H4
        iexact H5

      · rw [show outB m hO c t = _ from if_neg hU]
        iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
        iapply (run_RN (F := F) c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) sc0 (Memref.isWhole_whole _) sc1 (Memref.isWhole_whole _) (iblk m hO c 0 t) (iblk m hO c 1 t) (iblk m hO c 2 t) (iblk m hO c 3 t) (iblk m hO c 4 t) (tbl m 0) (tbl m 1) (tbl m 2) _ _ hR hU ((cond3_iff _ _).mpr hU) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HT0]; · iexact HT0
        isplitl [HT1]; · iexact HT1
        isplitl [HT2]; · iexact HT2
        iintro ⟨H0, H1, H2, H3, H4, H5, HS0, HS1, HT0, HT1, HT2⟩
        isplitl [HS0 HS1 Hg HT0 HT1 HT2]
        · isplitl [HS0 HS1 Hg]
          · isplitl [HS0 HS1]
            · isplitl [HS0]
              · iexact HS0
              iexact HS1
            iexact Hg
          isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        isplitl [H4]; · iexact H4
        iexact H5

    · have hk := keep m hO c t ⟨t.val - 1, by omega⟩ rfl hR
      rw [show w0 m hO c ⟨t.val - 1, by omega⟩ = w0 m hO c t from congrArg k0_pay1 hk.1.symm, show w1 m hO c ⟨t.val - 1, by omega⟩ = w1 m hO c t from congrArg k0_pay2 hk.2.symm]
      by_cases hU : Used m c (grid0.coords t)
      · rw [show outB m hO c t = _ from if_pos hU]
        iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
        iapply (run_KU (F := F) c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) sc0 (Memref.isWhole_whole _) sc1 (Memref.isWhole_whole _) (iblk m hO c 0 t) (iblk m hO c 1 t) (iblk m hO c 2 t) (iblk m hO c 3 t) (iblk m hO c 4 t) (tbl m 0) (tbl m 1) (tbl m 2) (w0 m hO c t) (w1 m hO c t) hR hU (fun h => (cond3_iff _ _).mp h hU) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HT0]; · iexact HT0
        isplitl [HT1]; · iexact HT1
        isplitl [HT2]; · iexact HT2
        iintro ⟨H0, H1, H2, H3, H4, H5, HS0, HS1, HT0, HT1, HT2⟩
        isplitl [HS0 HS1 Hg HT0 HT1 HT2]
        · isplitl [HS0 HS1 Hg]
          · isplitl [HS0 HS1]
            · isplitl [HS0]
              · iexact HS0
              iexact HS1
            iexact Hg
          isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        isplitl [H4]; · iexact H4
        iexact H5

      · rw [show outB m hO c t = _ from if_neg hU]
        iintro ⟨⟨⟨⟨HS0, HS1⟩, Hg⟩, ⟨HT0, HT1, HT2⟩⟩, Ho, ⟨%d0, H0⟩, ⟨%d1, H1⟩, ⟨%d2, H2⟩, ⟨%d3, H3⟩, ⟨%d4, H4⟩, ⟨%d5, H5⟩⟩
        iapply (run_KN (F := F) c (grid0.coords t) (ms0 m hO t) (hs0 m hO t) (ms1 m hO t) (hs1 m hO t) (ms2 m hO t) (hs2 m hO t) (ms3 m hO t) (hs3 m hO t) (ms4 m hO t) (hs4 m hO t) (ms5 m hO t) (hs5 m hO t) sc0 (Memref.isWhole_whole _) sc1 (Memref.isWhole_whole _) (iblk m hO c 0 t) (iblk m hO c 1 t) (iblk m hO c 2 t) (iblk m hO c 3 t) (iblk m hO c 4 t) (tbl m 0) (tbl m 1) (tbl m 2) (w0 m hO c t) (w1 m hO c t) hR hU ((cond3_iff _ _).mpr hU) Set.univ _)
        isplitl [H0]; · iexact H0
        isplitl [H1]; · iexact H1
        isplitl [H2]; · iexact H2
        isplitl [H3]; · iexact H3
        isplitl [H4]; · iexact H4
        isplitl [H5]; · iexists _; iexact H5
        isplitl [HS0]; · iexact HS0
        isplitl [HS1]; · iexact HS1
        isplitl [HT0]; · iexact HT0
        isplitl [HT1]; · iexact HT1
        isplitl [HT2]; · iexact HT2
        iintro ⟨H0, H1, H2, H3, H4, H5, HS0, HS1, HT0, HT1, HT2⟩
        isplitl [HS0 HS1 Hg HT0 HT1 HT2]
        · isplitl [HS0 HS1 Hg]
          · isplitl [HS0 HS1]
            · isplitl [HS0]
              · iexact HS0
              iexact HS1
            iexact Hg
          isplitl [HT0]; · iexact HT0
          isplitl [HT1]; · iexact HT1
          iexact HT2
        isplitl [Ho]; · iexact Ho
        isplitl [H0]; · iexact H0
        isplitl [H1]; · iexact H1
        isplitl [H2]; · iexact H2
        isplitl [H3]; · iexact H3
        isplitl [H4]; · iexact H4
        iexact H5

end Cert.Kernel3Ideal.Moe

end
-- ==== Proof.MoeCall.lean ====
/- The expert kernel's body and pipeline: what every grid point does, and that the call ends with its arguments as they were. -/
module

public import proofs.«01_k».proof.Proof.MoeFrame
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (hO : Ok m) (t : Fin (cfgM m hO).N) :
    defs₀ (F := F) .tc (cfgM m hO).body ((cfgM m hO).bodyArgs t ((cfgM m hO).slots t)) = bodyAt m hO t := by
  unfold defs₀; rw [Defs.onTc_tc]

/-- The body stores into the output's buffer at every point. -/
theorem idle_of (a : (pcfg0 (F := F)).Adm) (t : Fin (cfg0 a).N) : (cfg0 a).idle (5 : Fin 6) ((cfg0 a).grid.coords t) = false := idle5 a.1 _

/-- The body obligation of the pipeline. -/
theorem body_obligation (hO : Ok m) (c : Dev nD) : BodyObligation (dats (F := F) m hO 0 c) (defs₀ (F := F)) Variants.none () Set.univ := fun t => by
  rw [bigSep_W0, bigSep_W0, defs₀_row m hO]
  refine triple_restated (sound_body m hO c t) rfl .rfl fun _ => ?_
  rw [idle_of (adm m hO) t]
  exact .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA_eq]
  iintro ⟨⟨⟨HS0, HS1⟩, Hg⟩, -⟩
  isplitl [HS0 HS1]
  · isplitl [HS0]
    · iexists _; iexact HS0
    iexists _; iexact HS1
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 292 := N_0; omega)

/-! ## The call -/

set_option backward.isDefEq.respectTransparency.types false in
/-- The call ends, with every array at what the pipeline leaves and no count left over. -/
theorem run_all (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

/-- The arguments are as they were. -/
theorem args_kept (hO : Ok m) (r) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((h c).1 0).trans (((dats m hO 0 c).arrAt_in 0 rfl _).trans ((A_eq m hO c 0).trans (V_main_arg0 m c))),
      ((h c).2 main_arg1 (by decide : main_arg1 ∈ Pipeline.restRefs sig spec0)).trans (V_main_arg1 m c),
      ((h c).1 1).trans (((dats m hO 0 c).arrAt_in 1 rfl _).trans ((A_eq m hO c 1).trans (V_main_arg2 m c))),
      ((h c).2 main_arg3 (by decide : main_arg3 ∈ Pipeline.restRefs sig spec0)).trans (V_main_arg3 m c),
      ((h c).1 3).trans (((dats m hO 0 c).arrAt_in 3 rfl _).trans ((A_eq m hO c 3).trans (V_main_arg4 m c))),
      ((h c).2 main_arg5 (by decide : main_arg5 ∈ Pipeline.restRefs sig spec0)).trans (V_main_arg5 m c)⟩

/-! ## The blocks the tables name -/

theorem blk_in (n p q : ℕ) (h : n < 32) : ∀ a : Fin 4, ((![0, n, 0, 0] : Fin 4 → ℕ) a + 1) * (![1, 1, p, q] : Fin 4 → ℕ) a ≤ (![4, 32, p, q] : Fin 4 → ℕ) a := by
  refine fun | 0 => ?_ | 1 => ?_ | 2 => ?_ | 3 => ?_
  · show (0 + 1) * 1 ≤ 4; decide
  · show (n + 1) * 1 ≤ 32; omega
  · show (0 + 1) * p ≤ p; omega
  · show (0 + 1) * q ≤ q; omega

/-- The tables the host makes from the counts: each block's expert, the number of used blocks, each block's valid rows. -/
def tE (c : Dev nD) : S292.Idx → BitVec 32 := Cert.Moe.tabE (F := F) (m ((c : Thread nD τ).loc main_arg1))
def tN (c : Dev nD) : S1.Idx → BitVec 32 := Cert.Moe.tabN (Cert.Reference3Ideal.Read.val_main_v109 (F := F) (m ((c : Thread nD τ).loc main_arg1)))
def tV (c : Dev nD) : S292.Idx → BitVec 32 := Cert.Moe.tabV (Cert.Moe.tabW (F := F) (Cert.Moe.tabE (F := F) (m ((c : Thread nD τ).loc main_arg1))) (m ((c : Thread nD τ).loc main_arg1)))

/-- Every block's expert is one of the 32. -/
theorem tE_lt (c : Dev nD) (w : S292.Idx) : (tE m c w).toNat < 32 := Cert.Moe.tabE_lt _ w

/-- The expert read at a point is one of the 32. -/
theorem be_lt (c : Dev nD) (i : grid0.Coords) : (beAt (F := F) c i (tbl m 0)).toNat < 32 := by
  have e : tbl m 0 = tE m 0 := V_main_v20 m 0
  rw [e]
  exact tE_lt m 0 _

/-- Every block lies inside its array. -/
theorem ok : Ok m :=
  ⟨fun i => ⟨blk_in _ 1024 2048 (be_lt m 0 i), .inl rfl⟩, fun i => ⟨blk_in _ 1 2048 (be_lt m 0 i), .inl rfl⟩,
    fun i => ⟨blk_in _ 1024 1024 (be_lt m 0 i), .inl rfl⟩, fun i => ⟨blk_in _ 1 1024 (be_lt m 0 i), .inl rfl⟩⟩

end Cert.Kernel3Ideal.Moe

end
-- ==== Proof.MoeOps.lean ====
module

public import proofs.«01_k».proof.Proof.MoeCall
public import Idealize.ShloMosaic.Lib.Pointwise
public import Idealize.ShloMosaic.Lib.Pipeline.Value

@[expose] public section

set_option maxRecDepth 16384

noncomputable section

namespace Cert.Kernel3Ideal.Moe

open Cert.Kernel3Ideal Cert.Kernel3Ideal.Gen
open Idealize.ShloMosaic

/-- The number whose bits are the low half of a word, moved up. -/
def lo (z : BitVec 32) : EReal := FloatOps.ofBits (F := Ideal) .f32 (IntOp.shli .vector z 16#32)
/-- The number whose bits are the high half of a word. -/
def hi (z : BitVec 32) : EReal := FloatOps.ofBits (F := Ideal) .f32 (IntOp.andi z 4294901760#32)

/-- The gated unit of a gate and an up value. -/
def unitS (g u : EReal) : EReal :=
  FloatOps.mulf (F := Ideal) (φ := .f32)
    (FloatOps.addf (F := Ideal) (φ := .f32) (FloatOps.minimumf (F := Ideal) (φ := .f32) (FloatOps.ofBits .f32 0x40E00000#32) (FloatOps.maximumf (F := Ideal) (φ := .f32) (FloatOps.ofBits .f32 0xC0E00000#32) u)) (FloatOps.ofBits .f32 0x3F800000#32))
    (FloatOps.mulf (F := Ideal) (φ := .f32) (FloatOps.minimumf (F := Ideal) (φ := .f32) g (FloatOps.ofBits .f32 0x40E00000#32))
      (FloatOps.logistic (F := Ideal) (φ := .f32) (FloatOps.mulf (F := Ideal) (φ := .f32) (FloatOps.minimumf (F := Ideal) (φ := .f32) g (FloatOps.ofBits .f32 0x40E00000#32)) (FloatOps.ofBits .f32 0x3FD9DB23#32))))

/-- The rows a block works on: the unpacked rows, zero from the block's count on. -/
def xin (v19 : Vec Ideal S256x512 .i32) (v30 : Elt Ideal .i32) : FVec Ideal S256x1024 .bf16 :=
  have v20 : IVec S256x512 32 := broadcast S256x512 16#32
  have v21 : IVec S256x512 32 := shli v19 v20
  have v22 : FVec Ideal S256x512 .f32 := bitcastToFloat .f32 v21
  have v23 : IVec S256x512 32 := broadcast S256x512 4294901760#32
  have v24 : IVec S256x512 32 := andi v19 v23
  have v25 : FVec Ideal S256x512 .f32 := bitcastToFloat .f32 v24
  have v26 : FVec Ideal S256x1024 .f32 := concatenate S256x1024 1 [⟨S256x512, v22⟩, ⟨S256x512, v25⟩] concatenates_S256x512_S256x512_S256x1024_d1
  have v27 : FVec Ideal S256x1024 .bf16 := truncf .bf16 v26 bitsLt_bf16_f32
  have v28 : IVec S256x1024 32 := iota .tc S256x1024 32 [0] iota_S256x1024_d0_w32
  have v31 : IVec S256x1024 32 := broadcast S256x1024 v30
  have v32 : IVec S256x1024 1 := cmpi .slt v28 v31
  have cst : Ideal .bf16 := Scalar.ofBits .bf16 0x0000#16
  have v33 : FVec Ideal S256x1024 .bf16 := broadcast S256x1024 cst
  have v34 : FVec Ideal S256x1024 .bf16 := select v32 v27 v33
  v34

/-- The first product with its bias. -/
def hid (v34 : FVec Ideal S256x1024 .bf16) (v35 : FVec Ideal S1024x2048 .bf16) (v37 : Vec Ideal S1x1x1x2048 .f32) : FVec Ideal S256x2048 .f32 :=
  have cst_9 : FVec Ideal S256x2048 .f32 := constant S256x2048 .f32 0x00000000#32
  have v36 : FVec Ideal S256x2048 .f32 := matmul dot_S256x1024_S1024x2048_S256x2048_1_0_0_1_n_n none v34 v35 cst_9
  have v38 : FVec Ideal S1x2048 .f32 := shapeCast S1x2048 v37 shapeCasts_S1x1x1x2048_S1x2048
  have v39 : FVec Ideal S256x2048 .f32 := broadcastTo S256x2048 v38 broadcasts_S1x2048_S256x2048
  have v40 : FVec Ideal S256x2048 .f32 := addf v36 v39
  v40

/-- The gated units. -/
def act (v40 : FVec Ideal S256x2048 .f32) : FVec Ideal S256x1024 .bf16 :=
  have v41 : FVec Ideal S256x1024 .f32 := extractStridedSlice S256x1024 ![0, 0] v40 slices_S256x2048_o0_0_S256x1024
  have cst_14 : Ideal .f32 := Scalar.ofBits .f32 0x40E00000#32
  have v42 : FVec Ideal S256x1024 .f32 := broadcast S256x1024 cst_14
  have v43 : FVec Ideal S256x1024 .f32 := minimumf v41 v42
  have v44 : FVec Ideal S256x1024 .f32 := extractStridedSlice S256x1024 ![0, 1024] v40 slices_S256x2048_o0_1024_S256x1024
  have cst_15 : Ideal .f32 := Scalar.ofBits .f32 0xC0E00000#32
  have cst_16 : Ideal .f32 := Scalar.ofBits .f32 0x40E00000#32
  have v45 : FVec Ideal S256x1024 .f32 := broadcast S256x1024 cst_15
  have v46 : FVec Ideal S256x1024 .f32 := maximumf v45 v44
  have v47 : FVec Ideal S256x1024 .f32 := broadcast S256x1024 cst_16
  have v48 : FVec Ideal S256x1024 .f32 := minimumf v47 v46
  have cst_17 : Ideal .f32 := Scalar.ofBits .f32 0x3FD9DB23#32
  have v49 : FVec Ideal S256x1024 .f32 := broadcast S256x1024 cst_17
  have v50 : FVec Ideal S256x1024 .f32 := mulf v43 v49
  have v51 : FVec Ideal S256x1024 .f32 := logistic v50
  have v52 : FVec Ideal S256x1024 .f32 := mulf v43 v51
  have cst_18 : Ideal .f32 := Scalar.ofBits .f32 0x3F800000#32
  have v53 : FVec Ideal S256x1024 .f32 := broadcast S256x1024 cst_18
  have v54 : FVec Ideal S256x1024 .f32 := addf v48 v53
  have v55 : FVec Ideal S256x1024 .f32 := mulf v54 v52
  have v56 : FVec Ideal S256x1024 .bf16 := truncf .bf16 v55 bitsLt_bf16_f32
  v56

theorem pay5_eq (x : Vec Ideal S256x512 .i32) (bv : Elt Ideal .i32) (w : FVec Ideal S1024x2048 .bf16) (b : Vec Ideal S1x1x1x2048 .f32) (w2 : FVec Ideal S1024x1024 .bf16) :
    k0_pay5 (F := Ideal) x bv w b w2 = matmul dot_S256x1024_S1024x1024_S256x1024_1_0_0_1_n_n none (act (hid (xin x bv) w b)) w2 (constant S256x1024 .f32 0x00000000#32) := rfl

theorem xin_apply (x : Vec Ideal S256x512 .i32) (bv : Elt Ideal .i32) (r : Fin 256) (k : Fin 1024) :
    xin x bv (ix2 r k) = Scalar.select (IntOp.cmpi .slt (BitVec.ofNat 32 r.val) bv)
      (if h : k.val < 512 then lo (x (ix2 r ⟨k.val, h⟩)) else hi (x (ix2 r ⟨k.val - 512, by omega⟩))) (0 : EReal) := by
  have hz : FloatOps.ofBits (F := Ideal) .bf16 0x0000#16 = (0 : EReal) := by
    show Ideal.ofBits .bf16 0#16 = 0
    simp [Ideal.ofBits, Ideal.ieee]
  rw [← hz]
  unfold xin lo hi
  pointwise

theorem hid_apply (u : FVec Ideal S256x1024 .bf16) (w : FVec Ideal S1024x2048 .bf16) (b : Vec Ideal S1x1x1x2048 .f32) (r : Fin 256) (j : Fin 2048) :
    hid u w b (ix2 r j) = (∑ k : Fin 1024, u (ix2 r k) * w (ix2 k j)) + b (ix4 0 0 0 j) := by
  unfold hid
  pointwise

theorem act_apply (h : FVec Ideal S256x2048 .f32) (r : Fin 256) (f : Fin 1024) :
    act h (ix2 r f) = unitS (h (ix2 r ⟨f.val, by omega⟩)) (h (ix2 r ⟨1024 + f.val, by omega⟩)) := by
  unfold act unitS
  pointwise

theorem mm2 (u : FVec Ideal S256x1024 .bf16) (w : FVec Ideal S1024x1024 .bf16) (r : Fin 256) (j : Fin 1024) :
    matmul dot_S256x1024_S1024x1024_S256x1024_1_0_0_1_n_n none u w (constant S256x1024 .f32 0x00000000#32) (ix2 r j)
      = ∑ k : Fin 1024, u (ix2 r k) * w (ix2 k j) := by
  pointwise

theorem pay3_apply (y : FVec Ideal S256x1024 .f32) (b : Vec Ideal S1x1x1x1024 .f32) (r : Fin 256) (d : Fin 1024) :
    k0_pay3 (F := Ideal) y b (ix2 r d) = y (ix2 r d) + b (ix4 0 0 0 d) := by
  unfold k0_pay3
  pointwise

theorem pay4_apply (r : Fin 256) (d : Fin 1024) : k0_pay4 (F := Ideal) (ix2 r d) = (0 : EReal) := by
  show Ideal.ofBits .bf16 0#16 = 0
  simp [Ideal.ofBits, Ideal.ieee]

theorem pay1_apply (w : Vec Ideal S1x1x1024x2048 .f32) (k : Fin 1024) (j : Fin 2048) : k0_pay1 (F := Ideal) w (ix2 k j) = w (ix4 0 0 k j) := by
  unfold k0_pay1
  rw [shapeCast_self]
  pointwise

theorem pay2_apply (w : Vec Ideal S1x1x1024x1024 .f32) (k : Fin 1024) (j : Fin 1024) : k0_pay2 (F := Ideal) w (ix2 k j) = w (ix4 0 0 k j) := by
  unfold k0_pay2
  rw [shapeCast_self]
  pointwise

end Cert.Kernel3Ideal.Moe

end
-- ==== Proof.MoeSpec.lean ====
module

public import proofs.«01_k».proof.Proof.MoeOps

@[expose] public section

set_option maxRecDepth 16384

noncomputable section

namespace Cert.Kernel3Ideal.Moe

open Cert.Kernel3Ideal Cert.Kernel3Ideal.Gen
open Idealize.ShloMosaic

variable (x : S74752x512.Idx → BitVec 32) (be : S292.Idx → BitVec 32) (nu : S1.Idx → BitVec 32) (bv : S292.Idx → BitVec 32)
  (w4 : S4x32x1024x2048.Idx → EReal) (w5 : S4x32x2048.Idx → EReal) (w6 : S4x32x1024x1024.Idx → EReal) (w7 : S4x32x1024.Idx → EReal)

/-- A row of a block: its low halves, then its high halves; zero from the block's count on. -/
def rowS (b : Fin 292) (r : Fin 256) (k : Fin 1024) : EReal :=
  Scalar.select (IntOp.cmpi .slt (BitVec.ofNat 32 r.val) (bv (ix1 b)))
    (if h : k.val < 512 then lo (x (ix2 ⟨256 * b.val + r.val, by omega⟩ ⟨k.val, h⟩)) else hi (x (ix2 ⟨256 * b.val + r.val, by omega⟩ ⟨k.val - 512, by omega⟩))) (0 : EReal)

/-- The first product of an expert, with its bias. -/
def hidS (b : Fin 292) (e : Fin 32) (r : Fin 256) (j : Fin 2048) : EReal :=
  (∑ k : Fin 1024, rowS x bv b r k * w4 (ix4 0 e k j)) + w5 (ix3 0 e j)

/-- The block's result: the second product with its bias, zero from the used blocks on. -/
def outS (b : Fin 292) (e : Fin 32) (r : Fin 256) (d : Fin 1024) : EReal :=
  Scalar.select (IntOp.cmpi .slt (BitVec.ofNat 32 b.val) (nu (ix1 0)))
    ((∑ f : Fin 1024, unitS (hidS x bv w4 w5 b e r ⟨f.val, by omega⟩) (hidS x bv w4 w5 b e r ⟨1024 + f.val, by omega⟩) * w6 (ix4 0 e f d)) + w7 (ix3 0 e d)) (0 : EReal)

/-- The expert a block's word names. -/
def ex (b : Fin 292) : Fin 32 := ⟨(be (ix1 b)).toNat % 32, Nat.mod_lt _ (by decide)⟩

theorem ex_val (b : Fin 292) (h : (be (ix1 b)).toNat < 32) : (ex be b).val = (be (ix1 b)).toNat := Nat.mod_eq_of_lt h

theorem ex_word (b : Fin 292) (h : (be (ix1 b)).toNat < 32) : be (ix1 b) = BitVec.ofNat 32 (ex be b).val := by
  rw [ex_val be b h]; exact BitVec.eq_of_toNat_eq (by rw [BitVec.toNat_ofNat]; exact (Nat.mod_eq_of_lt (be (ix1 b)).isLt).symm)

/-- The whole result. -/
def RS : S74752x1024.Idx → EReal := fun y =>
  outS x nu bv w4 w5 w6 w7 ⟨(y 0).val / 256, by have : (y 0).val < 74752 := (y 0).isLt; omega⟩
    (ex be ⟨(y 0).val / 256, by have : (y 0).val < 74752 := (y 0).isLt; omega⟩) ⟨(y 0).val % 256, Nat.mod_lt _ (by decide)⟩ (y 1)

end Cert.Kernel3Ideal.Moe

end
-- ==== Proof.MoeArr.lean ====
module

public import proofs.«01_k».proof.Proof.MoeSpec
public import Idealize.ShloMosaic.Lib.Pointwise
public import Idealize.ShloMosaic.Lib.Pipeline.Value
public import Idealize.ShloMosaic.Lib.Pipeline.ValueKit

@[expose] public section

set_option maxRecDepth 16384

noncomputable section

namespace Cert.Kernel3Ideal.Moe

open Cert.Kernel3Ideal Cert.Kernel3Ideal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-! ## The tables at a point -/

theorem off3_val : ∀ t : Fin grid0.N, k0_off3 (grid0.coords t) = ![t.val] := by decide +kernel

/-- A table of the blocks read at one of them. -/
theorem read_at (x : S292.Idx → BitVec 32) (o : Fin 1 → ℕ) (a : ∀ a, o a + S1.size a ≤ S292.size a) (b : Fin 292) (h : o = ![b.val]) :
    x ((Rect.unit (s := S292) o S1.size a).emb (Shape.Idx.first (numel1_S1.symm ▸ Nat.one_pos))) = x (ix1 b) := by
  subst h
  refine congrArg x ?_
  funext a'
  match a' with
  | ⟨0, _⟩ => exact Fin.ext (by show b.val + 1 * 0 = b.val; omega)

/-- The block's expert at a point. -/
theorem be_at (c : Dev nD) (b : Fin 292) (t : Fin grid0.N) (ht : t.val = b.val) :
    beAt (F := Ideal) c (grid0.coords t) (tbl m 0) = (tE m c (ix1 b) : BitVec 32) := by
  obtain rfl : c = 0 := Subsingleton.elim _ _
  have e : tbl m 0 = tE m 0 := V_main_v20 m 0
  rw [e]
  exact read_at (tE m 0) _ _ b (by rw [off1_val, ht])

/-- The block's count of rows at a point. -/
theorem bv_at (c : Dev nD) (b : Fin 292) (t : Fin grid0.N) (ht : t.val = b.val) :
    bvAt (F := Ideal) c (grid0.coords t) (tbl m 2) = (tV m c (ix1 b) : BitVec 32) := by
  obtain rfl : c = 0 := Subsingleton.elim _ _
  have e : tbl m 2 = tV m 0 := V_main_v37 m 0
  rw [e]
  exact read_at (tV m 0) _ _ b (by rw [off3_val, ht])

/-- The number of blocks used. -/
theorem nu_at (c : Dev nD) : nUsed (F := Ideal) c (tbl m 1) = (tN m c (ix1 0) : BitVec 32) := by
  obtain rfl : c = 0 := Subsingleton.elim _ _
  have e : tbl m 1 = tN m 0 := V_main_v39 m 0
  rw [e]
  have key : ∀ x : S1.Idx → BitVec 32, x ((Rect.unit (s := S1) ![0] S1.size inb_S1_S1_0).emb (Shape.Idx.first (numel1_S1.symm ▸ Nat.one_pos))) = x (ix1 0) := fun x => by
    refine congrArg x ?_
    funext a'
    match a' with
    | ⟨0, _⟩ => exact Subsingleton.elim (α := Fin 1) _ _
  exact key (tN m 0)

/-- A point is used when its number is below the number of blocks used. -/
theorem used_iff (c : Dev nD) (b : Fin 292) (t : Fin grid0.N) (ht : t.val = b.val) :
    Used m c (grid0.coords t) ↔ IntOp.cmpi .slt (BitVec.ofNat 32 b.val) (tN m c (ix1 0) : BitVec 32) = 1#1 := by
  have key : ∀ p : BitVec 1, (Scalar.cmpi .ne (Scalar.extui p : BitVec 32) 0#32 = 1#1) ↔ p = 1#1 := by decide
  unfold Used
  rw [nu_at, ← ht, ← coord_val t]
  exact key _

/-- The index maps that read the block's expert. -/
theorem tr_at (c : Dev nD) (f : pre0.Contents (Elt Ideal) → grid0.Coords → Fin 4 → ℕ)
    (hf : ∀ i, f (tbl m) i = ![0, (beAt (F := Ideal) c i (tbl m 0)).toNat, 0, 0])
    (b : Fin 292) (t : Fin grid0.N) (ht : t.val = b.val) (h : (tE m c (ix1 b) : BitVec 32).toNat < 32) :
    f (tbl m) (grid0.coords t) = ![0, (ex (tE m c) b).val, 0, 0] := by
  rw [hf, be_at m c b t ht, ex_val _ b h]

variable (hO : Ok m) (c : Dev nD)

/-! ## The blocks -/

/-- The weights' block at a point is the block's expert's. -/
theorem iblk1_at (b : Fin 292) (t : Fin (cfgM m hO).N) (ht : t.val = b.val) (h : (tE m c (ix1 b) : BitVec 32).toNat < 32) (k : Fin 1024) (j : Fin 2048) :
    (iblk m hO c 1 t : Vec Ideal S1x1x1024x2048 .f32) (ix4 0 0 k j) = m ((c : Thread nD τ).loc main_arg2) (ix4 0 (ex (tE m c) b) k j : S4x32x1024x2048.Idx) := by
  have key : ∀ (o : Fin 4 → ℕ) (a : ∀ a, (o a + 1) * S1x1x1024x2048.size a ≤ S4x32x1024x2048.size a) (e : Fin 32), o = ![0, e.val, 0, 0] →
      V m c main_arg2 ((Rect.block (s := S4x32x1024x2048) S1x1x1024x2048.size o a).emb (ix4 0 0 k j : S1x1x1024x2048.Idx)) = V m c main_arg2 (ix4 0 e k j : S4x32x1024x2048.Idx) := by
    intro o a e he
    subst he
    refine congrArg (V m c main_arg2) ?_
    funext a'
    match a' with
    | ⟨0, _⟩ => exact Fin.ext (by show 0 * 1 + 1 * 0 = 0; omega)
    | ⟨1, _⟩ => exact Fin.ext (by show e.val * 1 + 1 * 0 = e.val; omega)
    | ⟨2, _⟩ => exact Fin.ext (by show 0 * 1024 + 1 * k.val = k.val; omega)
    | ⟨3, _⟩ => exact Fin.ext (by show 0 * 2048 + 1 * j.val = j.val; omega)
  obtain ⟨a, -⟩ := hO.1 (grid0.coords t)
  refine (key _ a (ex (tE m c) b) (tr_at m c (cc0_transform_1 k0_off1_inb numel1_S1) (fun _ => rfl) b t ht h)).trans ?_
  rw [V_main_arg2]

/-- The weights' block at a point is the block's expert's. -/
theorem iblk3_at (b : Fin 292) (t : Fin (cfgM m hO).N) (ht : t.val = b.val) (h : (tE m c (ix1 b) : BitVec 32).toNat < 32) (k : Fin 1024) (j : Fin 1024) :
    (iblk m hO c 3 t : Vec Ideal S1x1x1024x1024 .f32) (ix4 0 0 k j) = m ((c : Thread nD τ).loc main_arg4) (ix4 0 (ex (tE m c) b) k j : S4x32x1024x1024.Idx) := by
  have key : ∀ (o : Fin 4 → ℕ) (a : ∀ a, (o a + 1) * S1x1x1024x1024.size a ≤ S4x32x1024x1024.size a) (e : Fin 32), o = ![0, e.val, 0, 0] →
      V m c main_arg4 ((Rect.block (s := S4x32x1024x1024) S1x1x1024x1024.size o a).emb (ix4 0 0 k j : S1x1x1024x1024.Idx)) = V m c main_arg4 (ix4 0 e k j : S4x32x1024x1024.Idx) := by
    intro o a e he
    subst he
    refine congrArg (V m c main_arg4) ?_
    funext a'
    match a' with
    | ⟨0, _⟩ => exact Fin.ext (by show 0 * 1 + 1 * 0 = 0; omega)
    | ⟨1, _⟩ => exact Fin.ext (by show e.val * 1 + 1 * 0 = e.val; omega)
    | ⟨2, _⟩ => exact Fin.ext (by show 0 * 1024 + 1 * k.val = k.val; omega)
    | ⟨3, _⟩ => exact Fin.ext (by show 0 * 1024 + 1 * j.val = j.val; omega)
  obtain ⟨a, -⟩ := hO.2.2.1 (grid0.coords t)
  refine (key _ a (ex (tE m c) b) (tr_at m c (cc0_transform_3 k0_off1_inb numel1_S1) (fun _ => rfl) b t ht h)).trans ?_
  rw [V_main_arg4]

theorem V_v0 (e : Fin 32) (j : Fin 2048) : V m c main_v40 (ix4 0 e 0 j : S4x32x1x2048.Idx) = m ((c : Thread nD τ).loc main_arg3) (ix3 0 e j : S4x32x2048.Idx) := by
  have hv : V m c main_v40 = shapeCast S4x32x1x2048 (m ((c : Thread nD τ).loc main_arg3)) shapeCasts_S4x32x2048_S4x32x1x2048 := V_main_v40 m c
  rw [hv]
  refine shapeCast_apply (m ((c : Thread nD τ).loc main_arg3) : S4x32x2048.Idx → EReal) shapeCasts_S4x32x2048_S4x32x1x2048 (ix4 0 e 0 j) (ix3 0 e j) ?_
  change (S4x32x2048.rowMajor (ix3 0 e j)).val = _
  rewrite [Shape.rowMajor_val_three, Shape.rowMajor_val_four]
  show (0 * 32 + e.val) * 2048 + j.val = ((0 * 32 + e.val) * 1 + 0) * 2048 + j.val
  omega

/-- The bias block at a point is the block's expert's. -/
theorem iblk2_at (b : Fin 292) (t : Fin (cfgM m hO).N) (ht : t.val = b.val) (h : (tE m c (ix1 b) : BitVec 32).toNat < 32) (j : Fin 2048) :
    (iblk m hO c 2 t : Vec Ideal S1x1x1x2048 .f32) (ix4 0 0 0 j) = m ((c : Thread nD τ).loc main_arg3) (ix3 0 (ex (tE m c) b) j : S4x32x2048.Idx) := by
  have key : ∀ (o : Fin 4 → ℕ) (a : ∀ a, (o a + 1) * S1x1x1x2048.size a ≤ S4x32x1x2048.size a) (e : Fin 32), o = ![0, e.val, 0, 0] →
      V m c main_v40 ((Rect.block (s := S4x32x1x2048) S1x1x1x2048.size o a).emb (ix4 0 0 0 j : S1x1x1x2048.Idx)) = V m c main_v40 (ix4 0 e 0 j : S4x32x1x2048.Idx) := by
    intro o a e he
    subst he
    refine congrArg (V m c main_v40) ?_
    funext a'
    match a' with
    | ⟨0, _⟩ => exact Fin.ext (by show 0 * 1 + 1 * 0 = 0; omega)
    | ⟨1, _⟩ => exact Fin.ext (by show e.val * 1 + 1 * 0 = e.val; omega)
    | ⟨2, _⟩ => exact Fin.ext (by show 0 * 1 + 1 * 0 = 0; omega)
    | ⟨3, _⟩ => exact Fin.ext (by show 0 * 2048 + 1 * j.val = j.val; omega)
  obtain ⟨a, -⟩ := hO.2.1 (grid0.coords t)
  refine (key _ a (ex (tE m c) b) (tr_at m c (cc0_transform_2 k0_off1_inb numel1_S1) (fun _ => rfl) b t ht h)).trans ?_
  exact V_v0 m c _ j

theorem V_v1 (e : Fin 32) (j : Fin 1024) : V m c main_v41 (ix4 0 e 0 j : S4x32x1x1024.Idx) = m ((c : Thread nD τ).loc main_arg5) (ix3 0 e j : S4x32x1024.Idx) := by
  have hv : V m c main_v41 = shapeCast S4x32x1x1024 (m ((c : Thread nD τ).loc main_arg5)) shapeCasts_S4x32x1024_S4x32x1x1024 := V_main_v41 m c
  rw [hv]
  refine shapeCast_apply (m ((c : Thread nD τ).loc main_arg5) : S4x32x1024.Idx → EReal) shapeCasts_S4x32x1024_S4x32x1x1024 (ix4 0 e 0 j) (ix3 0 e j) ?_
  change (S4x32x1024.rowMajor (ix3 0 e j)).val = _
  rewrite [Shape.rowMajor_val_three, Shape.rowMajor_val_four]
  show (0 * 32 + e.val) * 1024 + j.val = ((0 * 32 + e.val) * 1 + 0) * 1024 + j.val
  omega

/-- The bias block at a point is the block's expert's. -/
theorem iblk4_at (b : Fin 292) (t : Fin (cfgM m hO).N) (ht : t.val = b.val) (h : (tE m c (ix1 b) : BitVec 32).toNat < 32) (j : Fin 1024) :
    (iblk m hO c 4 t : Vec Ideal S1x1x1x1024 .f32) (ix4 0 0 0 j) = m ((c : Thread nD τ).loc main_arg5) (ix3 0 (ex (tE m c) b) j : S4x32x1024.Idx) := by
  have key : ∀ (o : Fin 4 → ℕ) (a : ∀ a, (o a + 1) * S1x1x1x1024.size a ≤ S4x32x1x1024.size a) (e : Fin 32), o = ![0, e.val, 0, 0] →
      V m c main_v41 ((Rect.block (s := S4x32x1x1024) S1x1x1x1024.size o a).emb (ix4 0 0 0 j : S1x1x1x1024.Idx)) = V m c main_v41 (ix4 0 e 0 j : S4x32x1x1024.Idx) := by
    intro o a e he
    subst he
    refine congrArg (V m c main_v41) ?_
    funext a'
    match a' with
    | ⟨0, _⟩ => exact Fin.ext (by show 0 * 1 + 1 * 0 = 0; omega)
    | ⟨1, _⟩ => exact Fin.ext (by show e.val * 1 + 1 * 0 = e.val; omega)
    | ⟨2, _⟩ => exact Fin.ext (by show 0 * 1 + 1 * 0 = 0; omega)
    | ⟨3, _⟩ => exact Fin.ext (by show 0 * 1024 + 1 * j.val = j.val; omega)
  obtain ⟨a, -⟩ := hO.2.2.2 (grid0.coords t)
  refine (key _ a (ex (tE m c) b) (tr_at m c (cc0_transform_4 k0_off1_inb numel1_S1) (fun _ => rfl) b t ht h)).trans ?_
  exact V_v1 m c _ j

theorem tr0 : ∀ t : Fin grid0.N, cc0_transform_0 (grid0.coords t) = ![t.val, 0] := by decide +kernel
theorem tr5 : ∀ t : Fin grid0.N, cc0_transform_5 (grid0.coords t) = ![t.val, 0] := by decide +kernel

/-- The rows' block at a point. -/
theorem iblk0_at (b : Fin 292) (t : Fin (cfgM m hO).N) (ht : t.val = b.val) (r : Fin 256) (k : Fin 512) :
    (iblk m hO c 0 t : Vec Ideal S256x512 .i32) (ix2 r k) = m ((c : Thread nD τ).loc main_arg0) (ix2 ⟨256 * b.val + r.val, by omega⟩ k : S74752x512.Idx) := by
  have key : ∀ (o : Fin 2 → ℕ) (a : ∀ a, (o a + 1) * S256x512.size a ≤ S74752x512.size a), o = ![b.val, 0] →
      V m c main_arg0 ((Rect.block (s := S74752x512) S256x512.size o a).emb (ix2 r k : S256x512.Idx)) = V m c main_arg0 (ix2 ⟨256 * b.val + r.val, by omega⟩ k : S74752x512.Idx) := by
    intro o a he
    subst he
    refine congrArg (V m c main_arg0) ?_
    funext a'
    match a' with
    | ⟨0, _⟩ => exact Fin.ext (by show b.val * 256 + 1 * r.val = 256 * b.val + r.val; omega)
    | ⟨1, _⟩ => exact Fin.ext (by show 0 * 512 + 1 * k.val = k.val; omega)
  have a : ∀ a, (cc0_transform_0 (grid0.coords t) a + 1) * S256x512.size a ≤ S74752x512.size a := by
    intro a
    rw [tr0 t, ht]
    have := b.isLt
    match a with
    | ⟨0, _⟩ => show (b.val + 1) * 256 ≤ 74752; omega
    | ⟨1, _⟩ => show (0 + 1) * 512 ≤ 512; omega
  refine (key _ a ((tr0 t).trans (by rw [ht]))).trans ?_
  rw [V_main_arg0]

/-! ## The output block -/

/-- The rows the body works on. -/
theorem xin_at (b : Fin 292) (t : Fin (cfgM m hO).N) (ht : t.val = b.val) (r : Fin 256) (k : Fin 1024) :
    xin (iblk m hO c 0 t) (bvAt (F := Ideal) c (grid0.coords t) (tbl m 2)) (ix2 r k)
      = rowS (m ((c : Thread nD τ).loc main_arg0)) (tV m c) b r k := by
  refine (xin_apply _ _ r k).trans ?_
  unfold rowS
  rw [bv_at m c b t ht]
  refine congrArg (fun z => Scalar.select _ z (0 : EReal)) ?_
  by_cases h : k.val < 512
  · rw [dif_pos h, dif_pos h]
    exact congrArg lo (iblk0_at m hO c b t ht r ⟨k.val, h⟩)
  · rw [dif_neg h, dif_neg h]
    exact congrArg hi (iblk0_at m hO c b t ht r ⟨k.val - 512, by omega⟩)

/-- The first product at a point. -/
theorem hid_at (b : Fin 292) (t : Fin (cfgM m hO).N) (ht : t.val = b.val) (h : (tE m c (ix1 b) : BitVec 32).toNat < 32) (r : Fin 256) (j : Fin 2048) :
    hid (xin (iblk m hO c 0 t) (bvAt (F := Ideal) c (grid0.coords t) (tbl m 2))) (w0 m hO c t) (iblk m hO c 2 t) (ix2 r j)
      = hidS (m ((c : Thread nD τ).loc main_arg0)) (tV m c) (m ((c : Thread nD τ).loc main_arg2)) (m ((c : Thread nD τ).loc main_arg3)) b
        (ex (tE m c) b) r j := by
  refine (hid_apply _ _ _ r j).trans ?_
  unfold hidS
  refine congrArg₂ (· + ·) (Finset.sum_congr rfl fun k _ => congrArg₂ (· * ·) (xin_at m hO c b t ht r k) ?_) (iblk2_at m hO c b t ht h j)
  exact (pay1_apply _ k j).trans (iblk1_at m hO c b t ht h k j)

/-- What the body leaves in the output block. -/
theorem outB_at (b : Fin 292) (t : Fin (cfgM m hO).N) (ht : t.val = b.val) (h : (tE m c (ix1 b) : BitVec 32).toNat < 32) (r : Fin 256) (d : Fin 1024) :
    outB m hO c t (ix2 r d)
      = outS (m ((c : Thread nD τ).loc main_arg0)) (tN m c) (tV m c) (m ((c : Thread nD τ).loc main_arg2))
        (m ((c : Thread nD τ).loc main_arg3)) (m ((c : Thread nD τ).loc main_arg4)) (m ((c : Thread nD τ).loc main_arg5)) b (ex (tE m c) b) r d := by
  unfold outB outS
  by_cases hU : Used m c (grid0.coords t)
  · rw [if_pos hU]
    refine Eq.trans ?_ (if_pos ((used_iff m c b t ht).mp hU)).symm
    refine (pay3_apply _ _ r d).trans ?_
    refine congrArg₂ (· + ·) ?_ (iblk4_at m hO c b t ht h d)
    refine (congrFun (pay5_eq _ _ _ _ _) _).trans ?_
    refine (mm2 _ _ r d).trans ?_
    refine Finset.sum_congr rfl fun f _ => congrArg₂ (· * ·) ?_ ((pay2_apply _ f d).trans (iblk3_at m hO c b t ht h f d))
    refine (act_apply _ r f).trans ?_
    exact congrArg₂ unitS (hid_at m hO c b t ht h r ⟨f.val, by omega⟩) (hid_at m hO c b t ht h r ⟨1024 + f.val, by omega⟩)
  · rw [if_neg hU]
    refine Eq.trans ?_ (if_neg fun hh => hU ((used_iff m c b t ht).mpr hh)).symm
    exact pay4_apply r d

/-! ## The output array -/

/-- The output blocks cover the output array. -/
theorem covers5 (a : (pcfg0 (F := Ideal)).Adm) : ((cfg0 a).win (5 : Fin 6)).Covers := by
  refine ⟨fun | ⟨0, _⟩ => (by show 0 < 256; decide) | ⟨1, _⟩ => (by show 0 < 1024; decide), fun β => ?_⟩
  have e0 : ((cfg0 a).win (5 : Fin 6)).nblk (0 : Fin 2) = 292 := by show (74752 + 256 - 1) / 256 = 292; decide
  have e1 : ((cfg0 a).win (5 : Fin 6)).nblk (1 : Fin 2) = 1 := by show (1024 + 1024 - 1) / 1024 = 1; decide
  have h0 : (β (0 : Fin 2)).val < 292 := lt_of_lt_of_eq (β (0 : Fin 2)).isLt e0
  have h1 : (β (1 : Fin 2)).val < 1 := lt_of_lt_of_eq (β (1 : Fin 2)).isLt e1
  refine ⟨⟨(β (0 : Fin 2)).val, lt_of_lt_of_eq h0 N_0.symm⟩, ?_, fun a' => ⟨?_, .inl rfl⟩⟩
  · exact (Pipeline.Window.flushOf_reads cc0_transform_5 reads0_5 hreads0_5 0 (by decide) (by decide)
      (Pipeline.Window.sep_of_coord cc0_transform_5 0 0 (fun _ => rfl) (by decide)) (P := 1) (m := 0) (by decide) rfl _).mpr (Nat.mod_one _)
  · refine (congrFun (tr5 _) a').trans ?_
    match a' with
    | ⟨0, _⟩ => rfl
    | ⟨1, _⟩ => show 0 = (β (1 : Fin 2)).val; omega

/-- Where an element of an output block lies in the array. -/
theorem emb5 (a : (pcfg0 (F := Ideal)).Adm) (t : Fin (cfg0 a).N) (y : S256x1024.Idx) (b : Fin 292) (ht : t.val = b.val) :
    (((cfg0 a).win (5 : Fin 6)).blk t).view.emb y = (ix2 ⟨256 * b.val + (y 0).val, by have : (y 0).val < 256 := (y 0).isLt; omega⟩ (y 1) : S74752x1024.Idx) := by
  funext a'
  match a' with
  | ⟨0, _⟩ =>
    refine Fin.ext ?_
    show cc0_transform_5 (grid0.coords t) 0 * 256 + 1 * (y 0).val = 256 * b.val + (y 0).val
    rw [tr5 t, ← ht]
    show t.val * 256 + 1 * (y 0).val = 256 * t.val + (y 0).val
    omega
  | ⟨1, _⟩ =>
    refine Fin.ext ?_
    show cc0_transform_5 (grid0.coords t) 1 * 1024 + 1 * (y 1).val = (y 1).val
    rw [tr5 t]
    show 0 * 1024 + 1 * (y 1).val = (y 1).val
    omega

/-- The whole result at an element of a block. -/
theorem RS_at (x : S74752x512.Idx → BitVec 32) (be : S292.Idx → BitVec 32) (nu : S1.Idx → BitVec 32) (bv : S292.Idx → BitVec 32)
    (w4 : S4x32x1024x2048.Idx → EReal) (w5 : S4x32x2048.Idx → EReal) (w6 : S4x32x1024x1024.Idx → EReal) (w7 : S4x32x1024.Idx → EReal)
    (b : Fin 292) (r : Fin 256) (d : Fin 1024) :
    RS x be nu bv w4 w5 w6 w7 (ix2 ⟨256 * b.val + r.val, by omega⟩ d : S74752x1024.Idx) = outS x nu bv w4 w5 w6 w7 b (ex be b) r d := by
  have key : ∀ (b' : Fin 292) (r' : Fin 256), b' = b → r' = r → outS x nu bv w4 w5 w6 w7 b' (ex be b') r' d = outS x nu bv w4 w5 w6 w7 b (ex be b) r d := by
    intro b' r' h h'; subst h; subst h'; rfl
  exact key _ _ (Fin.ext (by show (256 * b.val + r.val) / 256 = b.val; omega)) (Fin.ext (by show (256 * b.val + r.val) % 256 = r.val; omega))

/-- The output array from the blocks left at the points. -/
theorem arr_of (a : (pcfg0 (F := Ideal)).Adm) {c : Dev nD} (dat : Dat τ (Elt Ideal) Unit ℕ (UR sig nD τ) ℕ (cfg0 a) c) (G : S74752x1024.Idx → EReal)
    (O : Fin (cfg0 a).N → S256x1024.Idx → EReal) (hafter : ∀ t, dat.after (5 : Fin 6) t = O t)
    (hG : ∀ t y, O t y = G ((((cfg0 a).win (5 : Fin 6)).blk t).view.emb y)) : dat.arrAt (5 : Fin 6) (cfg0 a).N = G := by
  refine dat.arrAt_eq_of_covers (5 : Fin 6) _ (covers5 a) (fun t hf y => ?_) (Memref.isWhole_whole _)
  rw [hafter]
  exact hG t y

/-- The output array. -/
theorem arr5 (h : ∀ w : S292.Idx, (tE m c w : BitVec 32).toNat < 32) : (dats m hO 0 c).arrAt (5 : Fin 6) (cfgM m hO).N
    = RS (m ((c : Thread nD τ).loc main_arg0)) (tE m c) (tN m c) (tV m c)
      (m ((c : Thread nD τ).loc main_arg2)) (m ((c : Thread nD τ).loc main_arg3)) (m ((c : Thread nD τ).loc main_arg4)) (m ((c : Thread nD τ).loc main_arg5)) := by
  refine arr_of (adm m hO) (dats m hO 0 c) _ (outB m hO c) (after5 m hO c) fun t y => ?_
  have hN : t.val < 292 := lt_of_lt_of_eq t.isLt N_0
  refine Eq.trans ?_ (congrArg _ (emb5 (adm m hO) t y ⟨t.val, hN⟩ rfl)).symm
  refine Eq.trans ?_ (RS_at _ _ _ _ _ _ _ _ ⟨t.val, hN⟩ (y 0) (y 1)).symm
  have hy : y = (ix2 (y 0) (y 1) : S256x1024.Idx) := by
    funext a; fin_cases a <;> rfl
  exact (congrArg (outB m hO c t) hy).trans (outB_at m hO c ⟨t.val, hN⟩ t rfl (h _) (y 0) (y 1))

variable (ρ : Dev nD → PrngReg)

/-- A run of the program ends with the result and its arguments unchanged. -/
theorem run_spec :
    θ_run (defs (F := Ideal)) (onTc (τ := τ) (main (F := Ideal))) ⟨m, fun _ => 0, ρ⟩ fun r => ∀ c : Dev nD,
      r.2.mem ((c : Thread nD τ).loc main_v42) = RS (m ((c : Thread nD τ).loc main_arg0)) (tE m c) (tN m c) (tV m c)
        (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run _ _ _).mono (fun r h' c => ⟨((h'.1 c).1 5).trans (arr5 m (ok m) c (tE_lt m c)), args_kept m (ok m) r h'.1 c⟩) (run_all m ρ (ok m))

end Cert.Kernel3Ideal.Moe

end
-- ==== Proof.MoeRef.lean ====
module

public import proofs.«01_k».proof.Proof.MoeSpec
public import proofs.«01_k».proof.Proof.Gen.Reference3Ideal.Read
public import proofs.«01_k».proof.Proof.MoeTab
public import Idealize.ShloMosaic.Lib.Pointwise
public import Idealize.ShloMosaic.Lib.Routing.Ops

@[expose] public section

set_option maxRecDepth 16384

noncomputable section

namespace Cert.Reference3Ideal.Moe

open Cert.Reference3Ideal Cert.Reference3Ideal.Gen Cert.Reference3Ideal.Read
open Idealize.ShloMosaic Idealize.ShloMosaic.TcCoe Idealize.ShloMosaic.StableHlo Idealize.ShloMosaic.Routing
open Cert.Kernel3Ideal.Moe (lo hi unitS rowS hidS outS ex ex_val ex_word RS)

open Cert.Moe (tabE tabN tabV tabW tabE_eq tabN_eq tabE_lt tabV_slt tabW_eq)

variable (x0 : S74752x512.Idx → BitVec 32) (x1 : S32.Idx → BitVec 32)
  (x2 : S4x32x1024x2048.Idx → EReal) (x3 : S4x32x2048.Idx → EReal) (x4 : S4x32x1024x1024.Idx → EReal) (x5 : S4x32x1024.Idx → EReal)

theorem one_bits : FloatOps.ofBits (F := Ideal) .f32 0x3F800000#32 = (1 : EReal) := by
  show Ideal.ofBits .f32 0x3F800000#32 = 1
  simp [Ideal.ofBits, Ideal.ieee]
  rw [← EReal.coe_mul]; norm_num

theorem zero_bits : FloatOps.ofBits (F := Ideal) .f32 0x00000000#32 = (0 : EReal) := by
  show Ideal.ofBits .f32 0#32 = 0
  simp [Ideal.ofBits, Ideal.ieee]

/-- A row number that is not negative is used as it is. -/
theorem nonneg_sel (w : BitVec 32) (h : w.toNat < 32) : Scalar.select (IntOp.cmpi .slt w 0#32) (IntOp.addi w 32#32) w = w := by
  have hs : w.slt 0#32 = false := by
    have : w.toInt = (w.toNat : Int) := BitVec.toInt_eq_toNat_of_lt (by omega)
    rw [BitVec.slt_eq_decide, this]
    simp
  show (if BitVec.ofBool (w.slt 0#32) = 1#1 then _ else w) = w
  rw [hs]
  exact if_neg (by decide)

theorem val_main_v54_at (b : Fin 292) (h : ((val_main_v14 (F := Ideal) x1) (ix1 b)).toNat < 32) : val_main_v54 (F := Ideal) x1 (ix2 b (0 : Fin 1)) = BitVec.ofNat 32 (ex (val_main_v14 (F := Ideal) x1) b).val := by
  refine Eq.trans ?_ (ex_word (val_main_v14 (F := Ideal) x1) b h)
  have e : idx_main_v54 (ix2 b (0 : Fin 1)) = ix1 b := by
    funext a; match a with
    | ⟨0, _⟩ => rfl
  rw [val_main_v54_apply, e]
  exact nonneg_sel ((val_main_v14 (F := Ideal) x1) (ix1 b)) h

theorem val_main_v64_at (b : Fin 292) (h : ((val_main_v14 (F := Ideal) x1) (ix1 b)).toNat < 32) : val_main_v64 (F := Ideal) x1 (ix2 b (0 : Fin 1)) = BitVec.ofNat 32 (ex (val_main_v14 (F := Ideal) x1) b).val := by
  refine Eq.trans ?_ (ex_word (val_main_v14 (F := Ideal) x1) b h)
  have e : idx_main_v64 (ix2 b (0 : Fin 1)) = ix1 b := by
    funext a; match a with
    | ⟨0, _⟩ => rfl
  rw [val_main_v64_apply, e]
  exact nonneg_sel ((val_main_v14 (F := Ideal) x1) (ix1 b)) h

theorem val_main_v93_at (b : Fin 292) (h : ((val_main_v14 (F := Ideal) x1) (ix1 b)).toNat < 32) : val_main_v93 (F := Ideal) x1 (ix2 b (0 : Fin 1)) = BitVec.ofNat 32 (ex (val_main_v14 (F := Ideal) x1) b).val := by
  refine Eq.trans ?_ (ex_word (val_main_v14 (F := Ideal) x1) b h)
  have e : idx_main_v93 (ix2 b (0 : Fin 1)) = ix1 b := by
    funext a; match a with
    | ⟨0, _⟩ => rfl
  rw [val_main_v93_apply, e]
  exact nonneg_sel ((val_main_v14 (F := Ideal) x1) (ix1 b)) h

theorem val_main_v103_at (b : Fin 292) (h : ((val_main_v14 (F := Ideal) x1) (ix1 b)).toNat < 32) : val_main_v103 (F := Ideal) x1 (ix2 b (0 : Fin 1)) = BitVec.ofNat 32 (ex (val_main_v14 (F := Ideal) x1) b).val := by
  refine Eq.trans ?_ (ex_word (val_main_v14 (F := Ideal) x1) b h)
  have e : idx_main_v103 (ix2 b (0 : Fin 1)) = ix1 b := by
    funext a; match a with
    | ⟨0, _⟩ => rfl
  rw [val_main_v103_apply, e]
  exact nonneg_sel ((val_main_v14 (F := Ideal) x1) (ix1 b)) h

/-- Gathering matrices by row number. -/
theorem gather_mat_2048 (x : S32x1024x2048.Idx → EReal) (idx : IVec S292x1 32) (c : Fin 292) (p : Fin 1024) (q : Fin 2048) (e : Fin 32)
    (hb : idx (ix2 c (0 : Fin 1)) = BitVec.ofNat 32 e.val) :
    Host.gather gather_S32x1024x2048_S292x1_S292x1024x2048_12_0_n_n_0_1_110242048 x idx (ix3 c p q) = x (ix3 e p q) := by
  unfold Host.gather
  refine congrArg x (funext fun a => Fin.ext ?_)
  have hbN : ∀ a', a' ∉ gather_S32x1024x2048_S292x1_S292x1024x2048_12_0_n_n_0_1_110242048.operandBatchingDims := fun a' => List.not_mem_nil
  match a with
  | ⟨0, _⟩ =>
    have hk : (0 : Fin 3) ∉ gather_S32x1024x2048_S292x1_S292x1024x2048_12_0_n_n_0_1_110242048.sKept := by decide
    have hm : (0 : Fin 3) ∈ gather_S32x1024x2048_S292x1_S292x1024x2048_12_0_n_n_0_1_110242048.startIndexMap := by decide
    show gather_S32x1024x2048_S292x1_S292x1024x2048_12_0_n_n_0_1_110242048.start (ix3 c p q) idx 0 + gather_S32x1024x2048_S292x1_S292x1024x2048_12_0_n_n_0_1_110242048.batchCoord (ix3 c p q) 0 + gather_S32x1024x2048_S292x1_S292x1024x2048_12_0_n_n_0_1_110242048.offCoord (ix3 c p q) 0 = e.val
    rw [GatherDims.batchCoord_eq_zero _ _ _ (hbN 0), GatherDims.offCoord_eq_zero _ _ _ hk]
    simp only [Nat.add_zero]
    unfold GatherDims.start
    rw [dif_pos hm]
    have hsi : gather_S32x1024x2048_S292x1_S292x1024x2048_12_0_n_n_0_1_110242048.siIdx (ix3 c p q) ⟨gather_S32x1024x2048_S292x1_S292x1024x2048_12_0_n_n_0_1_110242048.startIndexMap.idxOf 0, List.idxOf_lt_length_iff.2 hm⟩ = ix2 c (0 : Fin 1) := by
      funext b'
      apply Fin.ext
      match b' with
      | ⟨0, _⟩ =>
        unfold GatherDims.siIdx
        rw [dif_neg (by show ¬(0 = 1); decide)]
        rfl
      | ⟨1, _⟩ =>
        unfold GatherDims.siIdx
        rw [dif_pos (by rfl)]
        rfl
    have hbl := e.isLt
    rw [hsi, hb, StableHlo.Predicate.toInt_ofNat_small _ (by omega)]
    show min ((e.val : Int)).toNat (32 - 1) = e.val
    omega
  | ⟨1, _⟩ =>
    have hk : (1 : Fin 3) ∈ gather_S32x1024x2048_S292x1_S292x1024x2048_12_0_n_n_0_1_110242048.sKept := by decide
    have hm : (1 : Fin 3) ∉ gather_S32x1024x2048_S292x1_S292x1024x2048_12_0_n_n_0_1_110242048.startIndexMap := by decide
    show gather_S32x1024x2048_S292x1_S292x1024x2048_12_0_n_n_0_1_110242048.start (ix3 c p q) idx 1 + gather_S32x1024x2048_S292x1_S292x1024x2048_12_0_n_n_0_1_110242048.batchCoord (ix3 c p q) 1 + gather_S32x1024x2048_S292x1_S292x1024x2048_12_0_n_n_0_1_110242048.offCoord (ix3 c p q) 1 = p.val
    rw [GatherDims.batchCoord_eq_zero _ _ _ (hbN 1), Nat.add_zero]
    unfold GatherDims.start GatherDims.offCoord
    rw [dif_neg hm, dif_pos hk, Nat.zero_add]
    rfl
  | ⟨2, _⟩ =>
    have hk : (2 : Fin 3) ∈ gather_S32x1024x2048_S292x1_S292x1024x2048_12_0_n_n_0_1_110242048.sKept := by decide
    have hm : (2 : Fin 3) ∉ gather_S32x1024x2048_S292x1_S292x1024x2048_12_0_n_n_0_1_110242048.startIndexMap := by decide
    show gather_S32x1024x2048_S292x1_S292x1024x2048_12_0_n_n_0_1_110242048.start (ix3 c p q) idx 2 + gather_S32x1024x2048_S292x1_S292x1024x2048_12_0_n_n_0_1_110242048.batchCoord (ix3 c p q) 2 + gather_S32x1024x2048_S292x1_S292x1024x2048_12_0_n_n_0_1_110242048.offCoord (ix3 c p q) 2 = q.val
    rw [GatherDims.batchCoord_eq_zero _ _ _ (hbN 2), Nat.add_zero]
    unfold GatherDims.start GatherDims.offCoord
    rw [dif_neg hm, dif_pos hk, Nat.zero_add]
    rfl

/-- Gathering matrices by row number. -/
theorem gather_mat_1024 (x : S32x1024x1024.Idx → EReal) (idx : IVec S292x1 32) (c : Fin 292) (p : Fin 1024) (q : Fin 1024) (e : Fin 32)
    (hb : idx (ix2 c (0 : Fin 1)) = BitVec.ofNat 32 e.val) :
    Host.gather gather_S32x1024x1024_S292x1_S292x1024x1024_12_0_n_n_0_1_110241024 x idx (ix3 c p q) = x (ix3 e p q) := by
  unfold Host.gather
  refine congrArg x (funext fun a => Fin.ext ?_)
  have hbN : ∀ a', a' ∉ gather_S32x1024x1024_S292x1_S292x1024x1024_12_0_n_n_0_1_110241024.operandBatchingDims := fun a' => List.not_mem_nil
  match a with
  | ⟨0, _⟩ =>
    have hk : (0 : Fin 3) ∉ gather_S32x1024x1024_S292x1_S292x1024x1024_12_0_n_n_0_1_110241024.sKept := by decide
    have hm : (0 : Fin 3) ∈ gather_S32x1024x1024_S292x1_S292x1024x1024_12_0_n_n_0_1_110241024.startIndexMap := by decide
    show gather_S32x1024x1024_S292x1_S292x1024x1024_12_0_n_n_0_1_110241024.start (ix3 c p q) idx 0 + gather_S32x1024x1024_S292x1_S292x1024x1024_12_0_n_n_0_1_110241024.batchCoord (ix3 c p q) 0 + gather_S32x1024x1024_S292x1_S292x1024x1024_12_0_n_n_0_1_110241024.offCoord (ix3 c p q) 0 = e.val
    rw [GatherDims.batchCoord_eq_zero _ _ _ (hbN 0), GatherDims.offCoord_eq_zero _ _ _ hk]
    simp only [Nat.add_zero]
    unfold GatherDims.start
    rw [dif_pos hm]
    have hsi : gather_S32x1024x1024_S292x1_S292x1024x1024_12_0_n_n_0_1_110241024.siIdx (ix3 c p q) ⟨gather_S32x1024x1024_S292x1_S292x1024x1024_12_0_n_n_0_1_110241024.startIndexMap.idxOf 0, List.idxOf_lt_length_iff.2 hm⟩ = ix2 c (0 : Fin 1) := by
      funext b'
      apply Fin.ext
      match b' with
      | ⟨0, _⟩ =>
        unfold GatherDims.siIdx
        rw [dif_neg (by show ¬(0 = 1); decide)]
        rfl
      | ⟨1, _⟩ =>
        unfold GatherDims.siIdx
        rw [dif_pos (by rfl)]
        rfl
    have hbl := e.isLt
    rw [hsi, hb, StableHlo.Predicate.toInt_ofNat_small _ (by omega)]
    show min ((e.val : Int)).toNat (32 - 1) = e.val
    omega
  | ⟨1, _⟩ =>
    have hk : (1 : Fin 3) ∈ gather_S32x1024x1024_S292x1_S292x1024x1024_12_0_n_n_0_1_110241024.sKept := by decide
    have hm : (1 : Fin 3) ∉ gather_S32x1024x1024_S292x1_S292x1024x1024_12_0_n_n_0_1_110241024.startIndexMap := by decide
    show gather_S32x1024x1024_S292x1_S292x1024x1024_12_0_n_n_0_1_110241024.start (ix3 c p q) idx 1 + gather_S32x1024x1024_S292x1_S292x1024x1024_12_0_n_n_0_1_110241024.batchCoord (ix3 c p q) 1 + gather_S32x1024x1024_S292x1_S292x1024x1024_12_0_n_n_0_1_110241024.offCoord (ix3 c p q) 1 = p.val
    rw [GatherDims.batchCoord_eq_zero _ _ _ (hbN 1), Nat.add_zero]
    unfold GatherDims.start GatherDims.offCoord
    rw [dif_neg hm, dif_pos hk, Nat.zero_add]
    rfl
  | ⟨2, _⟩ =>
    have hk : (2 : Fin 3) ∈ gather_S32x1024x1024_S292x1_S292x1024x1024_12_0_n_n_0_1_110241024.sKept := by decide
    have hm : (2 : Fin 3) ∉ gather_S32x1024x1024_S292x1_S292x1024x1024_12_0_n_n_0_1_110241024.startIndexMap := by decide
    show gather_S32x1024x1024_S292x1_S292x1024x1024_12_0_n_n_0_1_110241024.start (ix3 c p q) idx 2 + gather_S32x1024x1024_S292x1_S292x1024x1024_12_0_n_n_0_1_110241024.batchCoord (ix3 c p q) 2 + gather_S32x1024x1024_S292x1_S292x1024x1024_12_0_n_n_0_1_110241024.offCoord (ix3 c p q) 2 = q.val
    rw [GatherDims.batchCoord_eq_zero _ _ _ (hbN 2), Nat.add_zero]
    unfold GatherDims.start GatherDims.offCoord
    rw [dif_neg hm, dif_pos hk, Nat.zero_add]
    rfl

/-- The gathered matrices: block `b`'s is its expert's. -/
theorem g24 (b : Fin 292) (h : ((val_main_v14 (F := Ideal) x1) (ix1 b)).toNat < 32) (p : Fin 1024) (q : Fin 2048) :
    val_main_v55 (F := Ideal) x1 x2 (ix3 b p q) = x2 (ix4 0 (ex (val_main_v14 (F := Ideal) x1) b) p q) := by
  have hs : val_main_v55 (F := Ideal) x1 x2 (ix3 b p q) = val_main_v48 (F := Ideal) x2 (ix3 (ex (val_main_v14 (F := Ideal) x1) b) p q) := by
    have hi := val_main_v54_at x1 b h
    unfold val_main_v55
    generalize val_main_v48 (F := Ideal) x2 = y
    generalize val_main_v54 (F := Ideal) x1 = ii at hi
    exact gather_mat_2048 y ii b p q (ex (val_main_v14 (F := Ideal) x1) b) hi
  rw [hs, val_main_v48_apply]
  refine (val_main_v47_apply (F := Ideal) x2 _).trans (congrArg x2 ?_)
  have := (ex (val_main_v14 (F := Ideal) x1) b).isLt
  funext a; match a with
    | ⟨0, _⟩ => rfl
    | ⟨1, _⟩ => exact Fin.ext (by show (((ex (val_main_v14 (F := Ideal) x1) b).val * 1024 + p.val) * 2048 + q.val) / 2097152 % 32 = (ex (val_main_v14 (F := Ideal) x1) b).val; omega)
    | ⟨2, _⟩ => exact Fin.ext (by show (((ex (val_main_v14 (F := Ideal) x1) b).val * 1024 + p.val) * 2048 + q.val) / 2048 % 1024 = p.val; omega)
    | ⟨3, _⟩ => exact Fin.ext (by show (((ex (val_main_v14 (F := Ideal) x1) b).val * 1024 + p.val) * 2048 + q.val) % 2048 = q.val; omega)

/-- The gathered matrices: block `b`'s is its expert's. -/
theorem g63 (b : Fin 292) (h : ((val_main_v14 (F := Ideal) x1) (ix1 b)).toNat < 32) (p : Fin 1024) (q : Fin 1024) :
    val_main_v94 (F := Ideal) x1 x4 (ix3 b p q) = x4 (ix4 0 (ex (val_main_v14 (F := Ideal) x1) b) p q) := by
  have hs : val_main_v94 (F := Ideal) x1 x4 (ix3 b p q) = val_main_v87 (F := Ideal) x4 (ix3 (ex (val_main_v14 (F := Ideal) x1) b) p q) := by
    have hi := val_main_v93_at x1 b h
    unfold val_main_v94
    generalize val_main_v87 (F := Ideal) x4 = y
    generalize val_main_v93 (F := Ideal) x1 = ii at hi
    exact gather_mat_1024 y ii b p q (ex (val_main_v14 (F := Ideal) x1) b) hi
  rw [hs, val_main_v87_apply]
  refine (val_main_v86_apply (F := Ideal) x4 _).trans (congrArg x4 ?_)
  have := (ex (val_main_v14 (F := Ideal) x1) b).isLt
  funext a; match a with
    | ⟨0, _⟩ => rfl
    | ⟨1, _⟩ => exact Fin.ext (by show (((ex (val_main_v14 (F := Ideal) x1) b).val * 1024 + p.val) * 1024 + q.val) / 1048576 % 32 = (ex (val_main_v14 (F := Ideal) x1) b).val; omega)
    | ⟨2, _⟩ => exact Fin.ext (by show (((ex (val_main_v14 (F := Ideal) x1) b).val * 1024 + p.val) * 1024 + q.val) / 1024 % 1024 = p.val; omega)
    | ⟨3, _⟩ => exact Fin.ext (by show (((ex (val_main_v14 (F := Ideal) x1) b).val * 1024 + p.val) * 1024 + q.val) % 1024 = q.val; omega)

/-- The gathered vectors: block `b`'s is its expert's. -/
theorem g34 (b : Fin 292) (h : ((val_main_v14 (F := Ideal) x1) (ix1 b)).toNat < 32) (q : Fin 2048) :
    val_main_v65 (F := Ideal) x1 x3 (ix2 b q) = x3 (ix3 0 (ex (val_main_v14 (F := Ideal) x1) b) q) := by
  have hs : val_main_v65 (F := Ideal) x1 x3 (ix2 b q) = val_main_v58 (F := Ideal) x3 (ix2 (ex (val_main_v14 (F := Ideal) x1) b) q) := by
    have hi := val_main_v64_at x1 b h
    unfold val_main_v65
    generalize val_main_v58 (F := Ideal) x3 = y
    generalize val_main_v64 (F := Ideal) x1 = ii at hi
    exact gather_row gather_S32x2048_S292x1_S292x2048_1_0_n_n_0_1_12048 rfl rfl rfl rfl rfl y ii b q (ex (val_main_v14 (F := Ideal) x1) b) hi (by decide)
  rw [hs, val_main_v58_apply]
  refine (val_main_v57_apply (F := Ideal) x3 _).trans (congrArg x3 ?_)
  have := (ex (val_main_v14 (F := Ideal) x1) b).isLt
  funext a; match a with
    | ⟨0, _⟩ => rfl
    | ⟨1, _⟩ => exact Fin.ext (by show ((ex (val_main_v14 (F := Ideal) x1) b).val * 2048 + q.val) / 2048 % 32 = (ex (val_main_v14 (F := Ideal) x1) b).val; omega)
    | ⟨2, _⟩ => exact Fin.ext (by show ((ex (val_main_v14 (F := Ideal) x1) b).val * 2048 + q.val) % 2048 = q.val; omega)

/-- The gathered vectors: block `b`'s is its expert's. -/
theorem g73 (b : Fin 292) (h : ((val_main_v14 (F := Ideal) x1) (ix1 b)).toNat < 32) (q : Fin 1024) :
    val_main_v104 (F := Ideal) x1 x5 (ix2 b q) = x5 (ix3 0 (ex (val_main_v14 (F := Ideal) x1) b) q) := by
  have hs : val_main_v104 (F := Ideal) x1 x5 (ix2 b q) = val_main_v97 (F := Ideal) x5 (ix2 (ex (val_main_v14 (F := Ideal) x1) b) q) := by
    have hi := val_main_v103_at x1 b h
    unfold val_main_v104
    generalize val_main_v97 (F := Ideal) x5 = y
    generalize val_main_v103 (F := Ideal) x1 = ii at hi
    exact gather_row gather_S32x1024_S292x1_S292x1024_1_0_n_n_0_1_11024 rfl rfl rfl rfl rfl y ii b q (ex (val_main_v14 (F := Ideal) x1) b) hi (by decide)
  rw [hs, val_main_v97_apply]
  refine (val_main_v96_apply (F := Ideal) x5 _).trans (congrArg x5 ?_)
  have := (ex (val_main_v14 (F := Ideal) x1) b).isLt
  funext a; match a with
    | ⟨0, _⟩ => rfl
    | ⟨1, _⟩ => exact Fin.ext (by show ((ex (val_main_v14 (F := Ideal) x1) b).val * 1024 + q.val) / 1024 % 32 = (ex (val_main_v14 (F := Ideal) x1) b).val; omega)
    | ⟨2, _⟩ => exact Fin.ext (by show ((ex (val_main_v14 (F := Ideal) x1) b).val * 1024 + q.val) % 1024 = q.val; omega)

/-- The unpacked rows. -/
theorem r6 (i : Fin 74752) (k : Fin 1024) : val_main_v21 (F := Ideal) x0 (ix2 i k)
    = if h : k.val < 512 then lo (x0 (ix2 i ⟨k.val, h⟩)) else hi (x0 (ix2 i ⟨k.val - 512, by omega⟩)) := by
  have h2 : ∀ j : Fin 512, val_main_v17 (F := Ideal) x0 (ix2 i j) = lo (x0 (ix2 i j)) := fun j => by
    show FloatOps.ofBits (F := Ideal) .f32 (IntOp.shli .host (x0 (ix2 i j)) 16#32) = FloatOps.ofBits (F := Ideal) .f32 (IntOp.shli .vector (x0 (ix2 i j)) 16#32)
    unfold IntOp.shli
    rw [if_pos (by decide), if_pos (by decide)]
  have h5 : ∀ j : Fin 512, val_main_v20 (F := Ideal) x0 (ix2 i j) = hi (x0 (ix2 i j)) := fun j => rfl
  have hc : val_main_v21 (F := Ideal) x0 (ix2 i k) = if h : k.val < 512 then val_main_v17 (F := Ideal) x0 (ix2 i ⟨k.val, h⟩)
      else val_main_v20 (F := Ideal) x0 (ix2 i ⟨k.val - 512, by omega⟩) := by
    unfold val_main_v21
    generalize val_main_v17 (F := Ideal) x0 = y
    generalize val_main_v20 (F := Ideal) x0 = z
    pointwise
  rw [hc]
  by_cases h : k.val < 512
  · rw [dif_pos h, dif_pos h, h2]
  · rw [dif_neg h, dif_neg h, h5]

/-- The rows, zero from each block's count on. -/
theorem r15 (b : Fin 292) (r : Fin 256) (k : Fin 1024) : val_main_v46 (F := Ideal) x0 x1 (ix3 b r k) = rowS x0 (val_main_v39 (F := Ideal) x1) b r k := by
  have h7 : val_main_v22 (F := Ideal) x0 (ix3 b r k) = val_main_v21 (F := Ideal) x0 (ix2 ⟨256 * b.val + r.val, by omega⟩ k) := by
    rw [val_main_v22_apply]
    refine congrArg _ ?_
    funext a; match a with
      | ⟨0, _⟩ => exact Fin.ext (by show ((b.val * 256 + r.val) * 1024 + k.val) / 1024 = 256 * b.val + r.val; omega)
      | ⟨1, _⟩ => exact Fin.ext (by show ((b.val * 256 + r.val) * 1024 + k.val) % 1024 = k.val; omega)
  have hc : val_main_call3_v1 (F := Ideal) x1 (ix3 b r k) = IntOp.cmpi .slt (BitVec.ofNat 32 r.val) ((val_main_v39 (F := Ideal) x1) (ix1 b)) := by
    rw [val_main_call3_v1_apply, val_main_v45_apply, val_main_v44_apply, val_main_v42_apply, val_main_v40_apply, val_main_v43_apply, val_main_v41_apply]
    refine congrArg₂ _ rfl (congrArg (val_main_v39 (F := Ideal) x1) ?_)
    funext a; match a with
      | ⟨0, _⟩ => rfl
  have hz : val_main_call3_v2 (F := Ideal) (ix3 b r k) = (0 : EReal) := by
    rw [val_main_call3_v2_apply]
    exact zero_bits
  rw [val_main_v46_apply, h7, hc, hz, r6]
  rfl

/-- The first product with its bias. -/
theorem r37 (b : Fin 292) (h : ((val_main_v14 (F := Ideal) x1) (ix1 b)).toNat < 32) (r : Fin 256) (j : Fin 2048) :
    val_main_v68 (F := Ideal) x0 x1 x2 x3 (ix3 b r j) = hidS x0 (val_main_v39 (F := Ideal) x1) x2 x3 b (ex (val_main_v14 (F := Ideal) x1) b) r j := by
  have h25 : val_main_v56 (F := Ideal) x0 x1 x2 (ix3 b r j) = ∑ k : Fin 1024, rowS x0 (val_main_v39 (F := Ideal) x1) b r k * x2 (ix4 0 (ex (val_main_v14 (F := Ideal) x1) b) k j) := by
    rw [val_main_v56_apply]
    refine Finset.sum_congr rfl fun k _ => congrArg₂ (· * ·) (Eq.trans (congrArg _ ?_) (r15 x0 x1 b r k)) (Eq.trans (congrArg _ ?_) (g24 x1 x2 b h k j))
    · funext a; match a with
      | ⟨0, _⟩ => rfl
      | ⟨1, _⟩ => rfl
      | ⟨2, _⟩ => rfl
    · funext a; match a with
      | ⟨0, _⟩ => rfl
      | ⟨1, _⟩ => rfl
      | ⟨2, _⟩ => rfl
  have h36 : val_main_v67 (F := Ideal) x1 x3 (ix3 b r j) = x3 (ix3 0 (ex (val_main_v14 (F := Ideal) x1) b) j) := by
    rw [val_main_v67_apply, val_main_v66_apply]
    refine Eq.trans (congrArg _ ?_) (g34 x1 x3 b h j)
    funext a; match a with
      | ⟨0, _⟩ => rfl
      | ⟨1, _⟩ => rfl
  rw [val_main_v68_apply, h25, h36]
  rfl

/-- The quotient form of the logistic. -/
theorem logistic_eq (y : EReal) : FloatOps.hostDivf (F := Ideal) (φ := .f32) (FloatOps.ofBits .f32 0x3F800000#32)
      (FloatOps.addf (F := Ideal) (φ := .f32) (FloatOps.ofBits .f32 0x3F800000#32) (FloatOps.hostUnary (F := Ideal) (φ := .f32) .exp (FloatOps.hostNegf (F := Ideal) (φ := .f32) y)))
    = FloatOps.logistic (F := Ideal) (φ := .f32) y := by
  rw [one_bits]
  rfl

/-- The gated units. -/
theorem r54 (b : Fin 292) (h : ((val_main_v14 (F := Ideal) x1) (ix1 b)).toNat < 32) (r : Fin 256) (f : Fin 1024) :
    val_main_v85 (F := Ideal) x0 x1 x2 x3 (ix3 b r f)
      = unitS (hidS x0 (val_main_v39 (F := Ideal) x1) x2 x3 b (ex (val_main_v14 (F := Ideal) x1) b) r ⟨f.val, by omega⟩) (hidS x0 (val_main_v39 (F := Ideal) x1) x2 x3 b (ex (val_main_v14 (F := Ideal) x1) b) r ⟨1024 + f.val, by omega⟩) := by
  have h38 : val_main_v69 (F := Ideal) x0 x1 x2 x3 (ix3 b r f) = hidS x0 (val_main_v39 (F := Ideal) x1) x2 x3 b (ex (val_main_v14 (F := Ideal) x1) b) r ⟨f.val, by omega⟩ := by
    rw [val_main_v69_apply]
    refine Eq.trans (congrArg _ ?_) (r37 x0 x1 x2 x3 b h r ⟨f.val, by omega⟩)
    funext a; match a with
      | ⟨0, _⟩ => rfl
      | ⟨1, _⟩ => rfl
      | ⟨2, _⟩ => rfl
  have h41 : val_main_v72 (F := Ideal) x0 x1 x2 x3 (ix3 b r f) = hidS x0 (val_main_v39 (F := Ideal) x1) x2 x3 b (ex (val_main_v14 (F := Ideal) x1) b) r ⟨1024 + f.val, by omega⟩ := by
    rw [val_main_v72_apply]
    refine Eq.trans (congrArg _ ?_) (r37 x0 x1 x2 x3 b h r ⟨1024 + f.val, by omega⟩)
    funext a; match a with
      | ⟨0, _⟩ => rfl
      | ⟨1, _⟩ => rfl
      | ⟨2, _⟩ => rfl
  rw [val_main_v85_apply, val_main_v84_apply, val_main_v82_apply, val_main_v81_apply, val_main_v79_apply, val_main_v77_apply, val_main_v76_apply,
    val_main_v75_apply, val_main_v73_apply, val_main_call4_v2_apply, val_main_v71_apply, h38, h41,
    val_main_v70_apply, val_main_v74_apply, val_main_v78_apply, val_main_v80_apply, val_main_v83_apply, val_main_call4_v1_apply, val_main_call4_v4_apply]
  unfold unitS
  rw [← logistic_eq]
  rfl

/-- The result of the blocks, before the last reshape. -/
theorem r82 (b : Fin 292) (h : ((val_main_v14 (F := Ideal) x1) (ix1 b)).toNat < 32) (r : Fin 256) (d : Fin 1024) :
    val_main_v115 (F := Ideal) x0 x1 x2 x3 x4 x5 (ix3 b r d) = outS x0 (tabN (val_main_v109 (F := Ideal) x1)) (val_main_v39 (F := Ideal) x1) x2 x3 x4 x5 b (ex (val_main_v14 (F := Ideal) x1) b) r d := by
  have h64 : val_main_v95 (F := Ideal) x0 x1 x2 x3 x4 (ix3 b r d)
      = ∑ f : Fin 1024, unitS (hidS x0 (val_main_v39 (F := Ideal) x1) x2 x3 b (ex (val_main_v14 (F := Ideal) x1) b) r ⟨f.val, by omega⟩) (hidS x0 (val_main_v39 (F := Ideal) x1) x2 x3 b (ex (val_main_v14 (F := Ideal) x1) b) r ⟨1024 + f.val, by omega⟩) * x4 (ix4 0 (ex (val_main_v14 (F := Ideal) x1) b) f d) := by
    rw [val_main_v95_apply]
    refine Finset.sum_congr rfl fun k _ => congrArg₂ (· * ·) (Eq.trans (congrArg _ ?_) (r54 x0 x1 x2 x3 b h r k)) (Eq.trans (congrArg _ ?_) (g63 x1 x4 b h k d))
    · funext a; match a with
      | ⟨0, _⟩ => rfl
      | ⟨1, _⟩ => rfl
      | ⟨2, _⟩ => rfl
    · funext a; match a with
      | ⟨0, _⟩ => rfl
      | ⟨1, _⟩ => rfl
      | ⟨2, _⟩ => rfl
  have h75 : val_main_v106 (F := Ideal) x1 x5 (ix3 b r d) = x5 (ix3 0 (ex (val_main_v14 (F := Ideal) x1) b) d) := by
    rw [val_main_v106_apply, val_main_v105_apply]
    refine Eq.trans (congrArg _ ?_) (g73 x1 x5 b h d)
    funext a; match a with
      | ⟨0, _⟩ => rfl
      | ⟨1, _⟩ => rfl
  have hc : val_main_call6_v1 (F := Ideal) x1 (ix3 b r d) = IntOp.cmpi .slt (BitVec.ofNat 32 b.val) ((tabN (val_main_v109 (F := Ideal) x1)) (ix1 0)) := by
    rw [val_main_call6_v1_apply, val_main_v114_apply, val_main_v113_apply, val_main_v112_apply]
    exact congrArg₂ _ rfl (tabN_eq x1 _)
  have hz : val_main_call6_v2 (F := Ideal) (ix3 b r d) = (0 : EReal) := by
    rw [val_main_call6_v2_apply]
    exact zero_bits
  rw [val_main_v115_apply, val_main_v107_apply, h64, h75, hc, hz]
  rfl

/-- The reference's result. -/
theorem r84 (h : ∀ w : S292.Idx, ((val_main_v14 (F := Ideal) x1) w).toNat < 32) :
    val_main_v117 (F := Ideal) x0 x1 x2 x3 x4 x5 = RS x0 (val_main_v14 (F := Ideal) x1) (tabN (val_main_v109 (F := Ideal) x1)) (val_main_v39 (F := Ideal) x1) x2 x3 x4 x5 := by
  funext y
  have h0 : (y 0).val < 74752 := (y 0).isLt
  have h1 : (y 1).val < 1024 := (y 1).isLt
  refine Eq.trans ?_ (r82 x0 x1 x2 x3 x4 x5 ⟨(y 0).val / 256, by omega⟩ (h _) ⟨(y 0).val % 256, Nat.mod_lt _ (by decide)⟩ (y 1))
  rw [val_main_v117_apply, val_main_v116_apply]
  refine congrArg (val_main_v115 (F := Ideal) x0 x1 x2 x3 x4 x5) ?_
  funext a; match a with
    | ⟨0, _⟩ => exact Fin.ext (by show ((y 0).val * 1024 + (y 1).val) / 262144 = (y 0).val / 256; omega)
    | ⟨1, _⟩ => exact Fin.ext (by show ((y 0).val * 1024 + (y 1).val) / 1024 % 256 = (y 0).val % 256; omega)
    | ⟨2, _⟩ => exact Fin.ext (by show ((y 0).val * 1024 + (y 1).val) % 1024 = (y 1).val; omega)

/-- Rows kept between 0 and 256 mask the same rows. -/
theorem RS_clip (be : S292.Idx → BitVec 32) (nu : S1.Idx → BitVec 32) (w : S292.Idx → BitVec 32) :
    RS x0 be nu (tabV w) x2 x3 x4 x5 = RS x0 be nu w x2 x3 x4 x5 := by
  have hr : rowS x0 (tabV w) = rowS x0 w := by
    funext b r k
    unfold rowS
    rw [tabV_slt w (ix1 b) r.val r.isLt]
  have hh : hidS x0 (tabV w) x2 x3 = hidS x0 w x2 x3 := by
    funext b e r j
    unfold hidS
    rw [hr]
  funext y
  unfold RS outS
  rw [hh]

/-- The reference's result, over the tables as the kernel's host code makes them. -/
theorem meet : val_main_v117 (F := Ideal) x0 x1 x2 x3 x4 x5
    = RS x0 (tabE (F := Ideal) x1) (tabN (val_main_v109 (F := Ideal) x1)) (tabV (tabW (F := Ideal) (tabE (F := Ideal) x1) x1)) x2 x3 x4 x5 := by
  rw [r84 x0 x1 x2 x3 x4 x5 (fun w => by rw [← tabE_eq]; exact tabE_lt x1 w), RS_clip, tabE_eq, tabW_eq]

end Cert.Reference3Ideal.Moe

end
-- ==== Proof.MoeMeet.lean ====
/-
  The claims of the experts' call: its frames and its result against the reference's.
-/
module

public import proofs.«01_k».proof.Defs
public import proofs.«01_k».proof.Proof.MoeKCall
public import proofs.«01_k».proof.Proof.MoeArr
public import proofs.«01_k».proof.Proof.MoeRef
public import proofs.«01_k».proof.Proof.Gen.Reference3Ideal.Run
public import proofs.«01_k».proof.Proof.Gen.Reference3Ideal.Read

@[expose] public section

set_option maxRecDepth 16384

noncomputable section

namespace Cert.Meet

open Idealize.ShloMosaic Idealize.ShloMosaic.TcCoe Idealize.SL.Sem

/-- The experts' call runs, its arguments end unchanged, and every semaphore counter ends at zero. -/
theorem frame3 : Cert.quiescent_Kernel3 := fun m ρ _ =>
  (θ_run _ _ _).mono (fun r h => ⟨fun c => Cert.Kernel3.Moe.args_kept m (Cert.Kernel3.Moe.ok m) r h.1 c, h.2⟩) (Cert.Kernel3.Moe.run_all m ρ (Cert.Kernel3.Moe.ok m))

/-- The same of its ideal. -/
theorem frame3_ideal : Cert.quiescent_Kernel3Ideal := fun m ρ _ =>
  (θ_run _ _ _).mono (fun r h => ⟨fun c => Cert.Kernel3Ideal.Moe.args_kept m (Cert.Kernel3Ideal.Moe.ok m) r h.1 c, h.2⟩) (Cert.Kernel3Ideal.Moe.run_all m ρ (Cert.Kernel3Ideal.Moe.ok m))

/-- The experts' reference runs, its arguments end unchanged, and it declares no semaphore. -/
theorem frame_ref3 : Cert.quiescent_Reference3Ideal := fun m ρ _ =>
  (θ_run _ _ _).mono (fun r h => ⟨fun c => (h c).2, sem_eq_zero_of_no_sems (by decide) r.2⟩) (Cert.Reference3Ideal.Value.run (F := Ideal) m ρ)

/-- The reference's result at arguments that agree with the kernel's. -/
theorem meet_of {x0 y0 : Cert.Kernel3Ideal.S74752x512.Idx → BitVec 32} {x1 y1 : Cert.Kernel3Ideal.S32.Idx → BitVec 32}
    {x2 y2 : Cert.Kernel3Ideal.S4x32x1024x2048.Idx → EReal} {x3 y3 : Cert.Kernel3Ideal.S4x32x2048.Idx → EReal}
    {x4 y4 : Cert.Kernel3Ideal.S4x32x1024x1024.Idx → EReal} {x5 y5 : Cert.Kernel3Ideal.S4x32x1024.Idx → EReal}
    (h0 : x0 = y0) (h1 : x1 = y1) (h2 : x2 = y2) (h3 : x3 = y3) (h4 : x4 = y4) (h5 : x5 = y5) :
    Cert.Reference3Ideal.Read.val_main_v117 (F := Ideal) x0 x1 x2 x3 x4 x5
      = Cert.Kernel3Ideal.Moe.RS y0 (Cert.Moe.tabE (F := Ideal) y1) (Cert.Moe.tabN (Cert.Reference3Ideal.Read.val_main_v109 (F := Ideal) y1))
          (Cert.Moe.tabV (Cert.Moe.tabW (F := Ideal) (Cert.Moe.tabE (F := Ideal) y1) y1)) y2 y3 y4 y5 := by
  subst h0 h1 h2 h3 h4 h5
  exact Cert.Reference3Ideal.Moe.meet _ _ _ _ _ _

/-- The result of the experts' call is the reference's, exactly. -/
theorem algebraic3 : Cert.algebraic_Kernel3Ideal_Reference3Ideal := fun m ρ m' ρ' _ hag => by
  refine ⟨fun c => _, Cert.Kernel3Ideal.Moe.run_spec m ρ, (θ_run _ _ _).mono (fun r h c => ⟨(h c).1.trans ?_, (h c).2⟩) (Cert.Reference3Ideal.Value.run (F := Ideal) m' ρ')⟩
  exact (Cert.Reference3Ideal.Read.val_main_v117_eq (F := Ideal) (StableHlo.launchContents m' c)).trans
    (meet_of (hag c).1 (hag c).2.1 (hag c).2.2.1 (hag c).2.2.2.1 (hag c).2.2.2.2.1 (hag c).2.2.2.2.2)

end Cert.Meet

end
-- ==== Proof.RopeOps.lean ====
module

public import proofs.«01_k».proof.Proof.Gen.Kernel4Ideal.Frame
public import Idealize.ShloMosaic.Lib.Pointwise
public import Idealize.ShloMosaic.Lib.KernelVsHost
public import Idealize.ShloMosaic.Lib.Affine
public import Idealize.ShloMosaic.Lib.Pipeline.Value

@[expose] public section

set_option maxRecDepth 16384

noncomputable section

namespace Cert.Kernel4Ideal.Rope

open Cert.Kernel4Ideal Cert.Kernel4Ideal.Gen
open Idealize.ShloMosaic

/-- A row block times 512 columns of the weights, at an element. -/
theorem mm512 (u : FVec Ideal S256x1024 .bf16) (w : FVec Ideal S1024x512 .bf16) (r : Fin 256) (j : Fin 512) :
    matmul dot_S256x1024_S1024x512_S256x512_1_0_0_1_n_n none u w (constant S256x512 .f32 0x00000000#32) (ix2 r j)
      = ∑ k : Fin 1024, u (ix2 r k) * w (ix2 k j) := by
  pointwise

/-- The product of 512 columns. -/
def mmT (u : FVec Ideal S256x1024 .bf16) (w : FVec Ideal S1024x512 .bf16) : FVec Ideal S256x512 .f32 :=
  matmul dot_S256x1024_S1024x512_S256x512_1_0_0_1_n_n none u
    (shapeCast S1024x512 w shapeCasts_S1024x512_S1024x512) (constant S256x512 .f32 0x00000000#32)

theorem mmT_apply (u : FVec Ideal S256x1024 .bf16) (w : FVec Ideal S1024x512 .bf16) (r : Fin 256) (j : Fin 512) :
    mmT u w (ix2 r j) = ∑ k : Fin 1024, u (ix2 r k) * w (ix2 k j) := by
  unfold mmT
  rw [shapeCast_self]
  exact mm512 u w r j

/-- One column of the block's product. -/
def D (u : FVec Ideal S256x1024 .bf16) (w : Vec Ideal S1024x3072 .bf16) (r : Fin 256) (c : ℕ) : EReal :=
  ∑ k : Fin 1024, u (ix2 r k) * w (ix2 k ⟨c % 3072, Nat.mod_lt _ (by decide)⟩)

/-- The product of the 512 columns from `o` on is the whole product's. -/
theorem mmT_ld (o : ℕ) (ho : o + 512 ≤ 3072)
    (inb' : ∀ a, (![0, o] : Fin 2 → Nat) a + S1024x512.size a ≤ S1024x3072.size a)
    (u : FVec Ideal S256x1024 .bf16) (w : Vec Ideal S1024x3072 .bf16) (r : Fin 256) (j : Fin 512) :
    mmT u (View.ld (Val := Elt Ideal) w (Rect.unit (s := S1024x3072) ![0, o] S1024x512.size inb')) (ix2 r j) = D u w r (o + j.val) := by
  refine (mmT_apply u _ r j).trans ?_
  unfold D
  refine Finset.sum_congr rfl fun k _ => congrArg₂ (· * ·) rfl (congrArg w ?_)
  funext a
  match a with
  | ⟨0, _⟩ => exact Fin.ext (by show 0 + 1 * k.val = k.val; omega)
  | ⟨1, _⟩ => exact Fin.ext (by show o + 1 * j.val = (o + j.val) % 3072; have := j.isLt; omega)

/-- The four copies of a table's 128 lanes, at a lane. -/
theorem pay6_apply (x : Vec Ideal S256x128 .f32) (r : Fin 256) (j : Fin 512) :
    k0_pay6 (F := Ideal) x (ix2 r j) = x (ix2 r ⟨j.val % 128, Nat.mod_lt _ (by decide)⟩) := by
  unfold k0_pay6
  rw [shapeCast_self]
  pointwise
  all_goals (try split_ifs) <;> (refine congrArg x ?_; funext a; match a with
    | ⟨0, _⟩ => rfl
    | ⟨1, _⟩ => exact Fin.ext (by show _ = j.val % 128; simp; omega))

/-- The lanes of the first half of each group of 32. -/
theorem mask_apply (r : Fin 256) (j : Fin 512) : k0_pay8 (ix2 r j) = if j.val % 32 < 16 then 1#1 else 0#1 := by
  have : ∀ j : Fin 512, k0_pay8 (ix2 (0 : Fin 256) j) = if j.val % 32 < 16 then 1#1 else 0#1 := by decide +kernel
  exact this j

/-- What the kernel does with the product of one store's columns: `p * cos + rotated p * sin`. -/
def rotT (p cs sn : FVec Ideal S256x512 .f32) (msk : IVec S256x512 1) : FVec Ideal S256x512 .bf16 :=
  truncf (F := Ideal) .bf16 (addf (mulf p cs) (mulf (select msk (subf (broadcast S256x512 (Scalar.ofBits (F := Ideal) .f32 0x00000000#32))
    (dynamicRotate 1 496#32 none p rotates_S256x512_d1)) (dynamicRotate 1 16#32 none p rotates_S256x512_d1)) sn)) bitsLt_bf16_f32

theorem rotT_apply (p cs sn : FVec Ideal S256x512 .f32) (msk : IVec S256x512 1)
    (hm : ∀ (r : Fin 256) (j : Fin 512), msk (ix2 r j) = if j.val % 32 < 16 then 1#1 else 0#1) (q : ℕ → EReal) (o : ℕ) (ho : o % 512 = 0) (r : Fin 256)
    (hp : ∀ j : Fin 512, p (ix2 r j) = q (o + j.val)) (j : Fin 512) :
    rotT p cs sn msk (ix2 r j) = q (o + j.val) * cs (ix2 r j)
      + (if (o + j.val) % 32 < 16 then 0 - q (o + j.val + 16) else q (o + j.val - 16)) * sn (ix2 r j) := by
  have hz : Scalar.ofBits (F := Ideal) .f32 0x00000000#32 = (0 : EReal) := by
    show Ideal.ofBits .f32 0#32 = 0
    simp [Ideal.ofBits, Ideal.ieee]
  have hj := j.isLt
  have hmod : (o + j.val) % 32 = j.val % 32 := by omega
  show p (ix2 r j) * cs (ix2 r j) + Scalar.select (msk (ix2 r j)) (Scalar.ofBits (F := Ideal) .f32 0x00000000#32 - dynamicRotate 1 496#32 none p rotates_S256x512_d1 (ix2 r j))
    (dynamicRotate 1 16#32 none p rotates_S256x512_d1 (ix2 r j)) * sn (ix2 r j) = _
  rw [hm, hz, hp, hmod]
  by_cases h : j.val % 32 < 16
  · rw [if_pos h, if_pos h]
    have e : dynamicRotate 1 496#32 none p rotates_S256x512_d1 (ix2 r j) = p (ix2 r ⟨j.val + 16, by omega⟩) :=
      dynamicRotate_apply 1 496#32 p rotates_S256x512_d1 _ _ (fun b => match b with
        | ⟨0, _⟩ => rfl
        | ⟨1, _⟩ => by
          show j.val + 16 = (j.val + 512 - 496 % 512) % 512
          omega)
    rw [e, hp]
    rfl
  · rw [if_neg h, if_neg h]
    have e : dynamicRotate 1 16#32 none p rotates_S256x512_d1 (ix2 r j) = p (ix2 r ⟨j.val - 16, by omega⟩) :=
      dynamicRotate_apply 1 16#32 p rotates_S256x512_d1 _ _ (fun b => match b with
        | ⟨0, _⟩ => rfl
        | ⟨1, _⟩ => by
          show j.val - 16 = (j.val + 512 - 16 % 512) % 512
          omega)
    rw [e, hp]
    show _ + q (o + (j.val - 16)) * _ = _
    rw [show o + (j.val - 16) = o + j.val - 16 by omega]

/-- The output block: the query and key columns rotated, the value columns plain. -/
def GR (u : FVec Ideal S256x1024 .bf16) (w : Vec Ideal S1024x3072 .bf16) (cs sn : Vec Ideal S256x128 .f32) : S256x3072.Idx → EReal := fun y =>
  if (y 1).val < 2048 then
    D u w (y 0) (y 1).val * cs (ix2 (y 0) ⟨(y 1).val % 128, Nat.mod_lt _ (by decide)⟩)
      + (if (y 1).val % 32 < 16 then 0 - D u w (y 0) ((y 1).val + 16) else D u w (y 0) ((y 1).val - 16))
        * sn (ix2 (y 0) ⟨(y 1).val % 128, Nat.mod_lt _ (by decide)⟩)
  else D u w (y 0) (y 1).val

/-- A rotated store writes the block's columns from `o` on. -/
theorem pieceR (o : ℕ) (ho : o % 512 = 0) (ho' : o + 512 ≤ 2048) (inb : ∀ a, (![0, o] : Fin 2 → Nat) a + S256x512.size a ≤ S256x3072.size a)
    (inb' : ∀ a, (![0, o] : Fin 2 → Nat) a + S1024x512.size a ≤ S1024x3072.size a)
    (u : FVec Ideal S256x1024 .bf16) (w : Vec Ideal S1024x3072 .bf16) (cs sn : Vec Ideal S256x128 .f32) (x : S256x512.Idx) :
    rotT (mmT u (View.ld (Val := Elt Ideal) w (Rect.unit (s := S1024x3072) ![0, o] S1024x512.size inb'))) (k0_pay6 (F := Ideal) cs) (k0_pay6 (F := Ideal) sn) k0_pay8 x
      = GR u w cs sn ((Rect.unit (s := S256x3072) ![0, o] S256x512.size inb).emb x) := by
  have hx : x = (ix2 (x 0) (x 1) : S256x512.Idx) := by
    funext a; fin_cases a <;> rfl
  have hj : (x 1).val < 512 := (x 1).isLt
  refine (congrArg _ hx).trans ((rotT_apply _ _ _ _ mask_apply (D u w (x 0)) o ho (x 0) (fun j => mmT_ld o (by omega) inb' u w (x 0) j) (x 1)).trans ?_)
  have hy : (Rect.unit (s := S256x3072) ![0, o] S256x512.size inb).emb x
      = (ix2 (x 0) ⟨o + (x 1).val, by omega⟩ : S256x3072.Idx) := by
    funext a
    match a with
    | ⟨0, _⟩ => exact Fin.ext (by show 0 + 1 * (x 0).val = (x 0).val; omega)
    | ⟨1, _⟩ => exact Fin.ext (by show o + 1 * (x 1).val = o + (x 1).val; omega)
  have hm : (⟨(x 1).val % 128, Nat.mod_lt _ (by decide)⟩ : Fin 128) = ⟨(o + (x 1).val) % 128, Nat.mod_lt _ (by decide)⟩ := Fin.ext (by
    show (x 1).val % 128 = (o + (x 1).val) % 128
    omega)
  rw [hy]
  refine (congrArg₂ (fun a b : EReal => D u w (x 0) (o + (x 1).val) * a
    + (if (o + (x 1).val) % 32 < 16 then 0 - D u w (x 0) (o + (x 1).val + 16) else D u w (x 0) (o + (x 1).val - 16)) * b)
    ((pay6_apply cs (x 0) (x 1)).trans (congrArg (fun q => cs (ix2 (x 0) q)) hm))
    ((pay6_apply sn (x 0) (x 1)).trans (congrArg (fun q => sn (ix2 (x 0) q)) hm))).trans ?_
  exact (if_pos (show o + (x 1).val < 2048 by omega)).symm

/-- A plain store writes the block's columns from `o` on. -/
theorem pieceP (o : ℕ) (ho : 2048 ≤ o) (ho' : o + 512 ≤ 3072) (inb : ∀ a, (![0, o] : Fin 2 → Nat) a + S256x512.size a ≤ S256x3072.size a)
    (inb' : ∀ a, (![0, o] : Fin 2 → Nat) a + S1024x512.size a ≤ S1024x3072.size a)
    (u : FVec Ideal S256x1024 .bf16) (w : Vec Ideal S1024x3072 .bf16) (cs sn : Vec Ideal S256x128 .f32) (x : S256x512.Idx) :
    mmT u (View.ld (Val := Elt Ideal) w (Rect.unit (s := S1024x3072) ![0, o] S1024x512.size inb')) x
      = GR u w cs sn ((Rect.unit (s := S256x3072) ![0, o] S256x512.size inb).emb x) := by
  have hx : x = (ix2 (x 0) (x 1) : S256x512.Idx) := by
    funext a; fin_cases a <;> rfl
  have hj : (x 1).val < 512 := (x 1).isLt
  refine (congrArg _ hx).trans ((mmT_ld o (by omega) inb' u w (x 0) (x 1)).trans ?_)
  have hy : (Rect.unit (s := S256x3072) ![0, o] S256x512.size inb).emb x
      = (ix2 (x 0) ⟨o + (x 1).val, by omega⟩ : S256x3072.Idx) := by
    funext a
    match a with
    | ⟨0, _⟩ => exact Fin.ext (by show 0 + 1 * (x 0).val = (x 0).val; omega)
    | ⟨1, _⟩ => exact Fin.ext (by show o + 1 * (x 1).val = o + (x 1).val; omega)
  rw [hy]
  exact (if_neg (show ¬ o + (x 1).val < 2048 by omega)).symm

/-- The modulated rows of a block. -/
theorem mod_apply (x0 : Vec Ideal S256x1024 .f32) (x1 : Vec Ideal S1x6x1024 .f32) (x2 : Vec Ideal S1024x3072 .bf16) (x3 x4 : Vec Ideal S256x128 .f32)
    (r : Fin 256) (k : Fin 1024) :
    k0_pay12 (F := Ideal) x0 x1 x2 x3 x4 (ix2 r k) = x0 (ix2 r k) * (1 + x1 (ix3 0 1 k)) + x1 (ix3 0 0 k) := by
  have h1 : FloatOps.ofBits (F := Ideal) .f32 0x3F800000#32 = (1 : EReal) := by
    show Ideal.ofBits .f32 0x3F800000#32 = 1
    simp [Ideal.ofBits, Ideal.ieee]
    rw [← EReal.coe_mul]; norm_num
  have e0 : View.ld (Val := Elt Ideal) x0 r0_0 = x0 := View.ld_unit_zero (by funext a; fin_cases a <;> rfl) _ x0
  have e1 : ∀ k : Fin 1024, View.ld (Val := Elt Ideal) x1 r0_1 (ix3 0 0 k : S1x1x1024.Idx) = x1 (ix3 0 1 k) := fun k =>
    congrArg x1 (funext fun a => match a with
      | ⟨0, _⟩ => rfl
      | ⟨1, _⟩ => rfl
      | ⟨2, _⟩ => Fin.ext (by show 0 + 1 * k.val = k.val; omega))
  have e2 : ∀ k : Fin 1024, View.ld (Val := Elt Ideal) x1 r0_2 (ix3 0 0 k : S1x1x1024.Idx) = x1 (ix3 0 0 k) := fun k =>
    congrArg x1 (funext fun a => match a with
      | ⟨0, _⟩ => rfl
      | ⟨1, _⟩ => rfl
      | ⟨2, _⟩ => Fin.ext (by show 0 + 1 * k.val = k.val; omega))
  unfold k0_pay12
  rw [e0]
  rw [← e1, ← e2]
  generalize View.ld (Val := Elt Ideal) x1 r0_1 = y1
  generalize View.ld (Val := Elt Ideal) x1 r0_2 = y2
  rw [← h1]
  unfold k0_pay5
  pointwise

/-- The output's block at an element. -/
theorem out5_apply (x0 : Vec Ideal S256x1024 .f32) (x1 : Vec Ideal S1x6x1024 .f32) (x2 : Vec Ideal S1024x3072 .bf16) (x3 x4 : Vec Ideal S256x128 .f32) (y : S256x3072.Idx) :
    out0_5 (F := Ideal) x0 x1 x2 x3 x4 y = GR (k0_pay12 (F := Ideal) x0 x1 x2 x3 x4) x2 x3 x4 y := by
  have e3 : k0_pay13 (F := Ideal) x0 x1 x2 x3 x4 = k0_pay6 (F := Ideal) x3 := by
    unfold k0_pay13
    exact congrArg _ (View.ld_unit_zero (by funext a; fin_cases a <;> rfl) _ x3)
  have e4 : k0_pay14 (F := Ideal) x0 x1 x2 x3 x4 = k0_pay6 (F := Ideal) x4 := by
    unfold k0_pay14
    exact congrArg (k0_pay6 (F := Ideal)) (View.ld_unit_zero (by funext a; fin_cases a <;> rfl) _ x4)
  have e5 : k0_pay15 (F := Ideal) x0 x1 x2 x3 x4 = k0_pay8 := rfl
  unfold out0_5
  rw [e3, e4, e5]
  refine View.canon_apply_of_pieces (Val := Elt Ideal) _ _ ?_ y (cover0_5 _ _ _ _ _ _ y)
  simp only [List.forall_mem_cons]
  refine ⟨fun x => ?_, fun x => ?_, fun x => ?_, fun x => ?_, fun x => ?_, fun x => ?_, fun p hp => absurd hp List.not_mem_nil⟩
  · exact pieceP 2560 (by decide) (by decide) _ _ (k0_pay12 (F := Ideal) x0 x1 x2 x3 x4) x2 x3 x4 x
  · exact pieceP 2048 (by decide) (by decide) _ _ (k0_pay12 (F := Ideal) x0 x1 x2 x3 x4) x2 x3 x4 x
  · exact pieceR 1536 (by decide) (by decide) _ _ (k0_pay12 (F := Ideal) x0 x1 x2 x3 x4) x2 x3 x4 x
  · exact pieceR 1024 (by decide) (by decide) _ _ (k0_pay12 (F := Ideal) x0 x1 x2 x3 x4) x2 x3 x4 x
  · exact pieceR 512 (by decide) (by decide) _ _ (k0_pay12 (F := Ideal) x0 x1 x2 x3 x4) x2 x3 x4 x
  · exact pieceR 0 (by decide) (by decide) _ _ (k0_pay12 (F := Ideal) x0 x1 x2 x3 x4) x2 x3 x4 x

end Cert.Kernel4Ideal.Rope

end
-- ==== Proof.RopeArr.lean ====
module

public import proofs.«01_k».proof.Proof.RopeOps
public import proofs.«01_k».proof.Proof.Gen.Kernel4Ideal.Value
public import Idealize.ShloMosaic.Lib.Pipeline.ValueKit

@[expose] public section

set_option maxRecDepth 16384

noncomputable section

namespace Cert.Kernel4Ideal.Rope

open Cert.Kernel4Ideal Cert.Kernel4Ideal.Gen
open Idealize.ShloMosaic Idealize.ShloMosaic.TcCoe Idealize.ShloMosaic.Tactic Idealize.SL.Sem
open Idealize.ShloMosaic.Pipeline (Dat)

/-- A context row or a latent row, by the joint row number. -/
def hrow (x : S16384x1024.Idx → EReal) (ctx : S256x1024.Idx → EReal) (i : Fin 16640) (k : Fin 1024) : EReal :=
  if h : i.val < 256 then ctx (ix2 ⟨i.val, h⟩ k) else x (ix2 ⟨i.val - 256, by omega⟩ k)

/-- Which modulation a row takes. -/
def sel (i : Fin 16640) : Fin 2 := if i.val < 256 then 0 else 1

/-- A modulated row. -/
def U (x : S16384x1024.Idx → EReal) (ctx : S256x1024.Idx → EReal) (md : S2x6x1024.Idx → EReal) (i : Fin 16640) (k : Fin 1024) : EReal :=
  hrow x ctx i k * (1 + md (ix3 (sel i) 1 k)) + md (ix3 (sel i) 0 k)

/-- The projection at a row and a column of the input weights. -/
def P (x : S16384x1024.Idx → EReal) (ctx : S256x1024.Idx → EReal) (md : S2x6x1024.Idx → EReal) (w : S1024x3072.Idx → EReal)
    (i : Fin 16640) (c : ℕ) : EReal := ∑ k : Fin 1024, U x ctx md i k * w (ix2 k ⟨c % 3072, Nat.mod_lt _ (by decide)⟩)

/-- The sixteen frequencies, `10000 ^ (-(2 i) / 32)`. -/
def Freq : FVec Ideal S16 .f32 :=
  Host.powf (broadcastInDim S16 ![] bcast_S_S16 (constant (F := Ideal) S_ .f32 0x461C4000#32))
    (Host.divf (Host.negf (addf (broadcastInDim S16 ![] bcast_S_S16 (constant (F := Ideal) S_ .f32 0x00000000#32))
      (mulf (broadcastInDim S16 ![] bcast_S_S16 (constant (F := Ideal) S_ .f32 0x40000000#32)) (sitofp .f32 (iotaInDim S16 32 0)))))
      (broadcastInDim S16 ![] bcast_S_S16 (constant (F := Ideal) S_ .f32 0x42000000#32)))

/-- The row angles. -/
def AngR : FVec Ideal S16384x16 .f32 :=
  mulf (broadcastInDim S16384x16 ![0, 1] bcast_S16384x1_S16384x16_0_1 (broadcastInDim S16384x1 ![0] bcast_S16384_S16384x1_0
      (shapeCast S16384 (broadcastInDim S256x64 ![0] bcast_S256_S256x64_0 (sitofp (F := Ideal) .f32 (iotaInDim S256 32 0))) shapeCasts_S256x64_S16384)))
    (broadcastInDim S16384x16 ![0, 1] bcast_S1x16_S16384x16_0_1 (broadcastInDim S1x16 ![1] bcast_S16_S1x16_1 Freq))

/-- The column angles. -/
def AngC : FVec Ideal S16384x16 .f32 :=
  mulf (broadcastInDim S16384x16 ![0, 1] bcast_S16384x1_S16384x16_0_1 (broadcastInDim S16384x1 ![0] bcast_S16384_S16384x1_0
      (shapeCast S16384 (broadcastInDim S256x64 ![0, 1] bcast_S1x64_S256x64_0_1 (shapeCast S1x64 (sitofp (F := Ideal) .f32 (iotaInDim S64 32 0)) shapeCasts_S64_S1x64)) shapeCasts_S256x64_S16384)))
    (broadcastInDim S16384x16 ![0, 1] bcast_S1x16_S16384x16_0_1 (broadcastInDim S1x16 ![1] bcast_S16_S1x16_1 Freq))

/-- The latents' angles: the row angles twice, then the column angles twice. -/
def Ang : FVec Ideal S16384x64 .f32 :=
  concatenate S16384x64 1 [⟨S16384x16, AngR⟩, ⟨S16384x16, AngR⟩, ⟨S16384x16, AngC⟩, ⟨S16384x16, AngC⟩] concatenates_S16384x16_S16384x16_S16384x16_S16384x16_S16384x64_d1

/-- The result: every column the projection; a latent row's query and key columns rotated by its angles. -/
def R (x : S16384x1024.Idx → EReal) (ctx : S256x1024.Idx → EReal) (md : S2x6x1024.Idx → EReal) (w : S1024x3072.Idx → EReal) : S16640x3072.Idx → EReal := fun y =>
  if h : 256 ≤ (y 0).val ∧ (y 1).val < 2048 then
    P x ctx md w (y 0) (y 1).val * Ideal.cos (Ang (ix2 ⟨(y 0).val - 256, by have : (y 0).val < 16640 := (y 0).isLt; omega⟩ ⟨(y 1).val % 64, Nat.mod_lt _ (by decide)⟩))
      + (if (y 1).val % 32 < 16 then 0 - P x ctx md w (y 0) ((y 1).val + 16) else P x ctx md w (y 0) ((y 1).val - 16))
        * Ideal.sin (Ang (ix2 ⟨(y 0).val - 256, by have : (y 0).val < 16640 := (y 0).isLt; omega⟩ ⟨(y 1).val % 64, Nat.mod_lt _ (by decide)⟩))
  else P x ctx md w (y 0) (y 1).val

variable (m : (ℓ : Loc nD τ sig) → Buf (Elt Ideal) ℓ)

/-- The host's rows: the context, then the latents. -/
theorem V_v0 (c : Dev nD) : V m c main_v0 = concatenate S16640x1024 0
    [⟨S256x1024, m ((c : Thread nD τ).loc main_arg1)⟩, ⟨S16384x1024, m ((c : Thread nD τ).loc main_arg0)⟩]
    concatenates_S256x1024_S16384x1024_S16640x1024_d0 := by
  unfold V hostOps0
  after_results_simp <;> rfl

/-- The host's weights. -/
theorem V_v34 (c : Dev nD) : V m c main_v34 = truncf (F := Ideal) .bf16 (m ((c : Thread nD τ).loc main_arg3)) bitsLt_bf16_f32 := by
  unfold V hostOps0
  after_results_simp <;> rfl

/-- All rows' angles, 128 lanes: zero for the context. -/
def Ang2 : FVec Ideal S16640x128 .f32 :=
  let a : FVec Ideal S16640x64 .f32 := concatenate S16640x64 0 [⟨S256x64, broadcastInDim S256x64 ![] bcast_S_S256x64 (constant (F := Ideal) S_ .f32 0x00000000#32)⟩, ⟨S16384x64, Ang⟩] concatenates_S256x64_S16384x64_S16640x64_d0
  concatenate S16640x128 1 [⟨S16640x64, a⟩, ⟨S16640x64, a⟩] concatenates_S16640x64_S16640x64_S16640x128_d1

theorem V_v32 (c : Dev nD) : V m c main_v32 = Host.cos Ang2 := by
  unfold V hostOps0
  after_results_simp <;> rfl

theorem V_v33 (c : Dev nD) : V m c main_v33 = Host.sin Ang2 := by
  unfold V hostOps0
  after_results_simp <;> rfl

/-- The angles at a row and a lane. -/
theorem Ang2_apply (i : Fin 16640) (j : Fin 128) : Ang2 (ix2 i j)
    = if h : i.val < 256 then (0 : EReal) else Ang (ix2 ⟨i.val - 256, by omega⟩ ⟨j.val % 64, Nat.mod_lt _ (by decide)⟩) := by
  have hz : ∀ i, broadcastInDim S256x64 ![] bcast_S_S256x64 (constant (F := Ideal) S_ .f32 0x00000000#32) i = (0 : EReal) := fun i => by
    show Ideal.ofBits .f32 0#32 = 0
    simp [Ideal.ofBits, Ideal.ieee]
  unfold Ang2
  generalize (broadcastInDim S256x64 ![] bcast_S_S256x64 (constant (F := Ideal) S_ .f32 0x00000000#32)) = z at hz
  generalize Ang = a
  have h1 : ∀ j : Fin 64, (concatenate S16640x64 0 [⟨S256x64, z⟩, ⟨S16384x64, a⟩] concatenates_S256x64_S16384x64_S16640x64_d0) (ix2 i j)
      = if h : i.val < 256 then (0 : EReal) else a (ix2 ⟨i.val - 256, by omega⟩ j) := fun j => by
    have : (concatenate S16640x64 0 [⟨S256x64, z⟩, ⟨S16384x64, a⟩] concatenates_S256x64_S16384x64_S16640x64_d0) (ix2 i j)
      = if h : i.val < 256 then z (ix2 ⟨i.val, h⟩ j) else a (ix2 ⟨i.val - 256, by omega⟩ j) := by
      pointwise
    rw [this]
    by_cases h : i.val < 256
    · rw [dif_pos h, dif_pos h, hz]
    · rw [dif_neg h, dif_neg h]
  show (concatenate S16640x128 1 [⟨S16640x64, concatenate S16640x64 0 [⟨S256x64, z⟩, ⟨S16384x64, a⟩] concatenates_S256x64_S16384x64_S16640x64_d0⟩, ⟨S16640x64, concatenate S16640x64 0 [⟨S256x64, z⟩, ⟨S16384x64, a⟩] concatenates_S256x64_S16384x64_S16640x64_d0⟩] concatenates_S16640x64_S16640x64_S16640x128_d1) (ix2 i j) = _
  generalize (concatenate S16640x64 0 [⟨S256x64, z⟩, ⟨S16384x64, a⟩] concatenates_S256x64_S16384x64_S16640x64_d0) = b at h1
  have h2 : (concatenate S16640x128 1 [⟨S16640x64, b⟩, ⟨S16640x64, b⟩] concatenates_S16640x64_S16640x64_S16640x128_d1) (ix2 i j)
      = if h : j.val < 64 then b (ix2 i ⟨j.val, h⟩) else b (ix2 i ⟨j.val - 64, by omega⟩) := by
    pointwise
  rw [h2]
  have hj := j.isLt
  refine Eq.trans ?_ (h1 ⟨j.val % 64, Nat.mod_lt _ (by decide)⟩)
  by_cases h : j.val < 64
  · rw [dif_pos h]
    exact congrArg (fun q => b (ix2 i q)) (Fin.ext (by show j.val = j.val % 64; omega))
  · rw [dif_neg h]
    exact congrArg (fun q => b (ix2 i q)) (Fin.ext (by show j.val - 64 = j.val % 64; omega))

theorem ix0 : ∀ t : Fin cfg0.N, win0_0.index t = ![t.val, 0] := by
  have : ∀ t : Fin grid0.N, win0_0.index t = ![t.val, 0] := by decide +kernel
  exact this
theorem ix1' : ∀ t : Fin cfg0.N, win0_1.index t = ![if t.val < 1 then 0 else 1, 0, 0] := by
  have : ∀ t : Fin grid0.N, win0_1.index t = ![if t.val < 1 then 0 else 1, 0, 0] := by decide +kernel
  exact this
theorem ix2' : ∀ t : Fin cfg0.N, win0_2.index t = ![0, 0] := by
  have : ∀ t : Fin grid0.N, win0_2.index t = ![0, 0] := by decide +kernel
  exact this
theorem ix3' : ∀ t : Fin cfg0.N, win0_3.index t = ![t.val, 0] := by
  have : ∀ t : Fin grid0.N, win0_3.index t = ![t.val, 0] := by decide +kernel
  exact this
theorem ix4' : ∀ t : Fin cfg0.N, win0_4.index t = ![t.val, 0] := by
  have : ∀ t : Fin grid0.N, win0_4.index t = ![t.val, 0] := by decide +kernel
  exact this
theorem ix5' : ∀ t : Fin cfg0.N, win0_5.index t = ![t.val, 0] := by
  have : ∀ t : Fin grid0.N, win0_5.index t = ![t.val, 0] := by decide +kernel
  exact this
theorem covers5 : (cfg0.win 5).Covers := by decide +kernel

theorem N65 (t : Fin cfg0.N) : t.val < 65 := lt_of_lt_of_eq t.isLt (show cfg0.N = 65 from N_0)

/-- A row block's element. -/
theorem iblk0 (c : Dev nD) (t : Fin cfg0.N) (r : Fin 256) (k : Fin 1024) :
    iblk m c 0 t (ix2 r k) = hrow (m ((c : Thread nD τ).loc main_arg0)) (m ((c : Thread nD τ).loc main_arg1))
      ⟨256 * t.val + r.val, by have := N65 t; omega⟩ k := by
  have := N65 t
  have he : (win0_0.blk t).view.emb (ix2 r k)
      = (ix2 ⟨256 * t.val + r.val, by omega⟩ k : S16640x1024.Idx) := by
    blk_ext [ix0]
  blk_simp [iblk]
  rw [V_v0, he]
  unfold hrow
  pointwise

/-- A modulation block's element. -/
theorem iblk1 (c : Dev nD) (t : Fin cfg0.N) (q : Fin 6) (k : Fin 1024) :
    iblk m c 1 t (ix3 0 q k : S1x6x1024.Idx) = m ((c : Thread nD τ).loc main_arg2) (ix3 (if t.val < 1 then 0 else 1) q k : S2x6x1024.Idx) := by
  have := N65 t
  have he : (win0_1.blk t).view.emb (ix3 0 q k : S1x6x1024.Idx)
      = (ix3 (if t.val < 1 then 0 else 1) q k : S2x6x1024.Idx) := by
    by_cases h : t.val < 1
    · rw [if_pos h]
      have hi : win0_1.index t = ![0, 0, 0] := by rw [ix1', if_pos h]
      blk_ext [hi]
    · rw [if_neg h]
      have hi : win0_1.index t = ![1, 0, 0] := by rw [ix1', if_neg h]
      blk_ext [hi]
  blk_simp [iblk]
  rw [V_main_arg2, he]

/-- The weights' block at an element. -/
theorem iblk2 (c : Dev nD) (t : Fin cfg0.N) (k : Fin 1024) (j : Fin 3072) :
    iblk m c 2 t (ix2 k j) = m ((c : Thread nD τ).loc main_arg3) (ix2 k j) := by
  have he : (win0_2.blk t).view.emb (ix2 k j) = (ix2 k j : S1024x3072.Idx) := by
    blk_ext [ix2']
  blk_simp [iblk]
  rw [V_v34, he]
  rfl

/-- The cosines' block at an element. -/
theorem iblk3 (c : Dev nD) (t : Fin cfg0.N) (r : Fin 256) (j : Fin 128) :
    iblk m c 3 t (ix2 r j) = Ideal.cos (Ang2 (ix2 ⟨256 * t.val + r.val, by have := N65 t; omega⟩ j)) := by
  have := N65 t
  have he : (win0_3.blk t).view.emb (ix2 r j) = (ix2 ⟨256 * t.val + r.val, by omega⟩ j : S16640x128.Idx) := by
    blk_ext [ix3']
  blk_simp [iblk]
  rw [V_v32, he]
  rfl

/-- The sines' block at an element. -/
theorem iblk4 (c : Dev nD) (t : Fin cfg0.N) (r : Fin 256) (j : Fin 128) :
    iblk m c 4 t (ix2 r j) = Ideal.sin (Ang2 (ix2 ⟨256 * t.val + r.val, by have := N65 t; omega⟩ j)) := by
  have := N65 t
  have he : (win0_4.blk t).view.emb (ix2 r j) = (ix2 ⟨256 * t.val + r.val, by omega⟩ j : S16640x128.Idx) := by
    blk_ext [ix4']
  blk_simp [iblk]
  rw [V_v33, he]
  rfl

/-- The modulated rows of grid point `t`. -/
theorem u_apply (c : Dev nD) (t : Fin cfg0.N) (r : Fin 256) (k : Fin 1024) :
    k0_pay12 (F := Ideal) (iblk m c 0 t) (iblk m c 1 t) (iblk m c 2 t) (iblk m c 3 t) (iblk m c 4 t) (ix2 r k)
      = U (m ((c : Thread nD τ).loc main_arg0)) (m ((c : Thread nD τ).loc main_arg1)) (m ((c : Thread nD τ).loc main_arg2))
        ⟨256 * t.val + r.val, by have := N65 t; omega⟩ k := by
  have hs : sel ⟨256 * t.val + r.val, by have := N65 t; omega⟩ = if t.val < 1 then 0 else 1 := by
    unfold sel
    by_cases h : t.val < 1
    · rw [if_pos h, if_pos (show 256 * t.val + r.val < 256 by omega)]
    · rw [if_neg h, if_neg (show ¬ 256 * t.val + r.val < 256 by omega)]
  refine (mod_apply _ _ _ _ _ r k).trans ?_
  unfold U
  rw [hs, iblk0]
  exact congrArg₂ (fun a b => hrow _ _ _ k * (1 + a) + b) (iblk1 m c t 1 k) (iblk1 m c t 0 k)

/-- A column of grid point `t`'s product. -/
theorem d_apply (c : Dev nD) (t : Fin cfg0.N) (r : Fin 256) (n : ℕ) :
    D (k0_pay12 (F := Ideal) (iblk m c 0 t) (iblk m c 1 t) (iblk m c 2 t) (iblk m c 3 t) (iblk m c 4 t)) (iblk m c 2 t) r n
      = P (m ((c : Thread nD τ).loc main_arg0)) (m ((c : Thread nD τ).loc main_arg1)) (m ((c : Thread nD τ).loc main_arg2)) (m ((c : Thread nD τ).loc main_arg3))
        ⟨256 * t.val + r.val, by have := N65 t; omega⟩ n :=
  Finset.sum_congr rfl fun k _ => congrArg₂ (· * ·) (u_apply m c t r k) (iblk2 m c t k _)

/-- A rotation by no angle changes nothing; by an angle of the table it is the result's. -/
theorem rot_eq (x : S16384x1024.Idx → EReal) (ctx : S256x1024.Idx → EReal) (md : S2x6x1024.Idx → EReal) (w : S1024x3072.Idx → EReal)
    (i : Fin 16640) (j : Fin 3072) :
    (if j.val < 2048 then P x ctx md w i j.val * Ideal.cos (Ang2 (ix2 i ⟨j.val % 128, Nat.mod_lt _ (by decide)⟩))
      + (if j.val % 32 < 16 then 0 - P x ctx md w i (j.val + 16) else P x ctx md w i (j.val - 16)) * Ideal.sin (Ang2 (ix2 i ⟨j.val % 128, Nat.mod_lt _ (by decide)⟩))
      else P x ctx md w i j.val) = R x ctx md w (ix2 i j) := by
  by_cases hj : j.val < 2048
  · rw [if_pos hj, Ang2_apply]
    by_cases hi : i.val < 256
    · have hn : ¬ (256 ≤ i.val ∧ j.val < 2048) := by omega
      have e : R x ctx md w (ix2 i j) = P x ctx md w i j.val := dif_neg hn
      rw [dif_pos hi, e]
      have hc : Ideal.cos (0 : EReal) = 1 := by
        show ((Real.cos 0 : ℝ) : EReal) = 1
        rw [Real.cos_zero]; rfl
      have hs : Ideal.sin (0 : EReal) = 0 := by
        show ((Real.sin 0 : ℝ) : EReal) = 0
        rw [Real.sin_zero]; rfl
      rw [hc, hs, mul_one, mul_zero, add_zero]
    · have hp : 256 ≤ i.val ∧ j.val < 2048 := by omega
      refine Eq.trans ?_ (show _ = R x ctx md w (ix2 i j) from (dif_pos hp).symm)
      rw [dif_neg hi]
      have hm : (⟨(j.val % 128) % 64, Nat.mod_lt _ (by decide)⟩ : Fin 64) = ⟨j.val % 64, Nat.mod_lt _ (by decide)⟩ := Fin.ext (by
        show j.val % 128 % 64 = j.val % 64
        omega)
      show P x ctx md w i j.val * Ideal.cos (Ang (ix2 _ (⟨(j.val % 128) % 64, Nat.mod_lt _ (by decide)⟩ : Fin 64)))
        + _ * Ideal.sin (Ang (ix2 _ (⟨(j.val % 128) % 64, Nat.mod_lt _ (by decide)⟩ : Fin 64))) = _
      rw [hm]
      rfl
  · have hn : ¬ (256 ≤ i.val ∧ j.val < 2048) := by omega
    rw [if_neg hj]
    have e : R x ctx md w (ix2 i j) = P x ctx md w i j.val := dif_neg hn
    exact e.symm

/-- Grid point `t`'s block of the output, at an element. -/
theorem gr_apply (c : Dev nD) (t : Fin cfg0.N) (r : Fin 256) (j : Fin 3072) :
    GR (k0_pay12 (F := Ideal) (iblk m c 0 t) (iblk m c 1 t) (iblk m c 2 t) (iblk m c 3 t) (iblk m c 4 t)) (iblk m c 2 t) (iblk m c 3 t) (iblk m c 4 t) (ix2 r j)
      = R (m ((c : Thread nD τ).loc main_arg0)) (m ((c : Thread nD τ).loc main_arg1)) (m ((c : Thread nD τ).loc main_arg2)) (m ((c : Thread nD τ).loc main_arg3))
        (ix2 ⟨256 * t.val + r.val, by have := N65 t; omega⟩ j) := by
  refine Eq.trans ?_ (rot_eq _ _ _ _ _ j)
  have e3 := iblk3 m c t r ⟨j.val % 128, Nat.mod_lt _ (by decide)⟩
  have e4 := iblk4 m c t r ⟨j.val % 128, Nat.mod_lt _ (by decide)⟩
  rw [← e3, ← e4, ← d_apply m c t r j.val, ← d_apply m c t r (j.val + 16), ← d_apply m c t r (j.val - 16)]
  rfl

/-- The output array. -/
theorem arr5 (c : Dev nD) : (dats m 0 c).arrAt 5 cfg0.N
    = R (m ((c : Thread nD τ).loc main_arg0)) (m ((c : Thread nD τ).loc main_arg1)) (m ((c : Thread nD τ).loc main_arg2)) (m ((c : Thread nD τ).loc main_arg3)) := by
  refine (dats m 0 c).arrAt_eq_of_covers 5 _ covers5 fun t hf y => ?_
  blk_simp
  rw [after0_5]
  have := N65 t
  have he : (win0_5.blk t).view.emb y
      = (ix2 ⟨256 * t.val + (y 0).val, by have : (y 0).val < 256 := (y 0).isLt; omega⟩ (y 1) : S16640x3072.Idx) := by
    blk_ext [ix5']
  rw [he]
  have hy : y = (ix2 (y 0) (y 1) : S256x3072.Idx) := by
    funext a; fin_cases a <;> rfl
  exact (out5_apply _ _ _ _ _ y).trans ((congrArg _ hy).trans (gr_apply m c t (y 0) (y 1)))

/-- A run of the program ends with the result and its arguments unchanged. -/
theorem run_spec (ρ : Dev nD → PrngReg) : θ_run (defs (F := Ideal)) (onTc (τ := τ) (main (F := Ideal))) ⟨m, fun _ => 0, ρ⟩ fun r => ∀ c : Dev nD,
      r.2.mem ((c : Thread nD τ).loc main_v35) = R (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run _ _ _).mono (fun r h c => ⟨(h c).1.trans (arr5 m c), (h c).2⟩) (Cert.Kernel4Ideal.Value.run_blocks (F := Ideal) m ρ)

end Cert.Kernel4Ideal.Rope

end
-- ==== Proof.RopeRef.lean ====
module

public import proofs.«01_k».proof.Proof.Gen.Reference4Ideal.Read
public import Idealize.ShloMosaic.Lib.Pointwise

@[expose] public section

set_option maxRecDepth 16384

noncomputable section

namespace Cert.Reference4Ideal.Rope

open Cert.Reference4Ideal Cert.Reference4Ideal.Gen Cert.Reference4Ideal.Read
open Idealize.ShloMosaic Idealize.ShloMosaic.TcCoe Idealize.ShloMosaic.StableHlo

variable (x : S16384x1024.Idx → EReal) (ctx : S256x1024.Idx → EReal) (md : S2x6x1024.Idx → EReal) (w : S1024x3072.Idx → EReal)

theorem one_bits : FloatOps.ofBits (F := Ideal) .f32 0x3F800000#32 = (1 : EReal) := by
  show Ideal.ofBits .f32 0x3F800000#32 = 1
  simp [Ideal.ofBits, Ideal.ieee]
  rw [← EReal.coe_mul]; norm_num

/-- A modulated context row. -/
theorem u_ctx (r : Fin 256) (k : Fin 1024) :
    val_main_v23 (F := Ideal) ctx md (ix2 r k) = ctx (ix2 r k) * (1 + md (ix3 0 1 k)) + md (ix3 0 0 k) := by
  rw [← one_bits]
  unfold val_main_v23 val_main_v22 val_main_v21 val_main_v20 val_main_v19 val_main_v18 val_main_v17 val_main_v16 val_main_v15 val_main_v14 val_main_v13 val_main_v12 val_main_cst_0
  pointwise

/-- A modulated latent row. -/
theorem u_lat (r : Fin 16384) (k : Fin 1024) :
    val_main_v11 (F := Ideal) x md (ix2 r k) = x (ix2 r k) * (1 + md (ix3 1 1 k)) + md (ix3 1 0 k) := by
  rw [← one_bits]
  unfold val_main_v11 val_main_v10 val_main_v9 val_main_v8 val_main_v7 val_main_v6 val_main_v5 val_main_v4 val_main_v3 val_main_v2 val_main_v1 val_main_v0 val_main_cst
  pointwise

/-- A context row's projection. -/
theorem p_ctx (r : Fin 256) (j : Fin 3072) :
    val_main_v90 (F := Ideal) ctx md w (ix2 r j) = ∑ k : Fin 1024, (ctx (ix2 r k) * (1 + md (ix3 0 1 k)) + md (ix3 0 0 k)) * w (ix2 k j) := by
  rw [val_main_v90_apply]
  refine Finset.sum_congr rfl fun k _ => congrArg₂ (· * ·) (Eq.trans (congrArg _ ?_) (u_ctx ctx md r k)) (congrArg w ?_)
  · funext a; match a with
    | ⟨0, _⟩ => rfl
    | ⟨1, _⟩ => rfl
  · funext a; match a with
    | ⟨0, _⟩ => rfl
    | ⟨1, _⟩ => rfl

/-- A latent row's projection. -/
theorem p_lat (r : Fin 16384) (j : Fin 3072) :
    val_main_v24 (F := Ideal) x md w (ix2 r j) = ∑ k : Fin 1024, (x (ix2 r k) * (1 + md (ix3 1 1 k)) + md (ix3 1 0 k)) * w (ix2 k j) := by
  rw [val_main_v24_apply]
  refine Finset.sum_congr rfl fun k _ => congrArg₂ (· * ·) (Eq.trans (congrArg _ ?_) (u_lat x md r k)) (congrArg w ?_)
  · funext a; match a with
    | ⟨0, _⟩ => rfl
    | ⟨1, _⟩ => rfl
  · funext a; match a with
    | ⟨0, _⟩ => rfl
    | ⟨1, _⟩ => rfl

/-- A latent row's projection, by a column number. -/
def L (r : Fin 16384) (n : ℕ) : EReal := val_main_v24 (F := Ideal) x md w (ix2 r ⟨n % 3072, Nat.mod_lt _ (by decide)⟩)

/-- Four quarters of a head side by side, at a lane. -/
theorem quarters (a b c d : S16384x16x16.Idx → EReal) (r : Fin 16384) (h : Fin 16) (e : Fin 64) :
    (concatenate S16384x16x64 2 [⟨S16384x16x16, a⟩, ⟨S16384x16x16, b⟩, ⟨S16384x16x16, c⟩, ⟨S16384x16x16, d⟩]
      concatenates_S16384x16x16_S16384x16x16_S16384x16x16_S16384x16x16_S16384x16x64_d2) (ix3 r h e)
      = if h0 : e.val < 16 then a (ix3 r h ⟨e.val, h0⟩) else if h1 : e.val < 32 then b (ix3 r h ⟨e.val - 16, by omega⟩)
        else if h2 : e.val < 48 then c (ix3 r h ⟨e.val - 32, by omega⟩) else d (ix3 r h ⟨e.val - 48, by omega⟩) := by
  have he := e.isLt
  pointwise
  by_cases h0 : e.val < 16
  · rw [dif_pos h0, dif_pos h0]
  · rw [dif_neg h0, dif_neg h0]
    by_cases h1 : e.val < 32
    · rw [dif_pos (show e.val - 16 < 16 by omega), dif_pos h1]
    · rw [dif_neg (show ¬ e.val - 16 < 16 by omega), dif_neg h1]
      by_cases h2 : e.val < 48
      · rw [dif_pos (show e.val - 16 - 16 < 16 by omega), dif_pos h2]
        exact congrArg (fun q => c (ix3 r h q)) (Fin.ext (by show e.val - 16 - 16 = e.val - 32; omega))
      · rw [dif_neg (show ¬ e.val - 16 - 16 < 16 by omega), dif_neg h2]
        exact congrArg (fun q => d (ix3 r h q)) (Fin.ext (by show e.val - 16 - 16 - 16 = e.val - 48; omega))

/-- Heads of a projection whose quarters are swapped and signed: the lane 16 further, negated, or the lane 16 back. -/
theorem swapped (q : ℕ → EReal) (a b c d : S16384x16x16.Idx → EReal) (r : Fin 16384) (h : Fin 16)
    (ha : ∀ e : Fin 16, a (ix3 r h e) = -q (16 + e.val)) (hb : ∀ e : Fin 16, b (ix3 r h e) = q e.val)
    (hc : ∀ e : Fin 16, c (ix3 r h e) = -q (48 + e.val)) (hd : ∀ e : Fin 16, d (ix3 r h e) = q (32 + e.val)) (e : Fin 64) :
    (concatenate S16384x16x64 2 [⟨S16384x16x16, a⟩, ⟨S16384x16x16, b⟩, ⟨S16384x16x16, c⟩, ⟨S16384x16x16, d⟩]
      concatenates_S16384x16x16_S16384x16x16_S16384x16x16_S16384x16x16_S16384x16x64_d2) (ix3 r h e)
      = if e.val % 32 < 16 then 0 - q (e.val + 16) else q (e.val - 16) := by
  have he := e.isLt
  rw [quarters]
  by_cases h0 : e.val < 16
  · rw [dif_pos h0, ha, if_pos (by omega), zero_sub]
    exact congrArg (fun n => -q n) (Nat.add_comm 16 e.val)
  · rw [dif_neg h0]
    by_cases h1 : e.val < 32
    · rw [dif_pos h1, hb, if_neg (by omega)]
    · rw [dif_neg h1]
      by_cases h2 : e.val < 48
      · rw [dif_pos h2, hc, if_pos (by omega), zero_sub]
        exact congrArg (fun n => -q n) (by show 48 + (e.val - 32) = e.val + 16; omega)
      · rw [dif_neg h2, hd, if_neg (by omega)]
        exact congrArg q (by show 32 + (e.val - 48) = e.val - 16; omega)

/-- A latent row's query heads. -/
theorem q_head (r : Fin 16384) (h : Fin 16) (e : Fin 64) :
    val_main_v58 (F := Ideal) x md w (ix3 r h e) = L x md w r (0 + h.val * 64 + e.val) := by
  have hr := r.isLt
  have hh := h.isLt
  have he := e.isLt
  refine (val_main_v58_apply (F := Ideal) x md w (ix3 r h e)).trans ?_
  refine (val_main_v25_apply (F := Ideal) x md w _).trans ?_
  refine congrArg (val_main_v24 (F := Ideal) x md w) ?_
  funext a
  match a with
  | ⟨0, _⟩ => exact Fin.ext (by show ((r.val * 16 + h.val) * 64 + e.val) / 1024 = r.val; omega)
  | ⟨1, _⟩ => exact Fin.ext (by show ((r.val * 16 + h.val) * 64 + e.val) % 1024 = (0 + h.val * 64 + e.val) % 3072; omega)

/-- The swapped and signed quarters of the query heads. -/
theorem q_swap (r : Fin 16384) (h : Fin 16) (e : Fin 64) :
    val_main_v65 (F := Ideal) x md w (ix3 r h e)
      = if e.val % 32 < 16 then 0 - L x md w r (0 + h.val * 64 + (e.val + 16)) else L x md w r (0 + h.val * 64 + (e.val - 16)) := by
  have hs : ∀ (o : ℕ) (ho : o + 16 ≤ 64) (e : Fin 16) (i : S16384x16x64.Idx), (i 0).val = r.val → (i 1).val = h.val → (i 2).val = o + e.val →
      val_main_v58 (F := Ideal) x md w i = L x md w r (0 + h.val * 64 + (o + e.val)) := fun o ho e i h0 h1 h2 => by
    have he := e.isLt
    have hi : i = ix3 r h ⟨o + e.val, by omega⟩ := by
      funext a
      match a with
      | ⟨0, _⟩ => exact Fin.ext h0
      | ⟨1, _⟩ => exact Fin.ext h1
      | ⟨2, _⟩ => exact Fin.ext h2
    rw [hi]
    exact q_head x md w r h _
  unfold val_main_v65
  refine swapped (fun n => L x md w r (0 + h.val * 64 + n)) _ _ _ _ r h (fun e => ?_) (fun e => ?_) (fun e => ?_) (fun e => ?_) e
  · show -val_main_v60 (F := Ideal) x md w (ix3 r h e) = _
    rw [val_main_v60_apply]
    exact congrArg (fun v : EReal => -v) (hs 16 (by decide) e _ (by rfl) (by rfl) (by rfl))
  · rw [val_main_v59_apply]
    refine (hs 0 (by decide) e _ (by rfl) (by rfl) (by show e.val = 0 + e.val; omega)).trans ?_
    exact congrArg (fun n => L x md w r (0 + h.val * 64 + n)) (by omega)
  · show -val_main_v62 (F := Ideal) x md w (ix3 r h e) = _
    rw [val_main_v62_apply]
    exact congrArg (fun v : EReal => -v) (hs 48 (by decide) e _ (by rfl) (by rfl) (by rfl))
  · rw [val_main_v61_apply]
    exact hs 32 (by decide) e _ (by rfl) (by rfl) (by rfl)

/-- The rotated query heads, at a column. -/
theorem q_rot (r : Fin 16384) (c : Fin 1024) :
    val_main_v73 (F := Ideal) x md w (ix2 r c)
      = L x md w r (0 + c.val) * Ideal.cos (val_main_v55 (F := Ideal) (ix2 r ⟨c.val % 64, Nat.mod_lt _ (by decide)⟩))
        + (if c.val % 32 < 16 then 0 - L x md w r (0 + c.val + 16) else L x md w r (0 + c.val - 16))
          * Ideal.sin (val_main_v55 (F := Ideal) (ix2 r ⟨c.val % 64, Nat.mod_lt _ (by decide)⟩)) := by
  have hr := r.isLt
  have hc := c.isLt
  refine (val_main_v73_apply (F := Ideal) x md w (ix2 r c)).trans ?_
  have hi : idx_main_v73 (ix2 r c) = ix3 r ⟨c.val / 64, by omega⟩ ⟨c.val % 64, Nat.mod_lt _ (by decide)⟩ := by
    funext a
    match a with
    | ⟨0, _⟩ => exact Fin.ext (by show (r.val * 1024 + c.val) / 1024 = r.val; omega)
    | ⟨1, _⟩ => exact Fin.ext (by show (r.val * 1024 + c.val) / 64 % 16 = c.val / 64; omega)
    | ⟨2, _⟩ => exact Fin.ext (by show (r.val * 1024 + c.val) % 64 = c.val % 64; omega)
  rw [hi]
  have ec : val_main_v67 (F := Ideal) (ix3 r ⟨c.val / 64, by omega⟩ ⟨c.val % 64, Nat.mod_lt _ (by decide)⟩)
      = Ideal.cos (val_main_v55 (F := Ideal) (ix2 r ⟨c.val % 64, Nat.mod_lt _ (by decide)⟩)) := by
    refine (val_main_v67_apply (F := Ideal) _).trans ((val_main_v66_apply (F := Ideal) _).trans ?_)
    show Ideal.cos (val_main_v55 (F := Ideal) _) = _
    refine congrArg (fun i => Ideal.cos (val_main_v55 (F := Ideal) i)) ?_
    funext a
    match a with
    | ⟨0, _⟩ => rfl
    | ⟨1, _⟩ => rfl
  have es : val_main_v70 (F := Ideal) (ix3 r ⟨c.val / 64, by omega⟩ ⟨c.val % 64, Nat.mod_lt _ (by decide)⟩)
      = Ideal.sin (val_main_v55 (F := Ideal) (ix2 r ⟨c.val % 64, Nat.mod_lt _ (by decide)⟩)) := by
    refine (val_main_v70_apply (F := Ideal) _).trans ((val_main_v69_apply (F := Ideal) _).trans ?_)
    show Ideal.sin (val_main_v55 (F := Ideal) _) = _
    refine congrArg (fun i => Ideal.sin (val_main_v55 (F := Ideal) i)) ?_
    funext a
    match a with
    | ⟨0, _⟩ => rfl
    | ⟨1, _⟩ => rfl
  show val_main_v58 (F := Ideal) x md w _ * val_main_v67 (F := Ideal) _ + val_main_v65 (F := Ideal) x md w _ * val_main_v70 (F := Ideal) _ = _
  rw [ec, es, q_head, q_swap]
  have h1 : 0 + c.val / 64 * 64 + c.val % 64 = 0 + c.val := by omega
  by_cases h : c.val % 32 < 16
  · have h' : c.val % 64 % 32 < 16 := by omega
    rw [if_pos h, if_pos h']
    show L x md w r (0 + c.val / 64 * 64 + c.val % 64) * _ + (0 - L x md w r (0 + c.val / 64 * 64 + (c.val % 64 + 16))) * _ = _
    rw [h1, show 0 + c.val / 64 * 64 + (c.val % 64 + 16) = 0 + c.val + 16 by omega]
  · have h' : ¬ c.val % 64 % 32 < 16 := by omega
    rw [if_neg h, if_neg h']
    show L x md w r (0 + c.val / 64 * 64 + c.val % 64) * _ + L x md w r (0 + c.val / 64 * 64 + (c.val % 64 - 16)) * _ = _
    rw [h1, show 0 + c.val / 64 * 64 + (c.val % 64 - 16) = 0 + c.val - 16 by omega]

/-- A latent row's key heads. -/
theorem k_head (r : Fin 16384) (h : Fin 16) (e : Fin 64) :
    val_main_v74 (F := Ideal) x md w (ix3 r h e) = L x md w r (1024 + h.val * 64 + e.val) := by
  have hr := r.isLt
  have hh := h.isLt
  have he := e.isLt
  refine (val_main_v74_apply (F := Ideal) x md w (ix3 r h e)).trans ?_
  refine (val_main_v26_apply (F := Ideal) x md w _).trans ?_
  refine congrArg (val_main_v24 (F := Ideal) x md w) ?_
  funext a
  match a with
  | ⟨0, _⟩ => exact Fin.ext (by show ((r.val * 16 + h.val) * 64 + e.val) / 1024 = r.val; omega)
  | ⟨1, _⟩ => exact Fin.ext (by show 1024 + ((r.val * 16 + h.val) * 64 + e.val) % 1024 = (1024 + h.val * 64 + e.val) % 3072; omega)

/-- The swapped and signed quarters of the key heads. -/
theorem k_swap (r : Fin 16384) (h : Fin 16) (e : Fin 64) :
    val_main_v81 (F := Ideal) x md w (ix3 r h e)
      = if e.val % 32 < 16 then 0 - L x md w r (1024 + h.val * 64 + (e.val + 16)) else L x md w r (1024 + h.val * 64 + (e.val - 16)) := by
  have hs : ∀ (o : ℕ) (ho : o + 16 ≤ 64) (e : Fin 16) (i : S16384x16x64.Idx), (i 0).val = r.val → (i 1).val = h.val → (i 2).val = o + e.val →
      val_main_v74 (F := Ideal) x md w i = L x md w r (1024 + h.val * 64 + (o + e.val)) := fun o ho e i h0 h1 h2 => by
    have he := e.isLt
    have hi : i = ix3 r h ⟨o + e.val, by omega⟩ := by
      funext a
      match a with
      | ⟨0, _⟩ => exact Fin.ext h0
      | ⟨1, _⟩ => exact Fin.ext h1
      | ⟨2, _⟩ => exact Fin.ext h2
    rw [hi]
    exact k_head x md w r h _
  unfold val_main_v81
  refine swapped (fun n => L x md w r (1024 + h.val * 64 + n)) _ _ _ _ r h (fun e => ?_) (fun e => ?_) (fun e => ?_) (fun e => ?_) e
  · show -val_main_v76 (F := Ideal) x md w (ix3 r h e) = _
    rw [val_main_v76_apply]
    exact congrArg (fun v : EReal => -v) (hs 16 (by decide) e _ (by rfl) (by rfl) (by rfl))
  · rw [val_main_v75_apply]
    refine (hs 0 (by decide) e _ (by rfl) (by rfl) (by show e.val = 0 + e.val; omega)).trans ?_
    exact congrArg (fun n => L x md w r (1024 + h.val * 64 + n)) (by omega)
  · show -val_main_v78 (F := Ideal) x md w (ix3 r h e) = _
    rw [val_main_v78_apply]
    exact congrArg (fun v : EReal => -v) (hs 48 (by decide) e _ (by rfl) (by rfl) (by rfl))
  · rw [val_main_v77_apply]
    exact hs 32 (by decide) e _ (by rfl) (by rfl) (by rfl)

/-- The rotated key heads, at a column. -/
theorem k_rot (r : Fin 16384) (c : Fin 1024) :
    val_main_v89 (F := Ideal) x md w (ix2 r c)
      = L x md w r (1024 + c.val) * Ideal.cos (val_main_v55 (F := Ideal) (ix2 r ⟨c.val % 64, Nat.mod_lt _ (by decide)⟩))
        + (if c.val % 32 < 16 then 0 - L x md w r (1024 + c.val + 16) else L x md w r (1024 + c.val - 16))
          * Ideal.sin (val_main_v55 (F := Ideal) (ix2 r ⟨c.val % 64, Nat.mod_lt _ (by decide)⟩)) := by
  have hr := r.isLt
  have hc := c.isLt
  refine (val_main_v89_apply (F := Ideal) x md w (ix2 r c)).trans ?_
  have hi : idx_main_v89 (ix2 r c) = ix3 r ⟨c.val / 64, by omega⟩ ⟨c.val % 64, Nat.mod_lt _ (by decide)⟩ := by
    funext a
    match a with
    | ⟨0, _⟩ => exact Fin.ext (by show (r.val * 1024 + c.val) / 1024 = r.val; omega)
    | ⟨1, _⟩ => exact Fin.ext (by show (r.val * 1024 + c.val) / 64 % 16 = c.val / 64; omega)
    | ⟨2, _⟩ => exact Fin.ext (by show (r.val * 1024 + c.val) % 64 = c.val % 64; omega)
  rw [hi]
  have ec : val_main_v83 (F := Ideal) (ix3 r ⟨c.val / 64, by omega⟩ ⟨c.val % 64, Nat.mod_lt _ (by decide)⟩)
      = Ideal.cos (val_main_v55 (F := Ideal) (ix2 r ⟨c.val % 64, Nat.mod_lt _ (by decide)⟩)) := by
    refine (val_main_v83_apply (F := Ideal) _).trans ((val_main_v82_apply (F := Ideal) _).trans ?_)
    show Ideal.cos (val_main_v55 (F := Ideal) _) = _
    refine congrArg (fun i => Ideal.cos (val_main_v55 (F := Ideal) i)) ?_
    funext a
    match a with
    | ⟨0, _⟩ => rfl
    | ⟨1, _⟩ => rfl
  have es : val_main_v86 (F := Ideal) (ix3 r ⟨c.val / 64, by omega⟩ ⟨c.val % 64, Nat.mod_lt _ (by decide)⟩)
      = Ideal.sin (val_main_v55 (F := Ideal) (ix2 r ⟨c.val % 64, Nat.mod_lt _ (by decide)⟩)) := by
    refine (val_main_v86_apply (F := Ideal) _).trans ((val_main_v85_apply (F := Ideal) _).trans ?_)
    show Ideal.sin (val_main_v55 (F := Ideal) _) = _
    refine congrArg (fun i => Ideal.sin (val_main_v55 (F := Ideal) i)) ?_
    funext a
    match a with
    | ⟨0, _⟩ => rfl
    | ⟨1, _⟩ => rfl
  show val_main_v74 (F := Ideal) x md w _ * val_main_v83 (F := Ideal) _ + val_main_v81 (F := Ideal) x md w _ * val_main_v86 (F := Ideal) _ = _
  rw [ec, es, k_head, k_swap]
  have h1 : 1024 + c.val / 64 * 64 + c.val % 64 = 1024 + c.val := by omega
  by_cases h : c.val % 32 < 16
  · have h' : c.val % 64 % 32 < 16 := by omega
    rw [if_pos h, if_pos h']
    show L x md w r (1024 + c.val / 64 * 64 + c.val % 64) * _ + (0 - L x md w r (1024 + c.val / 64 * 64 + (c.val % 64 + 16))) * _ = _
    rw [h1, show 1024 + c.val / 64 * 64 + (c.val % 64 + 16) = 1024 + c.val + 16 by omega]
  · have h' : ¬ c.val % 64 % 32 < 16 := by omega
    rw [if_neg h, if_neg h']
    show L x md w r (1024 + c.val / 64 * 64 + c.val % 64) * _ + L x md w r (1024 + c.val / 64 * 64 + (c.val % 64 - 16)) * _ = _
    rw [h1, show 1024 + c.val / 64 * 64 + (c.val % 64 - 16) = 1024 + c.val - 16 by omega]

/-- The value columns of a latent row. -/
theorem v_col (r : Fin 16384) (c : Fin 1024) :
    val_main_v27 (F := Ideal) x md w (ix2 r c) = L x md w r (2048 + c.val) := by
  have hc := c.isLt
  rw [val_main_v27_apply]
  refine congrArg (val_main_v24 (F := Ideal) x md w) ?_
  funext a
  match a with
  | ⟨0, _⟩ => rfl
  | ⟨1, _⟩ => exact Fin.ext (by show 2048 + c.val = (2048 + c.val) % 3072; omega)

/-- A latent row's whole result. -/
theorem lat (r : Fin 16384) (j : Fin 3072) :
    val_main_v91 (F := Ideal) x md w (ix2 r j) = if j.val < 2048 then
      L x md w r j.val * Ideal.cos (val_main_v55 (F := Ideal) (ix2 r ⟨j.val % 64, Nat.mod_lt _ (by decide)⟩))
        + (if j.val % 32 < 16 then 0 - L x md w r (j.val + 16) else L x md w r (j.val - 16))
          * Ideal.sin (val_main_v55 (F := Ideal) (ix2 r ⟨j.val % 64, Nat.mod_lt _ (by decide)⟩))
      else L x md w r j.val := by
  have hj := j.isLt
  have hc : val_main_v91 (F := Ideal) x md w (ix2 r j) = if h0 : j.val < 1024 then val_main_v73 (F := Ideal) x md w (ix2 r ⟨j.val, h0⟩)
      else if h1 : j.val < 2048 then val_main_v89 (F := Ideal) x md w (ix2 r ⟨j.val - 1024, by omega⟩)
      else val_main_v27 (F := Ideal) x md w (ix2 r ⟨j.val - 2048, by omega⟩) := by
    unfold val_main_v91
    generalize val_main_v73 (F := Ideal) x md w = y0
    generalize val_main_v89 (F := Ideal) x md w = y1
    generalize val_main_v27 (F := Ideal) x md w = y2
    pointwise
    by_cases h0 : j.val < 1024
    · rw [dif_pos h0, dif_pos h0]
    · rw [dif_neg h0, dif_neg h0]
      by_cases h1 : j.val < 2048
      · rw [dif_pos (show j.val - 1024 < 1024 by omega), dif_pos h1]
      · rw [dif_neg (show ¬ j.val - 1024 < 1024 by omega), dif_neg h1]
        exact congrArg (fun q => y2 (ix2 r q)) (Fin.ext (by show j.val - 1024 - 1024 = j.val - 2048; omega))
  rw [hc]
  by_cases h0 : j.val < 1024
  · rw [dif_pos h0, if_pos (by omega), q_rot]
    show L x md w r (0 + j.val) * _ + (if j.val % 32 < 16 then 0 - L x md w r (0 + j.val + 16) else L x md w r (0 + j.val - 16)) * _ = _
    rw [Nat.zero_add]
  · rw [dif_neg h0]
    by_cases h1 : j.val < 2048
    · rw [dif_pos h1, if_pos h1, k_rot]
      have hm : (⟨(j.val - 1024) % 64, Nat.mod_lt _ (by decide)⟩ : Fin 64) = ⟨j.val % 64, Nat.mod_lt _ (by decide)⟩ := Fin.ext (by
        show (j.val - 1024) % 64 = j.val % 64
        omega)
      show L x md w r (1024 + (j.val - 1024)) * Ideal.cos (val_main_v55 (F := Ideal) (ix2 r (⟨(j.val - 1024) % 64, Nat.mod_lt _ (by decide)⟩ : Fin 64)))
        + (if (j.val - 1024) % 32 < 16 then 0 - L x md w r (1024 + (j.val - 1024) + 16) else L x md w r (1024 + (j.val - 1024) - 16))
          * Ideal.sin (val_main_v55 (F := Ideal) (ix2 r (⟨(j.val - 1024) % 64, Nat.mod_lt _ (by decide)⟩ : Fin 64))) = _
      rw [hm, show 1024 + (j.val - 1024) = j.val by omega, show (j.val - 1024) % 32 = j.val % 32 by omega]
    · rw [dif_neg h1, if_neg h1, v_col]
      exact congrArg (L x md w r) (by show 2048 + (j.val - 2048) = j.val; omega)

/-- The result: a context row's projection below row 256, a latent row's result from there on. -/
theorem all (i : Fin 16640) (j : Fin 3072) :
    val_main_v93 (F := Ideal) x ctx md w (ix2 i j) = if h : i.val < 256 then val_main_v90 (F := Ideal) ctx md w (ix2 ⟨i.val, h⟩ j)
      else val_main_v91 (F := Ideal) x md w (ix2 ⟨i.val - 256, by omega⟩ j) := by
  show val_main_v92 (F := Ideal) x ctx md w (ix2 i j) = _
  unfold val_main_v92
  generalize val_main_v90 (F := Ideal) ctx md w = y
  generalize val_main_v91 (F := Ideal) x md w = z
  pointwise

end Cert.Reference4Ideal.Rope

end
-- ==== Proof.RopeMeet.lean ====
module

public import proofs.«01_k».proof.Defs
public import proofs.«01_k».proof.Proof.RopeArr
public import proofs.«01_k».proof.Proof.RopeRef
public import proofs.«01_k».proof.Proof.Gen.Reference4Ideal.Run

@[expose] public section

set_option maxRecDepth 16384

noncomputable section

namespace Cert.Meet

open Idealize.ShloMosaic Idealize.ShloMosaic.TcCoe Idealize.SL.Sem

/-- The rotary projection's reference runs, its arguments end unchanged, and it declares no semaphore. -/
theorem frame_ref4 : Cert.quiescent_Reference4Ideal := fun m ρ _ =>
  (θ_run _ _ _).mono (fun r h => ⟨fun c => (h c).2, sem_eq_zero_of_no_sems (by decide) r.2⟩) (Cert.Reference4Ideal.Value.run (F := Ideal) m ρ)

section
open Cert.Kernel4Ideal.Rope Cert.Reference4Ideal.Rope

variable (x : Cert.Kernel4Ideal.S16384x1024.Idx → EReal) (ctx : Cert.Kernel4Ideal.S256x1024.Idx → EReal)
  (md : Cert.Kernel4Ideal.S2x6x1024.Idx → EReal) (w : Cert.Kernel4Ideal.S1024x3072.Idx → EReal)

/-- Both programs' angle tables are the same. -/
theorem ang_eq : Cert.Reference4Ideal.Read.val_main_v55 (F := Ideal) = Ang := rfl

/-- A context row's projection in the reference. -/
theorem ctx_spec (i : Fin 16640) (h : i.val < 256) (j : Fin 3072) :
    Cert.Reference4Ideal.Read.val_main_v90 (F := Ideal) ctx md w (ix2 ⟨i.val, h⟩ j) = P x ctx md w i j.val := by
  have hm : (⟨j.val % 3072, Nat.mod_lt _ (by decide)⟩ : Fin 3072) = j := Fin.ext (Nat.mod_eq_of_lt j.isLt)
  rw [p_ctx]
  unfold P U hrow sel
  rw [hm]
  exact Finset.sum_congr rfl fun k _ => by rw [dif_pos h, if_pos h]

/-- A latent row's projection in the reference. -/
theorem lat_spec (i : Fin 16640) (h : ¬ i.val < 256) (n : ℕ) :
    L x md w ⟨i.val - 256, by omega⟩ n = P x ctx md w i n := by
  unfold L
  rw [p_lat]
  unfold P U hrow sel
  exact Finset.sum_congr rfl fun k _ => by rw [dif_neg h, if_neg h]

/-- The reference's result. -/
theorem ref4 : Cert.Reference4Ideal.Read.val_main_v93 (F := Ideal) x ctx md w = R x ctx md w := by
  have key : ∀ (i : Fin 16640) (j : Fin 3072), Cert.Reference4Ideal.Read.val_main_v93 (F := Ideal) x ctx md w (ix2 i j) = R x ctx md w (ix2 i j) := fun i j => by
    rw [all]
    by_cases h : i.val < 256
    · have hn : ¬ (256 ≤ i.val ∧ j.val < 2048) := by omega
      have e : R x ctx md w (ix2 i j) = P x ctx md w i j.val := dif_neg hn
      rw [dif_pos h, e]
      exact ctx_spec x ctx md w i h j
    · rw [dif_neg h, lat, ang_eq, lat_spec x ctx md w i h, lat_spec x ctx md w i h, lat_spec x ctx md w i h]
      by_cases hj : j.val < 2048
      · rw [if_pos hj]
        have hp : 256 ≤ i.val ∧ j.val < 2048 := by omega
        refine Eq.trans ?_ (show _ = R x ctx md w (ix2 i j) from (dif_pos hp).symm)
        rfl
      · rw [if_neg hj]
        have hn : ¬ (256 ≤ i.val ∧ j.val < 2048) := by omega
        have e : R x ctx md w (ix2 i j) = P x ctx md w i j.val := dif_neg hn
        exact e.symm
  funext y
  have hy : y = (ix2 (y 0) (y 1) : Cert.Kernel4Ideal.S16640x3072.Idx) := by
    funext a; fin_cases a <;> rfl
  exact (congrArg _ hy).trans ((key (y 0) (y 1)).trans (congrArg _ hy.symm))

/-- The reference's result of equal arguments. -/
theorem ref4_of {x' ctx' md' w'} (hx : x' = x) (hc : ctx' = ctx) (hd : md' = md) (hw : w' = w) :
    Cert.Reference4Ideal.Read.val_main_v93 (F := Ideal) x' ctx' md' w' = R x ctx md w := by
  subst hx hc hd hw
  exact ref4 _ _ _ _

end

/-- The rotary projection's result is the reference's, exactly. -/
theorem algebraic4 : Cert.algebraic_Kernel4Ideal_Reference4Ideal := fun m ρ m' ρ' _ hag => by
  refine ⟨fun c => _, Cert.Kernel4Ideal.Rope.run_spec m ρ, (θ_run _ _ _).mono (fun r h c => ⟨(h c).1.trans ?_, (h c).2⟩) (Cert.Reference4Ideal.Value.run (F := Ideal) m' ρ')⟩
  exact (Cert.Reference4Ideal.Read.val_main_v93_eq (F := Ideal) m' c).trans (ref4_of _ _ _ _ (hag c).1 (hag c).2.1 (hag c).2.2.1 (hag c).2.2.2)

end Cert.Meet

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.FrameK
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.FrameI
public import proofs.«01_k».proof.Proof.Launch
public import proofs.«01_k».proof.Proof.Meet
public import proofs.«01_k».proof.Proof.Gen.ReferenceIdeal
public import proofs.«01_k».proof.Proof.Gen.Pre_finite_values
public import proofs.«01_k».proof.Proof.Gen.ReferenceIdeal.Run
public import proofs.«01_k».proof.Proof.Gen.ReferenceIdeal.Read
public import proofs.«01_k».proof.Proof.ProjMeet
public import proofs.«01_k».proof.Proof.MoeMeet
public import proofs.«01_k».proof.Proof.RopeMeet
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Pre_finite_values.Gen.facts,
  fun m ρ _ => Cert.Kernel.Framed.frame m ρ,
  fun m ρ _ => Cert.KernelIdeal.Framed.frame m ρ,
  fun m ρ _ => Cert.KernelIdeal.Framed.frame m ρ,
  Cert.Meet.frame_ref,
  Cert.Meet.frame_ref_pre,
  fun m ρ _ => Cert.Kernel2.Gen.frame m ρ,
  fun m ρ _ => Cert.Kernel2Ideal.Gen.frame m ρ,
  Cert.Meet.frame_ref2,
  Cert.Meet.frame3,
  Cert.Meet.frame3_ideal,
  Cert.Meet.frame_ref3,
  fun m ρ _ => Cert.Kernel4.Gen.frame m ρ,
  fun m ρ _ => Cert.Kernel4Ideal.Gen.frame m ρ,
  Cert.Meet.frame_ref4,
  IdealRules.named_const.statement Cert.KernelIdeal.κ "qs" .f32 0x3E38AA3B#32 ((8⁻¹ * (Real.log 2)⁻¹ : ℝ) : EReal) rfl,
  Cert.Meet.algebraic,
  trivial,
  Cert.Meet.algebraic2,
  trivial,
  Cert.Meet.algebraic3,
  trivial,
  Cert.Meet.algebraic4⟩

end Cert.Proof

end
